-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_AttKernel (m : (ℓ : Loc Cert.AttKernel.nD Cert.AttKernel.τ Cert.AttKernel.sig) → Buf (Elt Bits) ℓ) : Prop :=
  True

def Pre_AttKernelIdeal (m : (ℓ : Loc Cert.AttKernelIdeal.nD Cert.AttKernelIdeal.τ Cert.AttKernelIdeal.sig) → Buf (Elt Ideal) ℓ) : Prop :=
  True

def Pre_AttKernelIdeal_att_finite [hPre_att_finite : Cert.Pre_att_finite.Facts] (m : (ℓ : Loc Cert.AttKernelIdeal.nD Cert.AttKernelIdeal.τ Cert.AttKernelIdeal.sig) → Buf (Elt Ideal) ℓ) : Prop :=
  ∀ c : Dev Cert.AttKernelIdeal.nD,
    (Cert.Pre_att_finite.fn (F := Ideal) (m ((c.tc : Thread Cert.AttKernelIdeal.nD Cert.AttKernelIdeal.τ).loc Cert.AttKernelIdeal.main_arg0)) (m ((c.tc : Thread Cert.AttKernelIdeal.nD Cert.AttKernelIdeal.τ).loc Cert.AttKernelIdeal.main_arg1)) (m ((c.tc : Thread Cert.AttKernelIdeal.nD Cert.AttKernelIdeal.τ).loc Cert.AttKernelIdeal.main_arg2))).1 = (fun _ => 1#1)
    ∧ (Cert.Pre_att_finite.fn (F := Ideal) (m ((c.tc : Thread Cert.AttKernelIdeal.nD Cert.AttKernelIdeal.τ).loc Cert.AttKernelIdeal.main_arg0)) (m ((c.tc : Thread Cert.AttKernelIdeal.nD Cert.AttKernelIdeal.τ).loc Cert.AttKernelIdeal.main_arg1)) (m ((c.tc : Thread Cert.AttKernelIdeal.nD Cert.AttKernelIdeal.τ).loc Cert.AttKernelIdeal.main_arg2))).2.1 = (fun _ => 1#1)
    ∧ (Cert.Pre_att_finite.fn (F := Ideal) (m ((c.tc : Thread Cert.AttKernelIdeal.nD Cert.AttKernelIdeal.τ).loc Cert.AttKernelIdeal.main_arg0)) (m ((c.tc : Thread Cert.AttKernelIdeal.nD Cert.AttKernelIdeal.τ).loc Cert.AttKernelIdeal.main_arg1)) (m ((c.tc : Thread Cert.AttKernelIdeal.nD Cert.AttKernelIdeal.τ).loc Cert.AttKernelIdeal.main_arg2))).2.2 = (fun _ => 1#1)

def Pre_AttReferenceIdeal (m : (ℓ : Loc Cert.AttReferenceIdeal.nD Cert.AttReferenceIdeal.τ Cert.AttReferenceIdeal.sig) → Buf (Elt Ideal) ℓ) : Prop :=
  True

def Pre_AttReferenceIdeal_att_finite [hPre_att_finite : Cert.Pre_att_finite.Facts] (m : (ℓ : Loc Cert.AttReferenceIdeal.nD Cert.AttReferenceIdeal.τ Cert.AttReferenceIdeal.sig) → Buf (Elt Ideal) ℓ) : Prop :=
  ∀ c : Dev Cert.AttReferenceIdeal.nD,
    (Cert.Pre_att_finite.fn (F := Ideal) (m ((c.tc : Thread Cert.AttReferenceIdeal.nD Cert.AttReferenceIdeal.τ).loc Cert.AttReferenceIdeal.main_arg0)) (m ((c.tc : Thread Cert.AttReferenceIdeal.nD Cert.AttReferenceIdeal.τ).loc Cert.AttReferenceIdeal.main_arg1)) (m ((c.tc : Thread Cert.AttReferenceIdeal.nD Cert.AttReferenceIdeal.τ).loc Cert.AttReferenceIdeal.main_arg2))).1 = (fun _ => 1#1)
    ∧ (Cert.Pre_att_finite.fn (F := Ideal) (m ((c.tc : Thread Cert.AttReferenceIdeal.nD Cert.AttReferenceIdeal.τ).loc Cert.AttReferenceIdeal.main_arg0)) (m ((c.tc : Thread Cert.AttReferenceIdeal.nD Cert.AttReferenceIdeal.τ).loc Cert.AttReferenceIdeal.main_arg1)) (m ((c.tc : Thread Cert.AttReferenceIdeal.nD Cert.AttReferenceIdeal.τ).loc Cert.AttReferenceIdeal.main_arg2))).2.1 = (fun _ => 1#1)
    ∧ (Cert.Pre_att_finite.fn (F := Ideal) (m ((c.tc : Thread Cert.AttReferenceIdeal.nD Cert.AttReferenceIdeal.τ).loc Cert.AttReferenceIdeal.main_arg0)) (m ((c.tc : Thread Cert.AttReferenceIdeal.nD Cert.AttReferenceIdeal.τ).loc Cert.AttReferenceIdeal.main_arg1)) (m ((c.tc : Thread Cert.AttReferenceIdeal.nD Cert.AttReferenceIdeal.τ).loc Cert.AttReferenceIdeal.main_arg2))).2.2 = (fun _ => 1#1)

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_DiscKernel (m : (ℓ : Loc Cert.DiscKernel.nD Cert.DiscKernel.τ Cert.DiscKernel.sig) → Buf (Elt Bits) ℓ) : Prop :=
  True

def Pre_DiscKernelIdeal (m : (ℓ : Loc Cert.DiscKernelIdeal.nD Cert.DiscKernelIdeal.τ Cert.DiscKernelIdeal.sig) → Buf (Elt Ideal) ℓ) : Prop :=
  True

def Pre_DiscReferenceIdeal (m : (ℓ : Loc Cert.DiscReferenceIdeal.nD Cert.DiscReferenceIdeal.τ Cert.DiscReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2 = (fun _ => 1#1)

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeKernelIdeal_merge_finite [hPre_merge_finite : Cert.Pre_merge_finite.Facts] (m : (ℓ : Loc Cert.MergeKernelIdeal.nD Cert.MergeKernelIdeal.τ Cert.MergeKernelIdeal.sig) → Buf (Elt Ideal) ℓ) : Prop :=
  ∀ c : Dev Cert.MergeKernelIdeal.nD,
    (Cert.Pre_merge_finite.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7)) (m ((c.tc : Thread Cert.MergeKernelIdeal.nD Cert.MergeKernelIdeal.τ).loc Cert.MergeKernelIdeal.main_arg8)) (m ((c.tc : Thread Cert.MergeKernelIdeal.nD Cert.MergeKernelIdeal.τ).loc Cert.MergeKernelIdeal.main_arg9))).1 = (fun _ => 1#1)
    ∧ (Cert.Pre_merge_finite.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7)) (m ((c.tc : Thread Cert.MergeKernelIdeal.nD Cert.MergeKernelIdeal.τ).loc Cert.MergeKernelIdeal.main_arg8)) (m ((c.tc : Thread Cert.MergeKernelIdeal.nD Cert.MergeKernelIdeal.τ).loc Cert.MergeKernelIdeal.main_arg9))).2.1 = (fun _ => 1#1)
    ∧ (Cert.Pre_merge_finite.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7)) (m ((c.tc : Thread Cert.MergeKernelIdeal.nD Cert.MergeKernelIdeal.τ).loc Cert.MergeKernelIdeal.main_arg8)) (m ((c.tc : Thread Cert.MergeKernelIdeal.nD Cert.MergeKernelIdeal.τ).loc Cert.MergeKernelIdeal.main_arg9))).2.2.1 = (fun _ => 1#1)
    ∧ (Cert.Pre_merge_finite.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7)) (m ((c.tc : Thread Cert.MergeKernelIdeal.nD Cert.MergeKernelIdeal.τ).loc Cert.MergeKernelIdeal.main_arg8)) (m ((c.tc : Thread Cert.MergeKernelIdeal.nD Cert.MergeKernelIdeal.τ).loc Cert.MergeKernelIdeal.main_arg9))).2.2.2.1 = (fun _ => 1#1)
    ∧ (Cert.Pre_merge_finite.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7)) (m ((c.tc : Thread Cert.MergeKernelIdeal.nD Cert.MergeKernelIdeal.τ).loc Cert.MergeKernelIdeal.main_arg8)) (m ((c.tc : Thread Cert.MergeKernelIdeal.nD Cert.MergeKernelIdeal.τ).loc Cert.MergeKernelIdeal.main_arg9))).2.2.2.2.1 = (fun _ => 1#1)
    ∧ (Cert.Pre_merge_finite.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7)) (m ((c.tc : Thread Cert.MergeKernelIdeal.nD Cert.MergeKernelIdeal.τ).loc Cert.MergeKernelIdeal.main_arg8)) (m ((c.tc : Thread Cert.MergeKernelIdeal.nD Cert.MergeKernelIdeal.τ).loc Cert.MergeKernelIdeal.main_arg9))).2.2.2.2.2.1 = (fun _ => 1#1)
    ∧ (Cert.Pre_merge_finite.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7)) (m ((c.tc : Thread Cert.MergeKernelIdeal.nD Cert.MergeKernelIdeal.τ).loc Cert.MergeKernelIdeal.main_arg8)) (m ((c.tc : Thread Cert.MergeKernelIdeal.nD Cert.MergeKernelIdeal.τ).loc Cert.MergeKernelIdeal.main_arg9))).2.2.2.2.2.2 = (fun _ => 1#1)

def Pre_MergeReferenceIdeal (m : (ℓ : Loc Cert.MergeReferenceIdeal.nD Cert.MergeReferenceIdeal.τ Cert.MergeReferenceIdeal.sig) → Buf (Elt Ideal) ℓ) : Prop :=
  True

def Pre_MergeReferenceIdeal_merge_finite [hPre_merge_finite : Cert.Pre_merge_finite.Facts] (m : (ℓ : Loc Cert.MergeReferenceIdeal.nD Cert.MergeReferenceIdeal.τ Cert.MergeReferenceIdeal.sig) → Buf (Elt Ideal) ℓ) : Prop :=
  ∀ c : Dev Cert.MergeReferenceIdeal.nD,
    (Cert.Pre_merge_finite.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9))).1 = (fun _ => 1#1)
    ∧ (Cert.Pre_merge_finite.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9))).2.1 = (fun _ => 1#1)
    ∧ (Cert.Pre_merge_finite.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9))).2.2.1 = (fun _ => 1#1)
    ∧ (Cert.Pre_merge_finite.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9))).2.2.2.1 = (fun _ => 1#1)
    ∧ (Cert.Pre_merge_finite.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9))).2.2.2.2.1 = (fun _ => 1#1)
    ∧ (Cert.Pre_merge_finite.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9))).2.2.2.2.2.1 = (fun _ => 1#1)
    ∧ (Cert.Pre_merge_finite.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9))).2.2.2.2.2.2 = (fun _ => 1#1)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_AttKernel [hAttKernel : Cert.AttKernel.Facts] : Prop :=
  ∀ (m : (ℓ : Loc Cert.AttKernel.nD Cert.AttKernel.τ Cert.AttKernel.sig) → Buf (Elt Bits) ℓ) (g : Dev Cert.AttKernel.nD → PrngReg), Pre_AttKernel m →
    θ_run (Cert.AttKernel.defs (F := Bits)) (onTc (τ := Cert.AttKernel.τ) (Cert.AttKernel.main (F := Bits))) ⟨m, fun _ => 0, g⟩ (fun r => (∀ c : Dev Cert.AttKernel.nD,
      r.2.mem ((c.tc : Thread Cert.AttKernel.nD Cert.AttKernel.τ).loc Cert.AttKernel.main_arg0) = m ((c.tc : Thread Cert.AttKernel.nD Cert.AttKernel.τ).loc Cert.AttKernel.main_arg0)
      ∧ r.2.mem ((c.tc : Thread Cert.AttKernel.nD Cert.AttKernel.τ).loc Cert.AttKernel.main_arg1) = m ((c.tc : Thread Cert.AttKernel.nD Cert.AttKernel.τ).loc Cert.AttKernel.main_arg1)
      ∧ r.2.mem ((c.tc : Thread Cert.AttKernel.nD Cert.AttKernel.τ).loc Cert.AttKernel.main_arg2) = m ((c.tc : Thread Cert.AttKernel.nD Cert.AttKernel.τ).loc Cert.AttKernel.main_arg2))
      ∧ r.2.sem = fun _ => 0)

def quiescent_AttKernelIdeal [hAttKernelIdeal : Cert.AttKernelIdeal.Facts] : Prop :=
  ∀ (m : (ℓ : Loc Cert.AttKernelIdeal.nD Cert.AttKernelIdeal.τ Cert.AttKernelIdeal.sig) → Buf (Elt Ideal) ℓ) (g : Dev Cert.AttKernelIdeal.nD → PrngReg), Pre_AttKernelIdeal m →
    θ_run (Cert.AttKernelIdeal.defs (F := Ideal)) (onTc (τ := Cert.AttKernelIdeal.τ) (Cert.AttKernelIdeal.main (F := Ideal))) ⟨m, fun _ => 0, g⟩ (fun r => (∀ c : Dev Cert.AttKernelIdeal.nD,
      r.2.mem ((c.tc : Thread Cert.AttKernelIdeal.nD Cert.AttKernelIdeal.τ).loc Cert.AttKernelIdeal.main_arg0) = m ((c.tc : Thread Cert.AttKernelIdeal.nD Cert.AttKernelIdeal.τ).loc Cert.AttKernelIdeal.main_arg0)
      ∧ r.2.mem ((c.tc : Thread Cert.AttKernelIdeal.nD Cert.AttKernelIdeal.τ).loc Cert.AttKernelIdeal.main_arg1) = m ((c.tc : Thread Cert.AttKernelIdeal.nD Cert.AttKernelIdeal.τ).loc Cert.AttKernelIdeal.main_arg1)
      ∧ r.2.mem ((c.tc : Thread Cert.AttKernelIdeal.nD Cert.AttKernelIdeal.τ).loc Cert.AttKernelIdeal.main_arg2) = m ((c.tc : Thread Cert.AttKernelIdeal.nD Cert.AttKernelIdeal.τ).loc Cert.AttKernelIdeal.main_arg2))
      ∧ r.2.sem = fun _ => 0)

def quiescent_AttKernelIdeal_pre_att_finite [hAttKernelIdeal : Cert.AttKernelIdeal.Facts] [hPre_att_finite : Cert.Pre_att_finite.Facts] : Prop :=
  ∀ (m : (ℓ : Loc Cert.AttKernelIdeal.nD Cert.AttKernelIdeal.τ Cert.AttKernelIdeal.sig) → Buf (Elt Ideal) ℓ) (g : Dev Cert.AttKernelIdeal.nD → PrngReg), Pre_AttKernelIdeal_att_finite m →
    θ_run (Cert.AttKernelIdeal.defs (F := Ideal)) (onTc (τ := Cert.AttKernelIdeal.τ) (Cert.AttKernelIdeal.main (F := Ideal))) ⟨m, fun _ => 0, g⟩ (fun r => (∀ c : Dev Cert.AttKernelIdeal.nD,
      r.2.mem ((c.tc : Thread Cert.AttKernelIdeal.nD Cert.AttKernelIdeal.τ).loc Cert.AttKernelIdeal.main_arg0) = m ((c.tc : Thread Cert.AttKernelIdeal.nD Cert.AttKernelIdeal.τ).loc Cert.AttKernelIdeal.main_arg0)
      ∧ r.2.mem ((c.tc : Thread Cert.AttKernelIdeal.nD Cert.AttKernelIdeal.τ).loc Cert.AttKernelIdeal.main_arg1) = m ((c.tc : Thread Cert.AttKernelIdeal.nD Cert.AttKernelIdeal.τ).loc Cert.AttKernelIdeal.main_arg1)
      ∧ r.2.mem ((c.tc : Thread Cert.AttKernelIdeal.nD Cert.AttKernelIdeal.τ).loc Cert.AttKernelIdeal.main_arg2) = m ((c.tc : Thread Cert.AttKernelIdeal.nD Cert.AttKernelIdeal.τ).loc Cert.AttKernelIdeal.main_arg2))
      ∧ r.2.sem = fun _ => 0)

def quiescent_AttReferenceIdeal [hAttReferenceIdeal : Cert.AttReferenceIdeal.Facts] : Prop :=
  ∀ (m : (ℓ : Loc Cert.AttReferenceIdeal.nD Cert.AttReferenceIdeal.τ Cert.AttReferenceIdeal.sig) → Buf (Elt Ideal) ℓ) (g : Dev Cert.AttReferenceIdeal.nD → PrngReg), Pre_AttReferenceIdeal m →
    θ_run (Cert.AttReferenceIdeal.defs (F := Ideal)) (onTc (τ := Cert.AttReferenceIdeal.τ) (Cert.AttReferenceIdeal.main (F := Ideal))) ⟨m, fun _ => 0, g⟩ (fun r => (∀ c : Dev Cert.AttReferenceIdeal.nD,
      r.2.mem ((c.tc : Thread Cert.AttReferenceIdeal.nD Cert.AttReferenceIdeal.τ).loc Cert.AttReferenceIdeal.main_arg0) = m ((c.tc : Thread Cert.AttReferenceIdeal.nD Cert.AttReferenceIdeal.τ).loc Cert.AttReferenceIdeal.main_arg0)
      ∧ r.2.mem ((c.tc : Thread Cert.AttReferenceIdeal.nD Cert.AttReferenceIdeal.τ).loc Cert.AttReferenceIdeal.main_arg1) = m ((c.tc : Thread Cert.AttReferenceIdeal.nD Cert.AttReferenceIdeal.τ).loc Cert.AttReferenceIdeal.main_arg1)
      ∧ r.2.mem ((c.tc : Thread Cert.AttReferenceIdeal.nD Cert.AttReferenceIdeal.τ).loc Cert.AttReferenceIdeal.main_arg2) = m ((c.tc : Thread Cert.AttReferenceIdeal.nD Cert.AttReferenceIdeal.τ).loc Cert.AttReferenceIdeal.main_arg2))
      ∧ r.2.sem = fun _ => 0)

def quiescent_AttReferenceIdeal_pre_att_finite [hAttReferenceIdeal : Cert.AttReferenceIdeal.Facts] [hPre_att_finite : Cert.Pre_att_finite.Facts] : Prop :=
  ∀ (m : (ℓ : Loc Cert.AttReferenceIdeal.nD Cert.AttReferenceIdeal.τ Cert.AttReferenceIdeal.sig) → Buf (Elt Ideal) ℓ) (g : Dev Cert.AttReferenceIdeal.nD → PrngReg), Pre_AttReferenceIdeal_att_finite m →
    θ_run (Cert.AttReferenceIdeal.defs (F := Ideal)) (onTc (τ := Cert.AttReferenceIdeal.τ) (Cert.AttReferenceIdeal.main (F := Ideal))) ⟨m, fun _ => 0, g⟩ (fun r => (∀ c : Dev Cert.AttReferenceIdeal.nD,
      r.2.mem ((c.tc : Thread Cert.AttReferenceIdeal.nD Cert.AttReferenceIdeal.τ).loc Cert.AttReferenceIdeal.main_arg0) = m ((c.tc : Thread Cert.AttReferenceIdeal.nD Cert.AttReferenceIdeal.τ).loc Cert.AttReferenceIdeal.main_arg0)
      ∧ r.2.mem ((c.tc : Thread Cert.AttReferenceIdeal.nD Cert.AttReferenceIdeal.τ).loc Cert.AttReferenceIdeal.main_arg1) = m ((c.tc : Thread Cert.AttReferenceIdeal.nD Cert.AttReferenceIdeal.τ).loc Cert.AttReferenceIdeal.main_arg1)
      ∧ r.2.mem ((c.tc : Thread Cert.AttReferenceIdeal.nD Cert.AttReferenceIdeal.τ).loc Cert.AttReferenceIdeal.main_arg2) = m ((c.tc : Thread Cert.AttReferenceIdeal.nD Cert.AttReferenceIdeal.τ).loc Cert.AttReferenceIdeal.main_arg2))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_DiscKernel [hDiscKernel : Cert.DiscKernel.Facts] : Prop :=
  ∀ (m : (ℓ : Loc Cert.DiscKernel.nD Cert.DiscKernel.τ Cert.DiscKernel.sig) → Buf (Elt Bits) ℓ) (g : Dev Cert.DiscKernel.nD → PrngReg), Pre_DiscKernel m →
    θ_run (Cert.DiscKernel.defs (F := Bits)) (onTc (τ := Cert.DiscKernel.τ) (Cert.DiscKernel.main (F := Bits))) ⟨m, fun _ => 0, g⟩ (fun r => (∀ c : Dev Cert.DiscKernel.nD,
      r.2.mem ((c.tc : Thread Cert.DiscKernel.nD Cert.DiscKernel.τ).loc Cert.DiscKernel.main_arg0) = m ((c.tc : Thread Cert.DiscKernel.nD Cert.DiscKernel.τ).loc Cert.DiscKernel.main_arg0)
      ∧ r.2.mem ((c.tc : Thread Cert.DiscKernel.nD Cert.DiscKernel.τ).loc Cert.DiscKernel.main_arg1) = m ((c.tc : Thread Cert.DiscKernel.nD Cert.DiscKernel.τ).loc Cert.DiscKernel.main_arg1)
      ∧ r.2.mem ((c.tc : Thread Cert.DiscKernel.nD Cert.DiscKernel.τ).loc Cert.DiscKernel.main_arg2) = m ((c.tc : Thread Cert.DiscKernel.nD Cert.DiscKernel.τ).loc Cert.DiscKernel.main_arg2)
      ∧ r.2.mem ((c.tc : Thread Cert.DiscKernel.nD Cert.DiscKernel.τ).loc Cert.DiscKernel.main_arg3) = m ((c.tc : Thread Cert.DiscKernel.nD Cert.DiscKernel.τ).loc Cert.DiscKernel.main_arg3)
      ∧ r.2.mem ((c.tc : Thread Cert.DiscKernel.nD Cert.DiscKernel.τ).loc Cert.DiscKernel.main_arg4) = m ((c.tc : Thread Cert.DiscKernel.nD Cert.DiscKernel.τ).loc Cert.DiscKernel.main_arg4)
      ∧ r.2.mem ((c.tc : Thread Cert.DiscKernel.nD Cert.DiscKernel.τ).loc Cert.DiscKernel.main_arg5) = m ((c.tc : Thread Cert.DiscKernel.nD Cert.DiscKernel.τ).loc Cert.DiscKernel.main_arg5)
      ∧ r.2.mem ((c.tc : Thread Cert.DiscKernel.nD Cert.DiscKernel.τ).loc Cert.DiscKernel.main_arg6) = m ((c.tc : Thread Cert.DiscKernel.nD Cert.DiscKernel.τ).loc Cert.DiscKernel.main_arg6)
      ∧ r.2.mem ((c.tc : Thread Cert.DiscKernel.nD Cert.DiscKernel.τ).loc Cert.DiscKernel.main_arg7) = m ((c.tc : Thread Cert.DiscKernel.nD Cert.DiscKernel.τ).loc Cert.DiscKernel.main_arg7)
      ∧ r.2.mem ((c.tc : Thread Cert.DiscKernel.nD Cert.DiscKernel.τ).loc Cert.DiscKernel.main_arg8) = m ((c.tc : Thread Cert.DiscKernel.nD Cert.DiscKernel.τ).loc Cert.DiscKernel.main_arg8))
      ∧ r.2.sem = fun _ => 0)

def quiescent_DiscKernelIdeal [hDiscKernelIdeal : Cert.DiscKernelIdeal.Facts] : Prop :=
  ∀ (m : (ℓ : Loc Cert.DiscKernelIdeal.nD Cert.DiscKernelIdeal.τ Cert.DiscKernelIdeal.sig) → Buf (Elt Ideal) ℓ) (g : Dev Cert.DiscKernelIdeal.nD → PrngReg), Pre_DiscKernelIdeal m →
    θ_run (Cert.DiscKernelIdeal.defs (F := Ideal)) (onTc (τ := Cert.DiscKernelIdeal.τ) (Cert.DiscKernelIdeal.main (F := Ideal))) ⟨m, fun _ => 0, g⟩ (fun r => (∀ c : Dev Cert.DiscKernelIdeal.nD,
      r.2.mem ((c.tc : Thread Cert.DiscKernelIdeal.nD Cert.DiscKernelIdeal.τ).loc Cert.DiscKernelIdeal.main_arg0) = m ((c.tc : Thread Cert.DiscKernelIdeal.nD Cert.DiscKernelIdeal.τ).loc Cert.DiscKernelIdeal.main_arg0)
      ∧ r.2.mem ((c.tc : Thread Cert.DiscKernelIdeal.nD Cert.DiscKernelIdeal.τ).loc Cert.DiscKernelIdeal.main_arg1) = m ((c.tc : Thread Cert.DiscKernelIdeal.nD Cert.DiscKernelIdeal.τ).loc Cert.DiscKernelIdeal.main_arg1)
      ∧ r.2.mem ((c.tc : Thread Cert.DiscKernelIdeal.nD Cert.DiscKernelIdeal.τ).loc Cert.DiscKernelIdeal.main_arg2) = m ((c.tc : Thread Cert.DiscKernelIdeal.nD Cert.DiscKernelIdeal.τ).loc Cert.DiscKernelIdeal.main_arg2)
      ∧ r.2.mem ((c.tc : Thread Cert.DiscKernelIdeal.nD Cert.DiscKernelIdeal.τ).loc Cert.DiscKernelIdeal.main_arg3) = m ((c.tc : Thread Cert.DiscKernelIdeal.nD Cert.DiscKernelIdeal.τ).loc Cert.DiscKernelIdeal.main_arg3)
      ∧ r.2.mem ((c.tc : Thread Cert.DiscKernelIdeal.nD Cert.DiscKernelIdeal.τ).loc Cert.DiscKernelIdeal.main_arg4) = m ((c.tc : Thread Cert.DiscKernelIdeal.nD Cert.DiscKernelIdeal.τ).loc Cert.DiscKernelIdeal.main_arg4)
      ∧ r.2.mem ((c.tc : Thread Cert.DiscKernelIdeal.nD Cert.DiscKernelIdeal.τ).loc Cert.DiscKernelIdeal.main_arg5) = m ((c.tc : Thread Cert.DiscKernelIdeal.nD Cert.DiscKernelIdeal.τ).loc Cert.DiscKernelIdeal.main_arg5)
      ∧ r.2.mem ((c.tc : Thread Cert.DiscKernelIdeal.nD Cert.DiscKernelIdeal.τ).loc Cert.DiscKernelIdeal.main_arg6) = m ((c.tc : Thread Cert.DiscKernelIdeal.nD Cert.DiscKernelIdeal.τ).loc Cert.DiscKernelIdeal.main_arg6)
      ∧ r.2.mem ((c.tc : Thread Cert.DiscKernelIdeal.nD Cert.DiscKernelIdeal.τ).loc Cert.DiscKernelIdeal.main_arg7) = m ((c.tc : Thread Cert.DiscKernelIdeal.nD Cert.DiscKernelIdeal.τ).loc Cert.DiscKernelIdeal.main_arg7)
      ∧ r.2.mem ((c.tc : Thread Cert.DiscKernelIdeal.nD Cert.DiscKernelIdeal.τ).loc Cert.DiscKernelIdeal.main_arg8) = m ((c.tc : Thread Cert.DiscKernelIdeal.nD Cert.DiscKernelIdeal.τ).loc Cert.DiscKernelIdeal.main_arg8))
      ∧ r.2.sem = fun _ => 0)

def quiescent_DiscReferenceIdeal [hDiscReferenceIdeal : Cert.DiscReferenceIdeal.Facts] : Prop :=
  ∀ (m : (ℓ : Loc Cert.DiscReferenceIdeal.nD Cert.DiscReferenceIdeal.τ Cert.DiscReferenceIdeal.sig) → Buf (Elt Ideal) ℓ) (g : Dev Cert.DiscReferenceIdeal.nD → PrngReg), Pre_DiscReferenceIdeal m →
    θ_run (Cert.DiscReferenceIdeal.defs (F := Ideal)) (onTc (τ := Cert.DiscReferenceIdeal.τ) (Cert.DiscReferenceIdeal.main (F := Ideal))) ⟨m, fun _ => 0, g⟩ (fun r => (∀ c : Dev Cert.DiscReferenceIdeal.nD,
      r.2.mem ((c.tc : Thread Cert.DiscReferenceIdeal.nD Cert.DiscReferenceIdeal.τ).loc Cert.DiscReferenceIdeal.main_arg0) = m ((c.tc : Thread Cert.DiscReferenceIdeal.nD Cert.DiscReferenceIdeal.τ).loc Cert.DiscReferenceIdeal.main_arg0)
      ∧ r.2.mem ((c.tc : Thread Cert.DiscReferenceIdeal.nD Cert.DiscReferenceIdeal.τ).loc Cert.DiscReferenceIdeal.main_arg1) = m ((c.tc : Thread Cert.DiscReferenceIdeal.nD Cert.DiscReferenceIdeal.τ).loc Cert.DiscReferenceIdeal.main_arg1)
      ∧ r.2.mem ((c.tc : Thread Cert.DiscReferenceIdeal.nD Cert.DiscReferenceIdeal.τ).loc Cert.DiscReferenceIdeal.main_arg2) = m ((c.tc : Thread Cert.DiscReferenceIdeal.nD Cert.DiscReferenceIdeal.τ).loc Cert.DiscReferenceIdeal.main_arg2)
      ∧ r.2.mem ((c.tc : Thread Cert.DiscReferenceIdeal.nD Cert.DiscReferenceIdeal.τ).loc Cert.DiscReferenceIdeal.main_arg3) = m ((c.tc : Thread Cert.DiscReferenceIdeal.nD Cert.DiscReferenceIdeal.τ).loc Cert.DiscReferenceIdeal.main_arg3)
      ∧ r.2.mem ((c.tc : Thread Cert.DiscReferenceIdeal.nD Cert.DiscReferenceIdeal.τ).loc Cert.DiscReferenceIdeal.main_arg4) = m ((c.tc : Thread Cert.DiscReferenceIdeal.nD Cert.DiscReferenceIdeal.τ).loc Cert.DiscReferenceIdeal.main_arg4)
      ∧ r.2.mem ((c.tc : Thread Cert.DiscReferenceIdeal.nD Cert.DiscReferenceIdeal.τ).loc Cert.DiscReferenceIdeal.main_arg5) = m ((c.tc : Thread Cert.DiscReferenceIdeal.nD Cert.DiscReferenceIdeal.τ).loc Cert.DiscReferenceIdeal.main_arg5)
      ∧ r.2.mem ((c.tc : Thread Cert.DiscReferenceIdeal.nD Cert.DiscReferenceIdeal.τ).loc Cert.DiscReferenceIdeal.main_arg6) = m ((c.tc : Thread Cert.DiscReferenceIdeal.nD Cert.DiscReferenceIdeal.τ).loc Cert.DiscReferenceIdeal.main_arg6)
      ∧ r.2.mem ((c.tc : Thread Cert.DiscReferenceIdeal.nD Cert.DiscReferenceIdeal.τ).loc Cert.DiscReferenceIdeal.main_arg7) = m ((c.tc : Thread Cert.DiscReferenceIdeal.nD Cert.DiscReferenceIdeal.τ).loc Cert.DiscReferenceIdeal.main_arg7)
      ∧ r.2.mem ((c.tc : Thread Cert.DiscReferenceIdeal.nD Cert.DiscReferenceIdeal.τ).loc Cert.DiscReferenceIdeal.main_arg8) = m ((c.tc : Thread Cert.DiscReferenceIdeal.nD Cert.DiscReferenceIdeal.τ).loc Cert.DiscReferenceIdeal.main_arg8))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8)
      ∧ r.2.mem ((c.tc : Thread Cert.MergeKernel.nD Cert.MergeKernel.τ).loc Cert.MergeKernel.main_arg9) = m ((c.tc : Thread Cert.MergeKernel.nD Cert.MergeKernel.τ).loc Cert.MergeKernel.main_arg9))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9))
      ∧ r.2.sem = fun _ => 0)

def quiescent_MergeKernelIdeal_pre_merge_finite [hMergeKernelIdeal : Cert.MergeKernelIdeal.Facts] [hPre_merge_finite : Cert.Pre_merge_finite.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal_merge_finite m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def quiescent_MergeReferenceIdeal_pre_merge_finite [hMergeReferenceIdeal : Cert.MergeReferenceIdeal.Facts] [hPre_merge_finite : Cert.Pre_merge_finite.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal_merge_finite m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v2_0)) (v1 : (c : Dev Cert.LossKernelIdeal.nD) → Buf (Elt Ideal) ((c.tc : Thread Cert.LossKernelIdeal.nD Cert.LossKernelIdeal.τ).loc Cert.LossKernelIdeal.main_v2_1)) (v2 : (c : Dev Cert.LossKernelIdeal.nD) → Buf (Elt Ideal) ((c.tc : Thread Cert.LossKernelIdeal.nD Cert.LossKernelIdeal.τ).loc Cert.LossKernelIdeal.main_v2_2)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v2_0) = v0 c
          ∧ r.2.mem ((c.tc : Thread Cert.LossKernelIdeal.nD Cert.LossKernelIdeal.τ).loc Cert.LossKernelIdeal.main_v2_1) = v1 c
          ∧ r.2.mem ((c.tc : Thread Cert.LossKernelIdeal.nD Cert.LossKernelIdeal.τ).loc Cert.LossKernelIdeal.main_v2_2) = v2 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v53) = v0 c
          ∧ r.2.mem ((c.tc : Thread Cert.LossReferenceIdeal.nD Cert.LossReferenceIdeal.τ).loc Cert.LossReferenceIdeal.main_v54) = v1 c
          ∧ r.2.mem ((c.tc : Thread Cert.LossReferenceIdeal.nD Cert.LossReferenceIdeal.τ).loc Cert.LossReferenceIdeal.main_v55) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_AttKernel_AttKernelIdeal : Prop :=
  True

def algebraic_AttKernelIdeal_AttReferenceIdeal_pre_att_finite [hAttKernelIdeal : Cert.AttKernelIdeal.Facts] [hAttReferenceIdeal : Cert.AttReferenceIdeal.Facts] [hPre_att_finite : Cert.Pre_att_finite.Facts] : Prop :=
  ∀ (m : (ℓ : Loc Cert.AttKernelIdeal.nD Cert.AttKernelIdeal.τ Cert.AttKernelIdeal.sig) → Buf (Elt Ideal) ℓ) (g : Dev Cert.AttKernelIdeal.nD → PrngReg)
    (m' : (ℓ : Loc Cert.AttReferenceIdeal.nD Cert.AttReferenceIdeal.τ Cert.AttReferenceIdeal.sig) → Buf (Elt Ideal) ℓ) (g' : Dev Cert.AttReferenceIdeal.nD → PrngReg), Pre_AttKernelIdeal_att_finite m →
    (∀ c : Dev Cert.AttKernelIdeal.nD,
      m' ((c.tc : Thread Cert.AttReferenceIdeal.nD Cert.AttReferenceIdeal.τ).loc Cert.AttReferenceIdeal.main_arg0) = m ((c.tc : Thread Cert.AttKernelIdeal.nD Cert.AttKernelIdeal.τ).loc Cert.AttKernelIdeal.main_arg0)
      ∧ m' ((c.tc : Thread Cert.AttReferenceIdeal.nD Cert.AttReferenceIdeal.τ).loc Cert.AttReferenceIdeal.main_arg1) = m ((c.tc : Thread Cert.AttKernelIdeal.nD Cert.AttKernelIdeal.τ).loc Cert.AttKernelIdeal.main_arg1)
      ∧ m' ((c.tc : Thread Cert.AttReferenceIdeal.nD Cert.AttReferenceIdeal.τ).loc Cert.AttReferenceIdeal.main_arg2) = m ((c.tc : Thread Cert.AttKernelIdeal.nD Cert.AttKernelIdeal.τ).loc Cert.AttKernelIdeal.main_arg2)) →
    ∃ (v0 : (c : Dev Cert.AttKernelIdeal.nD) → Buf (Elt Ideal) ((c.tc : Thread Cert.AttKernelIdeal.nD Cert.AttKernelIdeal.τ).loc Cert.AttKernelIdeal.main_v82)) (v1 : (c : Dev Cert.AttKernelIdeal.nD) → Buf (Elt Ideal) ((c.tc : Thread Cert.AttKernelIdeal.nD Cert.AttKernelIdeal.τ).loc Cert.AttKernelIdeal.main_v85_0)) (v2 : (c : Dev Cert.AttKernelIdeal.nD) → Buf (Elt Ideal) ((c.tc : Thread Cert.AttKernelIdeal.nD Cert.AttKernelIdeal.τ).loc Cert.AttKernelIdeal.main_v85_1)) (v3 : (c : Dev Cert.AttKernelIdeal.nD) → Buf (Elt Ideal) ((c.tc : Thread Cert.AttKernelIdeal.nD Cert.AttKernelIdeal.τ).loc Cert.AttKernelIdeal.main_v85_2)) (v4 : (c : Dev Cert.AttKernelIdeal.nD) → Buf (Elt Ideal) ((c.tc : Thread Cert.AttKernelIdeal.nD Cert.AttKernelIdeal.τ).loc Cert.AttKernelIdeal.main_v98)),
      θ_run (Cert.AttKernelIdeal.defs (F := Ideal)) (onTc (τ := Cert.AttKernelIdeal.τ) (Cert.AttKernelIdeal.main (F := Ideal))) ⟨m, fun _ => 0, g⟩ (fun r => ∀ c : Dev Cert.AttKernelIdeal.nD,
          r.2.mem ((c.tc : Thread Cert.AttKernelIdeal.nD Cert.AttKernelIdeal.τ).loc Cert.AttKernelIdeal.main_v82) = v0 c
          ∧ r.2.mem ((c.tc : Thread Cert.AttKernelIdeal.nD Cert.AttKernelIdeal.τ).loc Cert.AttKernelIdeal.main_v85_0) = v1 c
          ∧ r.2.mem ((c.tc : Thread Cert.AttKernelIdeal.nD Cert.AttKernelIdeal.τ).loc Cert.AttKernelIdeal.main_v85_1) = v2 c
          ∧ r.2.mem ((c.tc : Thread Cert.AttKernelIdeal.nD Cert.AttKernelIdeal.τ).loc Cert.AttKernelIdeal.main_v85_2) = v3 c
          ∧ r.2.mem ((c.tc : Thread Cert.AttKernelIdeal.nD Cert.AttKernelIdeal.τ).loc Cert.AttKernelIdeal.main_v98) = v4 c
          ∧ r.2.mem ((c.tc : Thread Cert.AttKernelIdeal.nD Cert.AttKernelIdeal.τ).loc Cert.AttKernelIdeal.main_arg0) = m ((c.tc : Thread Cert.AttKernelIdeal.nD Cert.AttKernelIdeal.τ).loc Cert.AttKernelIdeal.main_arg0)
          ∧ r.2.mem ((c.tc : Thread Cert.AttKernelIdeal.nD Cert.AttKernelIdeal.τ).loc Cert.AttKernelIdeal.main_arg1) = m ((c.tc : Thread Cert.AttKernelIdeal.nD Cert.AttKernelIdeal.τ).loc Cert.AttKernelIdeal.main_arg1)
          ∧ r.2.mem ((c.tc : Thread Cert.AttKernelIdeal.nD Cert.AttKernelIdeal.τ).loc Cert.AttKernelIdeal.main_arg2) = m ((c.tc : Thread Cert.AttKernelIdeal.nD Cert.AttKernelIdeal.τ).loc Cert.AttKernelIdeal.main_arg2))
      ∧ θ_run (Cert.AttReferenceIdeal.defs (F := Ideal)) (onTc (τ := Cert.AttReferenceIdeal.τ) (Cert.AttReferenceIdeal.main (F := Ideal))) ⟨m', fun _ => 0, g'⟩ (fun r => ∀ c : Dev Cert.AttReferenceIdeal.nD,
          r.2.mem ((c.tc : Thread Cert.AttReferenceIdeal.nD Cert.AttReferenceIdeal.τ).loc Cert.AttReferenceIdeal.main_v154) = v0 c
          ∧ r.2.mem ((c.tc : Thread Cert.AttReferenceIdeal.nD Cert.AttReferenceIdeal.τ).loc Cert.AttReferenceIdeal.main_v156) = v1 c
          ∧ r.2.mem ((c.tc : Thread Cert.AttReferenceIdeal.nD Cert.AttReferenceIdeal.τ).loc Cert.AttReferenceIdeal.main_v158) = v2 c
          ∧ r.2.mem ((c.tc : Thread Cert.AttReferenceIdeal.nD Cert.AttReferenceIdeal.τ).loc Cert.AttReferenceIdeal.main_v160) = v3 c
          ∧ r.2.mem ((c.tc : Thread Cert.AttReferenceIdeal.nD Cert.AttReferenceIdeal.τ).loc Cert.AttReferenceIdeal.main_v139) = v4 c
          ∧ r.2.mem ((c.tc : Thread Cert.AttReferenceIdeal.nD Cert.AttReferenceIdeal.τ).loc Cert.AttReferenceIdeal.main_arg0) = m' ((c.tc : Thread Cert.AttReferenceIdeal.nD Cert.AttReferenceIdeal.τ).loc Cert.AttReferenceIdeal.main_arg0)
          ∧ r.2.mem ((c.tc : Thread Cert.AttReferenceIdeal.nD Cert.AttReferenceIdeal.τ).loc Cert.AttReferenceIdeal.main_arg1) = m' ((c.tc : Thread Cert.AttReferenceIdeal.nD Cert.AttReferenceIdeal.τ).loc Cert.AttReferenceIdeal.main_arg1)
          ∧ r.2.mem ((c.tc : Thread Cert.AttReferenceIdeal.nD Cert.AttReferenceIdeal.τ).loc Cert.AttReferenceIdeal.main_arg2) = m' ((c.tc : Thread Cert.AttReferenceIdeal.nD Cert.AttReferenceIdeal.τ).loc Cert.AttReferenceIdeal.main_arg2))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)) →
    ∃ (v0 : (c : Dev Cert.MixKernelIdeal.nD) → Buf (Elt Ideal) ((c.tc : Thread Cert.MixKernelIdeal.nD Cert.MixKernelIdeal.τ).loc Cert.MixKernelIdeal.main_v8_0)) (v1 : (c : Dev Cert.MixKernelIdeal.nD) → Buf (Elt Ideal) ((c.tc : Thread Cert.MixKernelIdeal.nD Cert.MixKernelIdeal.τ).loc Cert.MixKernelIdeal.main_v8_1)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v8_0) = v0 c
          ∧ r.2.mem ((c.tc : Thread Cert.MixKernelIdeal.nD Cert.MixKernelIdeal.τ).loc Cert.MixKernelIdeal.main_v8_1) = v1 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v43) = v0 c
          ∧ r.2.mem ((c.tc : Thread Cert.MixReferenceIdeal.nD Cert.MixReferenceIdeal.τ).loc Cert.MixReferenceIdeal.main_v42) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4))

def preserves_DiscKernel_DiscKernelIdeal : Prop :=
  True

def algebraic_DiscKernelIdeal_DiscReferenceIdeal [hDiscKernelIdeal : Cert.DiscKernelIdeal.Facts] [hDiscReferenceIdeal : Cert.DiscReferenceIdeal.Facts] : Prop :=
  ∀ (m : (ℓ : Loc Cert.DiscKernelIdeal.nD Cert.DiscKernelIdeal.τ Cert.DiscKernelIdeal.sig) → Buf (Elt Ideal) ℓ) (g : Dev Cert.DiscKernelIdeal.nD → PrngReg)
    (m' : (ℓ : Loc Cert.DiscReferenceIdeal.nD Cert.DiscReferenceIdeal.τ Cert.DiscReferenceIdeal.sig) → Buf (Elt Ideal) ℓ) (g' : Dev Cert.DiscReferenceIdeal.nD → PrngReg), Pre_DiscKernelIdeal m →
    (∀ c : Dev Cert.DiscKernelIdeal.nD,
      m' ((c.tc : Thread Cert.DiscReferenceIdeal.nD Cert.DiscReferenceIdeal.τ).loc Cert.DiscReferenceIdeal.main_arg0) = m ((c.tc : Thread Cert.DiscKernelIdeal.nD Cert.DiscKernelIdeal.τ).loc Cert.DiscKernelIdeal.main_arg0)
      ∧ m' ((c.tc : Thread Cert.DiscReferenceIdeal.nD Cert.DiscReferenceIdeal.τ).loc Cert.DiscReferenceIdeal.main_arg1) = m ((c.tc : Thread Cert.DiscKernelIdeal.nD Cert.DiscKernelIdeal.τ).loc Cert.DiscKernelIdeal.main_arg1)
      ∧ m' ((c.tc : Thread Cert.DiscReferenceIdeal.nD Cert.DiscReferenceIdeal.τ).loc Cert.DiscReferenceIdeal.main_arg2) = m ((c.tc : Thread Cert.DiscKernelIdeal.nD Cert.DiscKernelIdeal.τ).loc Cert.DiscKernelIdeal.main_arg2)
      ∧ m' ((c.tc : Thread Cert.DiscReferenceIdeal.nD Cert.DiscReferenceIdeal.τ).loc Cert.DiscReferenceIdeal.main_arg3) = m ((c.tc : Thread Cert.DiscKernelIdeal.nD Cert.DiscKernelIdeal.τ).loc Cert.DiscKernelIdeal.main_arg3)
      ∧ m' ((c.tc : Thread Cert.DiscReferenceIdeal.nD Cert.DiscReferenceIdeal.τ).loc Cert.DiscReferenceIdeal.main_arg4) = m ((c.tc : Thread Cert.DiscKernelIdeal.nD Cert.DiscKernelIdeal.τ).loc Cert.DiscKernelIdeal.main_arg4)
      ∧ m' ((c.tc : Thread Cert.DiscReferenceIdeal.nD Cert.DiscReferenceIdeal.τ).loc Cert.DiscReferenceIdeal.main_arg5) = m ((c.tc : Thread Cert.DiscKernelIdeal.nD Cert.DiscKernelIdeal.τ).loc Cert.DiscKernelIdeal.main_arg5)
      ∧ m' ((c.tc : Thread Cert.DiscReferenceIdeal.nD Cert.DiscReferenceIdeal.τ).loc Cert.DiscReferenceIdeal.main_arg6) = m ((c.tc : Thread Cert.DiscKernelIdeal.nD Cert.DiscKernelIdeal.τ).loc Cert.DiscKernelIdeal.main_arg6)
      ∧ m' ((c.tc : Thread Cert.DiscReferenceIdeal.nD Cert.DiscReferenceIdeal.τ).loc Cert.DiscReferenceIdeal.main_arg7) = m ((c.tc : Thread Cert.DiscKernelIdeal.nD Cert.DiscKernelIdeal.τ).loc Cert.DiscKernelIdeal.main_arg7)
      ∧ m' ((c.tc : Thread Cert.DiscReferenceIdeal.nD Cert.DiscReferenceIdeal.τ).loc Cert.DiscReferenceIdeal.main_arg8) = m ((c.tc : Thread Cert.DiscKernelIdeal.nD Cert.DiscKernelIdeal.τ).loc Cert.DiscKernelIdeal.main_arg8)) →
    ∃ (v0 : (c : Dev Cert.DiscKernelIdeal.nD) → Buf (Elt Ideal) ((c.tc : Thread Cert.DiscKernelIdeal.nD Cert.DiscKernelIdeal.τ).loc Cert.DiscKernelIdeal.main_v10_0)) (v1 : (c : Dev Cert.DiscKernelIdeal.nD) → Buf (Elt Ideal) ((c.tc : Thread Cert.DiscKernelIdeal.nD Cert.DiscKernelIdeal.τ).loc Cert.DiscKernelIdeal.main_v10_1)) (v2 : (c : Dev Cert.DiscKernelIdeal.nD) → Buf (Elt Ideal) ((c.tc : Thread Cert.DiscKernelIdeal.nD Cert.DiscKernelIdeal.τ).loc Cert.DiscKernelIdeal.main_v11)) (v3 : (c : Dev Cert.DiscKernelIdeal.nD) → Buf (Elt Ideal) ((c.tc : Thread Cert.DiscKernelIdeal.nD Cert.DiscKernelIdeal.τ).loc Cert.DiscKernelIdeal.main_v12)) (v4 : (c : Dev Cert.DiscKernelIdeal.nD) → Buf (Elt Ideal) ((c.tc : Thread Cert.DiscKernelIdeal.nD Cert.DiscKernelIdeal.τ).loc Cert.DiscKernelIdeal.main_v13)),
      θ_run (Cert.DiscKernelIdeal.defs (F := Ideal)) (onTc (τ := Cert.DiscKernelIdeal.τ) (Cert.DiscKernelIdeal.main (F := Ideal))) ⟨m, fun _ => 0, g⟩ (fun r => ∀ c : Dev Cert.DiscKernelIdeal.nD,
          r.2.mem ((c.tc : Thread Cert.DiscKernelIdeal.nD Cert.DiscKernelIdeal.τ).loc Cert.DiscKernelIdeal.main_v10_0) = v0 c
          ∧ r.2.mem ((c.tc : Thread Cert.DiscKernelIdeal.nD Cert.DiscKernelIdeal.τ).loc Cert.DiscKernelIdeal.main_v10_1) = v1 c
          ∧ r.2.mem ((c.tc : Thread Cert.DiscKernelIdeal.nD Cert.DiscKernelIdeal.τ).loc Cert.DiscKernelIdeal.main_v11) = v2 c
          ∧ r.2.mem ((c.tc : Thread Cert.DiscKernelIdeal.nD Cert.DiscKernelIdeal.τ).loc Cert.DiscKernelIdeal.main_v12) = v3 c
          ∧ r.2.mem ((c.tc : Thread Cert.DiscKernelIdeal.nD Cert.DiscKernelIdeal.τ).loc Cert.DiscKernelIdeal.main_v13) = v4 c
          ∧ r.2.mem ((c.tc : Thread Cert.DiscKernelIdeal.nD Cert.DiscKernelIdeal.τ).loc Cert.DiscKernelIdeal.main_arg0) = m ((c.tc : Thread Cert.DiscKernelIdeal.nD Cert.DiscKernelIdeal.τ).loc Cert.DiscKernelIdeal.main_arg0)
          ∧ r.2.mem ((c.tc : Thread Cert.DiscKernelIdeal.nD Cert.DiscKernelIdeal.τ).loc Cert.DiscKernelIdeal.main_arg1) = m ((c.tc : Thread Cert.DiscKernelIdeal.nD Cert.DiscKernelIdeal.τ).loc Cert.DiscKernelIdeal.main_arg1)
          ∧ r.2.mem ((c.tc : Thread Cert.DiscKernelIdeal.nD Cert.DiscKernelIdeal.τ).loc Cert.DiscKernelIdeal.main_arg2) = m ((c.tc : Thread Cert.DiscKernelIdeal.nD Cert.DiscKernelIdeal.τ).loc Cert.DiscKernelIdeal.main_arg2)
          ∧ r.2.mem ((c.tc : Thread Cert.DiscKernelIdeal.nD Cert.DiscKernelIdeal.τ).loc Cert.DiscKernelIdeal.main_arg3) = m ((c.tc : Thread Cert.DiscKernelIdeal.nD Cert.DiscKernelIdeal.τ).loc Cert.DiscKernelIdeal.main_arg3)
          ∧ r.2.mem ((c.tc : Thread Cert.DiscKernelIdeal.nD Cert.DiscKernelIdeal.τ).loc Cert.DiscKernelIdeal.main_arg4) = m ((c.tc : Thread Cert.DiscKernelIdeal.nD Cert.DiscKernelIdeal.τ).loc Cert.DiscKernelIdeal.main_arg4)
          ∧ r.2.mem ((c.tc : Thread Cert.DiscKernelIdeal.nD Cert.DiscKernelIdeal.τ).loc Cert.DiscKernelIdeal.main_arg5) = m ((c.tc : Thread Cert.DiscKernelIdeal.nD Cert.DiscKernelIdeal.τ).loc Cert.DiscKernelIdeal.main_arg5)
          ∧ r.2.mem ((c.tc : Thread Cert.DiscKernelIdeal.nD Cert.DiscKernelIdeal.τ).loc Cert.DiscKernelIdeal.main_arg6) = m ((c.tc : Thread Cert.DiscKernelIdeal.nD Cert.DiscKernelIdeal.τ).loc Cert.DiscKernelIdeal.main_arg6)
          ∧ r.2.mem ((c.tc : Thread Cert.DiscKernelIdeal.nD Cert.DiscKernelIdeal.τ).loc Cert.DiscKernelIdeal.main_arg7) = m ((c.tc : Thread Cert.DiscKernelIdeal.nD Cert.DiscKernelIdeal.τ).loc Cert.DiscKernelIdeal.main_arg7)
          ∧ r.2.mem ((c.tc : Thread Cert.DiscKernelIdeal.nD Cert.DiscKernelIdeal.τ).loc Cert.DiscKernelIdeal.main_arg8) = m ((c.tc : Thread Cert.DiscKernelIdeal.nD Cert.DiscKernelIdeal.τ).loc Cert.DiscKernelIdeal.main_arg8))
      ∧ θ_run (Cert.DiscReferenceIdeal.defs (F := Ideal)) (onTc (τ := Cert.DiscReferenceIdeal.τ) (Cert.DiscReferenceIdeal.main (F := Ideal))) ⟨m', fun _ => 0, g'⟩ (fun r => ∀ c : Dev Cert.DiscReferenceIdeal.nD,
          r.2.mem ((c.tc : Thread Cert.DiscReferenceIdeal.nD Cert.DiscReferenceIdeal.τ).loc Cert.DiscReferenceIdeal.main_v137) = v0 c
          ∧ r.2.mem ((c.tc : Thread Cert.DiscReferenceIdeal.nD Cert.DiscReferenceIdeal.τ).loc Cert.DiscReferenceIdeal.main_v130) = v1 c
          ∧ r.2.mem ((c.tc : Thread Cert.DiscReferenceIdeal.nD Cert.DiscReferenceIdeal.τ).loc Cert.DiscReferenceIdeal.main_v139) = v2 c
          ∧ r.2.mem ((c.tc : Thread Cert.DiscReferenceIdeal.nD Cert.DiscReferenceIdeal.τ).loc Cert.DiscReferenceIdeal.main_v77) = v3 c
          ∧ r.2.mem ((c.tc : Thread Cert.DiscReferenceIdeal.nD Cert.DiscReferenceIdeal.τ).loc Cert.DiscReferenceIdeal.main_v69) = v4 c
          ∧ r.2.mem ((c.tc : Thread Cert.DiscReferenceIdeal.nD Cert.DiscReferenceIdeal.τ).loc Cert.DiscReferenceIdeal.main_arg0) = m' ((c.tc : Thread Cert.DiscReferenceIdeal.nD Cert.DiscReferenceIdeal.τ).loc Cert.DiscReferenceIdeal.main_arg0)
          ∧ r.2.mem ((c.tc : Thread Cert.DiscReferenceIdeal.nD Cert.DiscReferenceIdeal.τ).loc Cert.DiscReferenceIdeal.main_arg1) = m' ((c.tc : Thread Cert.DiscReferenceIdeal.nD Cert.DiscReferenceIdeal.τ).loc Cert.DiscReferenceIdeal.main_arg1)
          ∧ r.2.mem ((c.tc : Thread Cert.DiscReferenceIdeal.nD Cert.DiscReferenceIdeal.τ).loc Cert.DiscReferenceIdeal.main_arg2) = m' ((c.tc : Thread Cert.DiscReferenceIdeal.nD Cert.DiscReferenceIdeal.τ).loc Cert.DiscReferenceIdeal.main_arg2)
          ∧ r.2.mem ((c.tc : Thread Cert.DiscReferenceIdeal.nD Cert.DiscReferenceIdeal.τ).loc Cert.DiscReferenceIdeal.main_arg3) = m' ((c.tc : Thread Cert.DiscReferenceIdeal.nD Cert.DiscReferenceIdeal.τ).loc Cert.DiscReferenceIdeal.main_arg3)
          ∧ r.2.mem ((c.tc : Thread Cert.DiscReferenceIdeal.nD Cert.DiscReferenceIdeal.τ).loc Cert.DiscReferenceIdeal.main_arg4) = m' ((c.tc : Thread Cert.DiscReferenceIdeal.nD Cert.DiscReferenceIdeal.τ).loc Cert.DiscReferenceIdeal.main_arg4)
          ∧ r.2.mem ((c.tc : Thread Cert.DiscReferenceIdeal.nD Cert.DiscReferenceIdeal.τ).loc Cert.DiscReferenceIdeal.main_arg5) = m' ((c.tc : Thread Cert.DiscReferenceIdeal.nD Cert.DiscReferenceIdeal.τ).loc Cert.DiscReferenceIdeal.main_arg5)
          ∧ r.2.mem ((c.tc : Thread Cert.DiscReferenceIdeal.nD Cert.DiscReferenceIdeal.τ).loc Cert.DiscReferenceIdeal.main_arg6) = m' ((c.tc : Thread Cert.DiscReferenceIdeal.nD Cert.DiscReferenceIdeal.τ).loc Cert.DiscReferenceIdeal.main_arg6)
          ∧ r.2.mem ((c.tc : Thread Cert.DiscReferenceIdeal.nD Cert.DiscReferenceIdeal.τ).loc Cert.DiscReferenceIdeal.main_arg7) = m' ((c.tc : Thread Cert.DiscReferenceIdeal.nD Cert.DiscReferenceIdeal.τ).loc Cert.DiscReferenceIdeal.main_arg7)
          ∧ r.2.mem ((c.tc : Thread Cert.DiscReferenceIdeal.nD Cert.DiscReferenceIdeal.τ).loc Cert.DiscReferenceIdeal.main_arg8) = m' ((c.tc : Thread Cert.DiscReferenceIdeal.nD Cert.DiscReferenceIdeal.τ).loc Cert.DiscReferenceIdeal.main_arg8))

def preserves_FfnKernel_FfnKernelIdeal : Prop :=
  True

def algebraic_FfnKernelIdeal_FfnReferenceIdeal_pre_ffn_finite [hFfnKernelIdeal : Cert.FfnKernelIdeal.Facts] [hFfnReferenceIdeal : Cert.FfnReferenceIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_ffn_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v9_0)) (v1 : (c : Dev Cert.FfnKernelIdeal.nD) → Buf (Elt Ideal) ((c.tc : Thread Cert.FfnKernelIdeal.nD Cert.FfnKernelIdeal.τ).loc Cert.FfnKernelIdeal.main_v9_1)) (v2 : (c : Dev Cert.FfnKernelIdeal.nD) → Buf (Elt Ideal) ((c.tc : Thread Cert.FfnKernelIdeal.nD Cert.FfnKernelIdeal.τ).loc Cert.FfnKernelIdeal.main_v12_0)) (v3 : (c : Dev Cert.FfnKernelIdeal.nD) → Buf (Elt Ideal) ((c.tc : Thread Cert.FfnKernelIdeal.nD Cert.FfnKernelIdeal.τ).loc Cert.FfnKernelIdeal.main_v12_1)) (v4 : (c : Dev Cert.FfnKernelIdeal.nD) → Buf (Elt Ideal) ((c.tc : Thread Cert.FfnKernelIdeal.nD Cert.FfnKernelIdeal.τ).loc Cert.FfnKernelIdeal.main_v12_2)) (v5 : (c : Dev Cert.FfnKernelIdeal.nD) → Buf (Elt Ideal) ((c.tc : Thread Cert.FfnKernelIdeal.nD Cert.FfnKernelIdeal.τ).loc Cert.FfnKernelIdeal.main_v12_3)) (v6 : (c : Dev Cert.FfnKernelIdeal.nD) → Buf (Elt Ideal) ((c.tc : Thread Cert.FfnKernelIdeal.nD Cert.FfnKernelIdeal.τ).loc Cert.FfnKernelIdeal.main_v12_4)) (v7 : (c : Dev Cert.FfnKernelIdeal.nD) → Buf (Elt Ideal) ((c.tc : Thread Cert.FfnKernelIdeal.nD Cert.FfnKernelIdeal.τ).loc Cert.FfnKernelIdeal.main_v12_5)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v9_0) = v0 c
          ∧ r.2.mem ((c.tc : Thread Cert.FfnKernelIdeal.nD Cert.FfnKernelIdeal.τ).loc Cert.FfnKernelIdeal.main_v9_1) = v1 c
          ∧ r.2.mem ((c.tc : Thread Cert.FfnKernelIdeal.nD Cert.FfnKernelIdeal.τ).loc Cert.FfnKernelIdeal.main_v12_0) = v2 c
          ∧ r.2.mem ((c.tc : Thread Cert.FfnKernelIdeal.nD Cert.FfnKernelIdeal.τ).loc Cert.FfnKernelIdeal.main_v12_1) = v3 c
          ∧ r.2.mem ((c.tc : Thread Cert.FfnKernelIdeal.nD Cert.FfnKernelIdeal.τ).loc Cert.FfnKernelIdeal.main_v12_2) = v4 c
          ∧ r.2.mem ((c.tc : Thread Cert.FfnKernelIdeal.nD Cert.FfnKernelIdeal.τ).loc Cert.FfnKernelIdeal.main_v12_3) = v5 c
          ∧ r.2.mem ((c.tc : Thread Cert.FfnKernelIdeal.nD Cert.FfnKernelIdeal.τ).loc Cert.FfnKernelIdeal.main_v12_4) = v6 c
          ∧ r.2.mem ((c.tc : Thread Cert.FfnKernelIdeal.nD Cert.FfnKernelIdeal.τ).loc Cert.FfnKernelIdeal.main_v12_5) = v7 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v64) = v0 c
          ∧ r.2.mem ((c.tc : Thread Cert.FfnReferenceIdeal.nD Cert.FfnReferenceIdeal.τ).loc Cert.FfnReferenceIdeal.main_v66) = v1 c
          ∧ r.2.mem ((c.tc : Thread Cert.FfnReferenceIdeal.nD Cert.FfnReferenceIdeal.τ).loc Cert.FfnReferenceIdeal.main_v69) = v2 c
          ∧ r.2.mem ((c.tc : Thread Cert.FfnReferenceIdeal.nD Cert.FfnReferenceIdeal.τ).loc Cert.FfnReferenceIdeal.main_v61) = v3 c
          ∧ r.2.mem ((c.tc : Thread Cert.FfnReferenceIdeal.nD Cert.FfnReferenceIdeal.τ).loc Cert.FfnReferenceIdeal.main_v71) = v4 c
          ∧ r.2.mem ((c.tc : Thread Cert.FfnReferenceIdeal.nD Cert.FfnReferenceIdeal.τ).loc Cert.FfnReferenceIdeal.main_v73) = v5 c
          ∧ r.2.mem ((c.tc : Thread Cert.FfnReferenceIdeal.nD Cert.FfnReferenceIdeal.τ).loc Cert.FfnReferenceIdeal.main_v75) = v6 c
          ∧ r.2.mem ((c.tc : Thread Cert.FfnReferenceIdeal.nD Cert.FfnReferenceIdeal.τ).loc Cert.FfnReferenceIdeal.main_v77) = v7 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_MergeKernel_MergeKernelIdeal : Prop :=
  IdealRules.named_const.Statement Cert.MergeKernelIdeal.κ "gelu_c" .f32 0x3D372713#32 ((8943 / 200000 : ℝ) : EReal)
  ∧ IdealRules.named_const.Statement Cert.MergeKernelIdeal.κ "gelu_3c" .f32 0x3E095D4F#32 ((26829 / 200000 : ℝ) : EReal)

def algebraic_MergeKernelIdeal_MergeReferenceIdeal_pre_merge_finite [hMergeKernelIdeal : Cert.MergeKernelIdeal.Facts] [hMergeReferenceIdeal : Cert.MergeReferenceIdeal.Facts] [hPre_merge_finite : Cert.Pre_merge_finite.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal_merge_finite m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)
      ∧ m' ((c.tc : Thread Cert.MergeReferenceIdeal.nD Cert.MergeReferenceIdeal.τ).loc Cert.MergeReferenceIdeal.main_arg9) = m ((c.tc : Thread Cert.MergeKernelIdeal.nD Cert.MergeKernelIdeal.τ).loc Cert.MergeKernelIdeal.main_arg9)) →
    ∃ (v0 : (c : Dev Cert.MergeKernelIdeal.nD) → Buf (Elt Ideal) ((c.tc : Thread Cert.MergeKernelIdeal.nD Cert.MergeKernelIdeal.τ).loc Cert.MergeKernelIdeal.main_v14_0)) (v1 : (c : Dev Cert.MergeKernelIdeal.nD) → Buf (Elt Ideal) ((c.tc : Thread Cert.MergeKernelIdeal.nD Cert.MergeKernelIdeal.τ).loc Cert.MergeKernelIdeal.main_v14_1)) (v2 : (c : Dev Cert.MergeKernelIdeal.nD) → Buf (Elt Ideal) ((c.tc : Thread Cert.MergeKernelIdeal.nD Cert.MergeKernelIdeal.τ).loc Cert.MergeKernelIdeal.main_v14_2)) (v3 : (c : Dev Cert.MergeKernelIdeal.nD) → Buf (Elt Ideal) ((c.tc : Thread Cert.MergeKernelIdeal.nD Cert.MergeKernelIdeal.τ).loc Cert.MergeKernelIdeal.main_v14_3)) (v4 : (c : Dev Cert.MergeKernelIdeal.nD) → Buf (Elt Ideal) ((c.tc : Thread Cert.MergeKernelIdeal.nD Cert.MergeKernelIdeal.τ).loc Cert.MergeKernelIdeal.main_v14_4)) (v5 : (c : Dev Cert.MergeKernelIdeal.nD) → Buf (Elt Ideal) ((c.tc : Thread Cert.MergeKernelIdeal.nD Cert.MergeKernelIdeal.τ).loc Cert.MergeKernelIdeal.main_v14_5)) (v6 : (c : Dev Cert.MergeKernelIdeal.nD) → Buf (Elt Ideal) ((c.tc : Thread Cert.MergeKernelIdeal.nD Cert.MergeKernelIdeal.τ).loc Cert.MergeKernelIdeal.main_v14_6)) (v7 : (c : Dev Cert.MergeKernelIdeal.nD) → Buf (Elt Ideal) ((c.tc : Thread Cert.MergeKernelIdeal.nD Cert.MergeKernelIdeal.τ).loc Cert.MergeKernelIdeal.main_v14_7)) (v8 : (c : Dev Cert.MergeKernelIdeal.nD) → Buf (Elt Ideal) ((c.tc : Thread Cert.MergeKernelIdeal.nD Cert.MergeKernelIdeal.τ).loc Cert.MergeKernelIdeal.main_v14_8)) (v9 : (c : Dev Cert.MergeKernelIdeal.nD) → Buf (Elt Ideal) ((c.tc : Thread Cert.MergeKernelIdeal.nD Cert.MergeKernelIdeal.τ).loc Cert.MergeKernelIdeal.main_v14_9)) (v10 : (c : Dev Cert.MergeKernelIdeal.nD) → Buf (Elt Ideal) ((c.tc : Thread Cert.MergeKernelIdeal.nD Cert.MergeKernelIdeal.τ).loc Cert.MergeKernelIdeal.main_v14_10)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v14_0) = v0 c
          ∧ r.2.mem ((c.tc : Thread Cert.MergeKernelIdeal.nD Cert.MergeKernelIdeal.τ).loc Cert.MergeKernelIdeal.main_v14_1) = v1 c
          ∧ r.2.mem ((c.tc : Thread Cert.MergeKernelIdeal.nD Cert.MergeKernelIdeal.τ).loc Cert.MergeKernelIdeal.main_v14_2) = v2 c
          ∧ r.2.mem ((c.tc : Thread Cert.MergeKernelIdeal.nD Cert.MergeKernelIdeal.τ).loc Cert.MergeKernelIdeal.main_v14_3) = v3 c
          ∧ r.2.mem ((c.tc : Thread Cert.MergeKernelIdeal.nD Cert.MergeKernelIdeal.τ).loc Cert.MergeKernelIdeal.main_v14_4) = v4 c
          ∧ r.2.mem ((c.tc : Thread Cert.MergeKernelIdeal.nD Cert.MergeKernelIdeal.τ).loc Cert.MergeKernelIdeal.main_v14_5) = v5 c
          ∧ r.2.mem ((c.tc : Thread Cert.MergeKernelIdeal.nD Cert.MergeKernelIdeal.τ).loc Cert.MergeKernelIdeal.main_v14_6) = v6 c
          ∧ r.2.mem ((c.tc : Thread Cert.MergeKernelIdeal.nD Cert.MergeKernelIdeal.τ).loc Cert.MergeKernelIdeal.main_v14_7) = v7 c
          ∧ r.2.mem ((c.tc : Thread Cert.MergeKernelIdeal.nD Cert.MergeKernelIdeal.τ).loc Cert.MergeKernelIdeal.main_v14_8) = v8 c
          ∧ r.2.mem ((c.tc : Thread Cert.MergeKernelIdeal.nD Cert.MergeKernelIdeal.τ).loc Cert.MergeKernelIdeal.main_v14_9) = v9 c
          ∧ r.2.mem ((c.tc : Thread Cert.MergeKernelIdeal.nD Cert.MergeKernelIdeal.τ).loc Cert.MergeKernelIdeal.main_v14_10) = v10 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
          ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v123) = v0 c
          ∧ r.2.mem ((c.tc : Thread Cert.MergeReferenceIdeal.nD Cert.MergeReferenceIdeal.τ).loc Cert.MergeReferenceIdeal.main_v124) = v1 c
          ∧ r.2.mem ((c.tc : Thread Cert.MergeReferenceIdeal.nD Cert.MergeReferenceIdeal.τ).loc Cert.MergeReferenceIdeal.main_v126) = v2 c
          ∧ r.2.mem ((c.tc : Thread Cert.MergeReferenceIdeal.nD Cert.MergeReferenceIdeal.τ).loc Cert.MergeReferenceIdeal.main_v128) = v3 c
          ∧ r.2.mem ((c.tc : Thread Cert.MergeReferenceIdeal.nD Cert.MergeReferenceIdeal.τ).loc Cert.MergeReferenceIdeal.main_v130) = v4 c
          ∧ r.2.mem ((c.tc : Thread Cert.MergeReferenceIdeal.nD Cert.MergeReferenceIdeal.τ).loc Cert.MergeReferenceIdeal.main_v121) = v5 c
          ∧ r.2.mem ((c.tc : Thread Cert.MergeReferenceIdeal.nD Cert.MergeReferenceIdeal.τ).loc Cert.MergeReferenceIdeal.main_v131) = v6 c
          ∧ r.2.mem ((c.tc : Thread Cert.MergeReferenceIdeal.nD Cert.MergeReferenceIdeal.τ).loc Cert.MergeReferenceIdeal.main_v97) = v7 c
          ∧ r.2.mem ((c.tc : Thread Cert.MergeReferenceIdeal.nD Cert.MergeReferenceIdeal.τ).loc Cert.MergeReferenceIdeal.main_v132) = v8 c
          ∧ r.2.mem ((c.tc : Thread Cert.MergeReferenceIdeal.nD Cert.MergeReferenceIdeal.τ).loc Cert.MergeReferenceIdeal.main_v133) = v9 c
          ∧ r.2.mem ((c.tc : Thread Cert.MergeReferenceIdeal.nD Cert.MergeReferenceIdeal.τ).loc Cert.MergeReferenceIdeal.main_v134) = v10 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def Claim : Prop :=
  ∃ (hLossKernel : Cert.LossKernel.Facts) (hLossKernelIdeal : Cert.LossKernelIdeal.Facts) (hLossReferenceIdeal : Cert.LossReferenceIdeal.Facts) (hAttKernel : Cert.AttKernel.Facts) (hAttKernelIdeal : Cert.AttKernelIdeal.Facts) (hAttReferenceIdeal : Cert.AttReferenceIdeal.Facts) (hMixKernel : Cert.MixKernel.Facts) (hMixKernelIdeal : Cert.MixKernelIdeal.Facts) (hMixReferenceIdeal : Cert.MixReferenceIdeal.Facts) (hDiscKernel : Cert.DiscKernel.Facts) (hDiscKernelIdeal : Cert.DiscKernelIdeal.Facts) (hDiscReferenceIdeal : Cert.DiscReferenceIdeal.Facts) (hFfnKernel : Cert.FfnKernel.Facts) (hFfnKernelIdeal : Cert.FfnKernelIdeal.Facts) (hFfnReferenceIdeal : Cert.FfnReferenceIdeal.Facts) (hMergeKernel : Cert.MergeKernel.Facts) (hMergeKernelIdeal : Cert.MergeKernelIdeal.Facts) (hMergeReferenceIdeal : Cert.MergeReferenceIdeal.Facts) (hPre_att_finite : Cert.Pre_att_finite.Facts) (hPre_ffn_finite : Cert.Pre_ffn_finite.Facts) (hPre_merge_finite : Cert.Pre_merge_finite.Facts),
    quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_AttKernel (hAttKernel := hAttKernel)
    ∧ quiescent_AttKernelIdeal (hAttKernelIdeal := hAttKernelIdeal)
    ∧ quiescent_AttKernelIdeal_pre_att_finite (hAttKernelIdeal := hAttKernelIdeal) (hPre_att_finite := hPre_att_finite)
    ∧ quiescent_AttReferenceIdeal (hAttReferenceIdeal := hAttReferenceIdeal)
    ∧ quiescent_AttReferenceIdeal_pre_att_finite (hAttReferenceIdeal := hAttReferenceIdeal) (hPre_att_finite := hPre_att_finite)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_DiscKernel (hDiscKernel := hDiscKernel)
    ∧ quiescent_DiscKernelIdeal (hDiscKernelIdeal := hDiscKernelIdeal)
    ∧ quiescent_DiscReferenceIdeal (hDiscReferenceIdeal := hDiscReferenceIdeal)
    ∧ quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_MergeKernel (hMergeKernel := hMergeKernel)
    ∧ quiescent_MergeKernelIdeal (hMergeKernelIdeal := hMergeKernelIdeal)
    ∧ quiescent_MergeKernelIdeal_pre_merge_finite (hMergeKernelIdeal := hMergeKernelIdeal) (hPre_merge_finite := hPre_merge_finite)
    ∧ quiescent_MergeReferenceIdeal (hMergeReferenceIdeal := hMergeReferenceIdeal)
    ∧ quiescent_MergeReferenceIdeal_pre_merge_finite (hMergeReferenceIdeal := hMergeReferenceIdeal) (hPre_merge_finite := hPre_merge_finite)
    ∧ preserves_LossKernel_LossKernelIdeal
    ∧ algebraic_LossKernelIdeal_LossReferenceIdeal (hLossKernelIdeal := hLossKernelIdeal) (hLossReferenceIdeal := hLossReferenceIdeal)
    ∧ preserves_AttKernel_AttKernelIdeal
    ∧ algebraic_AttKernelIdeal_AttReferenceIdeal_pre_att_finite (hAttKernelIdeal := hAttKernelIdeal) (hAttReferenceIdeal := hAttReferenceIdeal) (hPre_att_finite := hPre_att_finite)
    ∧ preserves_MixKernel_MixKernelIdeal
    ∧ algebraic_MixKernelIdeal_MixReferenceIdeal (hMixKernelIdeal := hMixKernelIdeal) (hMixReferenceIdeal := hMixReferenceIdeal)
    ∧ preserves_DiscKernel_DiscKernelIdeal
    ∧ algebraic_DiscKernelIdeal_DiscReferenceIdeal (hDiscKernelIdeal := hDiscKernelIdeal) (hDiscReferenceIdeal := hDiscReferenceIdeal)
    ∧ preserves_FfnKernel_FfnKernelIdeal
    ∧ algebraic_FfnKernelIdeal_FfnReferenceIdeal_pre_ffn_finite (hFfnKernelIdeal := hFfnKernelIdeal) (hFfnReferenceIdeal := hFfnReferenceIdeal) (hPre_ffn_finite := hPre_ffn_finite)
    ∧ preserves_MergeKernel_MergeKernelIdeal
    ∧ algebraic_MergeKernelIdeal_MergeReferenceIdeal_pre_merge_finite (hMergeKernelIdeal := hMergeKernelIdeal) (hMergeReferenceIdeal := hMergeReferenceIdeal) (hPre_merge_finite := hPre_merge_finite)
-- ==== Pre_att_finite.lean ====
abbrev S1x8192x4096 : Shape := ⟨3, ![1, 8192, 4096]⟩
abbrev S1x8192x512 : Shape := ⟨3, ![1, 8192, 512]⟩
abbrev S1x8x15x31 : Shape := ⟨4, ![1, 8, 15, 31]⟩
abbrev S1x8192x1536 : Shape := ⟨3, ![1, 8192, 1536]⟩
abbrev S_ : Shape := ⟨0, ![]⟩

class Facts : Prop where
  slices_S1x8192x4096_S1x8192x1536_0_0_512 : S1x8192x4096.Slices ![0, 0, 512] S1x8192x1536
  bcast_S_S1x8192x1536 : S_.BroadcastsInDim S1x8192x1536 (![] : Fin 0 → Fin S1x8192x1536.rank)
  bcast_S_S1x8192x512 : S_.BroadcastsInDim S1x8192x512 (![] : Fin 0 → Fin S1x8192x512.rank)
  bcast_S_S1x8x15x31 : S_.BroadcastsInDim S1x8x15x31 (![] : Fin 0 → Fin S1x8x15x31.rank)

variable [Facts]

def fn {F : FTy → Type} [FloatOps F] (main_arg0 : FVec F S1x8192x4096 .f32) (main_arg1 : FVec F S1x8192x512 .f32) (main_arg2 : FVec F S1x8x15x31 .f32) : IVec S1x8192x1536 1 × IVec S1x8192x512 1 × IVec S1x8x15x31 1 :=
  let main_v0 : FVec F S1x8192x1536 .f32 := (extractStridedSlice S1x8192x1536 ![0, 0, 512] · slices_S1x8192x4096_S1x8192x1536_0_0_512) main_arg0
  let main_v1 : FVec F S1x8192x1536 .f32 := Host.absf main_v0
  let main_cst : FVec F S_ .f32 := constant S_ .f32 0x7F800000#32
  let main_v2 : FVec F S1x8192x1536 .f32 := broadcastInDim S1x8192x1536 ![] bcast_S_S1x8192x1536 main_cst
  let main_v3 : IVec S1x8192x1536 1 := cmpf .olt main_v1 main_v2
  let main_v4 : FVec F S1x8192x512 .f32 := Host.absf main_arg1
  let main_cst_0 : FVec F S_ .f32 := constant S_ .f32 0x7F800000#32
  let main_v5 : FVec F S1x8192x512 .f32 := broadcastInDim S1x8192x512 ![] bcast_S_S1x8192x512 main_cst_0
  let main_v6 : IVec S1x8192x512 1 := cmpf .olt main_v4 main_v5
  let main_v7 : FVec F S1x8x15x31 .f32 := Host.absf main_arg2
  let main_cst_1 : FVec F S_ .f32 := constant S_ .f32 0x7F800000#32
  let main_v8 : FVec F S1x8x15x31 .f32 := broadcastInDim S1x8x15x31 ![] bcast_S_S1x8x15x31 main_cst_1
  let main_v9 : IVec S1x8x15x31 1 := cmpf .olt main_v7 main_v8
  (main_v3, main_v6, main_v9)
-- ==== Pre_ffn_finite.lean ====
abbrev S1x8192x1024 : Shape := ⟨3, ![1, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S1x8192x1024 : S_.BroadcastsInDim S1x8192x1024 (![] : Fin 0 → Fin S1x8192x1024.rank)
  bcast_S_S1x1024 : S_.BroadcastsInDim S1x1024 (![] : Fin 0 → Fin S1x1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)

variable [Facts]

def fn {F : FTy → Type} [FloatOps F] (main_arg0 : FVec F S1x8192x1024 .f32) (main_arg1 : FVec F S1x8192x1024 .f32) (main_arg2 : FVec F S1x1024 .f32) (main_arg3 : FVec F S1x1024x2816 .f32) (main_arg4 : FVec F S1x1024x2816 .f32) (main_arg5 : FVec F S1x2816x1024 .f32) : IVec S1x8192x1024 1 × IVec S1x1024 1 × IVec S1x1024x2816 1 × IVec S1x2816x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x2816 .f32 := Host.absf main_arg4
  let main_cst_1 : FVec F S_ .f32 := constant S_ .f32 0x7F800000#32
  let main_v7 : FVec F S1x1024x2816 .f32 := broadcastInDim S1x1024x2816 ![] bcast_S_S1x1024x2816 main_cst_1
  let main_v8 : IVec S1x1024x2816 1 := cmpf .olt main_v6 main_v7
  let main_v9 : FVec F S1x2816x1024 .f32 := Host.absf main_arg5
  let main_cst_2 : FVec F S_ .f32 := constant S_ .f32 0x7F800000#32
  let main_v10 : FVec F S1x2816x1024 .f32 := broadcastInDim S1x2816x1024 ![] bcast_S_S1x2816x1024 main_cst_2
  let main_v11 : IVec S1x2816x1024 1 := cmpf .olt main_v9 main_v10
  (main_v2, main_v5, main_v8, main_v11)
-- ==== Pre_merge_finite.lean ====
abbrev S1x8192x1024 : Shape := ⟨3, ![1, 8192, 1024]⟩
abbrev S1x8192x512 : Shape := ⟨3, ![1, 8192, 512]⟩
abbrev S1x8192x4096 : Shape := ⟨3, ![1, 8192, 4096]⟩
abbrev S1x512 : Shape := ⟨2, ![1, 512]⟩
abbrev S1x512x512 : Shape := ⟨3, ![1, 512, 512]⟩
abbrev S1x512x1024 : Shape := ⟨3, ![1, 512, 1024]⟩
abbrev S1x1024x1024 : Shape := ⟨3, ![1, 1024, 1024]⟩
abbrev S_ : Shape := ⟨0, ![]⟩

class Facts : Prop where
  bcast_S_S1x8192x1024 : S_.BroadcastsInDim S1x8192x1024 (![] : Fin 0 → Fin S1x8192x1024.rank)
  bcast_S_S1x8192x512 : S_.BroadcastsInDim S1x8192x512 (![] : Fin 0 → Fin S1x8192x512.rank)
  slices_S1x8192x4096_S1x8192x512_0_0_0 : S1x8192x4096.Slices ![0, 0, 0] S1x8192x512
  bcast_S_S1x512 : S_.BroadcastsInDim S1x512 (![] : Fin 0 → Fin S1x512.rank)
  bcast_S_S1x512x512 : S_.BroadcastsInDim S1x512x512 (![] : Fin 0 → Fin S1x512x512.rank)
  bcast_S_S1x512x1024 : S_.BroadcastsInDim S1x512x1024 (![] : Fin 0 → Fin S1x512x1024.rank)
  bcast_S_S1x1024x1024 : S_.BroadcastsInDim S1x1024x1024 (![] : Fin 0 → Fin S1x1024x1024.rank)

variable [Facts]

def fn_part1 {F : FTy → Type} [FloatOps F] (main_arg9 : FVec F S1x1024x1024 .f32) (main_v2 : IVec S1x8192x1024 1) (main_v5 : IVec S1x8192x512 1) (main_v9 : IVec S1x8192x512 1) (main_v12 : IVec S1x512 1) (main_v15 : IVec S1x512x512 1) (main_v16 : FVec F S1x512x1024 .f32) (main_v17 : FVec F S1x512x1024 .f32) : IVec S1x8192x1024 1 × IVec S1x8192x512 1 × IVec S1x8192x512 1 × IVec S1x512 1 × IVec S1x512x512 1 × IVec S1x512x1024 1 × IVec S1x1024x1024 1 :=
  let main_v18 : IVec S1x512x1024 1 := cmpf .olt main_v16 main_v17
  let main_v19 : FVec F S1x1024x1024 .f32 := Host.absf main_arg9
  let main_cst_5 : FVec F S_ .f32 := constant S_ .f32 0x7F800000#32
  let main_v20 : FVec F S1x1024x1024 .f32 := broadcastInDim S1x1024x1024 ![] bcast_S_S1x1024x1024 main_cst_5
  let main_v21 : IVec S1x1024x1024 1 := cmpf .olt main_v19 main_v20
  (main_v2, main_v5, main_v9, main_v12, main_v15, main_v18, main_v21)

def fn {F : FTy → Type} [FloatOps F] (main_arg0 : FVec F S1x8192x1024 .f32) (main_arg1 : FVec F S1x8192x512 .f32) (main_arg2 : FVec F S1x8192x4096 .f32) (main_arg3 : FVec F S1x8192x512 .f32) (main_arg4 : FVec F S1x512 .f32) (main_arg5 : FVec F S1x512x512 .f32) (main_arg6 : FVec F S1x512 .f32) (main_arg7 : FVec F S1x512x1024 .f32) (main_arg8 : FVec F S1x512x1024 .f32) (main_arg9 : FVec F S1x1024x1024 .f32) : IVec S1x8192x1024 1 × IVec S1x8192x512 1 × IVec S1x8192x512 1 × IVec S1x512 1 × IVec S1x512x512 1 × IVec S1x512x1024 1 × IVec S1x1024x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x8192x512 .f32 := Host.absf main_arg1
  let main_cst_0 : FVec F S_ .f32 := constant S_ .f32 0x7F800000#32
  let main_v4 : FVec F S1x8192x512 .f32 := broadcastInDim S1x8192x512 ![] bcast_S_S1x8192x512 main_cst_0
  let main_v5 : IVec S1x8192x512 1 := cmpf .olt main_v3 main_v4
  let main_v6 : FVec F S1x8192x512 .f32 := (extractStridedSlice S1x8192x512 ![0, 0, 0] · slices_S1x8192x4096_S1x8192x512_0_0_0) main_arg2
  let main_v7 : FVec F S1x8192x512 .f32 := Host.absf main_v6
  let main_cst_1 : FVec F S_ .f32 := constant S_ .f32 0x7F800000#32
  let main_v8 : FVec F S1x8192x512 .f32 := broadcastInDim S1x8192x512 ![] bcast_S_S1x8192x512 main_cst_1
  let main_v9 : IVec S1x8192x512 1 := cmpf .olt main_v7 main_v8
  let main_v10 : FVec F S1x512 .f32 := Host.absf main_arg4
  let main_cst_2 : FVec F S_ .f32 := constant S_ .f32 0x7F800000#32
  let main_v11 : FVec F S1x512 .f32 := broadcastInDim S1x512 ![] bcast_S_S1x512 main_cst_2
  let main_v12 : IVec S1x512 1 := cmpf .olt main_v10 main_v11
  let main_v13 : FVec F S1x512x512 .f32 := Host.absf main_arg5
  let main_cst_3 : FVec F S_ .f32 := constant S_ .f32 0x7F800000#32
  let main_v14 : FVec F S1x512x512 .f32 := broadcastInDim S1x512x512 ![] bcast_S_S1x512x512 main_cst_3
  let main_v15 : IVec S1x512x512 1 := cmpf .olt main_v13 main_v14
  let main_v16 : FVec F S1x512x1024 .f32 := Host.absf main_arg7
  let main_cst_4 : FVec F S_ .f32 := constant S_ .f32 0x7F800000#32
  let main_v17 : FVec F S1x512x1024 .f32 := broadcastInDim S1x512x1024 ![] bcast_S_S1x512x1024 main_cst_4
  fn_part1 (F := F) main_arg9 main_v2 main_v5 main_v9 main_v12 main_v15 main_v16 main_v17
-- ==== LossKernel.lean ====
abbrev S8192x1024 : Shape := ⟨2, ![8192, 1024]⟩
abbrev S1024 : Shape := ⟨1, ![1024]⟩
abbrev S1x8192x1024 : Shape := ⟨3, ![1, 8192, 1024]⟩
abbrev S1x1024 : Shape := ⟨2, ![1, 1024]⟩
abbrev S1x128 : Shape := ⟨2, ![1, 128]⟩
abbrev S1024x1024 : Shape := ⟨2, ![1024, 1024]⟩
abbrev S1024x1 : Shape := ⟨2, ![1024, 1]⟩
abbrev S1x1024x1024 : Shape := ⟨3, ![1, 1024, 1024]⟩
abbrev S1 : Shape := ⟨1, ![1]⟩
abbrev S1x1x1 : Shape := ⟨3, ![1, 1, 1]⟩

abbrev nBuf : Space → Nat
  | .hbm => 8
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x8192x1024, .f32⟩
  | .hbm, ⟨3, _⟩ => ⟨S1x1024, .f32⟩
  | .hbm, ⟨4, _⟩ => ⟨S8192x1024, .f32⟩
  | .hbm, ⟨5, _⟩ => ⟨S1x128, .f32⟩
  | .hbm, ⟨6, _⟩ => ⟨S8192x1024, .f32⟩
  | .hbm, ⟨7, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1x128, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossReferenceIdeal.lean ====
abbrev S8192x1024 : Shape := ⟨2, ![8192, 1024]⟩
abbrev S1024 : Shape := ⟨1, ![1024]⟩
abbrev S1x8192x1024 : Shape := ⟨3, ![1, 8192, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x1024 : Shape := ⟨2, ![1, 1024]⟩
abbrev S8192 : Shape := ⟨1, ![8192]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x8192x1024, .f32⟩
  | .hbm, ⟨3, _⟩ => ⟨S1x8192x1024, .f32⟩
  | .hbm, ⟨4, _⟩ => ⟨S1x8192x1024, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S_, .f32⟩
  | .hbm, ⟨17, _⟩ => ⟨S1x8192x1, .f32⟩
  | .hbm, ⟨18, _⟩ => ⟨S1x8192x1, .f32⟩
  | .hbm, ⟨19, _⟩ => ⟨S1x8192x1024, .f32⟩
  | .hbm, ⟨20, _⟩ => ⟨S1x8192x1024, .f32⟩
  | .hbm, ⟨21, _⟩ => ⟨S1x1x1024, .f32⟩
  | .hbm, ⟨22, _⟩ => ⟨S1x8192x1024, .f32⟩
  | .hbm, ⟨23, _⟩ => ⟨S1x8192x1024, .f32⟩
  | .hbm, ⟨24, _⟩ => ⟨S1x8192x1024, .f32⟩
  | .hbm, ⟨25, _⟩ => ⟨S1x8192x1024, .f32⟩
  | .hbm, ⟨26, _⟩ => ⟨S_, .f32⟩
  | .hbm, ⟨27, _⟩ => ⟨S1x8192x1024, .f32⟩
  | .hbm, ⟨28, _⟩ => ⟨S1x8192x1024, .f32⟩
  | .hbm, ⟨29, _⟩ => ⟨S_, .f32⟩
  | .hbm, ⟨30, _⟩ => ⟨S1x8192, .f32⟩
  | .hbm, ⟨31, _⟩ => ⟨S_, .f32⟩
  | .hbm, ⟨32, _⟩ => ⟨S1x8192, .f32⟩
  | .hbm, ⟨33, _⟩ => ⟨S1x8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1x8192, .f32⟩
  | .hbm, ⟨42, _⟩ => ⟨S_, .f32⟩
  | .hbm, ⟨43, _⟩ => ⟨S1x8192, .f32⟩
  | .hbm, ⟨44, _⟩ => ⟨S1x8192, .f32⟩
  | .hbm, ⟨45, _⟩ => ⟨S1x8192x1024, .f32⟩
  | .hbm, ⟨46, _⟩ => ⟨S1x8192x1024, .f32⟩
  | .hbm, ⟨47, _⟩ => ⟨S1x8192x1024, .f32⟩
  | .hbm, ⟨48, _⟩ => ⟨S_, .f32⟩
  | .hbm, ⟨49, _⟩ => ⟨S1x1024, .f32⟩
  | .hbm, ⟨50, _⟩ => ⟨S1x1x1024, .f32⟩
  | .hbm, ⟨51, _⟩ => ⟨S1x8192x1024, .f32⟩
  | .hbm, ⟨52, _⟩ => ⟨S1x8192x1024, .f32⟩
  | .hbm, ⟨53, _⟩ => ⟨S_, .f32⟩
  | .hbm, ⟨54, _⟩ => ⟨S1024, .f32⟩
  | .hbm, ⟨55, _⟩ => ⟨S1x8192x1024, .f32⟩
  | .hbm, ⟨56, _⟩ => ⟨S_, .f32⟩
  | .hbm, ⟨57, _⟩ => ⟨S1x8192, .f32⟩
  | .hbm, ⟨58, _⟩ => ⟨S1x8192x1, .f32⟩
  | .hbm, ⟨59, _⟩ => ⟨S1x8192x1024, .f32⟩
  | .hbm, ⟨60, _⟩ => ⟨S1x8192x1024, .f32⟩
  | .hbm, ⟨61, _⟩ => ⟨S1x8192x1, .f32⟩
  | .hbm, ⟨62, _⟩ => ⟨S_, .f32⟩
  | .hbm, ⟨63, _⟩ => ⟨S1x8192x1, .f32⟩
  | .hbm, ⟨64, _⟩ => ⟨S1x8192x1, .f32⟩
  | .hbm, ⟨65, _⟩ => ⟨S_, .f32⟩
  | .hbm, ⟨66, _⟩ => ⟨S8192, .f32⟩
  | .hbm, ⟨67, _⟩ => ⟨S1x8192, .f32⟩
  | .hbm, ⟨68, _⟩ => ⟨S1x8192x1024, .f32⟩
  | .hbm, ⟨69, _⟩ => ⟨S1x8192x1024, .f32⟩
  | .hbm, ⟨70, _⟩ => ⟨S1x8192x1024, .f32⟩
  | .hbm, ⟨71, _⟩ => ⟨S1x8192x1024, .f32⟩
  | .hbm, ⟨72, _⟩ => ⟨S1x8192x1024, .f32⟩
  | .hbm, ⟨73, _⟩ => ⟨S1x128, .f32⟩
  | .hbm, ⟨74, _⟩ => ⟨S8192x1024, .f32⟩
  | .hbm, ⟨75, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== AttKernel.lean ====
abbrev S1x8192x4096 : Shape := ⟨3, ![1, 8192, 4096]⟩
abbrev S1x8192x512 : Shape := ⟨3, ![1, 8192, 512]⟩
abbrev S1x8x15x31 : Shape := ⟨4, ![1, 8, 15, 31]⟩
abbrev S3 : Shape := ⟨1, ![3]⟩
abbrev S3x1x1 : Shape := ⟨3, ![3, 1, 1]⟩
abbrev S4x12x15 : Shape := ⟨3, ![4, 12, 15]⟩
abbrev S_ : Shape := ⟨0, ![]⟩
abbrev S64x64x31 : Shape := ⟨3, ![64, 64, 31]⟩
abbrev S8x15x31 : Shape := ⟨3, ![8, 15, 31]⟩
abbrev S8x1x1x15x31 : Shape := ⟨5, ![8, 1, 1, 15, 31]⟩
abbrev S1x4x12x15x1 : Shape := ⟨5, ![1, 4, 12, 15, 1]⟩
abbrev S8x4x12x15x31 : Shape := ⟨5, ![8, 4, 12, 15, 31]⟩
abbrev S8x4x12x31 : Shape := ⟨4, ![8, 4, 12, 31]⟩
abbrev S8x4x1x12x1x31 : Shape := ⟨6, ![8, 4, 1, 12, 1, 31]⟩
abbrev S1x1x64x1x64x31 : Shape := ⟨6, ![1, 1, 64, 1, 64, 31]⟩
abbrev S8x4x64x12x64x31 : Shape := ⟨6, ![8, 4, 64, 12, 64, 31]⟩
abbrev S8x4x64x12x64 : Shape := ⟨5, ![8, 4, 64, 12, 64]⟩
abbrev S8x256x768 : Shape := ⟨3, ![8, 256, 768]⟩
abbrev S3x4x12 : Shape := ⟨3, ![3, 4, 12]⟩
abbrev S64x64 : Shape := ⟨2, ![64, 64]⟩
abbrev S3x4x1x12x1 : Shape := ⟨5, ![3, 4, 1, 12, 1]⟩
abbrev S64x1x64 : Shape := ⟨3, ![64, 1, 64]⟩
abbrev S1x1x64x1x64 : Shape := ⟨5, ![1, 1, 64, 1, 64]⟩
abbrev S3x4x64x12x64 : Shape := ⟨5, ![3, 4, 64, 12, 64]⟩
abbrev S3x1x256x768 : Shape := ⟨4, ![3, 1, 256, 768]⟩
abbrev S3x8x256x768 : Shape := ⟨4, ![3, 8, 256, 768]⟩
abbrev S8192x4096 : Shape := ⟨2, ![8192, 4096]⟩
abbrev S8192x512 : Shape := ⟨2, ![8192, 512]⟩
abbrev S256x512 : Shape := ⟨2, ![256, 512]⟩
abbrev S1x8x256x768 : Shape := ⟨4, ![1, 8, 256, 768]⟩
abbrev S256x64 : Shape := ⟨2, ![256, 64]⟩
abbrev S768x64 : Shape := ⟨2, ![768, 64]⟩
abbrev S1x1x256x768 : Shape := ⟨4, ![1, 1, 256, 768]⟩
abbrev S256x768 : Shape := ⟨2, ![256, 768]⟩
abbrev S256 : Shape := ⟨1, ![256]⟩
abbrev S256x1 : Shape := ⟨2, ![256, 1]⟩
abbrev S768x128 : Shape := ⟨2, ![768, 128]⟩
abbrev S256x128 : Shape := ⟨2, ![256, 128]⟩
abbrev S3x256x512 : Shape := ⟨3, ![3, 256, 512]⟩
abbrev S1x256x512 : Shape := ⟨3, ![1, 256, 512]⟩
abbrev S1x256x768 : Shape := ⟨3, ![1, 256, 768]⟩
abbrev S768x512 : Shape := ⟨2, ![768, 512]⟩
abbrev S8x4x64x12x64x1 : Shape := ⟨6, ![8, 4, 64, 12, 64, 1]⟩
abbrev S8x4x12x1x31 : Shape := ⟨5, ![8, 4, 12, 1, 31]⟩

abbrev nBuf : Space → Nat
  | .hbm => 127
  | .vmem => 47
  | .smem => 0
  | _ => 0

abbrev bufTy : (tb : Table) → Fin (tcTables nBuf tb) → BufTy
  | .hbm, ⟨0, _⟩ => ⟨S1x8192x4096, .f32⟩
  | .hbm, ⟨1, _⟩ => ⟨S1x8192x512, .f32⟩
  | .hbm, ⟨2, _⟩ => ⟨S1x8x15x31, .f32⟩
  | .hbm, ⟨3, _⟩ => ⟨S3, .i32⟩
  | .hbm, ⟨4, _⟩ => ⟨S3x1x1, .i32⟩
  | .hbm, ⟨5, _⟩ => ⟨S4x12x15, .i32⟩
  | .hbm, ⟨6, _⟩ => ⟨S4x12x15, .i32⟩
  | .hbm, ⟨7, _⟩ => ⟨S4x12x15, .i32⟩
  | .hbm, ⟨8, _⟩ => ⟨S4x12x15, .i32⟩
  | .hbm, ⟨9, _⟩ => ⟨S_, .i32⟩
  | .hbm, ⟨10, _⟩ => ⟨S4x12x15, .i32⟩
  | .hbm, ⟨11, _⟩ => ⟨S4x12x15, .i32⟩
  | .hbm, ⟨12, _⟩ => ⟨S_, .i32⟩
  | .hbm, ⟨13, _⟩ => ⟨S4x12x15, .i32⟩
  | .hbm, ⟨14, _⟩ => ⟨S4x12x15, .i32⟩
  | .hbm, ⟨15, _⟩ => ⟨S_, .i32⟩
  | .hbm, ⟨16, _⟩ => ⟨S4x12x15, .i32⟩
  | .hbm, ⟨17, _⟩ => ⟨S4x12x15, .i32⟩
  | .hbm, ⟨18, _⟩ => ⟨S4x12x15, .i1⟩
  | .hbm, ⟨19, _⟩ => ⟨S4x12x15, .f32⟩
  | .hbm, ⟨20, _⟩ => ⟨S64x64x31, .i32⟩
  | .hbm, ⟨21, _⟩ => ⟨S64x64x31, .i32⟩
  | .hbm, ⟨22, _⟩ => ⟨S64x64x31, .i32⟩
  | .hbm, ⟨23, _⟩ => ⟨S64x64x31, .i32⟩
  | .hbm, ⟨24, _⟩ => ⟨S_, .i32⟩
  | .hbm, ⟨25, _⟩ => ⟨S_, .i32⟩
  | .hbm, ⟨26, _⟩ => ⟨S64x64x31, .i32⟩
  | .hbm, ⟨27, _⟩ => ⟨S64x64x31, .i32⟩
  | .hbm, ⟨28, _⟩ => ⟨S64x64x31, .i32⟩
  | .hbm, ⟨29, _⟩ => ⟨S_, .i32⟩
  | .hbm, ⟨30, _⟩ => ⟨S64x64x31, .i32⟩
  | .hbm, ⟨31, _⟩ => ⟨S64x64x31, .i32⟩
  | .hbm, ⟨32, _⟩ => ⟨S_, .i32⟩
  | .hbm, ⟨33, _⟩ => ⟨S64x64x31, .i32⟩
  | .hbm, ⟨34, _⟩ => ⟨S64x64x31, .i32⟩
  | .hbm, ⟨35, _⟩ => ⟨S64x64x31, .i1⟩
  | .hbm, ⟨36, _⟩ => ⟨S64x64x31, .f32⟩
  | .hbm, ⟨37, _⟩ => ⟨S8x15x31, .f32⟩
  | .hbm, ⟨38, _⟩ => ⟨S8x1x1x15x31, .f32⟩
  | .hbm, ⟨39, _⟩ => ⟨S1x4x12x15x1, .f32⟩
  | .hbm, ⟨40, _⟩ => ⟨S8x4x12x15x31, .f32⟩
  | .hbm, ⟨41, _⟩ => ⟨S8x4x12x15x31, .f32⟩
  | .hbm, ⟨42, _⟩ => ⟨S8x4x12x15x31, .f32⟩
  | .hbm, ⟨43, _⟩ => ⟨S_, .f32⟩
  | .hbm, ⟨44, _⟩ => ⟨S8x4x12x31, .f32⟩
  | .hbm, ⟨45, _⟩ => ⟨S8x4x1x12x1x31, .f32⟩
  | .hbm, ⟨46, _⟩ => ⟨S1x1x64x1x64x31, .f32⟩
  | .hbm, ⟨47, _⟩ => ⟨S8x4x64x12x64x31, .f32⟩
  | .hbm, ⟨48, _⟩ => ⟨S8x4x64x12x64x31, .f32⟩
  | .hbm, ⟨49, _⟩ => ⟨S8x4x64x12x64x31, .f32⟩
  | .hbm, ⟨50, _⟩ => ⟨S_, .f32⟩
  | .hbm, ⟨51, _⟩ => ⟨S8x4x64x12x64, .f32⟩
  | .hbm, ⟨52, _⟩ => ⟨S8x256x768, .f32⟩
  | .hbm, ⟨53, _⟩ => ⟨S3x4x12, .i32⟩
  | .hbm, ⟨54, _⟩ => ⟨S3x4x12, .i32⟩
  | .hbm, ⟨55, _⟩ => ⟨S3x4x12, .i32⟩
  | .hbm, ⟨56, _⟩ => ⟨S3x4x12, .i32⟩
  | .hbm, ⟨57, _⟩ => ⟨S3x4x12, .i32⟩
  | .hbm, ⟨58, _⟩ => ⟨S_, .i32⟩
  | .hbm, ⟨59, _⟩ => ⟨S3x4x12, .i32⟩
  | .hbm, ⟨60, _⟩ => ⟨S3x4x12, .i32⟩
  | .hbm, ⟨61, _⟩ => ⟨S_, .i32⟩
  | .hbm, ⟨62, _⟩ => ⟨S3x4x12, .i32⟩
  | .hbm, ⟨63, _⟩ => ⟨S3x4x12, .i32⟩
  | .hbm, ⟨64, _⟩ => ⟨S_, .i32⟩
  | .hbm, ⟨65, _⟩ => ⟨S_, .i32⟩
  | .hbm, ⟨66, _⟩ => ⟨S3x4x12, .i32⟩
  | .hbm, ⟨67, _⟩ => ⟨S3x4x12, .i32⟩
  | .hbm, ⟨68, _⟩ => ⟨S3x4x12, .i32⟩
  | .hbm, ⟨69, _⟩ => ⟨S64x64, .i32⟩
  | .hbm, ⟨70, _⟩ => ⟨S64x64, .i32⟩
  | .hbm, ⟨71, _⟩ => ⟨S_, .i32⟩
  | .hbm, ⟨72, _⟩ => ⟨S64x64, .i32⟩
  | .hbm, ⟨73, _⟩ => ⟨S64x64, .i32⟩
  | .hbm, ⟨74, _⟩ => ⟨S_, .i32⟩
  | .hbm, ⟨75, _⟩ => ⟨S_, .i32⟩
  | .hbm, ⟨76, _⟩ => ⟨S64x64, .i32⟩
  | .hbm, ⟨77, _⟩ => ⟨S64x64, .i32⟩
  | .hbm, ⟨78, _⟩ => ⟨S64x64, .i32⟩
  | .hbm, ⟨79, _⟩ => ⟨S3x4x12, .i1⟩
  | .hbm, ⟨80, _⟩ => ⟨S_, .i32⟩
  | .hbm, ⟨81, _⟩ => ⟨S3x4x12, .i32⟩
  | .hbm, ⟨82, _⟩ => ⟨S3x4x12, .i32⟩
  | .hbm, ⟨83, _⟩ => ⟨S3x4x12, .i1⟩
  | .hbm, ⟨84, _⟩ => ⟨S3x4x12, .i1⟩
  | .hbm, ⟨85, _⟩ => ⟨S64x64, .i1⟩
  | .hbm, ⟨86, _⟩ => ⟨S_, .i32⟩
  | .hbm, ⟨87, _⟩ => ⟨S64x64, .i32⟩
  | .hbm, ⟨88, _⟩ => ⟨S64x64, .i32⟩
  | .hbm, ⟨89, _⟩ => ⟨S64x64, .i1⟩
  | .hbm, ⟨90, _⟩ => ⟨S64x64, .i1⟩
  | .hbm, ⟨91, _⟩ => ⟨S3x4x1x12x1, .i1⟩
  | .hbm, ⟨92, _⟩ => ⟨S64x1x64, .i1⟩
  | .hbm, ⟨93, _⟩ => ⟨S1x1x64x1x64, .i1⟩
  | .hbm, ⟨94, _⟩ => ⟨S3x4x64x12x64, .i1⟩
  | .hbm, ⟨95, _⟩ => ⟨S3x4x64x12x64, .i1⟩
  | .hbm, ⟨96, _⟩ => ⟨S3x4x64x12x64, .i1⟩
  | .hbm, ⟨97, _⟩ => ⟨S3x1x256x768, .i1⟩
  | .hbm, ⟨98, _⟩ => ⟨S3x8x256x768, .i1⟩
  | .hbm, ⟨99, _⟩ => ⟨S3x8x256x768, .f32⟩
  | .hbm, ⟨100, _⟩ => ⟨S_, .f32⟩
  | .hbm, ⟨101, _⟩ => ⟨S3x8x256x768, .f32⟩
  | .hbm, ⟨102, _⟩ => ⟨S3x8x256x768, .f32⟩
  | .hbm, ⟨103, _⟩ => ⟨S8192x4096, .f32⟩
  | .hbm, ⟨104, _⟩ => ⟨S8192x4096, .bf16⟩
  | .hbm, ⟨105, _⟩ => ⟨S8192x512, .bf16⟩
  | .hbm, ⟨106, _⟩ => ⟨S8192x512, .f32⟩
  | .hbm, ⟨107, _⟩ => ⟨S8192x512, .bf16⟩
  | .hbm, ⟨108, _⟩ => ⟨S8192x512, .bf16⟩
  | .hbm, ⟨109, _⟩ => ⟨S8192x512, .bf16⟩
  | .hbm, ⟨110, _⟩ => ⟨S8192x512, .bf16⟩
  | .hbm, ⟨111, _⟩ => ⟨S8x256x768, .f32⟩
  | .hbm, ⟨112, _⟩ => ⟨S8x4x64x12x64, .f32⟩
  | .hbm, ⟨113, _⟩ => ⟨S8x4x64x12x64x1, .f32⟩
  | .hbm, ⟨114, _⟩ => ⟨S1x1x64x1x64x31, .f32⟩
  | .hbm, ⟨115, _⟩ => ⟨S8x4x64x12x64x31, .f32⟩
  | .hbm, ⟨116, _⟩ => ⟨S8x4x64x12x64x31, .f32⟩
  | .hbm, ⟨117, _⟩ => ⟨S8x4x64x12x64x31, .f32⟩
  | .hbm, ⟨118, _⟩ => ⟨S_, .f32⟩
  | .hbm, ⟨119, _⟩ => ⟨S8x4x12x31, .f32⟩
  | .hbm, ⟨120, _⟩ => ⟨S8x4x12x1x31, .f32⟩
  | .hbm, ⟨121, _⟩ => ⟨S1x4x12x15x1, .f32⟩
  | .hbm, ⟨122, _⟩ => ⟨S8x4x12x15x31, .f32⟩
  | .hbm, ⟨123, _⟩ => ⟨S8x4x12x15x31, .f32⟩
  | .hbm, ⟨124, _⟩ => ⟨S8x4x12x15x31, .f32⟩
  | .hbm, ⟨125, _⟩ => ⟨S_, .f32⟩
  | .hbm, ⟨126, _⟩ => ⟨S8x15x31, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S1x8x256x768, .f32⟩
  | .local _ .vmem, ⟨15, _⟩ => ⟨S1x8x256x768, .f32⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S256x512, .bf16⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | .local _ .vmem, ⟨30, _⟩ => ⟨S256x512, .bf16⟩
  | .local _ .vmem, ⟨31, _⟩ => ⟨S256x512, .bf16⟩
  | .local _ .vmem, ⟨32, _⟩ => ⟨S256x512, .bf16⟩
  | .local _ .vmem, ⟨33, _⟩ => ⟨S256x512, .bf16⟩
  | .local _ .vmem, ⟨34, _⟩ => ⟨S256x512, .bf16⟩
  | .local _ .vmem, ⟨35, _⟩ => ⟨S256x512, .bf16⟩
  | .local _ .vmem, ⟨36, _⟩ => ⟨S1x8x256x768, .f32⟩
  | .local _ .vmem, ⟨37, _⟩ => ⟨S1x8x256x768, .f32⟩
  | .local _ .vmem, ⟨38, _⟩ => ⟨S256x512, .bf16⟩
  | .local _ .vmem, ⟨39, _⟩ => ⟨S256x512, .bf16⟩
  | .local _ .vmem, ⟨40, _⟩ => ⟨S256x512, .bf16⟩
  | .local _ .vmem, ⟨41, _⟩ => ⟨S256x512, .bf16⟩
  | .local _ .vmem, ⟨42, _⟩ => ⟨S256x512, .bf16⟩
  | .local _ .vmem, ⟨43, _⟩ => ⟨S256x512, .bf16⟩
  | .local _ .vmem, ⟨44, _⟩ => ⟨S8x256x768, .f32⟩
  | .local _ .vmem, ⟨45, _⟩ => ⟨S3x256x512, .f32⟩
  | .local _ .vmem, ⟨46, _⟩ => ⟨S3x256x512, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_c_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_5 : Ref sig .tc := ⟨.hbm, 29, rfl⟩
abbrev main_v20 : Ref sig .tc := ⟨.hbm, 30, rfl⟩
abbrev main_v21 : Ref sig .tc := ⟨.hbm, 31, rfl⟩
abbrev main_c_6 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_8 : Ref sig .tc := ⟨.hbm, 58, rfl⟩
abbrev main_v45 : Ref sig .tc := ⟨.hbm, 59, rfl⟩
abbrev main_v46 : Ref sig .tc := ⟨.hbm, 60, rfl⟩
abbrev main_c_9 : Ref sig .tc := ⟨.hbm, 61, rfl⟩
abbrev main_v47 : Ref sig .tc := ⟨.hbm, 62, rfl⟩
abbrev main_v48 : Ref sig .tc := ⟨.hbm, 63, rfl⟩
abbrev main_c_10 : Ref sig .tc := ⟨.hbm, 64, rfl⟩
abbrev main_c_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_12 : Ref sig .tc := ⟨.hbm, 71, rfl⟩
abbrev main_v54 : Ref sig .tc := ⟨.hbm, 72, rfl⟩
abbrev main_v55 : Ref sig .tc := ⟨.hbm, 73, rfl⟩
abbrev main_c_13 : Ref sig .tc := ⟨.hbm, 74, rfl⟩
abbrev main_c_14 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_15 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_16 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_17 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85_0 : Ref sig .tc := ⟨.hbm, 108, rfl⟩
abbrev main_v85_1 : Ref sig .tc := ⟨.hbm, 109, rfl⟩
abbrev main_v85_2 : Ref sig .tc := ⟨.hbm, 110, rfl⟩
abbrev main_v85_3 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_18 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_19 : Ref sig .tc := ⟨.hbm, 125, rfl⟩
abbrev main_v98 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc1_stg9_0 : Ref sig .tc := ⟨.vmem, 36, rfl⟩
abbrev cc1_stg9_1 : Ref sig .tc := ⟨.vmem, 37, rfl⟩
abbrev cc1_stg10_0 : Ref sig .tc := ⟨.vmem, 38, rfl⟩
abbrev cc1_stg10_1 : Ref sig .tc := ⟨.vmem, 39, rfl⟩
abbrev cc1_stg11_0 : Ref sig .tc := ⟨.vmem, 40, rfl⟩
abbrev cc1_stg11_1 : Ref sig .tc := ⟨.vmem, 41, rfl⟩
abbrev cc1_stg12_0 : Ref sig .tc := ⟨.vmem, 42, rfl⟩
abbrev cc1_stg12_1 : Ref sig .tc := ⟨.vmem, 43, rfl⟩
abbrev cc1_stg13_0 : Ref sig .tc := ⟨.vmem, 44, rfl⟩
abbrev cc1_scratch0 : Ref sig .tc := ⟨.vmem, 45, rfl⟩
abbrev cc1_scratch1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc1_sem12_1 : DmaSem sig := 43
abbrev cc1_sem13_0 : DmaSem sig := 44

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let c0_i32 : BitVec 32 := 0#32
  ![v0.toNat, c1_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c3_i32 : BitVec 32 := 3#32
  let c0_i32 : BitVec 32 := 0#32
  ![v0.toNat, c3_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c3_i32 : BitVec 32 := 3#32
  let c0_i32 : BitVec 32 := 0#32
  ![v1.toNat, c3_i32.toNat]

def cc0_transform_7 (i : grid0.Coords) : Fin 4 → Nat :=
  let arg0 : BitVec 32 := BitVec.ofNat 32 (i 0).val
  let c0_i32 : BitVec 32 := 0#32
  let v0 : BitVec 1 := Scalar.cmpi .eq arg0 c0_i32
  let c31_i32 : BitVec 32 := 31#32
  let v1 : BitVec 1 := Scalar.cmpi .sge arg0 c31_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  let c0_i32_4 : BitVec 32 := 0#32
  ![v3.toNat, c0_i32_1.toNat, c0_i32_2.toNat, c0_i32_3.toNat]

def cc0_transform_8 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![33], ![false]⟩

def k1_cond2 (i : grid1.Coords) : BitVec 1 :=
  let arg0 : BitVec 32 := BitVec.ofNat 32 (i 0).val
  let c0_i32_1 : BitVec 32 := 0#32
  let v3 : BitVec 1 := Scalar.cmpi .sgt arg0 c0_i32_1
  let c32_i32 : BitVec 32 := 32#32
  let v4 : BitVec 1 := Scalar.cmpi .slt arg0 c32_i32
  let v5 : BitVec 1 := Scalar.andi v3 v4
  let v6 : BitVec 32 := Scalar.extui v5
  let c0_i32_2 : BitVec 32 := 0#32
  let v7 : BitVec 1 := Scalar.cmpi .ne v6 c0_i32_2
  v7

def k1_off1 (i : grid1.Coords) : Fin 3 → Nat :=
  let arg0 : BitVec 32 := BitVec.ofNat 32 (i 0).val
  let c1_i32 : BitVec 32 := 1#32
  let v23 : BitVec 32 := Scalar.addi arg0 c1_i32
  let c3_i32_12 : BitVec 32 := 3#32
  let v24 : BitVec 32 := Scalar.remsi v23 c3_i32_12
  let v26 : Index := Scalar.indexCast v24
  let c0_13 : Index := 0#32
  let c0_14 : Index := 0#32
  ![v26.toNat, 0, 0]
def k1_cond3 (i : grid1.Coords) : BitVec 1 :=
  let arg0 : BitVec 32 := BitVec.ofNat 32 (i 0).val
  let c32_i32_3 : BitVec 32 := 32#32
  let v8 : BitVec 1 := Scalar.cmpi .slt arg0 c32_i32_3
  let v9 : BitVec 32 := Scalar.extui v8
  let c0_i32_4 : BitVec 32 := 0#32
  let v10 : BitVec 1 := Scalar.cmpi .ne v9 c0_i32_4
  v10

def k1_off2 (i : grid1.Coords) (c0_i32_312 : BitVec 32) : Fin 3 → Nat :=
  let arg0 : BitVec 32 := BitVec.ofNat 32 (i 0).val
  let c2_i32_311 : BitVec 32 := 2#32
  let v500 : BitVec 32 := Scalar.addi arg0 c2_i32_311
  let v501 : BitVec 32 := Scalar.addi v500 c0_i32_312
  let c3_i32_313 : BitVec 32 := 3#32
  let v502 : BitVec 32 := Scalar.remsi v501 c3_i32_313
  let v503 : Index := Scalar.indexCast v502
  let c0_314 : Index := 0#32
  let c0_315 : Index := 0#32
  ![v503.toNat, 0, 0]
def k1_off3 (i : grid1.Coords) : Fin 3 → Nat :=
  let arg0 : BitVec 32 := BitVec.ofNat 32 (i 0).val
  let c2_i32 : BitVec 32 := 2#32
  let v11 : BitVec 32 := Scalar.addi arg0 c2_i32
  let c3_i32 : BitVec 32 := 3#32
  let v12 : BitVec 32 := Scalar.remsi v11 c3_i32
  let v13 : Index := Scalar.indexCast v12
  let c0 : Index := 0#32
  let c0_5 : Index := 0#32
  ![v13.toNat, 0, 0]
def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let c0_i32 : BitVec 32 := 0#32
  ![v0.toNat, c1_i32.toNat]

def cc1_transform_1 (i : grid1.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc1_transform_4 (i : grid1.Coords) : Fin 2 → Nat :=
  let arg0 : BitVec 32 := BitVec.ofNat 32 (i 0).val
  let c31_i32 : BitVec 32 := 31#32
  let v0 : BitVec 32 := Scalar.minsi arg0 c31_i32
  let c2_i32 : BitVec 32 := 2#32
  let c0_i32 : BitVec 32 := 0#32
  ![v0.toNat, c2_i32.toNat]

def cc1_transform_5 (i : grid1.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c2_i32 : BitVec 32 := 2#32
  let c0_i32 : BitVec 32 := 0#32
  ![v1.toNat, c2_i32.toNat]

def cc1_transform_6 (i : grid1.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc1_transform_7 (i : grid1.Coords) : Fin 2 → Nat :=
  let arg0 : BitVec 32 := BitVec.ofNat 32 (i 0).val
  let c31_i32 : BitVec 32 := 31#32
  let v0 : BitVec 32 := Scalar.minsi arg0 c31_i32
  let c3_i32 : BitVec 32 := 3#32
  let c0_i32 : BitVec 32 := 0#32
  ![v0.toNat, c3_i32.toNat]

def cc1_transform_8 (i : grid1.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c3_i32 : BitVec 32 := 3#32
  let c0_i32 : BitVec 32 := 0#32
  ![v1.toNat, c3_i32.toNat]

def cc1_transform_9 (i : grid1.Coords) : Fin 4 → Nat :=
  let arg0 : BitVec 32 := BitVec.ofNat 32 (i 0).val
  let c0_i32 : BitVec 32 := 0#32
  let v0 : BitVec 1 := Scalar.cmpi .eq arg0 c0_i32
  let c31_i32 : BitVec 32 := 31#32
  let v1 : BitVec 1 := Scalar.cmpi .sge arg0 c31_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  let c0_i32_4 : BitVec 32 := 0#32
  ![v3.toNat, c0_i32_1.toNat, c0_i32_2.toNat, c0_i32_3.toNat]

def cc1_transform_10 (i : grid1.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_12 (i : grid1.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x8x256x768 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x512 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x512 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x512 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 1 → Memref sig .tc .vmem S8x256x768 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]
-- ==== AttReferenceIdeal.lean ====
abbrev S1x8192x4096 : Shape := ⟨3, ![1, 8192, 4096]⟩
abbrev S1x8192x512 : Shape := ⟨3, ![1, 8192, 512]⟩
abbrev S1x8x15x31 : Shape := ⟨4, ![1, 8, 15, 31]⟩
abbrev S8x15x31 : Shape := ⟨3, ![8, 15, 31]⟩
abbrev S1x128x64x8x64 : Shape := ⟨5, ![1, 128, 64, 8, 64]⟩
abbrev S_ : Shape := ⟨0, ![]⟩
abbrev S128 : Shape := ⟨1, ![128]⟩
abbrev S128x1 : Shape := ⟨2, ![128, 1]⟩
abbrev S8 : Shape := ⟨1, ![8]⟩
abbrev S1x8 : Shape := ⟨2, ![1, 8]⟩
abbrev S128x8 : Shape := ⟨2, ![128, 8]⟩
abbrev S128x8x1 : Shape := ⟨3, ![128, 8, 1]⟩
abbrev S1x128x8x64x8x64 : Shape := ⟨6, ![1, 128, 8, 64, 8, 64]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S1x8x128x64x8x64 : Shape := ⟨6, ![1, 8, 128, 64, 8, 64]⟩
abbrev S128x1x8x1 : Shape := ⟨4, ![128, 1, 8, 1]⟩
abbrev S1x64x1x64 : Shape := ⟨4, ![1, 64, 1, 64]⟩
abbrev S128x64x8x64 : Shape := ⟨4, ![128, 64, 8, 64]⟩
abbrev S128x64x8x64x1 : Shape := ⟨5, ![128, 64, 8, 64, 1]⟩
abbrev S128x64x8x64x2 : Shape := ⟨5, ![128, 64, 8, 64, 2]⟩
abbrev S8x128x64x8x64 : Shape := ⟨5, ![8, 128, 64, 8, 64]⟩
abbrev S64x1x64 : Shape := ⟨3, ![64, 1, 64]⟩
abbrev S1x8x128x64 : Shape := ⟨4, ![1, 8, 128, 64]⟩
abbrev S1x8x128x64x1x1 : Shape := ⟨6, ![1, 8, 128, 64, 1, 1]⟩
abbrev S1x128x8x64x64 : Shape := ⟨5, ![1, 128, 8, 64, 64]⟩
abbrev S8x128x64 : Shape := ⟨3, ![8, 128, 64]⟩
abbrev S1x8x128x8x64x64 : Shape := ⟨6, ![1, 8, 128, 8, 64, 64]⟩
abbrev S1x8x128x64x64 : Shape := ⟨5, ![1, 8, 128, 64, 64]⟩
abbrev S8192x512 : Shape := ⟨2, ![8192, 512]⟩

abbrev nBuf : Space → Nat
  | .hbm => 224
  | .vmem => 0
  | .smem => 0
  | _ => 0

abbrev hbmTy0_0 (i : Nat) : BufTy := match i % 128 with
  | 0 => ⟨S1x8192x4096, .f32⟩
  | 1 => ⟨S1x8192x512, .f32⟩
  | 2 => ⟨S1x8x15x31, .f32⟩
  | 3 => ⟨S1x8192x512, .f32⟩
  | 4 => ⟨S1x8192x512, .f32⟩
  | 5 => ⟨S1x8192x512, .f32⟩
  | 6 => ⟨S8x15x31, .f32⟩
  | 7 => ⟨S1x128x64x8x64, .f32⟩
  | 8 => ⟨S_, .f32⟩
  | 9 => ⟨S1x128x64x8x64, .f32⟩
  | 10 => ⟨S1x128x64x8x64, .f32⟩
  | 11 => ⟨S1x128x64x8x64, .f32⟩
  | 12 => ⟨S1x128x64x8x64, .f32⟩
  | 13 => ⟨S128, .i32⟩
  | 14 => ⟨S_, .i32⟩
  | 15 => ⟨S128, .i32⟩
  | 16 => ⟨S128, .i32⟩
  | 17 => ⟨S_, .i32⟩
  | 18 => ⟨S_, .i32⟩
  | 19 => ⟨S_, .i32⟩
  | 20 => ⟨S128, .i32⟩
  | 21 => ⟨S128, .i32⟩
  | 22 => ⟨S_, .i32⟩
  | 23 => ⟨S128, .i32⟩
  | 24 => ⟨S128, .i32⟩
  | 25 => ⟨S128x1, .i32⟩
  | 26 => ⟨S8, .i32⟩
  | 27 => ⟨S1x8, .i32⟩
  | 28 => ⟨S128x8, .i32⟩
  | 29 => ⟨S128x8, .i32⟩
  | 30 => ⟨S128x8, .i32⟩
  | 31 => ⟨S_, .i32⟩
  | 32 => ⟨S128x8, .i32⟩
  | 33 => ⟨S128x8, .i1⟩
  | 34 => ⟨S_, .i32⟩
  | 35 => ⟨S128x8, .i32⟩
  | 36 => ⟨S128x8, .i32⟩
  | 37 => ⟨S128x8, .i32⟩
  | 38 => ⟨S128x8x1, .i32⟩
  | 39 => ⟨S1x128x8x64x8x64, .f32⟩
  | 40 => ⟨S_, .i32⟩
  | 41 => ⟨S128x8, .i32⟩
  | 42 => ⟨S128x8, .i1⟩
  | 43 => ⟨S_, .i32⟩
  | 44 => ⟨S128x8, .i32⟩
  | 45 => ⟨S128x8, .i32⟩
  | 46 => ⟨S128x8, .i32⟩
  | 47 => ⟨S128x8x1, .i32⟩
  | 48 => ⟨S1x128x8x64x8x64, .f32⟩
  | 49 => ⟨S64, .i32⟩
  | 50 => ⟨S_, .i32⟩
  | 51 => ⟨S64, .i32⟩
  | 52 => ⟨S64, .i32⟩
  | 53 => ⟨S_, .i32⟩
  | 54 => ⟨S_, .i32⟩
  | 55 => ⟨S_, .i32⟩
  | 56 => ⟨S64, .i32⟩
  | 57 => ⟨S64, .i32⟩
  | 58 => ⟨S_, .i32⟩
  | 59 => ⟨S64, .i32⟩
  | 60 => ⟨S64, .i32⟩
  | 61 => ⟨S1x64, .i32⟩
  | 62 => ⟨S64x1, .i32⟩
  | 63 => ⟨S64x64, .i32⟩
  | 64 => ⟨S64x64, .i32⟩
  | 65 => ⟨S64x64, .i1⟩
  | 66 => ⟨S1x64, .i32⟩
  | 67 => ⟨S64x1, .i32⟩
  | 68 => ⟨S_, .i32⟩
  | 69 => ⟨S64x1, .i32⟩
  | 70 => ⟨S64x1, .i32⟩
  | 71 => ⟨S64x64, .i32⟩
  | 72 => ⟨S64x64, .i32⟩
  | 73 => ⟨S64x64, .i1⟩
  | 74 => ⟨S64x64, .i1⟩
  | 75 => ⟨S1x8x128x64x8x64, .f32⟩
  | 76 => ⟨S128x1, .i32⟩
  | 77 => ⟨S128x8, .i32⟩
  | 78 => ⟨S128x8, .i32⟩
  | 79 => ⟨S_, .i32⟩
  | 80 => ⟨S128x8, .i32⟩
  | 81 => ⟨S128x8, .i32⟩
  | 82 => ⟨S1x64, .i32⟩
  | 83 => ⟨S64x1, .i32⟩
  | 84 => ⟨S64x64, .i32⟩
  | 85 => ⟨S64x64, .i32⟩
  | 86 => ⟨S64x64, .i32⟩
  | 87 => ⟨S_, .i32⟩
  | 88 => ⟨S_, .i32⟩
  | 89 => ⟨S_, .i32⟩
  | 90 => ⟨S64x64, .i32⟩
  | 91 => ⟨S64x64, .i32⟩
  | 92 => ⟨S_, .i32⟩
  | 93 => ⟨S64x64, .i32⟩
  | 94 => ⟨S64x64, .i32⟩
  | 95 => ⟨S_, .i32⟩
  | 96 => ⟨S64x64, .i32⟩
  | 97 => ⟨S64x64, .i32⟩
  | 98 => ⟨S128x1x8x1, .i32⟩
  | 99 => ⟨S1x64x1x64, .i32⟩
  | 100 => ⟨S_, .i32⟩
  | 101 => ⟨S128x1x8x1, .i32⟩
  | 102 => ⟨S128x1x8x1, .i1⟩
  | 103 => ⟨S_, .i32⟩
  | 104 => ⟨S128x1x8x1, .i32⟩
  | 105 => ⟨S128x1x8x1, .i32⟩
  | 106 => ⟨S128x1x8x1, .i32⟩
  | 107 => ⟨S_, .i32⟩
  | 108 => ⟨S1x64x1x64, .i32⟩
  | 109 => ⟨S1x64x1x64, .i1⟩
  | 110 => ⟨S_, .i32⟩
  | 111 => ⟨S1x64x1x64, .i32⟩
  | 112 => ⟨S1x64x1x64, .i32⟩
  | 113 => ⟨S1x64x1x64, .i32⟩
  | 114 => ⟨S128x64x8x64, .i32⟩
  | 115 => ⟨S128x64x8x64, .i32⟩
  | 116 => ⟨S128x64x8x64x1, .i32⟩
  | 117 => ⟨S128x64x8x64x1, .i32⟩
  | 118 => ⟨S128x64x8x64x2, .i32⟩
  | 119 => ⟨S8x128x64x8x64, .f32⟩
  | 120 => ⟨S64x1x64, .i1⟩
  | 121 => ⟨S1x8x128x64x8x64, .f32⟩
  | 122 => ⟨S1x8x128x64x8x64, .f32⟩
  | 123 => ⟨S_, .f32⟩
  | 124 => ⟨S_, .f32⟩
  | 125 => ⟨S1x8x128x64x8x64, .i1⟩
  | 126 => ⟨S1x8x128x64x8x64, .f32⟩
  | 127 => ⟨S1x8x128x64x8x64, .f32⟩
  | _ => ⟨S1x8192x4096, .f32⟩

abbrev hbmTy0_1 (i : Nat) : BufTy := match i % 128 with
  | 0 => ⟨S_, .f32⟩
  | 1 => ⟨S1x8x128x64x8x64, .f32⟩
  | 2 => ⟨S_, .f32⟩
  | 3 => ⟨S1x8x128x64, .f32⟩
  | 4 => ⟨S1x8x128x64x1x1, .f32⟩
  | 5 => ⟨S1x8x128x64x8x64, .f32⟩
  | 6 => ⟨S1x8x128x64x8x64, .i1⟩
  | 7 => ⟨S1x8x128x64x8x64, .f32⟩
  | 8 => ⟨S_, .f32⟩
  | 9 => ⟨S1x8x128x64, .f32⟩
  | 10 => ⟨S_, .f32⟩
  | 11 => ⟨S1x8x128x64, .f32⟩
  | 12 => ⟨S1x8x128x64, .f32⟩
  | 13 => ⟨S_, .f32⟩
  | 14 => ⟨S1x8x128x64, .f32⟩
  | 15 => ⟨S1x8x128x64, .i1⟩
  | 16 => ⟨S_, .f32⟩
  | 17 => ⟨S1x8x128x64, .f32⟩
  | 18 => ⟨S1x8x128x64, .i1⟩
  | 19 => ⟨S_, .f32⟩
  | 20 => ⟨S1x8x128x64, .f32⟩
  | 21 => ⟨S_, .f32⟩
  | 22 => ⟨S1x8x128x64, .f32⟩
  | 23 => ⟨S_, .f32⟩
  | 24 => ⟨S1x8x128x64, .f32⟩
  | 25 => ⟨S1x8x128x64, .f32⟩
  | 26 => ⟨S1x8x128x64, .f32⟩
  | 27 => ⟨S1x8x128x64x1x1, .f32⟩
  | 28 => ⟨S1x8x128x64x8x64, .f32⟩
  | 29 => ⟨S1x8x128x64x8x64, .f32⟩
  | 30 => ⟨S1x8x128x64x8x64, .f32⟩
  | 31 => ⟨S_, .f32⟩
  | 32 => ⟨S1x8x128x64, .f32⟩
  | 33 => ⟨S1x8x128x64x1x1, .f32⟩
  | 34 => ⟨S1x8x128x64x8x64, .f32⟩
  | 35 => ⟨S1x8x128x64x8x64, .f32⟩
  | 36 => ⟨S1x8x128x64x1x1, .f32⟩
  | 37 => ⟨S_, .f32⟩
  | 38 => ⟨S1x8x128x64x1x1, .f32⟩
  | 39 => ⟨S1x8x128x64x1x1, .f32⟩
  | 40 => ⟨S1x128x8x64x64, .f32⟩
  | 41 => ⟨S1x128x64x8x64, .f32⟩
  | 42 => ⟨S1x8192x512, .f32⟩
  | 43 => ⟨S1x128x64x8x64, .f32⟩
  | 44 => ⟨S1x128x8x64x64, .f32⟩
  | 45 => ⟨S1x128x8x64x8x64, .f32⟩
  | 46 => ⟨S1x8x128x64x8x64, .f32⟩
  | 47 => ⟨S1x128x8x64x8x64, .f32⟩
  | 48 => ⟨S1x128x8x64x8x64, .f32⟩
  | 49 => ⟨S1x8x128x64x8x64, .f32⟩
  | 50 => ⟨S1x8x128x64x8x64, .f32⟩
  | 51 => ⟨S1x8x128x64x8x64, .f32⟩
  | 52 => ⟨S_, .f32⟩
  | 53 => ⟨S1x8x128x64, .f32⟩
  | 54 => ⟨S1x8x128x64x1x1, .f32⟩
  | 55 => ⟨S1x8x128x64x1x1, .f32⟩
  | 56 => ⟨S1x8x128x64x8x64, .f32⟩
  | 57 => ⟨S1x8x128x64x8x64, .f32⟩
  | 58 => ⟨S_, .f32⟩
  | 59 => ⟨S8x128x64, .f32⟩
  | 60 => ⟨S1x8x128x64, .f32⟩
  | 61 => ⟨S1x8x128x64x8x64, .f32⟩
  | 62 => ⟨S1x8x128x64x8x64, .f32⟩
  | 63 => ⟨S1x8x128x64x8x64, .f32⟩
  | 64 => ⟨S_, .f32⟩
  | 65 => ⟨S1x8x128x64x8x64, .f32⟩
  | 66 => ⟨S1x8x128x64x8x64, .f32⟩
  | 67 => ⟨S_, .f32⟩
  | 68 => ⟨S8x128x64x8x64, .f32⟩
  | 69 => ⟨S_, .f32⟩
  | 70 => ⟨S8x15x31, .f32⟩
  | 71 => ⟨S8x15x31, .f32⟩
  | 72 => ⟨S1x8x128x8x64x64, .f32⟩
  | 73 => ⟨S1x128x8x64x8x64, .f32⟩
  | 74 => ⟨S1x8x128x64x64, .f32⟩
  | 75 => ⟨S1x128x64x8x64, .f32⟩
  | 76 => ⟨S_, .f32⟩
  | 77 => ⟨S1x128x64x8x64, .f32⟩
  | 78 => ⟨S1x128x64x8x64, .f32⟩
  | 79 => ⟨S_, .f32⟩
  | 80 => ⟨S1x128x64x8x64, .f32⟩
  | 81 => ⟨S1x128x64x8x64, .f32⟩
  | 82 => ⟨S1x8192x512, .f32⟩
  | 83 => ⟨S1x8192x512, .f32⟩
  | 84 => ⟨S_, .f32⟩
  | 85 => ⟨S1x128x64x8x64, .f32⟩
  | 86 => ⟨S1x128x64x8x64, .f32⟩
  | 87 => ⟨S1x8192x512, .f32⟩
  | 88 => ⟨S8192x512, .f32⟩
  | 89 => ⟨S8192x512, .bf16⟩
  | 90 => ⟨S8192x512, .f32⟩
  | 91 => ⟨S8192x512, .bf16⟩
  | 92 => ⟨S8192x512, .f32⟩
  | 93 => ⟨S8192x512, .bf16⟩
  | 94 => ⟨S8192x512, .f32⟩
  | 95 => ⟨S8192x512, .bf16⟩
  | _ => ⟨S1x8192x4096, .f32⟩

abbrev hbmTy (i : Nat) : BufTy := match i / 128 with
  | 0 => hbmTy0_0 i
  | 1 => hbmTy0_1 i
  | _ => ⟨S1x8192x4096, .f32⟩

abbrev bufTy : (tb : Table) → Fin (tcTables nBuf tb) → BufTy
  | .hbm, ⟨i, _⟩ => hbmTy i
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_c_8 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_11 : Ref sig .tc := ⟨.hbm, 87, rfl⟩
abbrev main_c_12 : Ref sig .tc := ⟨.hbm, 88, rfl⟩
abbrev main_call2_v0 : Ref sig .tc := ⟨.hbm, 89, rfl⟩
abbrev main_call2_v1 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_v61 : Ref sig .tc := ⟨.hbm, 94, rfl⟩
abbrev main_c_13 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_c_14 : Ref sig .tc := ⟨.hbm, 100, rfl⟩
abbrev main_v66 : Ref sig .tc := ⟨.hbm, 101, rfl⟩
abbrev main_v67 : Ref sig .tc := ⟨.hbm, 102, rfl⟩
abbrev main_c_15 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_c_16 : Ref sig .tc := ⟨.hbm, 107, rfl⟩
abbrev main_v71 : Ref sig .tc := ⟨.hbm, 108, rfl⟩
abbrev main_v72 : Ref sig .tc := ⟨.hbm, 109, rfl⟩
abbrev main_c_17 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_18 : Ref sig .tc := ⟨.hbm, 123, rfl⟩
abbrev main_call3_v0 : Ref sig .tc := ⟨.hbm, 124, rfl⟩
abbrev main_v85_1 : Ref sig .tc := ⟨.hbm, 125, rfl⟩
abbrev main_call3_v2 : Ref sig .tc := ⟨.hbm, 126, rfl⟩
abbrev main_v85_0 : Ref sig .tc := ⟨.hbm, 127, rfl⟩
abbrev main_call3_cst : Ref sig .tc := ⟨.hbm, 128, rfl⟩
abbrev main_v85_2 : Ref sig .tc := ⟨.hbm, 129, rfl⟩
abbrev main_cst_19 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_20 : Ref sig .tc := ⟨.hbm, 136, rfl⟩
abbrev main_v91 : Ref sig .tc := ⟨.hbm, 137, rfl⟩
abbrev main_cst_21 : Ref sig .tc := ⟨.hbm, 138, rfl⟩
abbrev main_v92 : Ref sig .tc := ⟨.hbm, 139, rfl⟩
abbrev main_v93 : Ref sig .tc := ⟨.hbm, 140, rfl⟩
abbrev main_cst_22 : Ref sig .tc := ⟨.hbm, 141, rfl⟩
abbrev main_v94 : Ref sig .tc := ⟨.hbm, 142, rfl⟩
abbrev main_v95 : Ref sig .tc := ⟨.hbm, 143, rfl⟩
abbrev main_cst_23 : Ref sig .tc := ⟨.hbm, 144, rfl⟩
abbrev main_v96 : Ref sig .tc := ⟨.hbm, 145, rfl⟩
abbrev main_v97 : Ref sig .tc := ⟨.hbm, 146, rfl⟩
abbrev main_cst_24 : Ref sig .tc := ⟨.hbm, 147, rfl⟩
abbrev main_v98 : Ref sig .tc := ⟨.hbm, 148, rfl⟩
abbrev main_cst_25 : Ref sig .tc := ⟨.hbm, 149, rfl⟩
abbrev main_v99 : Ref sig .tc := ⟨.hbm, 150, rfl⟩
abbrev main_cst_26 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_cst_27 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_cst_28 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_cst_29 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_cst_30 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_call4_cst : Ref sig .tc := ⟨.hbm, 192, rfl⟩
abbrev main_call4_v0 : Ref sig .tc := ⟨.hbm, 193, rfl⟩
abbrev main_v136 : Ref sig .tc := ⟨.hbm, 194, rfl⟩
abbrev main_cst_31 : Ref sig .tc := ⟨.hbm, 195, rfl⟩
abbrev main_v137 : Ref sig .tc := ⟨.hbm, 196, rfl⟩
abbrev main_cst_32 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_cst_33 : Ref sig .tc := ⟨.hbm, 204, rfl⟩
abbrev main_v144 : Ref sig .tc := ⟨.hbm, 205, rfl⟩
abbrev main_v145 : Ref sig .tc := ⟨.hbm, 206, rfl⟩
abbrev main_cst_34 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_cst_35 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩

abbrev nD : Nat := 1
abbrev τ : Topo := Topo.v7x

variable {F : FTy → Type} [FloatOps F]
-- ==== MixKernel.lean ====
abbrev S1x8192x4096 : Shape := ⟨3, ![1, 8192, 4096]⟩
abbrev S1x8192x1024 : Shape := ⟨3, ![1, 8192, 1024]⟩
abbrev S1x1024 : Shape := ⟨2, ![1, 1024]⟩
abbrev S1x1024x4096 : Shape := ⟨3, ![1, 1024, 4096]⟩
abbrev S1024x4096 : Shape := ⟨2, ![1024, 4096]⟩
abbrev S1024x8x512 : Shape := ⟨3, ![1024, 8, 512]⟩
abbrev S8x1024x512 : Shape := ⟨3, ![8, 1024, 512]⟩
abbrev S8192x4096 : Shape := ⟨2, ![8192, 4096]⟩
abbrev S8192x1024 : Shape := ⟨2, ![8192, 1024]⟩
abbrev S512x4096 : Shape := ⟨2, ![512, 4096]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 15
  | .vmem => 11
  | .smem => 0
  | _ => 0

abbrev bufTy : (tb : Table) → Fin (tcTables nBuf tb) → BufTy
  | .hbm, ⟨0, _⟩ => ⟨S1x8192x4096, .f32⟩
  | .hbm, ⟨1, _⟩ => ⟨S1x8192x1024, .f32⟩
  | .hbm, ⟨2, _⟩ => ⟨S1x8192x1024, .f32⟩
  | .hbm, ⟨3, _⟩ => ⟨S1x1024, .f32⟩
  | .hbm, ⟨4, _⟩ => ⟨S1x1024x4096, .f32⟩
  | .hbm, ⟨5, _⟩ => ⟨S1024x4096, .f32⟩
  | .hbm, ⟨6, _⟩ => ⟨S1024x8x512, .f32⟩
  | .hbm, ⟨7, _⟩ => ⟨S8x1024x512, .f32⟩
  | .hbm, ⟨8, _⟩ => ⟨S8x1024x512, .bf16⟩
  | .hbm, ⟨9, _⟩ => ⟨S8192x4096, .f32⟩
  | .hbm, ⟨10, _⟩ => ⟨S8192x4096, .bf16⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S8x1024x512, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MixReferenceIdeal.lean ====
abbrev S1x8192x4096 : Shape := ⟨3, ![1, 8192, 4096]⟩
abbrev S1x8192x1024 : Shape := ⟨3, ![1, 8192, 1024]⟩
abbrev S1x1024 : Shape := ⟨2, ![1, 1024]⟩
abbrev S1x1024x4096 : Shape := ⟨3, ![1, 1024, 4096]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x4096 : Shape := ⟨2, ![1024, 4096]⟩
abbrev S8192 : Shape := ⟨1, ![8192]⟩
abbrev S8192x1024 : Shape := ⟨2, ![8192, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S1x8192x1024, .f32⟩
  | .hbm, ⟨2, _⟩ => ⟨S1x8192x1024, .f32⟩
  | .hbm, ⟨3, _⟩ => ⟨S1x1024, .f32⟩
  | .hbm, ⟨4, _⟩ => ⟨S1x1024x4096, .f32⟩
  | .hbm, ⟨5, _⟩ => ⟨S1024, .f32⟩
  | .hbm, ⟨6, _⟩ => ⟨S1x8192x1024, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S1x8192x1024, .f32⟩
  | .hbm, ⟨22, _⟩ => ⟨S1x8192x1024, .f32⟩
  | .hbm, ⟨23, _⟩ => ⟨S1x1x1024, .f32⟩
  | .hbm, ⟨24, _⟩ => ⟨S1x8192x1024, .f32⟩
  | .hbm, ⟨25, _⟩ => ⟨S1x8192x1024, .f32⟩
  | .hbm, ⟨26, _⟩ => ⟨S1024x4096, .f32⟩
  | .hbm, ⟨27, _⟩ => ⟨S1x8192x4096, .f32⟩
  | .hbm, ⟨28, _⟩ => ⟨S1x8192x1024, .f32⟩
  | .hbm, ⟨29, _⟩ => ⟨S1x8192x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x8192x1024, .f32⟩
  | .hbm, ⟨34, _⟩ => ⟨S1x8192x1024, .f32⟩
  | .hbm, ⟨35, _⟩ => ⟨S_, .f32⟩
  | .hbm, ⟨36, _⟩ => ⟨S1024, .f32⟩
  | .hbm, ⟨37, _⟩ => ⟨S1x8192x1024, .f32⟩
  | .hbm, ⟨38, _⟩ => ⟨S_, .f32⟩
  | .hbm, ⟨39, _⟩ => ⟨S1x8192, .f32⟩
  | .hbm, ⟨40, _⟩ => ⟨S1x8192x1, .f32⟩
  | .hbm, ⟨41, _⟩ => ⟨S1x8192x1024, .f32⟩
  | .hbm, ⟨42, _⟩ => ⟨S1x8192x1024, .f32⟩
  | .hbm, ⟨43, _⟩ => ⟨S1x8192x1024, .f32⟩
  | .hbm, ⟨44, _⟩ => ⟨S1x8192x1, .f32⟩
  | .hbm, ⟨45, _⟩ => ⟨S_, .f32⟩
  | .hbm, ⟨46, _⟩ => ⟨S1x8192x1, .f32⟩
  | .hbm, ⟨47, _⟩ => ⟨S1x8192x1, .f32⟩
  | .hbm, ⟨48, _⟩ => ⟨S_, .f32⟩
  | .hbm, ⟨49, _⟩ => ⟨S8192, .f32⟩
  | .hbm, ⟨50, _⟩ => ⟨S1x8192, .f32⟩
  | .hbm, ⟨51, _⟩ => ⟨S1x8192x1024, .f32⟩
  | .hbm, ⟨52, _⟩ => ⟨S1x8192x1024, .f32⟩
  | .hbm, ⟨53, _⟩ => ⟨S1x8192x1024, .f32⟩
  | .hbm, ⟨54, _⟩ => ⟨S1x8192x1024, .f32⟩
  | .hbm, ⟨55, _⟩ => ⟨S1x8192x1024, .f32⟩
  | .hbm, ⟨56, _⟩ => ⟨S1x1024, .f32⟩
  | .hbm, ⟨57, _⟩ => ⟨S8192x1024, .f32⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== DiscKernel.lean ====
abbrev S1x32x64 : Shape := ⟨3, ![1, 32, 64]⟩
abbrev S1x32 : Shape := ⟨2, ![1, 32]⟩
abbrev S1x32x64x16 : Shape := ⟨4, ![1, 32, 64, 16]⟩
abbrev S32x64 : Shape := ⟨2, ![32, 64]⟩
abbrev S32x64x16 : Shape := ⟨3, ![32, 64, 16]⟩
abbrev S32x16x64 : Shape := ⟨3, ![32, 16, 64]⟩
abbrev S32 : Shape := ⟨1, ![32]⟩
abbrev S32x1 : Shape := ⟨2, ![32, 1]⟩
abbrev S32x1x64 : Shape := ⟨3, ![32, 1, 64]⟩

abbrev nBuf : Space → Nat
  | .hbm => 27
  | .vmem => 14
  | .smem => 0
  | _ => 0

abbrev bufTy : (tb : Table) → Fin (tcTables nBuf tb) → BufTy
  | .hbm, ⟨0, _⟩ => ⟨S1x32x64, .f32⟩
  | .hbm, ⟨1, _⟩ => ⟨S1x32x64, .f32⟩
  | .hbm, ⟨2, _⟩ => ⟨S1x32, .f32⟩
  | .hbm, ⟨3, _⟩ => ⟨S1x32x64x16, .f32⟩
  | .hbm, ⟨4, _⟩ => ⟨S1x32x64x16, .f32⟩
  | .hbm, ⟨5, _⟩ => ⟨S32x64, .f32⟩
  | .hbm, ⟨6, _⟩ => ⟨S32x64, .f32⟩
  | .hbm, ⟨7, _⟩ => ⟨S32x64x16, .f32⟩
  | .hbm, ⟨8, _⟩ => ⟨S32x64x16, .f32⟩
  | .hbm, ⟨9, _⟩ => ⟨S32x64x16, .f32⟩
  | .hbm, ⟨10, _⟩ => ⟨S32x16x64, .f32⟩
  | .hbm, ⟨11, _⟩ => ⟨S32x64x16, .f32⟩
  | .hbm, ⟨12, _⟩ => ⟨S32x16x64, .f32⟩
  | .hbm, ⟨13, _⟩ => ⟨S32x64, .f32⟩
  | .hbm, ⟨14, _⟩ => ⟨S32x64, .f32⟩
  | .hbm, ⟨15, _⟩ => ⟨S32, .f32⟩
  | .hbm, ⟨16, _⟩ => ⟨S32x1, .f32⟩
  | .hbm, ⟨17, _⟩ => ⟨S32x16x64, .f32⟩
  | .hbm, ⟨18, _⟩ => ⟨S32x16x64, .f32⟩
  | .hbm, ⟨19, _⟩ => ⟨S32x64, .f32⟩
  | .hbm, ⟨20, _⟩ => ⟨S32x64, .f32⟩
  | .hbm, ⟨21, _⟩ => ⟨S32x1, .f32⟩
  | .hbm, ⟨22, _⟩ => ⟨S32x16x64, .f32⟩
  | .hbm, ⟨23, _⟩ => ⟨S32x16x64, .f32⟩
  | .hbm, ⟨24, _⟩ => ⟨S32, .f32⟩
  | .hbm, ⟨25, _⟩ => ⟨S32x64x16, .f32⟩
  | .hbm, ⟨26, _⟩ => ⟨S32x64x16, .f32⟩
  | .local _ .vmem, ⟨0, _⟩ => ⟨S32x64, .f32⟩
  | .local _ .vmem, ⟨1, _⟩ => ⟨S32x64, .f32⟩
  | .local _ .vmem, ⟨2, _⟩ => ⟨S32x1, .f32⟩
  | .local _ .vmem, ⟨3, _⟩ => ⟨S32x16x64, .f32⟩
  | .local _ .vmem, ⟨4, _⟩ => ⟨S32x16x64, .f32⟩
  | .local _ .vmem, ⟨5, _⟩ => ⟨S32x64, .f32⟩
  | .local _ .vmem, ⟨6, _⟩ => ⟨S32x64, .f32⟩
  | .local _ .vmem, ⟨7, _⟩ => ⟨S32x16x64, .f32⟩
  | .local _ .vmem, ⟨8, _⟩ => ⟨S32x16x64, .f32⟩
  | .local _ .vmem, ⟨9, _⟩ => ⟨S32x64, .f32⟩
  | .local _ .vmem, ⟨10, _⟩ => ⟨S32x64, .f32⟩
  | .local _ .vmem, ⟨11, _⟩ => ⟨S32x1, .f32⟩
  | .local _ .vmem, ⟨12, _⟩ => ⟨S32x16x64, .f32⟩
  | .local _ .vmem, ⟨13, _⟩ => ⟨S32x16x64, .f32⟩
  | _, _ => ⟨S1x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S32x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x16x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x16x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x16x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== DiscReferenceIdeal.lean ====
abbrev S1x32x64 : Shape := ⟨3, ![1, 32, 64]⟩
abbrev S1x32 : Shape := ⟨2, ![1, 32]⟩
abbrev S1x32x64x16 : Shape := ⟨4, ![1, 32, 64, 16]⟩
abbrev S32x64 : Shape := ⟨2, ![32, 64]⟩
abbrev S32x64x16 : Shape := ⟨3, ![32, 64, 16]⟩
abbrev S32 : Shape := ⟨1, ![32]⟩
abbrev S32x1 : Shape := ⟨2, ![32, 1]⟩
abbrev S_ : Shape := ⟨0, ![]⟩
abbrev S32x64x1 : Shape := ⟨3, ![32, 64, 1]⟩

abbrev nBuf : Space → Nat
  | .hbm => 163
  | .vmem => 0
  | .smem => 0
  | _ => 0

abbrev hbmTy0_0 (i : Nat) : BufTy := match i % 128 with
  | 0 => ⟨S1x32x64, .f32⟩
  | 1 => ⟨S1x32x64, .f32⟩
  | 2 => ⟨S1x32, .f32⟩
  | 3 => ⟨S1x32x64x16, .f32⟩
  | 4 => ⟨S1x32x64x16, .f32⟩
  | 5 => ⟨S32x64, .f32⟩
  | 6 => ⟨S32x64, .f32⟩
  | 7 => ⟨S32x64x16, .f32⟩
  | 8 => ⟨S32x64x16, .f32⟩
  | 9 => ⟨S32x64, .f32⟩
  | 10 => ⟨S32x64, .f32⟩
  | 11 => ⟨S32, .f32⟩
  | 12 => ⟨S32x64x16, .f32⟩
  | 13 => ⟨S32x64x16, .f32⟩
  | 14 => ⟨S32, .f32⟩
  | 15 => ⟨S32x1, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S_, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S32x64, .f32⟩
  | 38 => ⟨S_, .f32⟩
  | 39 => ⟨S32x64, .f32⟩
  | 40 => ⟨S32x64, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S_, .f32⟩
  | 47 => ⟨S32x64, .f32⟩
  | 48 => ⟨S32x64, .f32⟩
  | 49 => ⟨S32x64x1, .f32⟩
  | 50 => ⟨S32x64x16, .f32⟩
  | 51 => ⟨S32x64x16, .f32⟩
  | 52 => ⟨S32x64x1, .f32⟩
  | 53 => ⟨S32x64x16, .f32⟩
  | 54 => ⟨S32x64x16, .f32⟩
  | 55 => ⟨S32x64x16, .f32⟩
  | 56 => ⟨S32x64x1, .f32⟩
  | 57 => ⟨S32x64x16, .f32⟩
  | 58 => ⟨S32x64x16, .f32⟩
  | 59 => ⟨S32x64x1, .f32⟩
  | 60 => ⟨S32x64x16, .f32⟩
  | 61 => ⟨S32x64x16, .f32⟩
  | 62 => ⟨S32x64x16, .f32⟩
  | 63 => ⟨S32x64x16, .f32⟩
  | 64 => ⟨S32x64x16, .f32⟩
  | 65 => ⟨S32x64x16, .f32⟩
  | 66 => ⟨S32x64x16, .f32⟩
  | 67 => ⟨S32x64x16, .f32⟩
  | 68 => ⟨S_, .f32⟩
  | 69 => ⟨S32x64, .f32⟩
  | 70 => ⟨S32x64x1, .f32⟩
  | 71 => ⟨S_, .f32⟩
  | 72 => ⟨S32x64, .f32⟩
  | 73 => ⟨S32x64x16, .f32⟩
  | 74 => ⟨S32x64x16, .f32⟩
  | 75 => ⟨S32x64x16, .f32⟩
  | 76 => ⟨S_, .f32⟩
  | 77 => ⟨S32x64, .f32⟩
  | 78 => ⟨S32x64x1, .f32⟩
  | 79 => ⟨S_, .f32⟩
  | 80 => ⟨S32x64, .f32⟩
  | 81 => ⟨S32x64x16, .f32⟩
  | 82 => ⟨S32x64x16, .f32⟩
  | 83 => ⟨S32x64x16, .f32⟩
  | 84 => ⟨S32x64x16, .f32⟩
  | 85 => ⟨S32x64x16, .f32⟩
  | 86 => ⟨S32x64x16, .f32⟩
  | 87 => ⟨S_, .f32⟩
  | 88 => ⟨S32x64, .f32⟩
  | 89 => ⟨S32x64x1, .f32⟩
  | 90 => ⟨S_, .f32⟩
  | 91 => ⟨S32x64, .f32⟩
  | 92 => ⟨S32x64, .f32⟩
  | 93 => ⟨S32x64x16, .f32⟩
  | 94 => ⟨S32x64x16, .f32⟩
  | 95 => ⟨S32x64x16, .f32⟩
  | 96 => ⟨S32x64x16, .f32⟩
  | 97 => ⟨S_, .f32⟩
  | 98 => ⟨S32x64, .f32⟩
  | 99 => ⟨S32x64x1, .f32⟩
  | 100 => ⟨S_, .f32⟩
  | 101 => ⟨S32x64, .f32⟩
  | 102 => ⟨S32x64, .f32⟩
  | 103 => ⟨S32x64, .f32⟩
  | 104 => ⟨S32x64, .f32⟩
  | 105 => ⟨S32x64, .f32⟩
  | 106 => ⟨S32x64, .f32⟩
  | 107 => ⟨S32x64, .f32⟩
  | 108 => ⟨S32x64, .f32⟩
  | 109 => ⟨S32x64, .f32⟩
  | 110 => ⟨S32x64, .f32⟩
  | 111 => ⟨S32x64, .f32⟩
  | 112 => ⟨S32x64, .f32⟩
  | 113 => ⟨S32x64, .f32⟩
  | 114 => ⟨S32x64, .f32⟩
  | 115 => ⟨S32x64, .f32⟩
  | 116 => ⟨S32x64, .f32⟩
  | 117 => ⟨S32x64, .f32⟩
  | 118 => ⟨S32x64, .f32⟩
  | 119 => ⟨S32x64, .f32⟩
  | 120 => ⟨S32x64, .f32⟩
  | 121 => ⟨S32x64, .f32⟩
  | 122 => ⟨S32x64, .f32⟩
  | 123 => ⟨S32x64, .f32⟩
  | 124 => ⟨S32x64, .f32⟩
  | 125 => ⟨S32x64, .f32⟩
  | 126 => ⟨S32x64, .f32⟩
  | 127 => ⟨S32x64, .f32⟩
  | _ => ⟨S1x32x64, .f32⟩

abbrev hbmTy0_1 (i : Nat) : BufTy := match i % 128 with
  | 0 => ⟨S32x64, .f32⟩
  | 1 => ⟨S32x64, .f32⟩
  | 2 => ⟨S32x64, .f32⟩
  | 3 => ⟨S32x64, .f32⟩
  | 4 => ⟨S32x64, .f32⟩
  | 5 => ⟨S32x64, .f32⟩
  | 6 => ⟨S32x64, .f32⟩
  | 7 => ⟨S32x64, .f32⟩
  | 8 => ⟨S32x64, .f32⟩
  | 9 => ⟨S32x64, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S_, .f32⟩
  | 19 => ⟨S32, .f32⟩
  | 20 => ⟨S32x1, .f32⟩
  | 21 => ⟨S32x64, .f32⟩
  | 22 => ⟨S32x64, .f32⟩
  | 23 => ⟨S32x64, .f32⟩
  | 24 => ⟨S32x64, .f32⟩
  | 25 => ⟨S_, .f32⟩
  | 26 => ⟨S32, .f32⟩
  | 27 => ⟨S32x1, .f32⟩
  | 28 => ⟨S32x1, .f32⟩
  | 29 => ⟨S32x64, .f32⟩
  | 30 => ⟨S32x64, .f32⟩
  | 31 => ⟨S32x64, .f32⟩
  | 32 => ⟨S_, .f32⟩
  | 33 => ⟨S32, .f32⟩
  | 34 => ⟨S32, .f32⟩
  | _ => ⟨S1x32x64, .f32⟩

abbrev hbmTy (i : Nat) : BufTy := match i / 128 with
  | 0 => hbmTy0_0 i
  | 1 => hbmTy0_1 i
  | _ => ⟨S1x32x64, .f32⟩

abbrev bufTy : (tb : Table) → Fin (tcTables nBuf tb) → BufTy
  | .hbm, ⟨i, _⟩ => hbmTy i
  | _, _ => ⟨S1x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_0 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_1 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_2 : Ref sig .tc := ⟨.hbm, 68, rfl⟩
abbrev main_v56 : Ref sig .tc := ⟨.hbm, 69, rfl⟩
abbrev main_v57 : Ref sig .tc := ⟨.hbm, 70, rfl⟩
abbrev main_cst_3 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_4 : Ref sig .tc := ⟨.hbm, 76, rfl⟩
abbrev main_v62 : Ref sig .tc := ⟨.hbm, 77, rfl⟩
abbrev main_v63 : Ref sig .tc := ⟨.hbm, 78, rfl⟩
abbrev main_cst_5 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_6 : Ref sig .tc := ⟨.hbm, 87, rfl⟩
abbrev main_v71 : Ref sig .tc := ⟨.hbm, 88, rfl⟩
abbrev main_v72 : Ref sig .tc := ⟨.hbm, 89, rfl⟩
abbrev main_cst_7 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_8 : Ref sig .tc := ⟨.hbm, 97, rfl⟩
abbrev main_v79 : Ref sig .tc := ⟨.hbm, 98, rfl⟩
abbrev main_v80 : Ref sig .tc := ⟨.hbm, 99, rfl⟩
abbrev main_cst_9 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_cst_10 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_cst_11 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_cst_12 : Ref sig .tc := ⟨.hbm, 160, rfl⟩
abbrev main_v138 : Ref sig .tc := ⟨.hbm, 161, rfl⟩
abbrev main_v139 : Ref sig .tc := ⟨.hbm, 162, rfl⟩

abbrev nD : Nat := 1
abbrev τ : Topo := Topo.v7x

variable {F : FTy → Type} [FloatOps F]
-- ==== FfnKernel.lean ====
abbrev S1x8192x1024 : Shape := ⟨3, ![1, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S8192x1024 : Shape := ⟨2, ![8192, 1024]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1408x1024 : Shape := ⟨2, ![1408, 1024]⟩
abbrev S256x1408 : Shape := ⟨2, ![256, 1408]⟩
abbrev S1024 : Shape := ⟨1, ![1024]⟩

abbrev nBuf : Space → Nat
  | .hbm => 27
  | .vmem => 37
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | .hbm, ⟨9, _⟩ => ⟨S1024x2816, .f32⟩
  | .hbm, ⟨10, _⟩ => ⟨S2816x1024, .f32⟩
  | .hbm, ⟨11, _⟩ => ⟨S2816x1024, .bf16⟩
  | .hbm, ⟨12, _⟩ => ⟨S2816x1024, .f32⟩
  | .hbm, ⟨13, _⟩ => ⟨S2816x1024, .bf16⟩
  | .hbm, ⟨14, _⟩ => ⟨S8192x1024, .f32⟩
  | .hbm, ⟨15, _⟩ => ⟨S8192x1024, .f32⟩
  | .hbm, ⟨16, _⟩ => ⟨S8192x1024, .bf16⟩
  | .hbm, ⟨17, _⟩ => ⟨S8192x2816, .bf16⟩
  | .hbm, ⟨18, _⟩ => ⟨S8192x2816, .bf16⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .bf16⟩
  | .hbm, ⟨24, _⟩ => ⟨S8192x2816, .bf16⟩
  | .hbm, ⟨25, _⟩ => ⟨S8192x2816, .bf16⟩
  | .hbm, ⟨26, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S2816x1024, .bf16⟩
  | .local _ .vmem, ⟨24, _⟩ => ⟨S2816x1024, .bf16⟩
  | .local _ .vmem, ⟨25, _⟩ => ⟨S2816x1024, .bf16⟩
  | .local _ .vmem, ⟨26, _⟩ => ⟨S256x1024, .f32⟩
  | .local _ .vmem, ⟨27, _⟩ => ⟨S256x1024, .f32⟩
  | .local _ .vmem, ⟨28, _⟩ => ⟨S1x1024, .f32⟩
  | .local _ .vmem, ⟨29, _⟩ => ⟨S256x1024, .bf16⟩
  | .local _ .vmem, ⟨30, _⟩ => ⟨S256x1024, .bf16⟩
  | .local _ .vmem, ⟨31, _⟩ => ⟨S256x2816, .bf16⟩
  | .local _ .vmem, ⟨32, _⟩ => ⟨S256x2816, .bf16⟩
  | .local _ .vmem, ⟨33, _⟩ => ⟨S256x2816, .bf16⟩
  | .local _ .vmem, ⟨34, _⟩ => ⟨S256x2816, .bf16⟩
  | .local _ .vmem, ⟨35, _⟩ => ⟨S256x2816, .bf16⟩
  | .local _ .vmem, ⟨36, _⟩ => ⟨S256x2816, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev main_v12_4 : Ref sig .tc := ⟨.hbm, 25, rfl⟩
abbrev main_v12_5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg10_0 : Ref sig .tc := ⟨.vmem, 29, rfl⟩
abbrev cc1_stg10_1 : Ref sig .tc := ⟨.vmem, 30, rfl⟩
abbrev cc1_stg11_0 : Ref sig .tc := ⟨.vmem, 31, rfl⟩
abbrev cc1_stg11_1 : Ref sig .tc := ⟨.vmem, 32, rfl⟩
abbrev cc1_stg12_0 : Ref sig .tc := ⟨.vmem, 33, rfl⟩
abbrev cc1_stg12_1 : Ref sig .tc := ⟨.vmem, 34, rfl⟩
abbrev cc1_stg13_0 : Ref sig .tc := ⟨.vmem, 35, rfl⟩
abbrev cc1_stg13_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem8_1 : DmaSem sig := 27
abbrev cc1_sem9_0 : DmaSem sig := 28
abbrev cc1_sem10_0 : DmaSem sig := 29
abbrev cc1_sem10_1 : DmaSem sig := 30
abbrev cc1_sem11_0 : DmaSem sig := 31
abbrev cc1_sem11_1 : DmaSem sig := 32
abbrev cc1_sem12_0 : DmaSem sig := 33
abbrev cc1_sem12_1 : DmaSem sig := 34
abbrev cc1_sem13_0 : DmaSem sig := 35
abbrev cc1_sem13_1 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2816x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2816x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S256x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x2816 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x2816 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S256x2816 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== FfnReferenceIdeal.lean ====
abbrev S1x8192x1024 : Shape := ⟨3, ![1, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x2816 : Shape := ⟨2, ![1024, 2816]⟩
abbrev S1x8192x2816 : Shape := ⟨3, ![1, 8192, 2816]⟩
abbrev S2816x1024 : Shape := ⟨2, ![2816, 1024]⟩
abbrev S8192 : Shape := ⟨1, ![8192]⟩
abbrev S8192x1024 : Shape := ⟨2, ![8192, 1024]⟩
abbrev S8192x2816 : Shape := ⟨2, ![8192, 2816]⟩

abbrev nBuf : Space → Nat
  | .hbm => 112
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1024, .f32⟩
  | .hbm, ⟨7, _⟩ => ⟨S1x8192x1024, .f32⟩
  | .hbm, ⟨8, _⟩ => ⟨S_, .f32⟩
  | .hbm, ⟨9, _⟩ => ⟨S1x8192, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S_, .f32⟩
  | .hbm, ⟨20, _⟩ => ⟨S1x8192x1, .f32⟩
  | .hbm, ⟨21, _⟩ => ⟨S1x8192x1, .f32⟩
  | .hbm, ⟨22, _⟩ => ⟨S1x8192x1024, .f32⟩
  | .hbm, ⟨23, _⟩ => ⟨S1x8192x1024, .f32⟩
  | .hbm, ⟨24, _⟩ => ⟨S1x1x1024, .f32⟩
  | .hbm, ⟨25, _⟩ => ⟨S1x8192x1024, .f32⟩
  | .hbm, ⟨26, _⟩ => ⟨S1x8192x1024, .f32⟩
  | .hbm, ⟨27, _⟩ => ⟨S1024x2816, .f32⟩
  | .hbm, ⟨28, _⟩ => ⟨S1x8192x2816, .f32⟩
  | .hbm, ⟨29, _⟩ => ⟨S1024x2816, .f32⟩
  | .hbm, ⟨30, _⟩ => ⟨S1x8192x2816, .f32⟩
  | .hbm, ⟨31, _⟩ => ⟨S1x8192x2816, .f32⟩
  | .hbm, ⟨32, _⟩ => ⟨S1x8192x2816, .f32⟩
  | .hbm, ⟨33, _⟩ => ⟨S_, .f32⟩
  | .hbm, ⟨34, _⟩ => ⟨S1x8192x2816, .f32⟩
  | .hbm, ⟨35, _⟩ => ⟨S1x8192x2816, .f32⟩
  | .hbm, ⟨36, _⟩ => ⟨S_, .f32⟩
  | .hbm, ⟨37, _⟩ => ⟨S1x8192x2816, .f32⟩
  | .hbm, ⟨38, _⟩ => ⟨S1x8192x2816, .f32⟩
  | .hbm, ⟨39, _⟩ => ⟨S_, .f32⟩
  | .hbm, ⟨40, _⟩ => ⟨S1x8192x2816, .f32⟩
  | .hbm, ⟨41, _⟩ => ⟨S1x8192x2816, .f32⟩
  | .hbm, ⟨42, _⟩ => ⟨S1x8192x2816, .f32⟩
  | .hbm, ⟨43, _⟩ => ⟨S1x8192x2816, .f32⟩
  | .hbm, ⟨44, _⟩ => ⟨S1x8192x2816, .f32⟩
  | .hbm, ⟨45, _⟩ => ⟨S2816x1024, .f32⟩
  | .hbm, ⟨46, _⟩ => ⟨S1x8192x1024, .f32⟩
  | .hbm, ⟨47, _⟩ => ⟨S_, .f32⟩
  | .hbm, ⟨48, _⟩ => ⟨S1x8192x1024, .f32⟩
  | .hbm, ⟨49, _⟩ => ⟨S1x8192x1024, .f32⟩
  | .hbm, ⟨50, _⟩ => ⟨S1x8192x1024, .f32⟩
  | .hbm, ⟨51, _⟩ => ⟨S1x8192x1024, .f32⟩
  | .hbm, ⟨52, _⟩ => ⟨S_, .f32⟩
  | .hbm, ⟨53, _⟩ => ⟨S1x8192x1024, .f32⟩
  | .hbm, ⟨54, _⟩ => ⟨S1x8192x1024, .f32⟩
  | .hbm, ⟨55, _⟩ => ⟨S1x8192x2816, .f32⟩
  | .hbm, ⟨56, _⟩ => ⟨S1x8192x2816, .f32⟩
  | .hbm, ⟨57, _⟩ => ⟨S1x8192x2816, .f32⟩
  | .hbm, ⟨58, _⟩ => ⟨S1x8192x2816, .f32⟩
  | .hbm, ⟨59, _⟩ => ⟨S1x8192x2816, .f32⟩
  | .hbm, ⟨60, _⟩ => ⟨S1x8192x2816, .f32⟩
  | .hbm, ⟨61, _⟩ => ⟨S1x8192x2816, .f32⟩
  | .hbm, ⟨62, _⟩ => ⟨S_, .f32⟩
  | .hbm, ⟨63, _⟩ => ⟨S1x8192x1024, .f32⟩
  | .hbm, ⟨64, _⟩ => ⟨S1x8192x1024, .f32⟩
  | .hbm, ⟨65, _⟩ => ⟨S1x8192x1024, .f32⟩
  | .hbm, ⟨66, _⟩ => ⟨S1x8192x1024, .f32⟩
  | .hbm, ⟨67, _⟩ => ⟨S1x8192x1024, .f32⟩
  | .hbm, ⟨68, _⟩ => ⟨S1x8192x1024, .f32⟩
  | .hbm, ⟨69, _⟩ => ⟨S_, .f32⟩
  | .hbm, ⟨70, _⟩ => ⟨S1x1024, .f32⟩
  | .hbm, ⟨71, _⟩ => ⟨S1x1x1024, .f32⟩
  | .hbm, ⟨72, _⟩ => ⟨S1x8192x1024, .f32⟩
  | .hbm, ⟨73, _⟩ => ⟨S1x8192x1024, .f32⟩
  | .hbm, ⟨74, _⟩ => ⟨S_, .f32⟩
  | .hbm, ⟨75, _⟩ => ⟨S1024, .f32⟩
  | .hbm, ⟨76, _⟩ => ⟨S1x8192x1024, .f32⟩
  | .hbm, ⟨77, _⟩ => ⟨S_, .f32⟩
  | .hbm, ⟨78, _⟩ => ⟨S1x8192, .f32⟩
  | .hbm, ⟨79, _⟩ => ⟨S1x8192x1, .f32⟩
  | .hbm, ⟨80, _⟩ => ⟨S1x8192x1024, .f32⟩
  | .hbm, ⟨81, _⟩ => ⟨S1x8192x1024, .f32⟩
  | .hbm, ⟨82, _⟩ => ⟨S1x8192x1, .f32⟩
  | .hbm, ⟨83, _⟩ => ⟨S_, .f32⟩
  | .hbm, ⟨84, _⟩ => ⟨S1x8192x1, .f32⟩
  | .hbm, ⟨85, _⟩ => ⟨S1x8192x1, .f32⟩
  | .hbm, ⟨86, _⟩ => ⟨S_, .f32⟩
  | .hbm, ⟨87, _⟩ => ⟨S8192, .f32⟩
  | .hbm, ⟨88, _⟩ => ⟨S1x8192, .f32⟩
  | .hbm, ⟨89, _⟩ => ⟨S1x8192x1024, .f32⟩
  | .hbm, ⟨90, _⟩ => ⟨S1x8192x1024, .f32⟩
  | .hbm, ⟨91, _⟩ => ⟨S1x8192x1024, .f32⟩
  | .hbm, ⟨92, _⟩ => ⟨S1x8192x1024, .f32⟩
  | .hbm, ⟨93, _⟩ => ⟨S1x8192x1024, .f32⟩
  | .hbm, ⟨94, _⟩ => ⟨S1x1024, .f32⟩
  | .hbm, ⟨95, _⟩ => ⟨S_, .f32⟩
  | .hbm, ⟨96, _⟩ => ⟨S1x8192x1024, .f32⟩
  | .hbm, ⟨97, _⟩ => ⟨S1x8192x1024, .f32⟩
  | .hbm, ⟨98, _⟩ => ⟨S8192x1024, .f32⟩
  | .hbm, ⟨99, _⟩ => ⟨S8192x1024, .f32⟩
  | .hbm, ⟨100, _⟩ => ⟨S8192x1024, .bf16⟩
  | .hbm, ⟨101, _⟩ => ⟨S8192x1024, .f32⟩
  | .hbm, ⟨102, _⟩ => ⟨S8192x1024, .f32⟩
  | .hbm, ⟨103, _⟩ => ⟨S8192x1024, .f32⟩
  | .hbm, ⟨104, _⟩ => ⟨S8192x1024, .f32⟩
  | .hbm, ⟨105, _⟩ => ⟨S8192x1024, .bf16⟩
  | .hbm, ⟨106, _⟩ => ⟨S8192x2816, .f32⟩
  | .hbm, ⟨107, _⟩ => ⟨S8192x2816, .bf16⟩
  | .hbm, ⟨108, _⟩ => ⟨S8192x2816, .f32⟩
  | .hbm, ⟨109, _⟩ => ⟨S8192x2816, .bf16⟩
  | .hbm, ⟨110, _⟩ => ⟨S8192x2816, .f32⟩
  | .hbm, ⟨111, _⟩ => ⟨S8192x2816, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v21_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v21_1 : Ref sig .tc := ⟨.hbm, 42, rfl⟩
abbrev main_v21_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_7 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_9 : Ref sig .tc := ⟨.hbm, 83, rfl⟩
abbrev main_v52 : Ref sig .tc := ⟨.hbm, 84, rfl⟩
abbrev main_v53 : Ref sig .tc := ⟨.hbm, 85, rfl⟩
abbrev main_cst_10 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_11 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩

abbrev nD : Nat := 1
abbrev τ : Topo := Topo.v7x

variable {F : FTy → Type} [FloatOps F]
-- ==== MergeKernel.lean ====
abbrev S1x8192x1024 : Shape := ⟨3, ![1, 8192, 1024]⟩
abbrev S1x8192x512 : Shape := ⟨3, ![1, 8192, 512]⟩
abbrev S1x8192x4096 : Shape := ⟨3, ![1, 8192, 4096]⟩
abbrev S1x512 : Shape := ⟨2, ![1, 512]⟩
abbrev S1x512x512 : Shape := ⟨3, ![1, 512, 512]⟩
abbrev S1x512x1024 : Shape := ⟨3, ![1, 512, 1024]⟩
abbrev S1x1024x1024 : Shape := ⟨3, ![1, 1024, 1024]⟩
abbrev S8192x1024 : Shape := ⟨2, ![8192, 1024]⟩
abbrev S8192x512 : Shape := ⟨2, ![8192, 512]⟩
abbrev S8192x4096 : Shape := ⟨2, ![8192, 4096]⟩
abbrev S512x512 : Shape := ⟨2, ![512, 512]⟩
abbrev S512x1024 : Shape := ⟨2, ![512, 1024]⟩
abbrev S1024x1024 : Shape := ⟨2, ![1024, 1024]⟩
abbrev S256x1024 : Shape := ⟨2, ![256, 1024]⟩
abbrev S256x512 : Shape := ⟨2, ![256, 512]⟩
abbrev S512 : Shape := ⟨1, ![512]⟩

abbrev nBuf : Space → Nat
  | .hbm => 35
  | .vmem => 34
  | .smem => 0
  | _ => 0

abbrev bufTy : (tb : Table) → Fin (tcTables nBuf tb) → BufTy
  | .hbm, ⟨0, _⟩ => ⟨S1x8192x1024, .f32⟩
  | .hbm, ⟨1, _⟩ => ⟨S1x8192x512, .f32⟩
  | .hbm, ⟨2, _⟩ => ⟨S1x8192x4096, .f32⟩
  | .hbm, ⟨3, _⟩ => ⟨S1x8192x512, .f32⟩
  | .hbm, ⟨4, _⟩ => ⟨S1x512, .f32⟩
  | .hbm, ⟨5, _⟩ => ⟨S1x512x512, .f32⟩
  | .hbm, ⟨6, _⟩ => ⟨S1x512, .f32⟩
  | .hbm, ⟨7, _⟩ => ⟨S1x512x1024, .f32⟩
  | .hbm, ⟨8, _⟩ => ⟨S1x512x1024, .f32⟩
  | .hbm, ⟨9, _⟩ => ⟨S1x1024x1024, .f32⟩
  | .hbm, ⟨10, _⟩ => ⟨S8192x1024, .f32⟩
  | .hbm, ⟨11, _⟩ => ⟨S8192x512, .f32⟩
  | .hbm, ⟨12, _⟩ => ⟨S8192x4096, .f32⟩
  | .hbm, ⟨13, _⟩ => ⟨S8192x4096, .bf16⟩
  | .hbm, ⟨14, _⟩ => ⟨S8192x512, .f32⟩
  | .hbm, ⟨15, _⟩ => ⟨S8192x512, .bf16⟩
  | .hbm, ⟨16, _⟩ => ⟨S512x512, .f32⟩
  | .hbm, ⟨17, _⟩ => ⟨S512x512, .bf16⟩
  | .hbm, ⟨18, _⟩ => ⟨S512x1024, .f32⟩
  | .hbm, ⟨19, _⟩ => ⟨S512x1024, .bf16⟩
  | .hbm, ⟨20, _⟩ => ⟨S512x1024, .f32⟩
  | .hbm, ⟨21, _⟩ => ⟨S512x1024, .bf16⟩
  | .hbm, ⟨22, _⟩ => ⟨S1024x1024, .f32⟩
  | .hbm, ⟨23, _⟩ => ⟨S1024x1024, .bf16⟩
  | .hbm, ⟨24, _⟩ => ⟨S8192x512, .bf16⟩
  | .hbm, ⟨25, _⟩ => ⟨S8192x512, .f32⟩
  | .hbm, ⟨26, _⟩ => ⟨S8192x1024, .bf16⟩
  | .hbm, ⟨27, _⟩ => ⟨S8192x1024, .bf16⟩
  | .hbm, ⟨28, _⟩ => ⟨S8192x512, .bf16⟩
  | .hbm, ⟨29, _⟩ => ⟨S1x512, .f32⟩
  | .hbm, ⟨30, _⟩ => ⟨S512x512, .f32⟩
  | .hbm, ⟨31, _⟩ => ⟨S1x512, .f32⟩
  | .hbm, ⟨32, _⟩ => ⟨S512x1024, .f32⟩
  | .hbm, ⟨33, _⟩ => ⟨S512x1024, .f32⟩
  | .hbm, ⟨34, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .bf16⟩
  | .local _ .vmem, ⟨5, _⟩ => ⟨S256x512, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x512, .bf16⟩
  | .local _ .vmem, ⟨11, _⟩ => ⟨S256x512, .bf16⟩
  | .local _ .vmem, ⟨12, _⟩ => ⟨S1x512, .f32⟩
  | .local _ .vmem, ⟨13, _⟩ => ⟨S512x512, .bf16⟩
  | .local _ .vmem, ⟨14, _⟩ => ⟨S1x512, .f32⟩
  | .local _ .vmem, ⟨15, _⟩ => ⟨S512x1024, .bf16⟩
  | .local _ .vmem, ⟨16, _⟩ => ⟨S512x1024, .bf16⟩
  | .local _ .vmem, ⟨17, _⟩ => ⟨S1024x1024, .bf16⟩
  | .local _ .vmem, ⟨18, _⟩ => ⟨S256x512, .bf16⟩
  | .local _ .vmem, ⟨19, _⟩ => ⟨S256x512, .bf16⟩
  | .local _ .vmem, ⟨20, _⟩ => ⟨S256x512, .f32⟩
  | .local _ .vmem, ⟨21, _⟩ => ⟨S256x512, .f32⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x512, .bf16⟩
  | .local _ .vmem, ⟨27, _⟩ => ⟨S256x512, .bf16⟩
  | .local _ .vmem, ⟨28, _⟩ => ⟨S1x512, .f32⟩
  | .local _ .vmem, ⟨29, _⟩ => ⟨S512x512, .f32⟩
  | .local _ .vmem, ⟨30, _⟩ => ⟨S1x512, .f32⟩
  | .local _ .vmem, ⟨31, _⟩ => ⟨S512x1024, .f32⟩
  | .local _ .vmem, ⟨32, _⟩ => ⟨S512x1024, .f32⟩
  | .local _ .vmem, ⟨33, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v14_3 : Ref sig .tc := ⟨.hbm, 27, rfl⟩
abbrev main_v14_4 : Ref sig .tc := ⟨.hbm, 28, rfl⟩
abbrev main_v14_5 : Ref sig .tc := ⟨.hbm, 29, rfl⟩
abbrev main_v14_6 : Ref sig .tc := ⟨.hbm, 30, rfl⟩
abbrev main_v14_7 : Ref sig .tc := ⟨.hbm, 31, rfl⟩
abbrev main_v14_8 : Ref sig .tc := ⟨.hbm, 32, rfl⟩
abbrev main_v14_9 : Ref sig .tc := ⟨.hbm, 33, rfl⟩
abbrev main_v14_10 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem21_0 : DmaSem sig := 32
abbrev cc0_sem22_0 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1024x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== MergeKernelIdeal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== MergeReferenceIdeal.lean ====
abbrev S1x8192x1024 : Shape := ⟨3, ![1, 8192, 1024]⟩
abbrev S1x8192x512 : Shape := ⟨3, ![1, 8192, 512]⟩
abbrev S1x8192x4096 : Shape := ⟨3, ![1, 8192, 4096]⟩
abbrev S1x512 : Shape := ⟨2, ![1, 512]⟩
abbrev S1x512x512 : Shape := ⟨3, ![1, 512, 512]⟩
abbrev S1x512x1024 : Shape := ⟨3, ![1, 512, 1024]⟩
abbrev S1x1024x1024 : Shape := ⟨3, ![1, 1024, 1024]⟩
abbrev S512 : Shape := ⟨1, ![512]⟩
abbrev S1x1x512 : Shape := ⟨3, ![1, 1, 512]⟩
abbrev S_ : Shape := ⟨0, ![]⟩
abbrev S512x512 : Shape := ⟨2, ![512, 512]⟩
abbrev S512x1024 : Shape := ⟨2, ![512, 1024]⟩
abbrev S1024x1024 : Shape := ⟨2, ![1024, 1024]⟩
abbrev S1024x512 : Shape := ⟨2, ![1024, 512]⟩
abbrev S8192x512 : Shape := ⟨2, ![8192, 512]⟩
abbrev S8192x1024 : Shape := ⟨2, ![8192, 1024]⟩

abbrev nBuf : Space → Nat
  | .hbm => 168
  | .vmem => 0
  | .smem => 0
  | _ => 0

abbrev hbmTy0_0 (i : Nat) : BufTy := match i % 128 with
  | 0 => ⟨S1x8192x1024, .f32⟩
  | 1 => ⟨S1x8192x512, .f32⟩
  | 2 => ⟨S1x8192x4096, .f32⟩
  | 3 => ⟨S1x8192x512, .f32⟩
  | 4 => ⟨S1x512, .f32⟩
  | 5 => ⟨S1x512x512, .f32⟩
  | 6 => ⟨S1x512, .f32⟩
  | 7 => ⟨S1x512x1024, .f32⟩
  | 8 => ⟨S1x512x1024, .f32⟩
  | 9 => ⟨S1x1024x1024, .f32⟩
  | 10 => ⟨S1x8192x512, .f32⟩
  | 11 => ⟨S1x8192x1024, .f32⟩
  | 12 => ⟨S1x8192x1024, .f32⟩
  | 13 => ⟨S512, .f32⟩
  | 14 => ⟨S1x1x512, .f32⟩
  | 15 => ⟨S1x8192x512, .f32⟩
  | 16 => ⟨S1x8192x512, .f32⟩
  | 17 => ⟨S1x8192x512, .f32⟩
  | 18 => ⟨S_, .f32⟩
  | 19 => ⟨S_, .f32⟩
  | 20 => ⟨S_, .f32⟩
  | 21 => ⟨S1x8192x512, .f32⟩
  | 22 => ⟨S1x8192x512, .f32⟩
  | 23 => ⟨S1x8192x512, .f32⟩
  | 24 => ⟨S_, .f32⟩
  | 25 => ⟨S1x8192x512, .f32⟩
  | 26 => ⟨S1x8192x512, .f32⟩
  | 27 => ⟨S1x8192x512, .f32⟩
  | 28 => ⟨S1x8192x512, .f32⟩
  | 29 => ⟨S1x8192x512, .f32⟩
  | 30 => ⟨S_, .f32⟩
  | 31 => ⟨S1x8192x512, .f32⟩
  | 32 => ⟨S1x8192x512, .f32⟩
  | 33 => ⟨S1x8192x512, .f32⟩
  | 34 => ⟨S_, .f32⟩
  | 35 => ⟨S1x8192x512, .f32⟩
  | 36 => ⟨S1x8192x512, .f32⟩
  | 37 => ⟨S_, .f32⟩
  | 38 => ⟨S1x8192x512, .f32⟩
  | 39 => ⟨S1x8192x512, .f32⟩
  | 40 => ⟨S1x8192x512, .f32⟩
  | 41 => ⟨S_, .f32⟩
  | 42 => ⟨S1x8192x512, .f32⟩
  | 43 => ⟨S1x8192x512, .f32⟩
  | 44 => ⟨S_, .f32⟩
  | 45 => ⟨S1x8192x512, .f32⟩
  | 46 => ⟨S1x8192x512, .f32⟩
  | 47 => ⟨S1x8192x512, .f32⟩
  | 48 => ⟨S512x512, .f32⟩
  | 49 => ⟨S1x8192x512, .f32⟩
  | 50 => ⟨S512, .f32⟩
  | 51 => ⟨S1x1x512, .f32⟩
  | 52 => ⟨S1x8192x512, .f32⟩
  | 53 => ⟨S1x8192x512, .f32⟩
  | 54 => ⟨S1x8192x512, .f32⟩
  | 55 => ⟨S1x8192x512, .f32⟩
  | 56 => ⟨S_, .f32⟩
  | 57 => ⟨S1x8192x512, .f32⟩
  | 58 => ⟨S1x8192x512, .f32⟩
  | 59 => ⟨S_, .f32⟩
  | 60 => ⟨S1x8192x512, .f32⟩
  | 61 => ⟨S1x8192x512, .f32⟩
  | 62 => ⟨S_, .f32⟩
  | 63 => ⟨S1x8192x512, .f32⟩
  | 64 => ⟨S1x8192x512, .f32⟩
  | 65 => ⟨S1x8192x512, .f32⟩
  | 66 => ⟨S1x8192x512, .f32⟩
  | 67 => ⟨S512x1024, .f32⟩
  | 68 => ⟨S1x8192x1024, .f32⟩
  | 69 => ⟨S512x1024, .f32⟩
  | 70 => ⟨S1x8192x1024, .f32⟩
  | 71 => ⟨S1x8192x1024, .f32⟩
  | 72 => ⟨S1x8192x1024, .f32⟩
  | 73 => ⟨S_, .f32⟩
  | 74 => ⟨S1x8192x1024, .f32⟩
  | 75 => ⟨S1x8192x1024, .f32⟩
  | 76 => ⟨S_, .f32⟩
  | 77 => ⟨S1x8192x1024, .f32⟩
  | 78 => ⟨S1x8192x1024, .f32⟩
  | 79 => ⟨S_, .f32⟩
  | 80 => ⟨S1x8192x1024, .f32⟩
  | 81 => ⟨S1x8192x1024, .f32⟩
  | 82 => ⟨S1x8192x1024, .f32⟩
  | 83 => ⟨S1x8192x1024, .f32⟩
  | 84 => ⟨S1x8192x1024, .f32⟩
  | 85 => ⟨S1x8192x1024, .f32⟩
  | 86 => ⟨S_, .f32⟩
  | 87 => ⟨S1x8192x1024, .f32⟩
  | 88 => ⟨S1x8192x1024, .f32⟩
  | 89 => ⟨S_, .f32⟩
  | 90 => ⟨S1x8192x1024, .f32⟩
  | 91 => ⟨S1x8192x1024, .f32⟩
  | 92 => ⟨S_, .f32⟩
  | 93 => ⟨S1x8192x1024, .f32⟩
  | 94 => ⟨S1x8192x1024, .f32⟩
  | 95 => ⟨S1x8192x1024, .f32⟩
  | 96 => ⟨S1x8192x1024, .f32⟩
  | 97 => ⟨S1x8192x1024, .f32⟩
  | 98 => ⟨S1024x1024, .f32⟩
  | 99 => ⟨S1x8192x1024, .f32⟩
  | 100 => ⟨S1024x1024, .f32⟩
  | 101 => ⟨S1024x1024, .f32⟩
  | 102 => ⟨S1x8192x1024, .f32⟩
  | 103 => ⟨S1x1024x1024, .f32⟩
  | 104 => ⟨S1x8192x1024, .f32⟩
  | 105 => ⟨S1x8192x1024, .f32⟩
  | 106 => ⟨S1x8192x1024, .f32⟩
  | 107 => ⟨S1x8192x1024, .f32⟩
  | 108 => ⟨S1x8192x1024, .f32⟩
  | 109 => ⟨S1x8192x1024, .f32⟩
  | 110 => ⟨S1024x512, .f32⟩
  | 111 => ⟨S512x1024, .f32⟩
  | 112 => ⟨S1x8192x512, .f32⟩
  | 113 => ⟨S1x512x1024, .f32⟩
  | 114 => ⟨S1024x512, .f32⟩
  | 115 => ⟨S512x1024, .f32⟩
  | 116 => ⟨S1x8192x512, .f32⟩
  | 117 => ⟨S1x512x1024, .f32⟩
  | 118 => ⟨S1x8192x512, .f32⟩
  | 119 => ⟨S1x8192x512, .f32⟩
  | 120 => ⟨S1x8192x512, .f32⟩
  | 121 => ⟨S_, .f32⟩
  | 122 => ⟨S1x512, .f32⟩
  | 123 => ⟨S1x1x512, .f32⟩
  | 124 => ⟨S_, .f32⟩
  | 125 => ⟨S512, .f32⟩
  | 126 => ⟨S1x512, .f32⟩
  | 127 => ⟨S512x512, .f32⟩
  | _ => ⟨S1x8192x1024, .f32⟩

abbrev hbmTy0_1 (i : Nat) : BufTy := match i % 128 with
  | 0 => ⟨S512x512, .f32⟩
  | 1 => ⟨S1x8192x512, .f32⟩
  | 2 => ⟨S1x8192x512, .f32⟩
  | 3 => ⟨S1x512x512, .f32⟩
  | 4 => ⟨S1x8192x512, .f32⟩
  | 5 => ⟨S1x8192x512, .f32⟩
  | 6 => ⟨S_, .f32⟩
  | 7 => ⟨S1x8192x512, .f32⟩
  | 8 => ⟨S1x8192x512, .f32⟩
  | 9 => ⟨S1x8192x512, .f32⟩
  | 10 => ⟨S_, .f32⟩
  | 11 => ⟨S1x8192x512, .f32⟩
  | 12 => ⟨S1x8192x512, .f32⟩
  | 13 => ⟨S1x8192x512, .f32⟩
  | 14 => ⟨S1x8192x512, .f32⟩
  | 15 => ⟨S1x8192x512, .f32⟩
  | 16 => ⟨S1x8192x512, .f32⟩
  | 17 => ⟨S1x8192x512, .f32⟩
  | 18 => ⟨S1x8192x512, .f32⟩
  | 19 => ⟨S1x8192x512, .f32⟩
  | 20 => ⟨S1x8192x512, .f32⟩
  | 21 => ⟨S_, .f32⟩
  | 22 => ⟨S1x512, .f32⟩
  | 23 => ⟨S1x1x512, .f32⟩
  | 24 => ⟨S_, .f32⟩
  | 25 => ⟨S512, .f32⟩
  | 26 => ⟨S1x512, .f32⟩
  | 27 => ⟨S8192x512, .f32⟩
  | 28 => ⟨S8192x512, .bf16⟩
  | 29 => ⟨S8192x512, .f32⟩
  | 30 => ⟨S8192x1024, .f32⟩
  | 31 => ⟨S8192x1024, .bf16⟩
  | 32 => ⟨S8192x1024, .f32⟩
  | 33 => ⟨S8192x1024, .bf16⟩
  | 34 => ⟨S8192x512, .f32⟩
  | 35 => ⟨S8192x512, .bf16⟩
  | 36 => ⟨S512x512, .f32⟩
  | 37 => ⟨S512x1024, .f32⟩
  | 38 => ⟨S512x1024, .f32⟩
  | 39 => ⟨S1024x1024, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_13 : Ref sig .tc := ⟨.hbm, 86, rfl⟩
abbrev main_v62 : Ref sig .tc := ⟨.hbm, 87, rfl⟩
abbrev main_v63 : Ref sig .tc := ⟨.hbm, 88, rfl⟩
abbrev main_cst_14 : Ref sig .tc := ⟨.hbm, 89, rfl⟩
abbrev main_v64 : Ref sig .tc := ⟨.hbm, 90, rfl⟩
abbrev main_v65 : Ref sig .tc := ⟨.hbm, 91, rfl⟩
abbrev main_cst_15 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_16 : Ref sig .tc := ⟨.hbm, 121, rfl⟩
abbrev main_v94 : Ref sig .tc := ⟨.hbm, 122, rfl⟩
abbrev main_v95 : Ref sig .tc := ⟨.hbm, 123, rfl⟩
abbrev main_cst_17 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_18 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_19 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_cst_20 : Ref sig .tc := ⟨.hbm, 149, rfl⟩
abbrev main_v118 : Ref sig .tc := ⟨.hbm, 150, rfl⟩
abbrev main_v119 : Ref sig .tc := ⟨.hbm, 151, rfl⟩
abbrev main_cst_21 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩

abbrev nD : Nat := 1
abbrev τ : Topo := Topo.v7x

variable {F : FTy → Type} [FloatOps F]
-- ==== Proof.Extended.lean ====
module

public import Idealize.ShloMosaic.PureOps.Ideal.Laws

/-!
Facts of the extended reals that the value proofs share: a real factor moves in and out of a sum, and
the reciprocal square root of a number that is at least a positive real is a nonnegative real.
-/

@[expose] public section

namespace Cert.Extended

open Idealize.ShloMosaic

/-- A nonnegative real factor distributes over a sum of extended reals, whatever their signs. -/
theorem coe_mul_sum {ι : Type*} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (by exact_mod_cast hc) (EReal.coe_ne_top c) _ _

theorem sum_mul_coe {ι : Type*} (s : Finset ι) {c : ℝ} (hc : 0 ≤ c) (f : ι → EReal) :
    (∑ i ∈ s, f i) * (c : EReal) = ∑ i ∈ s, f i * (c : EReal) := by
  rw [mul_comm, coe_mul_sum s hc]
  exact Finset.sum_congr rfl fun i _ => mul_comm _ _

/-- Division by a real that is not zero is multiplication by its inverse. -/
theorem div_coe (x : EReal) {c : ℝ} (hc : c ≠ 0) : Ideal.div x (c : EReal) = x * ((c⁻¹ : ℝ) : EReal) := by
  unfold Ideal.div
  rw [if_neg (by exact_mod_cast hc), EReal.coe_inv]

theorem two_mul' (x : EReal) : x + x = ((2 : ℝ) : EReal) * x := by
  induction x using EReal.rec with
  | bot => rw [EReal.coe_mul_bot_of_pos (by norm_num)]; rfl
  | coe x => rw [← EReal.coe_add, ← EReal.coe_mul]; norm_num [two_mul]
  | top => rw [EReal.coe_mul_top_of_pos (by norm_num)]; rfl

theorem mul_self_nonneg (x : EReal) : 0 ≤ x * x := by
  rcases le_total 0 x with h | h
  · exact EReal.mul_nonneg h h
  · have : 0 ≤ -x := by simpa using EReal.neg_le_neg_iff.mpr h
    simpa using EReal.mul_nonneg this this

/-- The reciprocal square root `ρ` of `v + ε`, for `v` nonnegative and `ε` a positive real, is a nonnegative real,
and `ρ` divided by `v + ε` once more is its cube. -/
theorem rsqrt_add_pos {v : EReal} (hv : 0 ≤ v) {ε : ℝ} (hε : 0 < ε) :
    ∃ ρ : ℝ, 0 ≤ ρ ∧ Ideal.rsqrt (v + (ε : EReal)) = (ρ : EReal)
      ∧ Ideal.div (ρ : EReal) (v + (ε : EReal)) = ((ρ * ρ * ρ : ℝ) : EReal) := by
  induction v using EReal.rec with
  | bot => exact absurd hv (by decide)
  | top => exact ⟨0, le_rfl, by simp, by simp [Ideal.div]⟩
  | coe v =>
    have hv' : 0 ≤ v := by exact_mod_cast hv
    have hp : 0 < v + ε := by linarith
    refine ⟨(Real.sqrt (v + ε))⁻¹, by positivity, ?_, ?_⟩
    · rw [← EReal.coe_add, Ideal.rsqrt_coe, if_neg (by linarith), if_neg hp.ne']
    · rw [← EReal.coe_add, div_coe _ hp.ne', ← EReal.coe_mul]
      congr 1
      rw [mul_assoc, ← mul_inv (Real.sqrt _) (Real.sqrt _), Real.mul_self_sqrt hp.le]

end Cert.Extended

end
-- ==== Proof.LossRow.lean ====
module

public import proofs.«01_k».proof.Proof.Extended

/-!
One row of the final norm and the loss: `h` the row, `g` the gain, `t` the target row.  `err` is the error of the
normalised row, `gradRow` the kernel's gradient of the loss in the row, `vjpRow` the one that differentiating the
norm line by line gives.  They agree on all extended reals.
-/

@[expose] public section

noncomputable section

namespace Cert.LossRow

open Idealize.ShloMosaic Cert.Extended

/-- The row's length, the norm's ε, and the constants that the two programs hold. -/
abbrev width : EReal := Ideal.ofBits FTy.f32 1149239296#32
abbrev eps : EReal := Ideal.ofBits FTy.f32 897988541#32
abbrev perWidth : EReal := Ideal.ofBits FTy.f32 981467136#32
abbrev halfPerWidth : EReal := Ideal.ofBits FTy.f32 973078528#32
abbrev half : EReal := Ideal.ofBits FTy.f32 1056964608#32
abbrev negHalf : EReal := Ideal.ofBits FTy.f32 3204448256#32
abbrev two : EReal := Ideal.ofBits FTy.f32 1073741824#32

theorem width_eq : width = ((1024 : ℝ) : EReal) := by simp [Ideal.ofBits, Ideal.ieee, -EReal.coe_mul]; norm_num
theorem eps_eq : eps = ((8796093 / 8796093022208 : ℝ) : EReal) := by simp [Ideal.ofBits, Ideal.ieee, -EReal.coe_mul]; norm_num
theorem perWidth_eq : perWidth = ((1 / 1024 : ℝ) : EReal) := by simp [Ideal.ofBits, Ideal.ieee, -EReal.coe_mul]; norm_num
theorem halfPerWidth_eq : halfPerWidth = ((1 / 2048 : ℝ) : EReal) := by
  simp [Ideal.ofBits, Ideal.ieee, -EReal.coe_mul]; norm_num
theorem half_eq : half = ((1 / 2 : ℝ) : EReal) := by simp [Ideal.ofBits, Ideal.ieee, -EReal.coe_mul]; norm_num
theorem negHalf_eq : negHalf = ((-(1 / 2) : ℝ) : EReal) := by simp [Ideal.ofBits, Ideal.ieee, -EReal.coe_mul]; norm_num
theorem two_eq : two = ((2 : ℝ) : EReal) := by simp [Ideal.ofBits, Ideal.ieee, -EReal.coe_mul]; norm_num

variable (h g t : Fin 1024 → EReal)

/-- The mean square, shifted by ε, and its reciprocal square root. -/
def shifted : EReal := Ideal.div (∑ x, h x * h x) width + eps
def inv : EReal := Ideal.rsqrt (shifted h)
def err (b : Fin 1024) : EReal := h b * inv h * g b - t b

def gradRow (b : Fin 1024) : EReal :=
  inv h * (err h g t b * perWidth * g b)
    - h b * (inv h * inv h * inv h) * Ideal.div (∑ x, h x * (err h g t x * perWidth * g x)) width

def ct (b : Fin 1024) : EReal := Ideal.div half width * (two * err h g t b)

def slope : EReal :=
  Ideal.div ((∑ x, h x * (ct h g t x * g x)) * (negHalf * Ideal.div (inv h) (shifted h))) width

def vjpRow (b : Fin 1024) : EReal := ct h g t b * g b * inv h + h b * slope h g t + slope h g t * h b

theorem ct_eq (b : Fin 1024) : ct h g t b = err h g t b * perWidth := by
  unfold ct
  rw [half_eq, width_eq, two_eq, perWidth_eq, div_coe _ (by norm_num), ← EReal.coe_mul, ← mul_assoc,
    ← EReal.coe_mul, mul_comm]
  norm_num

theorem inv_real : ∃ ρ : ℝ, 0 ≤ ρ ∧ inv h = (ρ : EReal) ∧ Ideal.div (inv h) (shifted h) = ((ρ * ρ * ρ : ℝ) : EReal) := by
  have hv : 0 ≤ Ideal.div (∑ x, h x * h x) width := by
    rw [width_eq, div_coe _ (by norm_num)]
    exact EReal.mul_nonneg (Finset.sum_nonneg fun x _ => mul_self_nonneg _) (by exact_mod_cast (by norm_num : (0:ℝ) ≤ 1024⁻¹))
  obtain ⟨ρ, h0, h1, h2⟩ := rsqrt_add_pos hv (ε := 8796093 / 8796093022208) (by norm_num)
  refine ⟨ρ, h0, ?_, ?_⟩
  · unfold inv shifted; rw [eps_eq, h1]
  · unfold inv shifted; rw [eps_eq, h1, h2]

theorem vjpRow_eq (b : Fin 1024) : vjpRow h g t b = gradRow h g t b := by
  obtain ⟨ρ, h0, h1, h2⟩ := inv_real h
  rw [h1] at h2
  unfold vjpRow gradRow slope
  simp only [ct_eq, h1, h2]
  rw [negHalf_eq, width_eq, div_coe _ (by norm_num), div_coe _ (by norm_num)]
  generalize (∑ x, h x * (err h g t x * perWidth * g x)) = S
  rw [add_assoc, mul_comm _ (h b), two_mul', sub_eq_add_neg, mul_comm (_ * g b)]
  congr 1
  have e : ((2 : ℝ) : EReal) * (((-(1/2) : ℝ)) : EReal) = ((-1 : ℝ) : EReal) := by rw [← EReal.coe_mul]; norm_num
  rw [EReal.coe_mul, EReal.coe_mul]
  calc _ = (((2 : ℝ) : EReal) * (((-(1/2) : ℝ)) : EReal)) * (h b * (ρ * ρ * ρ) * (S * ((1024⁻¹ : ℝ) : EReal))) := by ac_rfl
    _ = _ := by rw [e]; simp

end Cert.LossRow

end
end
-- ==== Proof.LossValue.lean ====
module

public import proofs.«01_k».proof.Proof.Gen.LossKernelIdeal.Value
public import proofs.«01_k».proof.Proof.LossRow
public import Idealize.ShloMosaic.Lib.Pipeline.ValueKit
public import Idealize.ShloMosaic.Lib.Pointwise

/-! What the loss kernel leaves in its three results, in the terms of `Cert.LossRow`. -/

@[expose] public section

set_option maxRecDepth 16384

noncomputable section

namespace Cert.LossKernelIdeal.Value

open Cert.LossKernelIdeal Cert.LossKernelIdeal.Gen Idealize.ShloMosaic Idealize.ShloMosaic.TcCoe Idealize.SL.Sem
open Idealize.ShloMosaic.Pipeline (Dat)
open Cert.LossRow

variable (m : (ℓ : Loc nD τ sig) → Buf (Elt Ideal) ℓ) (c : Dev nD)

/-- Row `a` of the hidden array, the gain, and row `a` of the target. -/
abbrev rowH (a : Fin 8192) : Fin 1024 → EReal := fun b => (m ((c.tc : Thread nD τ).loc main_arg0) : S8192x1024.Idx → EReal) (ix2 a b)
abbrev vecG : Fin 1024 → EReal := fun b => (m ((c.tc : Thread nD τ).loc main_arg1) : S1024.Idx → EReal) (ix1 b)
abbrev rowT (a : Fin 8192) : Fin 1024 → EReal := fun b => (m ((c.tc : Thread nD τ).loc main_arg2) : S1x8192x1024.Idx → EReal) (ix3 0 a b)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

/-- The array row that row `a` of point `t`'s block is. -/
def rowOf (t : Fin cfg0.N) (a : Fin 1024) : Fin 8192 := ⟨t.val * 1024 + a.val, by
  have := t.isLt; have : cfg0.N = 8 := rfl; have := a.isLt; omega⟩

theorem read_h (t : Fin cfg0.N) (a b : Fin 1024) : iblk m c 0 t (ix2 a b) = rowH m c (rowOf t a) b := by
  unfold rowOf
  blk_ext [iblk, V, idx t]

theorem read_g (t : Fin cfg0.N) (b : Fin 1024) : iblk m c 1 t (ix2 0 b) = vecG m c b := by
  blk_ext! [iblk, V, idx t]

theorem read_t (t : Fin cfg0.N) (a b : Fin 1024) : iblk m c 2 t (ix2 a b) = rowT m c (rowOf t a) b := by
  unfold rowOf
  blk_ext! [iblk, V, idx t]

/-- The gradient block that a point leaves. -/
theorem dh_block (t : Fin cfg0.N) (a b : Fin 1024) :
    (outsAt0 m c t.val t.isLt).2.1 (ix2 a b) = gradRow (rowH m c (rowOf t a)) (vecG m c) (rowT m c (rowOf t a)) b := by
  by_cases h : t.val % 8 = 0
  · rw [outsAt0_A m c t h]
    frame_out
    unfold_payloads
    pointwise [read_h, read_g, read_t]
    rfl
  · rw [outsAt0_B m c t h]
    frame_out
    unfold_payloads
    pointwise [read_h, read_g, read_t]
    rfl

/-- The gradient array after the run. -/
theorem dh_final : (dats m 0 c).arrAt 4 cfg0.N
    = fun j : S8192x1024.Idx => gradRow (rowH m c (j 0)) (vecG m c) (rowT m c (j 0)) (j 1) := by
  refine (dats m 0 c).arrAt_eq_of_covers 4 _ (by decide +kernel) fun t hf y => ?_
  blk_simp
  rw [after0_4]
  obtain ⟨a, b, rfl⟩ : ∃ a b, y = ix2 a b := ⟨y 0, y 1, eq_ix2 y⟩
  have e : (win0_4.blk t).view.emb (ix2 a b) = ix2 (rowOf t a) b := by
    unfold rowOf
    blk_ext [idx t]
  rw [e]
  exact dh_block m c t a b

/-- The sum of the squared errors of the rows of point `t`'s block, in the kernel's scale. -/
def part (t : Fin cfg0.N) : EReal :=
  halfPerWidth * ∑ a : Fin 1024, ∑ y, err (rowH m c (rowOf t a)) (vecG m c) (rowT m c (rowOf t a)) y
    * err (rowH m c (rowOf t a)) (vecG m c) (rowT m c (rowOf t a)) y

theorem loss_last (j : S1x128.Idx) : (outsAt0 m c t0_7.val t0_7.isLt).1 j = 0 + ∑ p : Fin cfg0.N, part m c p := by
  refine Pipeline.eq_sum_fin_of_reset_step_apply_last (fun n h => (outsAt0 m c n h).1) 8 (fun _ => 0) (fun t _ => part m c t) ?_ ?_
    (by decide) t0_7 rfl j
  all_goals
    intro t h i
    idx_vars i
    rw [Subsingleton.elim i0 0]
  · simp only [outsAt0_A m c t h]
    frame_out
    unfold_payloads
    pointwise [read_h, read_g, read_t]
    rfl
  · simp only [outsAt0_B m c t h]
    frame_out
    unfold_payloads
    pointwise [read_h, read_g, read_t]
    rfl

/-- The sum of the gain gradient's terms over the rows of point `t`'s block. -/
def gainPart (t : Fin cfg0.N) (b : Fin 1024) : EReal :=
  ∑ a : Fin 1024, err (rowH m c (rowOf t a)) (vecG m c) (rowT m c (rowOf t a)) b * perWidth * rowH m c (rowOf t a) b
    * inv (rowH m c (rowOf t a))

theorem dgain_last (b : Fin 1024) :
    (outsAt0 m c t0_7.val t0_7.isLt).2.2 (ix2 0 b) = 0 + ∑ p : Fin cfg0.N, gainPart m c p b := by
  refine Pipeline.eq_sum_fin_of_reset_step_apply_last (fun n h => (outsAt0 m c n h).2.2) 8 (fun _ => 0)
    (fun p j => gainPart m c p (j 1)) ?_ ?_ (by decide) t0_7 rfl (ix2 0 b)
  all_goals
    intro t h i
    idx_vars i
    rw [Subsingleton.elim i0 0]
  · simp only [outsAt0_A m c t h]
    frame_out
    unfold_payloads
    pointwise [read_h, read_g, read_t]
    rfl
  · simp only [outsAt0_B m c t h]
    frame_out
    unfold_payloads
    pointwise [read_h, read_g, read_t]
    rfl

theorem loss_final (b : Fin 128) : (dats m 0 c).arrAt 3 cfg0.N (ix2 0 b)
    = ∑ a : Fin 8192, ∑ y, halfPerWidth * (err (rowH m c a) (vecG m c) (rowT m c a) y * err (rowH m c a) (vecG m c) (rowT m c a) y) := by
  have e : (dats m 0 c).arrAt 3 cfg0.N = fun _ : S1x128.Idx => ∑ p : Fin cfg0.N, part m c p := by
    refine (dats m 0 c).arrAt_eq_of_after_last 3 t0_7 (by decide +kernel) _ fun j => ?_
    blk_simp
    rw [after0_3, loss_last, zero_add]
  rw [e]
  unfold part
  have hc : (0 : ℝ) ≤ 1 / 2048 := by norm_num
  simp only [halfPerWidth_eq, Extended.coe_mul_sum _ hc]
  refine Fin.sum_mul_add_congr (L := 8192) (S := 8) (n := 1024) (fun t k hl => ?_)
  rfl

theorem dgain_final (b : Fin 1024) : (dats m 0 c).arrAt 5 cfg0.N (ix2 0 b)
    = ∑ a : Fin 8192, err (rowH m c a) (vecG m c) (rowT m c a) b * perWidth * rowH m c a b * inv (rowH m c a) := by
  have e : (dats m 0 c).arrAt 5 cfg0.N = fun j : S1x1024.Idx => ∑ p : Fin cfg0.N, gainPart m c p (j 1) := by
    refine (dats m 0 c).arrAt_eq_of_after_last 5 t0_7 (by decide +kernel) _ fun j => ?_
    blk_simp
    idx_vars j
    rw [Subsingleton.elim j0 0, after0_5, dgain_last, zero_add]
  rw [e]
  unfold gainPart
  refine Fin.sum_mul_add_congr (L := 8192) (S := 8) (n := 1024) (fun t k hl => ?_)
  rfl

end Cert.LossKernelIdeal.Value
end
end
-- ==== Proof.LossRefValue.lean ====
module

public import proofs.«01_k».proof.Proof.Gen.LossReferenceIdeal.Read
public import proofs.«01_k».proof.Proof.LossRow
public import Idealize.ShloMosaic.Lib.Pointwise

/-! What the loss reference computes, at an index, in the terms of `Cert.LossRow`. -/

@[expose] public section

set_option maxRecDepth 16384

noncomputable section

namespace Cert.LossReferenceIdeal.Read

open Cert.LossReferenceIdeal Cert.LossReferenceIdeal.Gen Idealize.ShloMosaic Idealize.ShloMosaic.TcCoe Idealize.SL.Sem
open Cert.LossRow

variable (x0 : FVec Ideal S8192x1024 .f32) (x1 : FVec Ideal S1024 .f32) (x2 : FVec Ideal S1x8192x1024 .f32)

/-- Row `a` of the hidden array, the gain, and row `a` of the target. -/
abbrev rowH (a : Fin 8192) : Fin 1024 → EReal := fun b => x0 (ix2 a b)
abbrev vecG : Fin 1024 → EReal := fun b => x1 (ix1 b)
abbrev rowT (a : Fin 8192) : Fin 1024 → EReal := fun b => x2 (ix3 0 a b)

/-- A sum over axes of length one only is the one element there is. -/
theorem reduceAdd_unit {s t : Shape} {axes : List (Fin s.rank)} (h : s.ReducesTo axes t) (x : s.Idx → EReal) (init : EReal)
    (i : s.Idx) {j : t.Idx} (hj : h.drop i = j) (hu : ∀ i', h.drop i' = j → i' = i) :
    Ideal.hostReduceAdd h x init j = init + x i := by
  unfold Ideal.hostReduceAdd
  rw [Finset.sum_eq_single i]
  · intro i' hi' hne
    exact absurd (hu i' (Finset.mem_filter.mp hi').2) hne
  · intro hi
    simp [hj] at hi

theorem v17_apply (a : Fin 8192) (b : Fin 1024) :
    val_main_v17 (F := Ideal) x0 x1 x2 (ix3 0 a b) = err (rowH x0 a) (vecG x1) (rowT x2 a) b := by
  pointwise [val_main_v17, val_main_v16, val_main_v15, val_main_v14, val_main_v13, val_main_v12, val_main_v8, val_main_v7, val_main_v6,
    val_main_v5, val_main_v4, val_main_v3, val_main_v2, val_main_v1, val_main_v0, val_main_cst, val_main_cst_0, val_main_cst_1]
  rfl

theorem v31_apply (a : Fin 8192) (b : Fin 1024) :
    val_main_v31 (F := Ideal) x0 x1 x2 (ix3 0 a b) = ct (rowH x0 a) (vecG x1) (rowT x2 a) b := by
  pointwise [val_main_v31, val_main_v30, val_main_v29, val_main_v28, val_main_v27, val_main_v26, val_main_v20, val_main_v19, v17_apply,
    val_main_cst_3, val_main_cst_8, val_main_cst_9, val_main_cst_10]
  rfl

/-- The reduction over the two unit axes of a column. -/
theorem v46_apply (a : Fin 8192) :
    val_main_v46 (F := Ideal) x0 x1 x2 (ix1 a) = slope (rowH x0 a) (vecG x1) (rowT x2 a) := by
  have e : val_main_v46 (F := Ideal) x0 x1 x2 (ix1 a) = val_main_v45 (F := Ideal) x0 x1 x2 (ix3 0 a 0) := by
    unfold val_main_v46
    generalize val_main_v45 (F := Ideal) x0 x1 x2 = y
    refine (reduceAdd_unit _ y _ (ix3 0 a 0) (by idx_ext) ?_).trans ?_
    · intro i' hi'
      idx_vars i'
      have hq : i'1 = a := Fin.ext (congrArg Fin.val (congrFun hi' 0))
      rw [Subsingleton.elim i'0 0, Subsingleton.elim i'2 0, hq]
    · pointwise [val_main_cst_15]
  rw [e]
  pointwise [val_main_v45, val_main_v44, val_main_v43, val_main_v40, val_main_v39, val_main_v38, val_main_v36, val_main_v35, v31_apply,
    val_main_v11, val_main_v10, val_main_v9, val_main_v14, val_main_v8, val_main_v7, val_main_v6, val_main_v5, val_main_v4, val_main_v3,
    val_main_v2, val_main_v1, val_main_v0, val_main_cst, val_main_cst_0, val_main_cst_1, val_main_cst_2, val_main_cst_13, val_main_cst_14]
  rfl

/-- The gradient in the hidden array. -/
theorem dh_apply (a : Fin 8192) (b : Fin 1024) :
    val_main_v54 (F := Ideal) x0 x1 x2 (ix2 a b) = gradRow (rowH x0 a) (vecG x1) (rowT x2 a) b := by
  rw [← vjpRow_eq]
  pointwise [val_main_v54, val_main_v52, val_main_v51, val_main_v50, val_main_v49, val_main_v48, val_main_v47, v46_apply, val_main_v42,
    val_main_v41, val_main_v36, val_main_v35, val_main_v14, v31_apply, val_main_v8, val_main_v7, val_main_v6, val_main_v5, val_main_v4,
    val_main_v3, val_main_v2, val_main_v1, val_main_v0, val_main_cst, val_main_cst_0, val_main_cst_1]
  rfl

/-- The loss: half the mean square error, summed over the rows. -/
theorem loss_apply (b : Fin 128) :
    val_main_v53 (F := Ideal) x0 x1 x2 (ix2 0 b)
      = ∑ a : Fin 8192, ∑ y, halfPerWidth * (err (rowH x0 a) (vecG x1) (rowT x2 a) y * err (rowH x0 a) (vecG x1) (rowT x2 a) y) := by
  pointwise [val_main_v53, val_main_v25, val_main_v24, val_main_v23, val_main_v22, val_main_v21, val_main_v18, v17_apply,
    val_main_cst_4, val_main_cst_5, val_main_cst_6, val_main_cst_7]
  rw [Fin.sum_univ_one]
  show half * ∑ a : Fin 8192, Ideal.div _ width = _
  rw [half_eq, Extended.coe_mul_sum _ (by norm_num)]
  refine Finset.sum_congr rfl fun a _ => ?_
  rw [width_eq, Extended.div_coe _ (by norm_num), halfPerWidth_eq, ← Extended.coe_mul_sum _ (by norm_num), mul_comm _ ((1024⁻¹ : ℝ) : EReal),
    ← mul_assoc, ← EReal.coe_mul]
  norm_num

/-- The gradient in the gain. -/
theorem dgain_apply (b : Fin 1024) :
    val_main_v55 (F := Ideal) x0 x1 x2 (ix2 0 b)
      = ∑ a : Fin 8192, err (rowH x0 a) (vecG x1) (rowT x2 a) b * perWidth * rowH x0 a b * inv (rowH x0 a) := by
  have e : val_main_v37 (F := Ideal) x0 x1 x2 (ix1 b) = val_main_v34 (F := Ideal) x0 x1 x2 (ix3 0 0 b) := by
    unfold val_main_v37
    generalize val_main_v34 (F := Ideal) x0 x1 x2 = y
    refine (reduceAdd_unit _ y _ (ix3 0 0 b) (by idx_ext) ?_).trans ?_
    · intro i' hi'
      idx_vars i'
      have hq : i'2 = b := Fin.ext (congrArg Fin.val (congrFun hi' 0))
      rw [Subsingleton.elim i'0 0, Subsingleton.elim i'1 0, hq]
    · pointwise [val_main_cst_12]
  pointwise [val_main_v55, e, val_main_v34, val_main_v33, val_main_v32, v31_apply, val_main_v13, val_main_v12,
    val_main_v8, val_main_v7, val_main_v6, val_main_v5, val_main_v4,
    val_main_v3, val_main_v2, val_main_v1, val_main_v0, val_main_cst, val_main_cst_0, val_main_cst_1, val_main_cst_11]
  refine Finset.sum_congr rfl fun a _ => ?_
  rw [ct_eq, mul_comm, ← mul_assoc]
  rfl

end Cert.LossReferenceIdeal.Read
end
end
-- ==== Proof.LossPair.lean ====
module

public import proofs.«01_k».proof.Defs
public import proofs.«01_k».proof.Proof.LossValue
public import proofs.«01_k».proof.Proof.LossRefValue
public import proofs.«01_k».proof.Proof.Gen.LossKernel.Frame
public import proofs.«01_k».proof.Proof.Gen.LossKernelIdeal.Frame
public import proofs.«01_k».proof.Proof.Gen.LossReferenceIdeal.Run

/-! The claims about the loss head: its frames, and that its three results are the reference's. -/

@[expose] public section

set_option maxRecDepth 16384

noncomputable section

namespace Cert.LossPair

open Idealize.ShloMosaic Idealize.SL.Sem

theorem frame_kernel : Cert.quiescent_LossKernel := fun m ρ _ => Cert.LossKernel.Gen.frame m ρ

theorem frame_kernelIdeal : Cert.quiescent_LossKernelIdeal := fun m ρ _ => Cert.LossKernelIdeal.Gen.frame m ρ

theorem frame_reference : Cert.quiescent_LossReferenceIdeal := by
  intro m g _
  exact (θ_run Cert.LossReferenceIdeal.defs _ _).mono
    (fun r h => ⟨fun c => (h c).2.2.2, Idealize.ShloMosaic.sem_eq_zero_of_no_sems (by decide) r.2⟩)
    (Cert.LossReferenceIdeal.Value.run (F := Ideal) m g)

theorem preserves : Cert.preserves_LossKernel_LossKernelIdeal := trivial

theorem algebraic : Cert.algebraic_LossKernelIdeal_LossReferenceIdeal := by
  pair_intro
  · run_from Cert.LossKernelIdeal.Value.run_blocks m g
  · run_from Cert.LossReferenceIdeal.Value.run m' g'
    · rw [Cert.LossReferenceIdeal.Read.val_main_v53_eq]
      funext j
      idx_vars j
      rw [Subsingleton.elim j0 0]
      exact (Cert.LossReferenceIdeal.Read.loss_apply _ _ _ j1).trans (Cert.LossKernelIdeal.Value.loss_final m c j1).symm
    · rw [Cert.LossReferenceIdeal.Read.val_main_v54_eq, (hagree c).1, (hagree c).2.1, (hagree c).2.2,
        Cert.LossKernelIdeal.Value.dh_final]
      funext j
      rw [eq_ix2 j]
      exact Cert.LossReferenceIdeal.Read.dh_apply _ _ _ (j 0) (j 1)
    · rw [Cert.LossReferenceIdeal.Read.val_main_v55_eq]
      funext j
      idx_vars j
      rw [Subsingleton.elim j0 0]
      exact (Cert.LossReferenceIdeal.Read.dgain_apply _ _ _ j1).trans (Cert.LossKernelIdeal.Value.dgain_final m c j1).symm

end Cert.LossPair

end
end
-- ==== Proof.AttMath.lean ====
module

public import proofs.«01_k».proof.Proof.Extended
public import Idealize.ShloMosaic.Lib.Pointwise
public import Idealize.ShloMosaic.Lib.FinSumWindow

/-!
The neighbourhood attention on a grid of 128 rows of 64 columns, with 8 heads of 64 numbers, and its gradient, as plain
formulas over the extended reals.  A query at row `r` and column `c` sees the 8 rows from `rowStart r` on and, in each, 16
columns around its own; `κ` counts the 8 rows and `x` names a column.
-/

@[expose] public section

noncomputable section

namespace Cert.AttMath

open Idealize.ShloMosaic

/-- The first row that row `r` sees. -/
def rowStart (r : ℕ) : ℕ := min (r - 4) 120

/-- Whether column `c` sees column `x`. -/
def InCol (c x : ℕ) : Prop := min (c - 8) 48 ≤ x ∧ x < min (c - 8) 48 + 16

instance (c x : ℕ) : Decidable (InCol c x) := inferInstanceAs (Decidable (_ ∧ _))

theorem rowStart_le (r : Fin 128) : rowStart r.val ≤ 120 := by unfold rowStart; omega

/-- Row `κ` of those that row `r` sees. -/
def krow (r : Fin 128) (κ : Fin 8) : Fin 128 := ⟨rowStart r.val + κ.val, by have := rowStart_le r; omega⟩

/-- The token at row `r` and column `c`. -/
def tok (r : Fin 128) (c : Fin 64) : Fin 8192 := ⟨64 * r.val + c.val, by omega⟩

/-- Column `e` of head `h`. -/
def lane (h : Fin 8) (e : Fin 64) : Fin 512 := ⟨64 * h.val + e.val, by omega⟩

/-- Which row of the bias table a pair of rows reads. -/
def dr (r : Fin 128) (κ : Fin 8) : Fin 15 := ⟨rowStart r.val + κ.val + 7 - r.val, by unfold rowStart; omega⟩

/-- Which column of the bias table a pair of columns reads. -/
def dc (c x : Fin 64) : Fin 31 := ⟨min (x.val + 15 - c.val) 30, by omega⟩

/-- The factor of the queries. -/
def eighth : EReal := Ideal.ofBits .f32 0x3E000000#32

theorem eighth_eq : eighth = ((1 / 8 : ℝ) : EReal) := by
  unfold eighth
  simp [Ideal.ofBits, Ideal.ieee, -EReal.coe_mul]; norm_num

theorem eighth_bf16 : Ideal.ofBits .bf16 0x3E00#16 = eighth := by
  rw [eighth_eq]
  simp [Ideal.ofBits, Ideal.ieee, -EReal.coe_mul]; norm_num

/-- Queries, keys, values and output gradients by token and column, and the table of relative biases. -/
structure Arr where
  q : Fin 8192 → Fin 512 → EReal
  k : Fin 8192 → Fin 512 → EReal
  v : Fin 8192 → Fin 512 → EReal
  d : Fin 8192 → Fin 512 → EReal
  b : Fin 8 → Fin 15 → Fin 31 → EReal

variable (A : Arr) (h : Fin 8) (r : Fin 128) (c : Fin 64)

/-- The score of a pair, and minus infinity where the column isn't seen. -/
def sc (κ : Fin 8) (x : Fin 64) : EReal :=
  if InCol c.val x.val then
    (∑ e : Fin 64, A.q (tok r c) (lane h e) * eighth * A.k (tok (krow r κ) x) (lane h e)) + A.b h (dr r κ) (dc c x)
  else ⊥

def mx : EReal := Finset.univ.sup fun κ => Finset.univ.sup fun x => sc A h r c κ x
def ex (κ : Fin 8) (x : Fin 64) : EReal := Ideal.exp (sc A h r c κ x - mx A h r c)
def sm : EReal := ∑ κ, ∑ x, ex A h r c κ x

/-- The attention weight of a pair. -/
def pr (κ : Fin 8) (x : Fin 64) : EReal := ex A h r c κ x * Ideal.div 1 (sm A h r c)

/-- The attention's output. -/
def out (e : Fin 64) : EReal :=
  (∑ κ, ∑ x, ex A h r c κ x * A.v (tok (krow r κ) x) (lane h e)) * Ideal.div 1 (sm A h r c)

/-- The output gradient times a pair's value. -/
def dp (κ : Fin 8) (x : Fin 64) : EReal := ∑ e : Fin 64, A.d (tok r c) (lane h e) * A.v (tok (krow r κ) x) (lane h e)

/-- The gradient of a pair's score, through the output. -/
def ds (κ : Fin 8) (x : Fin 64) : EReal :=
  pr A h r c κ x * (dp A h r c κ x - ∑ e : Fin 64, A.d (tok r c) (lane h e) * out A h r c e)

/-- The same gradient, through the derivative of a quotient. -/
def dsQuot (κ : Fin 8) (x : Fin 64) : EReal :=
  if InCol c.val x.val then
    (Ideal.div (dp A h r c κ x) (sm A h r c)
      + -(∑ κ', ∑ x', dp A h r c κ' x' * Ideal.div 1 (sm A h r c * sm A h r c) * ex A h r c κ' x')) * ex A h r c κ x
  else 0

/-! ## Finite arguments -/

structure Arr.Finite : Prop where
  q : ∀ t j, ∃ x : ℝ, A.q t j = x
  k : ∀ t j, ∃ x : ℝ, A.k t j = x
  v : ∀ t j, ∃ x : ℝ, A.v t j = x
  d : ∀ t j, ∃ x : ℝ, A.d t j = x
  b : ∀ i j l, ∃ x : ℝ, A.b i j l = x

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem sum_coe₁ {n : ℕ} {f : Fin n → EReal} (hf : ∀ i, ∃ x : ℝ, f i = x) : ∃ x : ℝ, ∑ i, f i = x := by
  choose g hg using hf
  exact ⟨∑ i, g i, by simp only [hg, coe_sum]⟩

variable {A}

theorem sc_real (hA : A.Finite) (κ : Fin 8) (x : Fin 64) (hx : InCol c.val x.val) : ∃ s : ℝ, sc A h r c κ x = s := by
  obtain ⟨b, hb⟩ := hA.b h (dr r κ) (dc c x)
  obtain ⟨s, hs⟩ : ∃ s : ℝ, (∑ e : Fin 64, A.q (tok r c) (lane h e) * eighth * A.k (tok (krow r κ) x) (lane h e)) = s :=
    sum_coe₁ fun e => by
      obtain ⟨q, hq⟩ := hA.q (tok r c) (lane h e)
      obtain ⟨k, hk⟩ := hA.k (tok (krow r κ) x) (lane h e)
      exact ⟨q * (1 / 8) * k, by rw [hq, hk, eighth_eq, EReal.coe_mul, EReal.coe_mul]⟩
  exact ⟨s + b, by unfold sc; rw [if_pos hx, hs, hb, EReal.coe_add]⟩

theorem dp_real (hA : A.Finite) (κ : Fin 8) (x : Fin 64) : ∃ s : ℝ, dp A h r c κ x = s :=
  sum_coe₁ fun e => by
    obtain ⟨d, hd⟩ := hA.d (tok r c) (lane h e)
    obtain ⟨v, hv⟩ := hA.v (tok (krow r κ) x) (lane h e)
    exact ⟨d * v, by rw [hd, hv, EReal.coe_mul]⟩

/-- The column that every query sees first. -/
theorem inCol_first : InCol c.val (min (c.val - 8) 48) := by unfold InCol; omega

theorem mx_real (hA : A.Finite) : ∃ M : ℝ, mx A h r c = M := by
  have htop : mx A h r c ≠ ⊤ := by
    refine ne_of_lt ((Finset.sup_lt_iff bot_lt_top).2 fun κ _ => (Finset.sup_lt_iff bot_lt_top).2 fun x _ => ?_)
    by_cases hx : InCol c.val x.val
    · obtain ⟨s, hs⟩ := sc_real h r c hA κ x hx
      rw [hs]; exact EReal.coe_lt_top s
    · unfold sc; rw [if_neg hx]; exact bot_lt_top
  have hbot : mx A h r c ≠ ⊥ := by
    obtain ⟨s, hs⟩ := sc_real h r c hA 0 ⟨min (c.val - 8) 48, by omega⟩ (inCol_first c)
    refine ne_of_gt (lt_of_lt_of_le (EReal.bot_lt_coe s) (hs ▸ ?_))
    exact (Finset.le_sup (f := fun x => sc A h r c 0 x) (Finset.mem_univ _)).trans
      (Finset.le_sup (f := fun κ => Finset.univ.sup fun x => sc A h r c κ x) (Finset.mem_univ 0))
  exact ⟨(mx A h r c).toReal, (EReal.coe_toReal htop hbot).symm⟩

/-- The exponentials are nonnegative reals, `0` where the column isn't seen, and their sum is positive. -/
theorem ex_real (hA : A.Finite) : ∃ E : Fin 8 → Fin 64 → ℝ, (∀ κ x, ex A h r c κ x = E κ x)
    ∧ (∀ κ x, ¬ InCol c.val x.val → E κ x = 0) ∧ sm A h r c = ((∑ κ, ∑ x, E κ x : ℝ) : EReal) ∧ 0 < ∑ κ, ∑ x, E κ x := by
  obtain ⟨M, hM⟩ := mx_real h r c hA
  have h1 : ∀ κ x, ∃ E : ℝ, ex A h r c κ x = E ∧ (¬ InCol c.val x.val → E = 0) ∧ (InCol c.val x.val → 0 < E) ∧ 0 ≤ E := by
    intro κ x
    unfold ex
    rw [hM]
    by_cases hx : InCol c.val x.val
    · obtain ⟨s, hs⟩ := sc_real h r c hA κ x hx
      rw [hs]
      exact ⟨Real.exp (s - M), by rw [← EReal.coe_sub]; rfl, fun n => absurd hx n, fun _ => Real.exp_pos _, (Real.exp_pos _).le⟩
    · refine ⟨0, ?_, fun _ => rfl, fun n => absurd n hx, le_rfl⟩
      unfold sc; rw [if_neg hx, EReal.bot_sub]; rfl
  choose E hE using h1
  refine ⟨E, fun κ x => (hE κ x).1, fun κ x => (hE κ x).2.1, ?_, ?_⟩
  · unfold sm
    simp only [fun κ x => (hE κ x).1, coe_sum]
  · refine Finset.sum_pos' (fun κ _ => Finset.sum_nonneg fun x _ => (hE κ x).2.2.2) ⟨0, Finset.mem_univ _, ?_⟩
    exact Finset.sum_pos' (fun x _ => (hE 0 x).2.2.2)
      ⟨⟨min (c.val - 8) 48, by omega⟩, Finset.mem_univ _, (hE 0 _).2.2.1 (inCol_first c)⟩

theorem sm_ne (hA : A.Finite) : sm A h r c ≠ 0 := by
  obtain ⟨E, -, -, hS, hp⟩ := ex_real h r c hA
  rw [hS]
  exact_mod_cast hp.ne'

/-- The weight as a quotient. -/
theorem pr_eq (hA : A.Finite) (κ : Fin 8) (x : Fin 64) : Ideal.div (ex A h r c κ x) (sm A h r c) = pr A h r c κ x :=
  (Ideal.mul_one_div (sm_ne h r c hA)).symm

/-- The output with the weights made first. -/
theorem out_eq (hA : A.Finite) (e : Fin 64) :
    ∑ κ, ∑ x, A.v (tok (krow r κ) x) (lane h e) * Ideal.div (ex A h r c κ x) (sm A h r c) = out A h r c e := by
  obtain ⟨E, hE, -, hS, hp⟩ := ex_real h r c hA
  have hi : Ideal.div 1 (sm A h r c) = (((∑ κ, ∑ x, E κ x)⁻¹ : ℝ) : EReal) := by
    rw [hS, Cert.Extended.div_coe _ hp.ne', one_mul]
  unfold out
  simp only [pr_eq h r c hA, pr]
  rw [hi, Cert.Extended.sum_mul_coe _ (inv_nonneg.2 hp.le)]
  refine Finset.sum_congr rfl fun κ _ => ?_
  rw [Cert.Extended.sum_mul_coe _ (inv_nonneg.2 hp.le)]
  exact Finset.sum_congr rfl fun x _ => by ac_rfl

/-- The two forms of the score's gradient agree, in reals. -/
theorem ds_core {J : Type*} [Fintype J] (E dp : J → ℝ) (v : J → Fin 64 → ℝ) (d : Fin 64 → ℝ) (S : ℝ) (hS : S ≠ 0)
    (hdp : ∀ j, dp j = ∑ e, d e * v j e) (j : J) :
    (dp j * S⁻¹ + -∑ i, dp i * (S * S)⁻¹ * E i) * E j
      = E j * S⁻¹ * (dp j - ∑ e, d e * ((∑ i, E i * v i e) * S⁻¹)) := by
  have h1 : ∑ e, d e * ((∑ i, E i * v i e) * S⁻¹) = (∑ i, dp i * E i) * S⁻¹ := by
    simp only [hdp, Finset.sum_mul, Finset.mul_sum]
    rw [Finset.sum_comm]
    exact Finset.sum_congr rfl fun i _ => Finset.sum_congr rfl fun e _ => by ring
  have h2 : ∑ i, dp i * (S * S)⁻¹ * E i = (∑ i, dp i * E i) * (S * S)⁻¹ := by
    rw [Finset.sum_mul]
    exact Finset.sum_congr rfl fun i _ => by ring
  rw [h1, h2, mul_inv]
  ring

theorem ds_eq (hA : A.Finite) (κ : Fin 8) (x : Fin 64) : dsQuot A h r c κ x = ds A h r c κ x := by
  obtain ⟨E, hE, h0, hS, hp⟩ := ex_real h r c hA
  have hi : Ideal.div 1 (sm A h r c) = (((∑ κ, ∑ x, E κ x)⁻¹ : ℝ) : EReal) := by
    rw [hS, Cert.Extended.div_coe _ hp.ne', one_mul]
  by_cases hx : InCol c.val x.val
  swap
  · unfold dsQuot ds pr
    rw [if_neg hx, hE, h0 _ _ hx, EReal.coe_zero, zero_mul, zero_mul]
  choose d hd using hA.d
  choose v hv using hA.v
  have hdp : ∀ κ x, dp A h r c κ x = ((∑ e, d (tok r c) (lane h e) * v (tok (krow r κ) x) (lane h e) : ℝ) : EReal) := by
    intro κ x
    unfold dp
    simp only [hd, hv, ← EReal.coe_mul, coe_sum]
  generalize hT : (∑ κ, ∑ x, E κ x) = S at *
  have hne : S ≠ 0 := hp.ne'
  unfold dsQuot ds pr out
  rw [if_pos hx, hi]
  simp only [hE, hdp, hS, hd, hv]
  rw [← EReal.coe_mul S S, Cert.Extended.div_coe _ hne, Cert.Extended.div_coe _ (mul_ne_zero hne hne), one_mul]
  simp only [← EReal.coe_mul, coe_sum, ← EReal.coe_neg, ← EReal.coe_add, ← EReal.coe_sub]
  have := ds_core (J := Fin 8 × Fin 64) (fun j => E j.1 j.2) (fun j => ∑ e, d (tok r c) (lane h e) * v (tok (krow r j.1) j.2) (lane h e))
    (fun j e => v (tok (krow r j.1) j.2) (lane h e)) (fun e => d (tok r c) (lane h e)) S hne (fun _ => rfl) (κ, x)
  simp only [Fintype.sum_prod_type] at this
  exact congrArg _ this

/-! ## A row of 768 keys of which a window of 8 grid rows counts -/

/-- `f` on the 8 grid rows of 64 from row `lo` on, and `z` elsewhere. -/
def ext (lo : ℕ) (z : EReal) (f : Fin 8 → Fin 64 → EReal) (n : Fin 768) : EReal :=
  if hn : lo ≤ n.val / 64 ∧ n.val / 64 < lo + 8 then f ⟨n.val / 64 - lo, by omega⟩ ⟨n.val % 64, by omega⟩ else z

/-- Position `x` of row `κ` of the window. -/
def key (lo : ℕ) (hlo : lo ≤ 4) (κ : Fin 8) (x : Fin 64) : Fin 768 := ⟨64 * (lo + κ.val) + x.val, by omega⟩

theorem ext_inside (lo : ℕ) (hlo : lo ≤ 4) (z : EReal) (f : Fin 8 → Fin 64 → EReal) (κ : Fin 8) (x : Fin 64) :
    ext lo z f (key lo hlo κ x) = f κ x := by
  unfold ext key
  rw [dif_pos ⟨by dsimp only; omega, by dsimp only; omega⟩]
  congr 1 <;> exact Fin.ext (by dsimp only; omega)

/-- Every position is outside or one of the window's. -/
theorem ext_cases (lo : ℕ) (hlo : lo ≤ 4) (n : Fin 768) : (¬ (lo ≤ n.val / 64 ∧ n.val / 64 < lo + 8))
    ∨ ∃ (κ : Fin 8) (x : Fin 64), n = key lo hlo κ x := by
  by_cases hn : lo ≤ n.val / 64 ∧ n.val / 64 < lo + 8
  · exact .inr ⟨⟨n.val / 64 - lo, by omega⟩, ⟨n.val % 64, by omega⟩, Fin.ext (by unfold key; dsimp only; omega)⟩
  · exact .inl hn

theorem ext_outside (lo : ℕ) (z : EReal) (f : Fin 8 → Fin 64 → EReal) (n : Fin 768)
    (hn : ¬ (lo ≤ n.val / 64 ∧ n.val / 64 < lo + 8)) : ext lo z f n = z := dif_neg hn

theorem map_ext (g : EReal → EReal) (lo : ℕ) (z : EReal) (f : Fin 8 → Fin 64 → EReal) (n : Fin 768) :
    g (ext lo z f n) = ext lo (g z) (fun κ x => g (f κ x)) n := by
  unfold ext
  split_ifs <;> rfl

/-- What is `0` outside the window may be multiplied there by anything. -/
theorem ext_mul (lo : ℕ) (hlo : lo ≤ 4) (f w : Fin 8 → Fin 64 → EReal) (g : Fin 768 → EReal)
    (hg : ∀ κ x, g (key lo hlo κ x) = w κ x) (n : Fin 768) :
    ext lo 0 f n * g n = ext lo 0 (fun κ x => f κ x * w κ x) n := by
  rcases ext_cases lo hlo n with hn | ⟨κ, x, rfl⟩
  · rw [ext_outside _ _ _ _ hn, ext_outside _ _ _ _ hn, zero_mul]
  · rw [ext_inside lo hlo, ext_inside lo hlo, hg]

theorem sum_ext (lo : ℕ) (hlo : lo ≤ 4) (f : Fin 8 → Fin 64 → EReal) : ∑ n, ext lo 0 f n = ∑ κ, ∑ x, f κ x := by
  rw [FinSumWindow.sum_window (W := 512) (64 * lo) (by omega) (ext lo 0 f)
    (fun n hn => ext_outside _ _ _ _ (by omega)), Fin.sum_univ_tiles 8 64 rfl]
  refine Finset.sum_congr rfl fun κ _ => Finset.sum_congr rfl fun x _ => ?_
  rw [← ext_inside lo hlo 0 f κ x]
  exact congrArg _ (Fin.ext (by unfold key; dsimp only; omega))

theorem sup_ext (lo : ℕ) (hlo : lo ≤ 4) (f : Fin 8 → Fin 64 → EReal) :
    (Finset.univ.sup fun n => ext lo ⊥ f n) = Finset.univ.sup fun κ => Finset.univ.sup fun x => f κ x := by
  refine le_antisymm (Finset.sup_le fun n _ => ?_) (Finset.sup_le fun κ _ => Finset.sup_le fun x _ => ?_)
  · rcases ext_cases lo hlo n with hn | ⟨κ, x, rfl⟩
    · rw [ext_outside _ _ _ _ hn]; exact bot_le
    · rw [ext_inside lo hlo]
      exact (Finset.le_sup (f := fun x => f κ x) (Finset.mem_univ x)).trans
        (Finset.le_sup (f := fun κ => Finset.univ.sup fun x => f κ x) (Finset.mem_univ κ))
  · rw [← ext_inside lo hlo ⊥ f κ x]
    exact Finset.le_sup (f := fun n => ext lo ⊥ f n) (Finset.mem_univ _)

/-! ## Rows that a key is seen from -/

/-- `f` at the row `rk` of keys, where it is one of those that `r` sees, and `0` elsewhere. -/
def seen (r rk : Fin 128) (f : Fin 8 → Fin 64 → EReal) (x : Fin 64) : EReal :=
  if hk : rowStart r.val ≤ rk.val ∧ rk.val < rowStart r.val + 8 then f ⟨rk.val - rowStart r.val, by omega⟩ x else 0

/-- The gradients of queries, keys, values and of the table of biases. -/
def gradQ (A : Arr) (h : Fin 8) (r : Fin 128) (c e : Fin 64) : EReal :=
  (∑ κ, ∑ x, ds A h r c κ x * A.k (tok (krow r κ) x) (lane h e)) * eighth
def gradK (A : Arr) (h : Fin 8) (rk : Fin 128) (x e : Fin 64) : EReal :=
  ∑ r, ∑ c, seen r rk (ds A h r c) x * (A.q (tok r c) (lane h e) * eighth)
def gradV (A : Arr) (h : Fin 8) (rk : Fin 128) (x e : Fin 64) : EReal :=
  ∑ r, ∑ c, seen r rk (pr A h r c) x * A.d (tok r c) (lane h e)
def gradB (A : Arr) (h : Fin 8) (i : Fin 15) (j : Fin 31) : EReal :=
  ∑ r, ∑ c, ∑ κ, ∑ x, if dr r κ = i ∧ dc c x = j then ds A h r c κ x else 0

/-! ## Four rows of queries at a time -/

/-- The grid row and the column of query `a` of the `i`-th 256. -/
def rowAt (i : Fin 32) (a : Fin 256) : Fin 128 := ⟨4 * i.val + a.val / 64, by omega⟩
def colAt (a : Fin 256) : Fin 64 := ⟨a.val % 64, by omega⟩

/-- Where, among the 12 rows of keys from four before the `i`-th four on, the window of query `a` starts. -/
def lo (i : Fin 32) (a : Fin 256) : ℕ := rowStart (rowAt i a).val + 4 - 4 * i.val

theorem lo_le (i : Fin 32) (a : Fin 256) : lo i a ≤ 4 := by unfold lo rowStart rowAt; dsimp only; omega

theorem tok_key (i : Fin 32) (a : Fin 256) (κ : Fin 8) (x : Fin 64) :
    (tok (krow (rowAt i a) κ) x).val + 256 = 256 * i.val + (key (lo i a) (lo_le i a) κ x).val := by
  unfold tok krow key lo rowAt rowStart
  dsimp only
  omega

theorem tok_at (i : Fin 32) (a : Fin 256) : (tok (rowAt i a) (colAt a)).val = 256 * i.val + a.val := by
  unfold tok rowAt colAt
  dsimp only
  omega

theorem ext_seen (i : Fin 32) (a : Fin 256) (f : Fin 8 → Fin 64 → EReal) (n : Fin 768) (rk : Fin 128) (x : Fin 64)
    (hn : 256 * i.val + n.val = 256 + 64 * rk.val + x.val) :
    ext (lo i a) 0 f n = seen (rowAt i a) rk f x := by
  have e : lo i a + 4 * i.val = rowStart (rowAt i a).val + 4 := by unfold lo rowStart rowAt; dsimp only; omega
  unfold ext seen
  by_cases hk : rowStart (rowAt i a).val ≤ rk.val ∧ rk.val < rowStart (rowAt i a).val + 8
  · rw [dif_pos (by omega), dif_pos hk]
    congr 1 <;> exact Fin.ext (by dsimp only; omega)
  · rw [dif_neg (by omega), dif_neg hk]

/-- A key sees the sum of what it sees. -/
theorem seen_sum (r rk : Fin 128) (x : Fin 64) (f : Fin 64 → Fin 8 → Fin 64 → EReal) (w : Fin 64 → EReal) :
    seen r rk (fun κ x => ∑ c, f c κ x * w c) x = ∑ c, seen r rk (f c) x * w c := by
  unfold seen
  split_ifs
  · rfl
  · simp only [zero_mul, Finset.sum_const_zero]

/-- Rows more than one block apart don't see each other. -/
theorem seen_far (i : Fin 32) (a : Fin 256) (f : Fin 8 → Fin 64 → EReal) (rk : Fin 128) (x : Fin 64)
    (hi : i.val + 1 < rk.val / 4 ∨ rk.val / 4 + 1 < i.val) : seen (rowAt i a) rk f x = 0 := by
  unfold seen
  rw [dif_neg]
  unfold rowStart rowAt
  dsimp only
  omega

end Cert.AttMath
-- ==== Proof.AttHead.lean ====
module

public import proofs.«01_k».proof.Proof.Gen.AttKernelIdeal.Skeleton
public import Idealize.ShloMosaic.Lib.VecWindow
public import Idealize.ShloMosaic.Lib.Pipeline.FrameBody

@[expose] public section

/-! The arithmetic of the attention's backward kernel, written once for any head and any number format: what one grid
    point computes of its nine blocks of rows and its bias block, and how it changes the three accumulators. -/

set_option maxRecDepth 16384

noncomputable section

namespace Cert.AttKernelIdeal.Hand

open Cert.AttKernelIdeal Cert.AttKernelIdeal.Gen
open Idealize.ShloMosaic Idealize.ShloMosaic.TcCoe
open Idealize.ShloMosaic.VecWindow (window put)

variable {F : FTy → Type} [FloatOps F]

/-- What a grid point reads: its rows of queries, outputs and output gradients, three blocks of keys, three of values, and
    the masked bias of its variant. -/
structure Blocks (F : FTy → Type) where
  q : Vec F S256x512 .bf16
  y : Vec F S256x512 .bf16
  d : Vec F S256x512 .bf16
  k0 : Vec F S256x512 .bf16
  k1 : Vec F S256x512 .bf16
  k2 : Vec F S256x512 .bf16
  v0 : Vec F S256x512 .bf16
  v1 : Vec F S256x512 .bf16
  v2 : Vec F S256x512 .bf16
  b : Vec F S1x8x256x768 .f32

theorem cols_inb (h : Fin 8) : ∀ a, (![0, 64 * h.val] : Fin S256x512.rank → ℕ) a + S256x64.size a ≤ S256x512.size a := by
  revert h; decide

/-- The 64 columns of head `h`. -/
def cols (x : Vec F S256x512 .bf16) (h : Fin 8) : FVec F S256x64 .bf16 :=
  shapeCast S256x64 (window x ![0, 64 * h.val] S256x64.size (cols_inb h)) shapeCasts_S256x64_S256x64

theorem biasOf_inb (h : Fin 8) :
    ∀ a, (![0, h.val, 0, 0] : Fin S1x8x256x768.rank → ℕ) a + S1x1x256x768.size a ≤ S1x8x256x768.size a := by
  revert h; decide

/-- The bias of head `h`. -/
def biasOf (x : Vec F S1x8x256x768 .f32) (h : Fin 8) : FVec F S256x768 .f32 :=
  shapeCast S256x768 (window x ![0, h.val, 0, 0] S1x1x256x768.size (biasOf_inb h)) shapeCasts_S1x1x256x768_S256x768

/-- Three blocks of keys or values, one under the other. -/
def stack (a b c : FVec F S256x64 .bf16) : FVec F S768x64 .bf16 :=
  concatenate S768x64 0 [⟨S256x64, a⟩, ⟨S256x64, b⟩, ⟨S256x64, c⟩] concatenates_S256x64_S256x64_S256x64_S768x64_d0

/-- The scaled queries of head `h`. -/
def hq (B : Blocks F) (h : Fin 8) : FVec F S256x64 .bf16 :=
  mulf (cols B.q h) (broadcast S256x64 (Scalar.ofBits .bf16 0x3E00#16 : F .bf16))

def hk (B : Blocks F) (h : Fin 8) : FVec F S768x64 .bf16 := stack (cols B.k0 h) (cols B.k1 h) (cols B.k2 h)

def hv (B : Blocks F) (h : Fin 8) : FVec F S768x64 .bf16 := stack (cols B.v0 h) (cols B.v1 h) (cols B.v2 h)

/-- The sum over the columns of output gradient times output. -/
def hdelta (B : Blocks F) (h : Fin 8) : FVec F S256x1 .f32 :=
  shapeCast S256x1 (multiReduction .add [1] S256 (mulf (extf .f32 (cols B.d h) bitsLt_bf16_f32 : FVec F S256x64 .f32)
    (extf .f32 (cols B.y h) bitsLt_bf16_f32)) 0x00000000#32 reduces_S256x64_S256 (.inl rfl) rfl) shapeCasts_S256_S256x1

/-- The scores with their bias. -/
def hs (B : Blocks F) (h : Fin 8) : FVec F S256x768 .f32 :=
  addf (matmul dot_S256x64_S768x64_S256x768_1_1_0_0_n_n none (hq B h) (hk B h) (constant S256x768 .f32 0x00000000#32))
    (biasOf B.b h)

/-- The exponentials of the scores less their row's greatest. -/
def he (B : Blocks F) (h : Fin 8) : FVec F S256x768 .f32 :=
  exp (subf (hs B h) (broadcastTo S256x768 (shapeCast S256x1 (multiReduction .maximumf [1] S256 (hs B h) 0xFF800000#32
    reduces_S256x768_S256 (.inl rfl) rfl) shapeCasts_S256_S256x1) broadcasts_S256x1_S256x768))

/-- The attention weights. -/
def hp (B : Blocks F) (h : Fin 8) : FVec F S256x768 .f32 :=
  mulf (he B h) (broadcastTo S256x768 (divf (broadcast S256x1 (Scalar.ofBits .f32 0x3F800000#32 : F .f32))
    (shapeCast S256x1 (multiReduction .add [1] S256 (he B h) 0x00000000#32 reduces_S256x768_S256 (.inl rfl) rfl)
      shapeCasts_S256_S256x1)) broadcasts_S256x1_S256x768)

/-- The gradient of the scores. -/
def hds (B : Blocks F) (h : Fin 8) : FVec F S256x768 .f32 :=
  mulf (hp B h) (subf (matmul dot_S256x64_S768x64_S256x768_1_1_0_0_n_n none (cols B.d h) (hv B h)
    (constant S256x768 .f32 0x00000000#32)) (broadcastTo S256x768 (hdelta B h) broadcasts_S256x1_S256x768))

def hdq (B : Blocks F) (h : Fin 8) : FVec F S256x64 .f32 :=
  mulf (matmul dot_S256x768_S768x64_S256x64_1_0_0_1_n_n none (truncf .bf16 (hds B h) bitsLt_bf16_f32 : FVec F S256x768 .bf16)
    (hk B h) (constant S256x64 .f32 0x00000000#32)) (broadcast S256x64 (Scalar.ofBits .f32 0x3E000000#32 : F .f32))

def hdk (B : Blocks F) (h : Fin 8) : FVec F S768x64 .f32 :=
  matmul dot_S256x768_S256x64_S768x64_0_0_1_1_n_n none (truncf .bf16 (hds B h) bitsLt_bf16_f32 : FVec F S256x768 .bf16)
    (hq B h) (constant S768x64 .f32 0x00000000#32)

def hdv (B : Blocks F) (h : Fin 8) : FVec F S768x64 .f32 :=
  matmul dot_S256x768_S256x64_S768x64_0_0_1_1_n_n none (truncf .bf16 (hp B h) bitsLt_bf16_f32 : FVec F S256x768 .bf16)
    (cols B.d h) (constant S768x64 .f32 0x00000000#32)

/-- The query gradient of a grid point. -/
def dqOf (B : Blocks F) : FVec F S256x512 .bf16 :=
  truncf .bf16 (concatenate S256x512 1 [⟨S256x64, hdq B 0⟩, ⟨S256x64, hdq B 1⟩, ⟨S256x64, hdq B 2⟩, ⟨S256x64, hdq B 3⟩,
    ⟨S256x64, hdq B 4⟩, ⟨S256x64, hdq B 5⟩, ⟨S256x64, hdq B 6⟩, ⟨S256x64, hdq B 7⟩]
    concatenates_S256x64_S256x64_S256x64_S256x64_S256x64_S256x64_S256x64_S256x64_S256x512_d1 : FVec F S256x512 .f32)
    bitsLt_bf16_f32

/-- Eight heads of 768 rows, side by side. -/
def wide (g : Fin 8 → FVec F S768x64 .f32) : FVec F S768x512 .f32 :=
  concatenate S768x512 1 [⟨S768x64, g 0⟩, ⟨S768x64, g 1⟩, ⟨S768x64, g 2⟩, ⟨S768x64, g 3⟩, ⟨S768x64, g 4⟩, ⟨S768x64, g 5⟩,
    ⟨S768x64, g 6⟩, ⟨S768x64, g 7⟩] concatenates_S768x64_S768x64_S768x64_S768x64_S768x64_S768x64_S768x64_S768x64_S768x512_d1

/-- The rows of keys that block `0`, `1`, `2` of a point's three holds. -/
def third0 (x : FVec F S768x512 .f32) : FVec F S256x512 .f32 := extractStridedSlice S256x512 ![0, 0] x slices_S768x512_o0_0_S256x512
def third1 (x : FVec F S768x512 .f32) : FVec F S256x512 .f32 := extractStridedSlice S256x512 ![256, 0] x slices_S768x512_o256_0_S256x512
def third2 (x : FVec F S768x512 .f32) : FVec F S256x512 .f32 := extractStridedSlice S256x512 ![512, 0] x slices_S768x512_o512_0_S256x512

theorem slab_inb (h : Fin 8) :
    ∀ a, (![h.val, 0, 0] : Fin S8x256x768.rank → ℕ) a + S1x256x768.size a ≤ S8x256x768.size a := by
  revert h; decide

/-- The bias gradient of head `h` with the point's own added. -/
def dbAdd (B : Blocks F) (x : Vec F S8x256x768 .f32) (h : Fin 8) : FVec F S1x256x768 .f32 :=
  shapeCast S1x256x768 (addf (shapeCast S256x768 (window x ![h.val, 0, 0] S1x256x768.size (slab_inb h) : Vec F S1x256x768 .f32)
    shapeCasts_S1x256x768_S256x768) (hds B h)) shapeCasts_S256x768_S1x256x768

/-- The bias gradient after a point: each head's slab with the point's own added. -/
def dbOf (B : Blocks F) (x : Vec F S8x256x768 .f32) : Vec F S8x256x768 .f32 :=
  put (put (put (put (put (put (put (put x
    ![0, 0, 0] S1x256x768.size (dbAdd B x 0)) ![1, 0, 0] S1x256x768.size (dbAdd B x 1))
    ![2, 0, 0] S1x256x768.size (dbAdd B x 2)) ![3, 0, 0] S1x256x768.size (dbAdd B x 3))
    ![4, 0, 0] S1x256x768.size (dbAdd B x 4)) ![5, 0, 0] S1x256x768.size (dbAdd B x 5))
    ![6, 0, 0] S1x256x768.size (dbAdd B x 6)) ![7, 0, 0] S1x256x768.size (dbAdd B x 7)

theorem slot_inb (n : ℕ) :
    ∀ a, (![n % 3, 0, 0] : Fin S3x256x512.rank → ℕ) a + S1x256x512.size a ≤ S3x256x512.size a := by
  intro a
  fin_cases a
  · show n % 3 + 1 ≤ 3
    omega
  · show 0 + 256 ≤ 256
    omega
  · show 0 + 512 ≤ 512
    omega

/-- Slot `n mod 3` of an accumulator. -/
def slot (x : Vec F S3x256x512 .f32) (n : ℕ) : Vec F S1x256x512 .f32 :=
  window x ![n % 3, 0, 0] S1x256x512.size (slot_inb n)

/-- An accumulator with `w` added to slot `n mod 3`. -/
def accAdd (x : Vec F S3x256x512 .f32) (n : ℕ) (w : FVec F S256x512 .f32) : Vec F S3x256x512 .f32 :=
  put x ![n % 3, 0, 0] S1x256x512.size (shapeCast S1x256x512 (addf (shapeCast S256x512 (slot x n) shapeCasts_S1x256x512_S256x512) w)
    shapeCasts_S256x512_S1x256x512)

/-- An accumulator with the three thirds of `w` added to the slots of the blocks before, at and after point `n`. -/
def accAdd3 (x : Vec F S3x256x512 .f32) (n : ℕ) (w : FVec F S768x512 .f32) : Vec F S3x256x512 .f32 :=
  accAdd (accAdd (accAdd x (n + 0 + 2) (third0 w)) (n + 1 + 2) (third1 w)) (n + 2 + 2) (third2 w)

/-- An accumulator whose slot for the block after point `n` starts from zero. -/
def accReset (x : Vec F S3x256x512 .f32) (n : ℕ) : Vec F S3x256x512 .f32 :=
  put x ![(n + 1) % 3, 0, 0] S1x256x512.size (k1_pay4 (F := F))

/-- What is written out of an accumulator at point `n`: the finished slot, rounded. -/
def flushOf (x : Vec F S3x256x512 .f32) (n : ℕ) : FVec F S256x512 .bf16 :=
  truncf .bf16 (shapeCast S256x512 (slot x (n + 2)) shapeCasts_S1x256x512_S256x512 : FVec F S256x512 .f32) bitsLt_bf16_f32

/-- A slot read back, added to and stored again. -/
theorem read_accAdd {sp : Space} (v : View sig .tc sp S3x256x512 .f32) (f : v.ty.Contents (Elt F)) (L : List (View.Piece (Elt F) S3x256x512 .f32))
    {off : Fin S3x256x512.rank → ℕ} (inb : ∀ a, off a + S1x256x512.size a ≤ S3x256x512.size a) (n : ℕ) (h : off = ![n % 3, 0, 0])
    {w w' : FVec F S256x512 .f32} {x : Vec F S3x256x512 .f32} {p : FVec F S1x256x512 .f32}
    (hp : p = shapeCast S1x256x512 (addf (shapeCast S256x512
      (v.readAt (Elt F) (Rect.unit off S1x256x512.size inb).toLoadRect (v.writes (Elt F) f L)) shapeCasts_S1x256x512_S256x512) w')
      shapeCasts_S256x512_S1x256x512) (hw : w' = w) (hx : v.read (Elt F) (v.writes (Elt F) f L) = x) :
    v.read (Elt F) (v.writes (Elt F) f (⟨Rect.unit off S1x256x512.size inb, p⟩ :: L)) = accAdd x n w := by
  subst h hx hw hp
  exact View.read_writes_cons_put _ _ _ _ _ rfl

/-- A slot set to zero. -/
theorem read_accReset {sp : Space} (v : View sig .tc sp S3x256x512 .f32) (f : v.ty.Contents (Elt F))
    {off : Fin S3x256x512.rank → ℕ} (inb : ∀ a, off a + S1x256x512.size a ≤ S3x256x512.size a) (n : ℕ) (h : off = ![(n + 1) % 3, 0, 0]) :
    v.read (Elt F) (v.writes (Elt F) f [⟨Rect.unit off S1x256x512.size inb, k1_pay4 (F := F)⟩]) = accReset (v.read (Elt F) f) n := by
  subst h
  exact View.read_writes_cons_put _ _ _ _ _ rfl

/-- The finished slot, rounded. -/
theorem read_flushOf {sp : Space} (v : View sig .tc sp S3x256x512 .f32) (f : v.ty.Contents (Elt F))
    {off : Fin S3x256x512.rank → ℕ} (inb : ∀ a, off a + S1x256x512.size a ≤ S3x256x512.size a) (n : ℕ) (h : off = ![(n + 2) % 3, 0, 0])
    (x : Vec F S3x256x512 .f32) (hx : v.read (Elt F) f = x) :
    (truncf .bf16 (shapeCast S256x512 (v.readAt (Elt F) (Rect.unit off S1x256x512.size inb).toLoadRect f)
      shapeCasts_S1x256x512_S256x512 : FVec F S256x512 .f32) bitsLt_bf16_f32 : FVec F S256x512 .bf16) = flushOf x n := by
  subst h hx
  rfl

/-- Other heads' slabs are not touched. -/
theorem slab_put (x : Vec F S8x256x768 .f32) (w : FVec F S1x256x768 .f32) (h k : Fin 8) (hk : k ≠ h) :
    window (put x ![k.val, 0, 0] S1x256x768.size w) ![h.val, 0, 0] S1x256x768.size (slab_inb h)
      = window x ![h.val, 0, 0] S1x256x768.size (slab_inb h) :=
  VecWindow.window_put_of_disjoint _ _ _ _ _ _ _ (0 : Fin 3) (by
    have : k.val ≠ h.val := fun e => hk (Fin.ext e)
    show h.val + 1 ≤ k.val ∨ k.val + 1 ≤ h.val
    omega)

/-- A head's slab of the bias gradient read, added to and stored again, after stores that fill the buffer. -/
theorem read_dbAdd {sp : Space} (v : View sig .tc sp S8x256x768 .f32) (f' : v.ty.Contents (Elt F)) (L : List (View.Piece (Elt F) S8x256x768 .f32))
    {off : Fin S8x256x768.rank → ℕ} (inb : ∀ a, off a + S1x256x768.size a ≤ S8x256x768.size a) (h : Fin 8) (ho : off = ![h.val, 0, 0])
    {B : Blocks F} {xd x : Vec F S8x256x768 .f32} {w : FVec F S256x768 .f32} {p : FVec F S1x256x768 .f32}
    (hp : p = shapeCast S1x256x768 (addf (shapeCast S256x768
      (v.readAt (Elt F) (Rect.unit off S1x256x768.size inb).toLoadRect (v.writes (Elt F) f' L)) shapeCasts_S1x256x768_S256x768) w)
      shapeCasts_S256x768_S1x256x768) (hw : w = hds B h)
    (hd : window x ![h.val, 0, 0] S1x256x768.size (slab_inb h) = window xd ![h.val, 0, 0] S1x256x768.size (slab_inb h))
    (hx : ∀ f, v.read (Elt F) (v.writes (Elt F) f L) = x) (f : v.ty.Contents (Elt F)) :
    v.read (Elt F) (v.writes (Elt F) f (⟨Rect.unit off S1x256x768.size inb, p⟩ :: L))
      = put x ![h.val, 0, 0] S1x256x768.size (dbAdd B xd h) := by
  subst ho hp hw
  refine (View.read_writes_cons_put _ _ _ _ _ rfl).trans ?_
  unfold dbAdd
  rw [hx, ← hd, View.readAt_unit _ _ _ rfl (slab_inb h), hx]

end Cert.AttKernelIdeal.Hand
-- ==== Proof.AttFwdBody.lean ====
module

public import proofs.«01_k».proof.Proof.AttHead
public import proofs.«01_k».proof.Proof.Gen.AttKernelIdeal.Points
public import proofs.«01_k».proof.Proof.Gen.AttKernelIdeal.Launch
public import Idealize.ShloMosaic.Lib.Pipeline.FrameBody
public import Idealize.ShloMosaic.Lib.Ring
public import Idealize.ShloMosaic.Lib.Tactic

@[expose] public section

set_option maxRecDepth 16384

noncomputable section

namespace Cert.AttKernelIdeal.Hand

open Cert.AttKernelIdeal Cert.AttKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)
open Idealize.ShloMosaic.Pipeline (Dat Cfg Window BodyObligation cellOf)

variable {F : FTy → Type} [FloatOps F]

local notation "𝕄" => MT nD τ sig Unit (Elt F) ℕ (UR sig nD τ) ℕ

/-! The attention's forward kernel: its body on whole blocks, and the obligation of its pipeline. -/

/-- Head `h` of the output before its rounding: the sums of exponentials times values, over the sum of exponentials, which
    the product carries as a column of ones beside the values. -/
def hy (B : Blocks F) (h : Fin 8) : FVec F S256x64 .f32 :=
  mulf (extractStridedSlice S256x64 ![0, 0] (hov B h) slices_S256x128_o0_0_S256x64)
    (broadcastTo S256x64 (divf (broadcast S256x1 (Scalar.ofBits .f32 0x3F800000#32 : F .f32))
      (extractStridedSlice S256x1 ![0, 64] (hov B h) slices_S256x128_o0_64_S256x1)) broadcasts_S256x1_S256x64)
where
  hov (B : Blocks F) (h : Fin 8) : FVec F S256x128 .f32 :=
    matmul dot_S256x768_S768x128_S256x128_1_0_0_1_n_n none (truncf .bf16 (he B h) bitsLt_bf16_f32 : FVec F S256x768 .bf16)
      (concatenate S768x128 1 [⟨S768x64, hv B h⟩, ⟨S768x64, broadcast S768x64 (Scalar.ofBits .bf16 0x3F80#16 : F .bf16)⟩]
        concatenates_S768x64_S768x64_S768x128_d1) (constant S256x128 .f32 0x00000000#32)

/-- The output rows of a grid point. -/
def yOf (B : Blocks F) : FVec F S256x512 .bf16 :=
  truncf .bf16 (concatenate S256x512 1 [⟨S256x64, hy B 0⟩, ⟨S256x64, hy B 1⟩, ⟨S256x64, hy B 2⟩, ⟨S256x64, hy B 3⟩,
    ⟨S256x64, hy B 4⟩, ⟨S256x64, hy B 5⟩, ⟨S256x64, hy B 6⟩, ⟨S256x64, hy B 7⟩]
    concatenates_S256x64_S256x64_S256x64_S256x64_S256x64_S256x64_S256x64_S256x64_S256x512_d1 : FVec F S256x512 .f32)
    bitsLt_bf16_f32

set_option maxHeartbeats 4000000 in
/-- The body on whole buffers: it leaves its inputs and puts `yOf` in the output's. -/
theorem runFwd (c : Dev nD) (i : grid0.Coords)
  (arg1 : Memref sig .tc .vmem S256x512 .bf16) (harg1 : arg1.IsWhole)
  (arg2 : Memref sig .tc .vmem S256x512 .bf16) (harg2 : arg2.IsWhole)
  (arg3 : Memref sig .tc .vmem S256x512 .bf16) (harg3 : arg3.IsWhole)
  (arg4 : Memref sig .tc .vmem S256x512 .bf16) (harg4 : arg4.IsWhole)
  (arg5 : Memref sig .tc .vmem S256x512 .bf16) (harg5 : arg5.IsWhole)
  (arg6 : Memref sig .tc .vmem S256x512 .bf16) (harg6 : arg6.IsWhole)
  (arg7 : Memref sig .tc .vmem S256x512 .bf16) (harg7 : arg7.IsWhole)
  (arg8 : Memref sig .tc .vmem S1x8x256x768 .f32) (harg8 : arg8.IsWhole)
  (arg9 : Memref sig .tc .vmem S256x512 .bf16) (harg9 : arg9.IsWhole)
  (B : Blocks F) (E : Set ℕ) (K : PUnit → sProp 𝕄) :
    iprop(owns (c : Thread nD τ) arg1 fullShare B.q ∗ owns (c : Thread nD τ) arg2 fullShare B.k0 ∗ owns (c : Thread nD τ) arg3 fullShare B.k1 ∗ owns (c : Thread nD τ) arg4 fullShare B.k2 ∗ owns (c : Thread nD τ) arg5 fullShare B.v0 ∗ owns (c : Thread nD τ) arg6 fullShare B.v1 ∗ owns (c : Thread nD τ) arg7 fullShare B.v2 ∗ owns (c : Thread nD τ) arg8 fullShare B.b
        ∗ (∃ d, owns (c : Thread nD τ) arg9 fullShare d)
        ∗ (iprop(owns (c : Thread nD τ) arg1 fullShare B.q ∗ owns (c : Thread nD τ) arg2 fullShare B.k0 ∗ owns (c : Thread nD τ) arg3 fullShare B.k1 ∗ owns (c : Thread nD τ) arg4 fullShare B.k2 ∗ owns (c : Thread nD τ) arg5 fullShare B.v0 ∗ owns (c : Thread nD τ) arg6 fullShare B.v1 ∗ owns (c : Thread nD τ) arg7 fullShare B.v2 ∗ owns (c : Thread nD τ) arg8 fullShare B.b
        ∗ owns (c : Thread nD τ) arg9 fullShare (yOf B)) -∗ K ⟨⟩))
      ⊢ wp frame (wpE (defs₀ (F := F)) Variants.none c none) E (cc0_att_fwd i arg1 harg1 arg2 harg2 arg3 harg3 arg4 harg4 arg5 harg5 arg6 harg6 arg7 harg7 arg8 harg8 arg9 harg9) K := by
  obtain ⟨x0, y, d, x1, x2, x3, x4, x5, x6, x7⟩ := B
  simp only [cc0_att_fwd_eq_skeleton]; unfold cc0_att_fwd_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  iexists _; isplitr
  swap; · iexact H8
  ipureintro
  rw [View.read_writes_full]
  sl_kernel_rfl

section Region

variable (V : (c : Dev nD) → (b : Ref sig .tc) → Buf (Elt F) ((c : Thread nD τ).loc b))

/-- What window `w` reads at point `t`, of the array as the pipeline finds it. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The blocks of point `t`; outputs and output gradients aren't read here. -/
def blocks0 (c : Dev nD) (t : Fin cfg0.N) : Blocks F where
  q := iblk0 V c 0 t
  y := iblk0 V c 0 t
  d := iblk0 V c 0 t
  k0 := iblk0 V c 1 t
  k1 := iblk0 V c 2 t
  k2 := iblk0 V c 3 t
  v0 := iblk0 V c 4 t
  v1 := iblk0 V c 5 t
  v2 := iblk0 V c 6 t
  b := iblk0 V c 7 t

/-- The data of the forward pipeline. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => yOf (blocks0 V c t)
  Φ _ := Pipeline.ΦA spec0 c
  q w := Pipeline.shareOf spec0 w
  owed _ := 0

theorem A_eq0 (c : Dev nD) (w : Fin cfg0.W) : (dat0 V c).A w = V c (Pipeline.arrRef spec0 w) := by
  dsimp only [dat0]

theorem after0_8 (c : Dev nD) (t : Fin cfg0.N) : (dat0 V c).after 8 t = yOf (blocks0 V c t) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]

/-! Each input's buffer holds its block at every point. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]) t d).trans
    (by unfold Dat.fetched Dat.blockOf iblk0; rw [A_eq0]; try rfl)

/-- The body at point `t`, on the buffers as it finds them. -/
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d))
      ∗ (∃ d, owns (c : Thread nD τ) (st0_5 t) fullShare ((dat0 V c).before 5 t d))
      ∗ (∃ d, owns (c : Thread nD τ) (st0_6 t) fullShare ((dat0 V c).before 6 t d))
      ∗ (∃ d, owns (c : Thread nD τ) (st0_7 t) fullShare ((dat0 V c).before 7 t d))
      ∗ (∃ d, owns (c : Thread nD τ) (st0_8 t) fullShare ((dat0 V c).before 8 t d)))
      ⊢ wp frame (wpE (defs₀ (F := F)) Variants.none c none) Set.univ (bodyAt0 t) fun _ =>
        iprop((dat0 V c).Φ t.succ ∗ (dat0 V c).owesAt () t.succ
          ∗ owns (c : Thread nD τ) (st0_0 t) fullShare ((dat0 V c).after 0 t)
          ∗ owns (c : Thread nD τ) (st0_1 t) fullShare ((dat0 V c).after 1 t)
          ∗ owns (c : Thread nD τ) (st0_2 t) fullShare ((dat0 V c).after 2 t)
          ∗ owns (c : Thread nD τ) (st0_3 t) fullShare ((dat0 V c).after 3 t)
          ∗ owns (c : Thread nD τ) (st0_4 t) fullShare ((dat0 V c).after 4 t)
          ∗ owns (c : Thread nD τ) (st0_5 t) fullShare ((dat0 V c).after 5 t)
          ∗ owns (c : Thread nD τ) (st0_6 t) fullShare ((dat0 V c).after 6 t)
          ∗ owns (c : Thread nD τ) (st0_7 t) fullShare ((dat0 V c).after 7 t)
          ∗ owns (c : Thread nD τ) (st0_8 t) fullShare ((dat0 V c).after 8 t)) := by
  unfold bodyAt0
  simp only [before0_0, before0_1, before0_2, before0_3, before0_4, before0_5, before0_6, before0_7]
  rw [show (dat0 V c).owesAt () t.succ = (dat0 V c).owesAt () t.castSucc from rfl]
  rw [show (dat0 V c).Φ t.succ = (dat0 V c).Φ t.castSucc from rfl]
  rw [after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (runFwd c (grid0.coords t) _ _ _ _ _ _ _ _ _ _ _ _ _ _ _ _ _ _ (blocks0 V c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row0 (t : Fin cfg0.N) :
    defs₀ (F := F) .tc cfg0.body (cfg0.bodyArgs t (cfg0.slots t)) = bodyAt0 t := by
  unfold defs₀; rw [Defs.onTc_tc]

/-- The forward pipeline's obligation. -/
theorem body_obligation0 (c : Dev nD) :
    BodyObligation (dat0 (F := F) V c) (defs₀ (F := F)) Variants.none () Set.univ := fun t => by
  rw [bigSep_W0, bigSep_W0, defs₀_row0]
  exact triple_restated (sound_body0 V c t) rfl .rfl fun _ => .rfl

end Region

end Cert.AttKernelIdeal.Hand
-- ==== Proof.AttBwdRun.lean ====
module

public import proofs.«01_k».proof.Proof.AttHead
public import proofs.«01_k».proof.Proof.Gen.AttKernelIdeal.Points
public import proofs.«01_k».proof.Proof.Gen.AttKernelIdeal.Launch
public import Idealize.ShloMosaic.Lib.Pipeline.FrameBody
public import Idealize.ShloMosaic.Lib.Ring
public import Idealize.ShloMosaic.Lib.Tactic

@[expose] public section

set_option maxRecDepth 16384

noncomputable section

namespace Cert.AttKernelIdeal.Hand

open Cert.AttKernelIdeal Cert.AttKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)
open Idealize.ShloMosaic.Pipeline (Dat Cfg Window BodyObligation cellOf)

variable {F : FTy → Type} [FloatOps F]

local notation "𝕄" => MT nD τ sig Unit (Elt F) ℕ (UR sig nD τ) ℕ

section Runs

variable (c : Dev nD) (i : grid1.Coords)
  (arg1 : Memref sig .tc .vmem S256x512 .bf16) (harg1 : arg1.IsWhole)
  (arg2 : Memref sig .tc .vmem S256x512 .bf16) (harg2 : arg2.IsWhole)
  (arg3 : Memref sig .tc .vmem S256x512 .bf16) (harg3 : arg3.IsWhole)
  (arg4 : Memref sig .tc .vmem S256x512 .bf16) (harg4 : arg4.IsWhole)
  (arg5 : Memref sig .tc .vmem S256x512 .bf16) (harg5 : arg5.IsWhole)
  (arg6 : Memref sig .tc .vmem S256x512 .bf16) (harg6 : arg6.IsWhole)
  (arg7 : Memref sig .tc .vmem S256x512 .bf16) (harg7 : arg7.IsWhole)
  (arg8 : Memref sig .tc .vmem S256x512 .bf16) (harg8 : arg8.IsWhole)
  (arg9 : Memref sig .tc .vmem S256x512 .bf16) (harg9 : arg9.IsWhole)
  (arg10 : Memref sig .tc .vmem S1x8x256x768 .f32) (harg10 : arg10.IsWhole)
  (arg11 : Memref sig .tc .vmem S256x512 .bf16) (harg11 : arg11.IsWhole)
  (arg12 : Memref sig .tc .vmem S256x512 .bf16) (harg12 : arg12.IsWhole)
  (arg13 : Memref sig .tc .vmem S256x512 .bf16) (harg13 : arg13.IsWhole)
  (arg14 : Memref sig .tc .vmem S8x256x768 .f32) (harg14 : arg14.IsWhole)
  (arg15 : Memref sig .tc .vmem S3x256x512 .f32) (harg15 : arg15.IsWhole)
  (arg16 : Memref sig .tc .vmem S3x256x512 .f32) (harg16 : arg16.IsWhole)
  (B : Blocks F)

set_option maxHeartbeats 4000000 in
/-- A grid point after the first and before the last. -/
theorem runB (h1 : ¬ k1_cond1 i = 1#1) (h2 : k1_cond2 i = 1#1) (h3 : k1_cond3 i = 1#1)
    (xd : Vec F S8x256x768 .f32) (xk xv : Vec F S3x256x512 .f32)
    (E : Set ℕ) (K : PUnit → sProp 𝕄) :
    iprop(owns (c : Thread nD τ) arg1 fullShare B.q ∗ owns (c : Thread nD τ) arg2 fullShare B.y ∗ owns (c : Thread nD τ) arg3 fullShare B.d ∗ owns (c : Thread nD τ) arg4 fullShare B.k0 ∗ owns (c : Thread nD τ) arg5 fullShare B.k1 ∗ owns (c : Thread nD τ) arg6 fullShare B.k2 ∗ owns (c : Thread nD τ) arg7 fullShare B.v0 ∗ owns (c : Thread nD τ) arg8 fullShare B.v1 ∗ owns (c : Thread nD τ) arg9 fullShare B.v2 ∗ owns (c : Thread nD τ) arg10 fullShare B.b
        ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xd ∗ owns (c : Thread nD τ) arg15 fullShare xk ∗ owns (c : Thread nD τ) arg16 fullShare xv
        ∗ (iprop(owns (c : Thread nD τ) arg1 fullShare B.q ∗ owns (c : Thread nD τ) arg2 fullShare B.y ∗ owns (c : Thread nD τ) arg3 fullShare B.d ∗ owns (c : Thread nD τ) arg4 fullShare B.k0 ∗ owns (c : Thread nD τ) arg5 fullShare B.k1 ∗ owns (c : Thread nD τ) arg6 fullShare B.k2 ∗ owns (c : Thread nD τ) arg7 fullShare B.v0 ∗ owns (c : Thread nD τ) arg8 fullShare B.v1 ∗ owns (c : Thread nD τ) arg9 fullShare B.v2 ∗ owns (c : Thread nD τ) arg10 fullShare B.b
        ∗ owns (c : Thread nD τ) arg11 fullShare (dqOf B) ∗ owns (c : Thread nD τ) arg12 fullShare (flushOf (accAdd3 (accReset xk (i 0).val) (i 0).val (wide (hdk B))) (i 0).val) ∗ owns (c : Thread nD τ) arg13 fullShare (flushOf (accAdd3 (accReset xv (i 0).val) (i 0).val (wide (hdv B))) (i 0).val) ∗ owns (c : Thread nD τ) arg14 fullShare (dbOf B xd) ∗ owns (c : Thread nD τ) arg15 fullShare (accAdd3 (accReset xk (i 0).val) (i 0).val (wide (hdk B))) ∗ owns (c : Thread nD τ) arg16 fullShare (accAdd3 (accReset xv (i 0).val) (i 0).val (wide (hdv B)))) -∗ K ⟨⟩))
      ⊢ wp frame (wpE (defs₀ (F := F)) Variants.none c none) E (cc1_att_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨x0, x1, x2, x3, x4, x5, x6, x7, x8, x9⟩ := B
  simp only [cc1_att_bwd_eq_skeleton]; unfold cc1_att_bwd_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, %hf13, H13⟩, ⟨%f14, %hf14, H14⟩, ⟨%f15, %hf15, H15⟩, Hk⟩
  subst hf0; subst hf1; subst hf2; subst hf3; subst hf4; subst hf5; subst hf6; subst hf7; subst hf8; subst hf9
  subst hf13; subst hf14; subst hf15
  sl_exec (disch := first | sl_exact h1 | sl_exact h2 | sl_exact h3)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr
    swap; · iexact H10
    ipureintro
    rw [View.read_writes_full]
    rfl
  isplitl [H11]
  · iexists _; isplitr
    swap; · iexact H11
    ipureintro
    rw [View.read_writes_full]
    refine read_flushOf _ _ _ _ (k1_off3_eq i) _ ?_
    refine read_accAdd _ _ _ _ _ (k1_off2_eq i 2) rfl ?_ (read_accAdd _ _ _ _ _ (k1_off2_eq i 1) rfl ?_ (read_accAdd _ _ _ _ _ (k1_off2_eq i 0) rfl ?_ ?_))
    · sl_kernel_rfl
    · sl_kernel_rfl
    · sl_kernel_rfl
    · exact read_accReset _ _ _ _ (k1_off1_eq i)
  isplitl [H12]
  · iexists _; isplitr
    swap; · iexact H12
    ipureintro
    rw [View.read_writes_full]
    refine read_flushOf _ _ _ _ (k1_off3_eq i) _ ?_
    refine read_accAdd _ _ _ _ _ (k1_off2_eq i 2) rfl ?_ (read_accAdd _ _ _ _ _ (k1_off2_eq i 1) rfl ?_ (read_accAdd _ _ _ _ _ (k1_off2_eq i 0) rfl ?_ ?_))
    · sl_kernel_rfl
    · sl_kernel_rfl
    · sl_kernel_rfl
    · exact read_accReset _ _ _ _ (k1_off1_eq i)
  isplitl [H13]
  · iexists _; isplitr
    swap; · iexact H13
    ipureintro
    simp only [View.read_writes_cons_put _ _ _ _ _ rfl]
    rfl
  isplitl [H14]
  · iexists _; isplitr
    swap; · iexact H14
    ipureintro
    refine read_accAdd _ _ _ _ _ (k1_off2_eq i 2) rfl ?_ (read_accAdd _ _ _ _ _ (k1_off2_eq i 1) rfl ?_ (read_accAdd _ _ _ _ _ (k1_off2_eq i 0) rfl ?_ ?_))
    · sl_kernel_rfl
    · sl_kernel_rfl
    · sl_kernel_rfl
    · exact read_accReset _ _ _ _ (k1_off1_eq i)
  iexists _; isplitr
  swap; · iexact H15
  ipureintro
  refine read_accAdd _ _ _ _ _ (k1_off2_eq i 2) rfl ?_ (read_accAdd _ _ _ _ _ (k1_off2_eq i 1) rfl ?_ (read_accAdd _ _ _ _ _ (k1_off2_eq i 0) rfl ?_ ?_))
  · sl_kernel_rfl
  · sl_kernel_rfl
  · sl_kernel_rfl
  · exact read_accReset _ _ _ _ (k1_off1_eq i)

end Runs

end Cert.AttKernelIdeal.Hand
-- ==== Proof.AttBwdRunA.lean ====
module

public import proofs.«01_k».proof.Proof.AttHead
public import proofs.«01_k».proof.Proof.Gen.AttKernelIdeal.Points
public import proofs.«01_k».proof.Proof.Gen.AttKernelIdeal.Launch
public import Idealize.ShloMosaic.Lib.Pipeline.FrameBody
public import Idealize.ShloMosaic.Lib.Ring
public import Idealize.ShloMosaic.Lib.Tactic

@[expose] public section

set_option maxRecDepth 16384

noncomputable section

namespace Cert.AttKernelIdeal.Hand

open Cert.AttKernelIdeal Cert.AttKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)
open Idealize.ShloMosaic.Pipeline (Dat Cfg Window BodyObligation cellOf)

variable {F : FTy → Type} [FloatOps F]

local notation "𝕄" => MT nD τ sig Unit (Elt F) ℕ (UR sig nD τ) ℕ

section Runs

variable (c : Dev nD) (i : grid1.Coords)
  (arg1 : Memref sig .tc .vmem S256x512 .bf16) (harg1 : arg1.IsWhole)
  (arg2 : Memref sig .tc .vmem S256x512 .bf16) (harg2 : arg2.IsWhole)
  (arg3 : Memref sig .tc .vmem S256x512 .bf16) (harg3 : arg3.IsWhole)
  (arg4 : Memref sig .tc .vmem S256x512 .bf16) (harg4 : arg4.IsWhole)
  (arg5 : Memref sig .tc .vmem S256x512 .bf16) (harg5 : arg5.IsWhole)
  (arg6 : Memref sig .tc .vmem S256x512 .bf16) (harg6 : arg6.IsWhole)
  (arg7 : Memref sig .tc .vmem S256x512 .bf16) (harg7 : arg7.IsWhole)
  (arg8 : Memref sig .tc .vmem S256x512 .bf16) (harg8 : arg8.IsWhole)
  (arg9 : Memref sig .tc .vmem S256x512 .bf16) (harg9 : arg9.IsWhole)
  (arg10 : Memref sig .tc .vmem S1x8x256x768 .f32) (harg10 : arg10.IsWhole)
  (arg11 : Memref sig .tc .vmem S256x512 .bf16) (harg11 : arg11.IsWhole)
  (arg12 : Memref sig .tc .vmem S256x512 .bf16) (harg12 : arg12.IsWhole)
  (arg13 : Memref sig .tc .vmem S256x512 .bf16) (harg13 : arg13.IsWhole)
  (arg14 : Memref sig .tc .vmem S8x256x768 .f32) (harg14 : arg14.IsWhole)
  (arg15 : Memref sig .tc .vmem S3x256x512 .f32) (harg15 : arg15.IsWhole)
  (arg16 : Memref sig .tc .vmem S3x256x512 .f32) (harg16 : arg16.IsWhole)
  (B : Blocks F)

set_option maxHeartbeats 4000000 in
/-- The first grid point. -/
theorem runA (h1 : k1_cond1 i = 1#1) (h2 : ¬ k1_cond2 i = 1#1) (h3 : k1_cond3 i = 1#1)
    (E : Set ℕ) (K : PUnit → sProp 𝕄) :
    iprop(owns (c : Thread nD τ) arg1 fullShare B.q ∗ owns (c : Thread nD τ) arg2 fullShare B.y ∗ owns (c : Thread nD τ) arg3 fullShare B.d ∗ owns (c : Thread nD τ) arg4 fullShare B.k0 ∗ owns (c : Thread nD τ) arg5 fullShare B.k1 ∗ owns (c : Thread nD τ) arg6 fullShare B.k2 ∗ owns (c : Thread nD τ) arg7 fullShare B.v0 ∗ owns (c : Thread nD τ) arg8 fullShare B.v1 ∗ owns (c : Thread nD τ) arg9 fullShare B.v2 ∗ owns (c : Thread nD τ) arg10 fullShare B.b
        ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare B.q ∗ owns (c : Thread nD τ) arg2 fullShare B.y ∗ owns (c : Thread nD τ) arg3 fullShare B.d ∗ owns (c : Thread nD τ) arg4 fullShare B.k0 ∗ owns (c : Thread nD τ) arg5 fullShare B.k1 ∗ owns (c : Thread nD τ) arg6 fullShare B.k2 ∗ owns (c : Thread nD τ) arg7 fullShare B.v0 ∗ owns (c : Thread nD τ) arg8 fullShare B.v1 ∗ owns (c : Thread nD τ) arg9 fullShare B.v2 ∗ owns (c : Thread nD τ) arg10 fullShare B.b
        ∗ owns (c : Thread nD τ) arg11 fullShare (dqOf B) ∗ owns (c : Thread nD τ) arg12 fullShare (flushOf (accAdd3 (k1_pay2 (F := F)) (i 0).val (wide (hdk B))) (i 0).val) ∗ owns (c : Thread nD τ) arg13 fullShare (flushOf (accAdd3 (k1_pay2 (F := F)) (i 0).val (wide (hdv B))) (i 0).val) ∗ owns (c : Thread nD τ) arg14 fullShare (dbOf B (k1_pay1 (F := F))) ∗ owns (c : Thread nD τ) arg15 fullShare (accAdd3 (k1_pay2 (F := F)) (i 0).val (wide (hdk B))) ∗ owns (c : Thread nD τ) arg16 fullShare (accAdd3 (k1_pay2 (F := F)) (i 0).val (wide (hdv B)))) -∗ K ⟨⟩))
      ⊢ wp frame (wpE (defs₀ (F := F)) Variants.none c none) E (cc1_att_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨x0, x1, x2, x3, x4, x5, x6, x7, x8, x9⟩ := B
  simp only [cc1_att_bwd_eq_skeleton]; unfold cc1_att_bwd_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  subst hf0; subst hf1; subst hf2; subst hf3; subst hf4; subst hf5; subst hf6; subst hf7; subst hf8; subst hf9
  sl_exec (disch := first | sl_exact h1 | sl_exact h2 | sl_exact h3)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr
    swap; · iexact H10
    ipureintro
    rw [View.read_writes_full]
    rfl
  isplitl [H11]
  · iexists _; isplitr
    swap; · iexact H11
    ipureintro
    rw [View.read_writes_full]
    refine read_flushOf _ _ _ _ (k1_off3_eq i) _ ?_
    refine read_accAdd _ _ _ _ _ (k1_off2_eq i 2) rfl ?_ (read_accAdd _ _ _ _ _ (k1_off2_eq i 1) rfl ?_ (read_accAdd _ _ _ _ _ (k1_off2_eq i 0) rfl ?_ ?_))
    · sl_kernel_rfl
    · sl_kernel_rfl
    · sl_kernel_rfl
    · exact View.read_writes_full _ _ _ _ _
  isplitl [H12]
  · iexists _; isplitr
    swap; · iexact H12
    ipureintro
    rw [View.read_writes_full]
    refine read_flushOf _ _ _ _ (k1_off3_eq i) _ ?_
    refine read_accAdd _ _ _ _ _ (k1_off2_eq i 2) rfl ?_ (read_accAdd _ _ _ _ _ (k1_off2_eq i 1) rfl ?_ (read_accAdd _ _ _ _ _ (k1_off2_eq i 0) rfl ?_ ?_))
    · sl_kernel_rfl
    · sl_kernel_rfl
    · sl_kernel_rfl
    · exact View.read_writes_full _ _ _ _ _
  isplitl [H13]
  · iexists _; isplitr
    swap; · iexact H13
    ipureintro
    refine read_dbAdd _ _ _ _ 7 rfl rfl ?_ ?_ (read_dbAdd _ _ _ _ 6 rfl rfl ?_ ?_ (read_dbAdd _ _ _ _ 5 rfl rfl ?_ ?_ (read_dbAdd _ _ _ _ 4 rfl rfl ?_ ?_ (read_dbAdd _ _ _ _ 3 rfl rfl ?_ ?_ (read_dbAdd _ _ _ _ 2 rfl rfl ?_ ?_ (read_dbAdd _ _ _ _ 1 rfl rfl ?_ ?_ (read_dbAdd _ _ _ _ 0 rfl rfl ?_ ?_ (fun f => ?_)))))))) _
    · sl_kernel_rfl
    · repeat refine (slab_put _ _ _ _ (by decide)).trans ?_
      rfl
    · sl_kernel_rfl
    · repeat refine (slab_put _ _ _ _ (by decide)).trans ?_
      rfl
    · sl_kernel_rfl
    · repeat refine (slab_put _ _ _ _ (by decide)).trans ?_
      rfl
    · sl_kernel_rfl
    · repeat refine (slab_put _ _ _ _ (by decide)).trans ?_
      rfl
    · sl_kernel_rfl
    · repeat refine (slab_put _ _ _ _ (by decide)).trans ?_
      rfl
    · sl_kernel_rfl
    · repeat refine (slab_put _ _ _ _ (by decide)).trans ?_
      rfl
    · sl_kernel_rfl
    · repeat refine (slab_put _ _ _ _ (by decide)).trans ?_
      rfl
    · sl_kernel_rfl
    · repeat refine (slab_put _ _ _ _ (by decide)).trans ?_
      rfl
    · exact View.read_writes_full _ _ _ _ _
  isplitl [H14]
  · iexists _; isplitr
    swap; · iexact H14
    ipureintro
    refine read_accAdd _ _ _ _ _ (k1_off2_eq i 2) rfl ?_ (read_accAdd _ _ _ _ _ (k1_off2_eq i 1) rfl ?_ (read_accAdd _ _ _ _ _ (k1_off2_eq i 0) rfl ?_ ?_))
    · sl_kernel_rfl
    · sl_kernel_rfl
    · sl_kernel_rfl
    · exact View.read_writes_full _ _ _ _ _
  iexists _; isplitr
  swap; · iexact H15
  ipureintro
  refine read_accAdd _ _ _ _ _ (k1_off2_eq i 2) rfl ?_ (read_accAdd _ _ _ _ _ (k1_off2_eq i 1) rfl ?_ (read_accAdd _ _ _ _ _ (k1_off2_eq i 0) rfl ?_ ?_))
  · sl_kernel_rfl
  · sl_kernel_rfl
  · sl_kernel_rfl
  · exact View.read_writes_full _ _ _ _ _

end Runs

end Cert.AttKernelIdeal.Hand
-- ==== Proof.AttBwdRunC.lean ====
module

public import proofs.«01_k».proof.Proof.AttHead
public import proofs.«01_k».proof.Proof.Gen.AttKernelIdeal.Points
public import proofs.«01_k».proof.Proof.Gen.AttKernelIdeal.Launch
public import Idealize.ShloMosaic.Lib.Pipeline.FrameBody
public import Idealize.ShloMosaic.Lib.Ring
public import Idealize.ShloMosaic.Lib.Tactic

@[expose] public section

set_option maxRecDepth 16384

noncomputable section

namespace Cert.AttKernelIdeal.Hand

open Cert.AttKernelIdeal Cert.AttKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)
open Idealize.ShloMosaic.Pipeline (Dat Cfg Window BodyObligation cellOf)

variable {F : FTy → Type} [FloatOps F]

local notation "𝕄" => MT nD τ sig Unit (Elt F) ℕ (UR sig nD τ) ℕ

section Runs

variable (c : Dev nD) (i : grid1.Coords)
  (arg1 : Memref sig .tc .vmem S256x512 .bf16) (harg1 : arg1.IsWhole)
  (arg2 : Memref sig .tc .vmem S256x512 .bf16) (harg2 : arg2.IsWhole)
  (arg3 : Memref sig .tc .vmem S256x512 .bf16) (harg3 : arg3.IsWhole)
  (arg4 : Memref sig .tc .vmem S256x512 .bf16) (harg4 : arg4.IsWhole)
  (arg5 : Memref sig .tc .vmem S256x512 .bf16) (harg5 : arg5.IsWhole)
  (arg6 : Memref sig .tc .vmem S256x512 .bf16) (harg6 : arg6.IsWhole)
  (arg7 : Memref sig .tc .vmem S256x512 .bf16) (harg7 : arg7.IsWhole)
  (arg8 : Memref sig .tc .vmem S256x512 .bf16) (harg8 : arg8.IsWhole)
  (arg9 : Memref sig .tc .vmem S256x512 .bf16) (harg9 : arg9.IsWhole)
  (arg10 : Memref sig .tc .vmem S1x8x256x768 .f32) (harg10 : arg10.IsWhole)
  (arg11 : Memref sig .tc .vmem S256x512 .bf16) (harg11 : arg11.IsWhole)
  (arg12 : Memref sig .tc .vmem S256x512 .bf16) (harg12 : arg12.IsWhole)
  (arg13 : Memref sig .tc .vmem S256x512 .bf16) (harg13 : arg13.IsWhole)
  (arg14 : Memref sig .tc .vmem S8x256x768 .f32) (harg14 : arg14.IsWhole)
  (arg15 : Memref sig .tc .vmem S3x256x512 .f32) (harg15 : arg15.IsWhole)
  (arg16 : Memref sig .tc .vmem S3x256x512 .f32) (harg16 : arg16.IsWhole)
  (B : Blocks F)

set_option maxHeartbeats 4000000 in
/-- The last grid point. -/
theorem runC (h1 : ¬ k1_cond1 i = 1#1) (h2 : ¬ k1_cond2 i = 1#1) (h3 : ¬ k1_cond3 i = 1#1)
    (xq : Vec F S256x512 .bf16) (xd : Vec F S8x256x768 .f32) (xk xv : Vec F S3x256x512 .f32)
    (E : Set ℕ) (K : PUnit → sProp 𝕄) :
    iprop(owns (c : Thread nD τ) arg1 fullShare B.q ∗ owns (c : Thread nD τ) arg2 fullShare B.y ∗ owns (c : Thread nD τ) arg3 fullShare B.d ∗ owns (c : Thread nD τ) arg4 fullShare B.k0 ∗ owns (c : Thread nD τ) arg5 fullShare B.k1 ∗ owns (c : Thread nD τ) arg6 fullShare B.k2 ∗ owns (c : Thread nD τ) arg7 fullShare B.v0 ∗ owns (c : Thread nD τ) arg8 fullShare B.v1 ∗ owns (c : Thread nD τ) arg9 fullShare B.v2 ∗ owns (c : Thread nD τ) arg10 fullShare B.b
        ∗ owns (c : Thread nD τ) arg11 fullShare xq ∗ (∃ d, owns (c : Thread nD τ) arg12 fullShare d) ∗ (∃ d, owns (c : Thread nD τ) arg13 fullShare d) ∗ owns (c : Thread nD τ) arg14 fullShare xd ∗ owns (c : Thread nD τ) arg15 fullShare xk ∗ owns (c : Thread nD τ) arg16 fullShare xv
        ∗ (iprop(owns (c : Thread nD τ) arg1 fullShare B.q ∗ owns (c : Thread nD τ) arg2 fullShare B.y ∗ owns (c : Thread nD τ) arg3 fullShare B.d ∗ owns (c : Thread nD τ) arg4 fullShare B.k0 ∗ owns (c : Thread nD τ) arg5 fullShare B.k1 ∗ owns (c : Thread nD τ) arg6 fullShare B.k2 ∗ owns (c : Thread nD τ) arg7 fullShare B.v0 ∗ owns (c : Thread nD τ) arg8 fullShare B.v1 ∗ owns (c : Thread nD τ) arg9 fullShare B.v2 ∗ owns (c : Thread nD τ) arg10 fullShare B.b
        ∗ owns (c : Thread nD τ) arg11 fullShare xq ∗ owns (c : Thread nD τ) arg12 fullShare (flushOf xk (i 0).val) ∗ owns (c : Thread nD τ) arg13 fullShare (flushOf xv (i 0).val) ∗ owns (c : Thread nD τ) arg14 fullShare xd ∗ owns (c : Thread nD τ) arg15 fullShare xk ∗ owns (c : Thread nD τ) arg16 fullShare xv) -∗ K ⟨⟩))
      ⊢ wp frame (wpE (defs₀ (F := F)) Variants.none c none) E (cc1_att_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  obtain ⟨x0, x1, x2, x3, x4, x5, x6, x7, x8, x9⟩ := B
  simp only [cc1_att_bwd_eq_skeleton]; unfold cc1_att_bwd_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, ⟨%f15, %hf15, H15⟩, Hk⟩
  subst hf0; subst hf1; subst hf2; subst hf3; subst hf4; subst hf5; subst hf6; subst hf7; subst hf8; subst hf9
  subst hf10; subst hf13; subst hf14; subst hf15
  sl_exec (disch := first | sl_exact h1 | sl_exact h2 | sl_exact h3)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr
    swap; · iexact H10
    ipureintro
    rfl
  isplitl [H11]
  · iexists _; isplitr
    swap; · iexact H11
    ipureintro
    rw [View.read_writes_full]
    exact read_flushOf _ _ _ _ (k1_off3_eq i) _ rfl
  isplitl [H12]
  · iexists _; isplitr
    swap; · iexact H12
    ipureintro
    rw [View.read_writes_full]
    exact read_flushOf _ _ _ _ (k1_off3_eq i) _ rfl
  isplitl [H13]
  · iexists _; isplitr
    swap; · iexact H13
    ipureintro
    rfl
  isplitl [H14]
  · iexists _; isplitr
    swap; · iexact H14
    ipureintro
    rfl
  iexists _; isplitr
  swap; · iexact H15
  ipureintro
  rfl

end Runs

end Cert.AttKernelIdeal.Hand
-- ==== Proof.AttBwdBody.lean ====
module

public import proofs.«01_k».proof.Proof.AttBwdRun
public import proofs.«01_k».proof.Proof.AttBwdRunA
public import proofs.«01_k».proof.Proof.AttBwdRunC
public import proofs.«01_k».proof.Proof.Gen.AttKernelIdeal.Points
public import proofs.«01_k».proof.Proof.Gen.AttKernelIdeal.Launch
public import Idealize.ShloMosaic.Lib.Pipeline.FrameBody
public import Idealize.ShloMosaic.Lib.Ring
public import Idealize.ShloMosaic.Lib.Tactic

@[expose] public section

set_option maxRecDepth 16384

noncomputable section

namespace Cert.AttKernelIdeal.Hand

open Cert.AttKernelIdeal Cert.AttKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow (window put)
open Idealize.ShloMosaic.Pipeline (Dat Cfg Window BodyObligation cellOf)

variable {F : FTy → Type} [FloatOps F]

local notation "𝕄" => MT nD τ sig Unit (Elt F) ℕ (UR sig nD τ) ℕ

/-! The obligation of the attention's backward pipeline. Its two scratch buffers are carried from point to point, and so
    is the block of its last window. -/

section Region

variable (V : (c : Dev nD) → (b : Ref sig .tc) → Buf (Elt F) ((c : Thread nD τ).loc b))

/-- What window `w` reads at point `t`, of the array as the pipeline finds it. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The blocks of point `t`. -/
def blocks1 (c : Dev nD) (t : Fin cfg1.N) : Blocks F where
  q := iblk1 V c 0 t
  y := iblk1 V c 1 t
  d := iblk1 V c 2 t
  k0 := iblk1 V c 3 t
  k1 := iblk1 V c 4 t
  k2 := iblk1 V c 5 t
  v0 := iblk1 V c 6 t
  v1 := iblk1 V c 7 t
  v2 := iblk1 V c 8 t
  b := iblk1 V c 9 t

/-- What the points up to one of them have left: the last query gradient, the sum of the score gradients, and the two
    accumulators. -/
structure Kept (F : FTy → Type) where
  dq : Vec F S256x512 .bf16
  db : Vec F S8x256x768 .f32
  ak : Vec F S3x256x512 .f32
  av : Vec F S3x256x512 .f32

/-- The first point. -/
def firstStep (B : Blocks F) : Kept F where
  dq := dqOf B
  db := dbOf B (k1_pay1 (F := F))
  ak := accAdd3 (k1_pay2 (F := F)) 0 (wide (hdk B))
  av := accAdd3 (k1_pay2 (F := F)) 0 (wide (hdv B))

/-- A point between the first and the last. -/
def nextStep (B : Blocks F) (n : ℕ) (s : Kept F) : Kept F where
  dq := dqOf B
  db := dbOf B s.db
  ak := accAdd3 (accReset s.ak n) n (wide (hdk B))
  av := accAdd3 (accReset s.av n) n (wide (hdv B))

/-- What the points up to `n` have left; the last changes nothing of it. -/
def kept1 (c : Dev nD) : (n : ℕ) → n < cfg1.N → Kept F
  | 0, h => firstStep (blocks1 V c ⟨0, h⟩)
  | n + 1, h => if n + 1 < 32 then nextStep (blocks1 V c ⟨n + 1, h⟩) (n + 1) (kept1 c n (Nat.lt_of_succ_lt h))
      else kept1 c n (Nat.lt_of_succ_lt h)

/-- What the points before `t` have left. -/
abbrev prev1 (c : Dev nD) (t : Fin cfg1.N) : Kept F := kept1 V c (t.val - 1) (Nat.lt_of_le_of_lt (Nat.sub_le _ _) t.isLt)

theorem kept1_first (c : Dev nD) (t : Fin cfg1.N) (ht : t.val = 0) : kept1 V c t.val t.isLt = firstStep (blocks1 V c t) := by
  obtain ⟨n, h⟩ := t
  obtain rfl : n = 0 := ht
  rfl

theorem kept1_next (c : Dev nD) (t : Fin cfg1.N) (ht : t.val ≠ 0) (hl : t.val < 32) :
    kept1 V c t.val t.isLt = nextStep (blocks1 V c t) t.val (prev1 V c t) := by
  obtain ⟨n, h⟩ := t
  cases n with
  | zero => exact absurd rfl ht
  | succ n => exact if_pos hl

theorem kept1_last (c : Dev nD) (t : Fin cfg1.N) (ht : t.val ≠ 0) (hl : ¬ t.val < 32) :
    kept1 V c t.val t.isLt = prev1 V c t := by
  obtain ⟨n, h⟩ := t
  cases n with
  | zero => exact absurd rfl ht
  | succ n => exact if_neg hl

/-- The scoped buffers of no concern to this pipeline. -/
abbrev others1 (c : Dev nD) : sProp 𝕄 :=
  Pipeline.scopedRestBut (Ix := Unit) (Name := ℕ) (U := UR sig nD τ) (Lvl := ℕ) (Val := Elt F) spec1 c [cc1_scratch0, cc1_scratch1]

/-- The invariant before point `n`: the accumulators hold what the points before it left. -/
def inv1 (c : Dev nD) : (n : ℕ) → n ≤ cfg1.N → sProp 𝕄
  | 0, _ => Pipeline.ΦA spec1 c
  | n + 1, h => iprop(((owns (c : Thread nD τ) (Memref.whole cc1_scratch0) fullShare (kept1 V c n h).ak
      ∗ owns (c : Thread nD τ) (Memref.whole cc1_scratch1) fullShare (kept1 V c n h).av) ∗ others1 c) ∗ ∃ r, prngReg c r)

theorem inv1_zero (c : Dev nD) (n : ℕ) (h : n ≤ cfg1.N) (hz : n = 0) : inv1 V c n h = Pipeline.ΦA spec1 c := by
  subst hz; rfl

theorem inv1_succ (c : Dev nD) (n : ℕ) (h : n < cfg1.N) :
    inv1 V c (n + 1) h = iprop(((owns (c : Thread nD τ) (Memref.whole cc1_scratch0) fullShare (kept1 V c n h).ak
      ∗ owns (c : Thread nD τ) (Memref.whole cc1_scratch1) fullShare (kept1 V c n h).av) ∗ others1 c) ∗ ∃ r, prngReg c r) := rfl

theorem inv1_pos (c : Dev nD) (n : ℕ) (h : n ≤ cfg1.N) (hz : n ≠ 0) :
    inv1 V c n h = iprop(((owns (c : Thread nD τ) (Memref.whole cc1_scratch0) fullShare (kept1 V c (n - 1) (by omega)).ak
      ∗ owns (c : Thread nD τ) (Memref.whole cc1_scratch1) fullShare (kept1 V c (n - 1) (by omega)).av) ∗ others1 c)
      ∗ ∃ r, prngReg c r) := by
  cases n with
  | zero => exact absurd rfl hz
  | succ n => rfl

/-- Before the first point the accumulators hold anything. -/
theorem invA_eq (c : Dev nD) :
    (Pipeline.ΦA (U := UR sig nD τ) (Val := Elt F) spec1 c : sProp 𝕄)
      = iprop((((∃ d, owns (c : Thread nD τ) (Memref.whole cc1_scratch0) fullShare d)
        ∗ (∃ d, owns (c : Thread nD τ) (Memref.whole cc1_scratch1) fullShare d)) ∗ others1 c) ∗ ∃ r, prngReg c r) := by
  unfold Pipeline.ΦA
  rw [Pipeline.scopedRest_split_of_list spec1 c [cc1_scratch0, cc1_scratch1] (by decide) (by decide)]
  simp only [owns_whole]
  rfl

/-- The data of the backward pipeline. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => (kept1 V c t.val t.isLt).dq
    | ⟨11, _⟩ => flushOf (kept1 V c t.val t.isLt).ak t.val
    | ⟨12, _⟩ => flushOf (kept1 V c t.val t.isLt).av t.val
    | ⟨13, _⟩ => (kept1 V c t.val t.isLt).db
  Φ t := inv1 V c t.val (Nat.le_of_lt_succ t.isLt)
  q w := Pipeline.shareOf spec1 w
  owed _ := 0

theorem A_eq1 (c : Dev nD) (w : Fin cfg1.W) : (dat1 V c).A w = V c (Pipeline.arrRef spec1 w) := by
  dsimp only [dat1]

theorem inv1_castSucc (c : Dev nD) (t : Fin cfg1.N) :
    (dat1 V c).Φ t.castSucc = inv1 V c t.val (Nat.le_of_lt t.isLt) := by
  dsimp only [dat1]; exact Pipeline.Dat.Φ_castSucc (inv1 V c) t

theorem after1_10 (c : Dev nD) (t : Fin cfg1.N) : (dat1 V c).after 10 t = (kept1 V c t.val t.isLt).dq := by dsimp only [dat1]
theorem after1_11 (c : Dev nD) (t : Fin cfg1.N) : (dat1 V c).after 11 t = flushOf (kept1 V c t.val t.isLt).ak t.val := by
  dsimp only [dat1]
theorem after1_12 (c : Dev nD) (t : Fin cfg1.N) : (dat1 V c).after 12 t = flushOf (kept1 V c t.val t.isLt).av t.val := by
  dsimp only [dat1]
theorem after1_13 (c : Dev nD) (t : Fin cfg1.N) : (dat1 V c).after 13 t = (kept1 V c t.val t.isLt).db := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]

/-! Each input's buffer holds its block at every point. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl)
    (fun t => by rw [after1_9]; unfold Dat.blockOf iblk1; rw [A_eq1]) t d).trans
    (by unfold Dat.fetched Dat.blockOf iblk1; rw [A_eq1]; try rfl)

/-! ## The points and their conditions -/

theorem coord1 : ∀ t : Fin grid1.N, ((grid1.coords t) 0).val = t.val := by decide +kernel
theorem cond1_iff : ∀ t : Fin grid1.N, k1_cond1 (grid1.coords t) = 1#1 ↔ t.val = 0 := by decide +kernel
theorem cond2_iff : ∀ t : Fin grid1.N, k1_cond2 (grid1.coords t) = 1#1 ↔ t.val ≠ 0 ∧ t.val < 32 := by decide +kernel
theorem cond3_iff : ∀ t : Fin grid1.N, k1_cond3 (grid1.coords t) = 1#1 ↔ t.val < 32 := by decide +kernel
theorem live1_10 : ∀ t : Fin cfg1.N, t.val < 32 → cfg1.idle 10 (cfg1.grid.coords t) = false := by decide +kernel
theorem live1_13 : ∀ t : Fin cfg1.N, t.val < 32 → cfg1.idle 13 (cfg1.grid.coords t) = false := by decide +kernel
theorem flushed1_10 : ∀ t : Fin cfg1.N, ¬ t.val < 32 → (cfg1.win 10).flush t = true := by decide +kernel
theorem unflushed1_10 : ∀ t : Fin cfg1.N, t.val = 31 → (cfg1.win 10).flush t = false := by decide +kernel
theorem flushed1_13 : ∀ t : Fin cfg1.N, ¬ t.val < 32 → (cfg1.win 13).flush t = true := by decide +kernel
theorem unflushed1_13 : ∀ t : Fin cfg1.N, t.val < 32 → (cfg1.win 13).flush t = false := by decide +kernel

/-- An output's buffer that the point before wrote and did not send holds what it wrote. -/
theorem before_of_live {c : Dev nD} (dat : Dat τ (Elt F) Unit ℕ (UR sig nD τ) ℕ cfg1 c) (w : Fin cfg1.W)
    (hw : (cfg1.win w).isOut = true) (t : Fin cfg1.N) (ht : t.val ≠ 0)
    (hfl : (cfg1.win w).flush ⟨t.val - 1, Nat.lt_of_le_of_lt (Nat.sub_le _ _) t.isLt⟩ = false)
    (hlive : cfg1.idle w (cfg1.grid.coords ⟨t.val - 1, Nat.lt_of_le_of_lt (Nat.sub_le _ _) t.isLt⟩) = false)
    (hclip : ∀ (i : cfg1.grid.Coords) a, (cfg1.win w).clip i a = none) (d) :
    dat.before w t d = dat.after w ⟨t.val - 1, Nat.lt_of_le_of_lt (Nat.sub_le _ _) t.isLt⟩ := by
  rw [dat.before_of_pos w t ht ((cfg1.win w).fetch_out hw t), hfl, if_neg Bool.false_ne_true]
  unfold Dat.left
  rw [hlive]
  unfold Dat.kept
  rw [Pipeline.fill_of_clip_none w _ (hclip _) d (dat.after w _), Window.fill_cut]

theorem before1_13 (c : Dev nD) (t : Fin cfg1.N) (ht : t.val ≠ 0) (d) : (dat1 V c).before 13 t d = (prev1 V c t).db := by
  have hN : t.val < 33 := lt_of_lt_of_eq t.isLt (show cfg1.N = 33 from N_1)
  rw [before_of_live (dat1 V c) 13 rfl t ht (unflushed1_13 _ (by dsimp only; omega)) (live1_13 _ (by dsimp only; omega))
    (fun _ _ => rfl), after1_13]

theorem before1_10 (c : Dev nD) (t : Fin cfg1.N) (ht : ¬ t.val < 32) (d) : (dat1 V c).before 10 t d = (prev1 V c t).dq := by
  have hN : t.val < 33 := lt_of_lt_of_eq t.isLt (show cfg1.N = 33 from N_1)
  rw [before_of_live (dat1 V c) 10 rfl t (by omega) (unflushed1_10 _ (by dsimp only; omega)) (live1_10 _ (by dsimp only; omega))
    (fun _ _ => rfl), after1_10]

/-- The last point writes neither the query gradient nor the sum of score gradients, but sends both: it must leave them. -/
theorem leaves1_10 (c : Dev nD) (t : Fin cfg1.N) :
    (dat1 V c).leavesExact 10 t = owns (c : Thread nD τ) (st1_10 t) fullShare ((dat1 V c).after 10 t) := by
  unfold Dat.leavesExact
  by_cases h : t.val < 32
  · rw [live1_10 t h]
  · rw [flushed1_10 t h]; split <;> rfl

theorem leaves1_13 (c : Dev nD) (t : Fin cfg1.N) :
    (dat1 V c).leavesExact 13 t = owns (c : Thread nD τ) (st1_13 t) fullShare ((dat1 V c).after 13 t) := by
  unfold Dat.leavesExact
  by_cases h : t.val < 32
  · rw [live1_13 t h]
  · rw [flushed1_13 t h]; split <;> rfl

/-! ## The body -/

/-- What the body finds at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- and what it leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ (dat1 V c).leavesExact 10 t
    ∗ owns (c : Thread nD τ) (st1_11 t) fullShare ((dat1 V c).after 11 t)
    ∗ owns (c : Thread nD τ) (st1_12 t) fullShare ((dat1 V c).after 12 t)
    ∗ (dat1 V c).leavesExact 13 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl]
  rw [show (dat1 V c).Φ t.succ = inv1 V c (t.val + 1) t.isLt from rfl, inv1_succ, inv1_castSucc, leaves1_10, leaves1_13]
  rw [after1_0, after1_1, after1_2, after1_3, after1_4, after1_5, after1_6, after1_7, after1_8, after1_9, after1_10, after1_11, after1_12, after1_13]
  by_cases h0 : t.val = 0
  · rw [inv1_zero V c _ _ h0, invA_eq, kept1_first V c t h0]
    have run := fun K => runA c (grid1.coords t)
      (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) (st1_12 t) (hstage1_12 ((cfg1.slots t 12).cast nbuf1_12)) (st1_13 t) (hstage1_13 ((cfg1.slots t 13).cast nbuf1_13))
      (Memref.whole cc1_scratch0) (Memref.isWhole_whole _) (Memref.whole cc1_scratch1) (Memref.isWhole_whole _) (blocks1 V c t)
      ((cond1_iff t).mpr h0) (fun h => ((cond2_iff t).mp h).1 h0) ((cond3_iff t).mpr (by omega)) Set.univ K
    rw [coord1 t, h0] at run
    unfold firstStep; dsimp only
    rw [h0]
    iintro ⟨⟨⟨⟨S0, S1⟩, R⟩, G⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [S0]; · iexact S0
    isplitl [S1]; · iexact S1
    iintro ⟨H0, H1, H2, H3, H4, H5, H6, H7, H8, H9, H10, H11, H12, H13, S0, S1⟩
    isplitl [S0 S1 R G]
    · isplitr [G]
      · isplitr [R]
        · isplitl [S0]; · iexact S0
          iexact S1
        iexact R
      iexact G
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  by_cases h2 : t.val < 32
  · rw [inv1_pos V c _ _ h0, kept1_next V c t h0 h2]
    have run := fun xd xk xv K => runB c (grid1.coords t)
      (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) (st1_12 t) (hstage1_12 ((cfg1.slots t 12).cast nbuf1_12)) (st1_13 t) (hstage1_13 ((cfg1.slots t 13).cast nbuf1_13))
      (Memref.whole cc1_scratch0) (Memref.isWhole_whole _) (Memref.whole cc1_scratch1) (Memref.isWhole_whole _) (blocks1 V c t)
      (fun h => h0 ((cond1_iff t).mp h)) ((cond2_iff t).mpr ⟨h0, h2⟩) ((cond3_iff t).mpr h2) xd xk xv Set.univ K
    rw [coord1 t] at run
    simp only [before1_13 V c t h0]
    unfold nextStep; dsimp only
    iintro ⟨⟨⟨⟨S0, S1⟩, R⟩, G⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run (prev1 V c t).db (prev1 V c t).ak (prev1 V c t).av _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexact H13
    isplitl [S0]; · iexact S0
    isplitl [S1]; · iexact S1
    iintro ⟨H0, H1, H2, H3, H4, H5, H6, H7, H8, H9, H10, H11, H12, H13, S0, S1⟩
    isplitl [S0 S1 R G]
    · isplitr [G]
      · isplitr [R]
        · isplitl [S0]; · iexact S0
          iexact S1
        iexact R
      iexact G
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [inv1_pos V c _ _ h0, kept1_last V c t h0 h2]
    have run := fun xq xd xk xv K => runC c (grid1.coords t)
      (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) (st1_12 t) (hstage1_12 ((cfg1.slots t 12).cast nbuf1_12)) (st1_13 t) (hstage1_13 ((cfg1.slots t 13).cast nbuf1_13))
      (Memref.whole cc1_scratch0) (Memref.isWhole_whole _) (Memref.whole cc1_scratch1) (Memref.isWhole_whole _) (blocks1 V c t)
      (fun h => h0 ((cond1_iff t).mp h)) (fun h => h2 ((cond2_iff t).mp h).2) (fun h => h2 ((cond3_iff t).mp h)) xq xd xk xv Set.univ K
    rw [coord1 t] at run
    simp only [before1_13 V c t h0, before1_10 V c t h2]
    iintro ⟨⟨⟨⟨S0, S1⟩, R⟩, G⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run (prev1 V c t).dq (prev1 V c t).db (prev1 V c t).ak (prev1 V c t).av _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    isplitl [H13]; · iexact H13
    isplitl [S0]; · iexact S0
    isplitl [S1]; · iexact S1
    iintro ⟨H0, H1, H2, H3, H4, H5, H6, H7, H8, H9, H10, H11, H12, H13, S0, S1⟩
    isplitl [S0 S1 R G]
    · isplitr [G]
      · isplitr [R]
        · isplitl [S0]; · iexact S0
          iexact S1
        iexact R
      iexact G
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

theorem defs₀_row1 (t : Fin cfg1.N) :
    defs₀ (F := F) .tc cfg1.body (cfg1.bodyArgs t (cfg1.slots t)) = bodyAt1 t := by
  unfold defs₀; rw [Defs.onTc_tc]

/-- The backward pipeline's obligation. -/
theorem body_obligation1 (c : Dev nD) :
    BodyObligation (dat1 (F := F) V c) (defs₀ (F := F)) Variants.none () Set.univ := fun t => by
  rw [bigSep_W1, bigSep_W1, defs₀_row1]
  exact triple_restated (sound_body1 V c t) rfl .rfl fun _ => .rfl

/-- What the pipeline starts from gives the invariant before the first point, -/
theorem enter1 (c : Dev nD) : Pipeline.ΦA spec1 c ⊢ (dat1 V c).Φ 0 := by
  rw [show (dat1 V c).Φ 0 = inv1 V c 0 (Nat.zero_le _) from rfl, inv1_zero V c 0 _ rfl]

/-- and the invariant after the last point gives it back. -/
theorem leave1 (c : Dev nD) : (dat1 V c).Φ (Fin.last cfg1.N) ⊢ Pipeline.ΦA spec1 c := by
  rw [show (dat1 V c).Φ (Fin.last cfg1.N) = inv1 V c cfg1.N le_rfl from rfl,
    inv1_pos V c _ _ (by rw [show cfg1.N = 33 from N_1]; omega), invA_eq]
  iintro ⟨⟨⟨S0, S1⟩, R⟩, G⟩
  isplitr [G]
  · isplitr [R]
    · isplitl [S0]
      · iexists _; iexact S0
      iexists _; iexact S1
    iexact R
  iexact G

end Region

end Cert.AttKernelIdeal.Hand
-- ==== Proof.AttRun.lean ====
module

public import proofs.«01_k».proof.Proof.AttFwdBody
public import proofs.«01_k».proof.Proof.AttBwdBody
public import proofs.«01_k».proof.Proof.Gen.AttKernelIdeal.Points
public import proofs.«01_k».proof.Proof.Gen.AttKernelIdeal.Launch
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.AttKernelIdeal.Hand

open Cert.AttKernelIdeal Cert.AttKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The whole program: host lines, the forward pipeline, host lines, the backward pipeline, host lines. -/

variable (m : (ℓ : Loc nD τ sig) → Buf (Elt F) ℓ) (ρ : Dev nD → PrngReg)

abbrev argRefs : List (Ref sig .tc) := [main_arg0, main_arg1, main_arg2]

/-- What the first host lines write, in order. -/
abbrev host0_refs : List (Ref sig .tc) :=
  [main_c, main_v0, main_v1, main_v2, main_v3, main_v4, main_c_0, main_v5, main_v6, main_c_1, main_v7, main_v8,
   main_c_2, main_v9, main_v10, main_v11, main_v12, main_v13, main_v14, main_v15, main_v16, main_c_3,
   main_c_4, main_v17, main_v18, main_v19, main_c_5, main_v20, main_v21, main_c_6, main_v22, main_v23,
   main_v24, main_v25, main_v26, main_v27, main_v28, main_v29, main_v30, main_v31, main_cst, main_v32,
   main_v33, main_v34, main_v35, main_v36, main_v37, main_cst_7, main_v38, main_v39, main_v40, main_v41,
   main_v42, main_v43, main_v44, main_c_8, main_v45, main_v46, main_c_9, main_v47, main_v48, main_c_10,
   main_c_11, main_v49, main_v50, main_v51, main_v52, main_v53, main_c_12, main_v54, main_v55, main_c_13,
   main_c_14, main_v56, main_v57, main_v58, main_v59, main_c_15, main_v60, main_v61, main_v62, main_v63,
   main_v64, main_c_16, main_v65, main_v66, main_v67, main_v68, main_v69, main_v70, main_v71, main_v72,
   main_v73, main_v74, main_v75, main_v76, main_v77, main_cst_17, main_v78, main_v79, main_v80, main_v81]

theorem host0_writes : (hostOps0 : List (HloOp τ sig (Elt F))).Forall
    fun op => op.writes ⊆ (host0_refs.map (Proc.devRef (τ := τ) .tc)).toFinset :=
  StableHlo.forall_writes_sub_of_map rfl

theorem host0_fresh : (hostOps0 : List (HloOp τ sig (Elt F))).Forall fun op => op.fresh = ∅ :=
  StableHlo.forall_fresh_of_map rfl

/-- What the second host lines write, in order. -/
abbrev host1_refs : List (Ref sig .tc) :=
  [main_v83, main_v84]

theorem host1_writes : (hostOps1 : List (HloOp τ sig (Elt F))).Forall
    fun op => op.writes ⊆ (host1_refs.map (Proc.devRef (τ := τ) .tc)).toFinset :=
  StableHlo.forall_writes_sub_of_map rfl

theorem host1_fresh : (hostOps1 : List (HloOp τ sig (Elt F))).Forall fun op => op.fresh = ∅ :=
  StableHlo.forall_fresh_of_map rfl

/-- What the last host lines write, in order. -/
abbrev host2_refs : List (Ref sig .tc) :=
  [main_v86, main_v87, main_v88, main_v89, main_v90, main_v91, main_cst_18, main_v92, main_v93, main_v94,
   main_v95, main_v96, main_v97, main_cst_19, main_v98]

theorem host2_writes : (hostOps2 : List (HloOp τ sig (Elt F))).Forall
    fun op => op.writes ⊆ (host2_refs.map (Proc.devRef (τ := τ) .tc)).toFinset :=
  StableHlo.forall_writes_sub_of_map rfl

theorem host2_fresh : (hostOps2 : List (HloOp τ sig (Elt F))).Forall fun op => op.fresh = ∅ :=
  StableHlo.forall_fresh_of_map rfl

/-! ## The buffers at each boundary -/

/-- At the launch, -/
abbrev W0 : Dev nD → Valuation τ sig (Elt F) := fun c b => (s₀ m ρ).mem ((c : Dev nD), b)

/-- after the first host lines, -/
abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

/-- after the forward pipeline, -/
def W2 (c : Dev nD) : Valuation τ sig (Elt F) :=
  Pipeline.withArrays spec0 c (W1 m ρ c) fun w => (dat0 (V1 m ρ) c).arrAt w cfg0.N

abbrev V2 : (c : Dev nD) → (b : Ref sig .tc) → Buf (Elt F) ((c : Thread nD τ).loc b) := fun c b => W2 m ρ c b

/-- after the second host lines, -/
abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

/-- after the backward pipeline, -/
def W4 (c : Dev nD) : Valuation τ sig (Elt F) :=
  Pipeline.withArrays spec1 c (W3 m ρ c) fun w => (dat1 (V3 m ρ) c).arrAt w cfg1.N

abbrev V4 : (c : Dev nD) → (b : Ref sig .tc) → Buf (Elt F) ((c : Thread nD τ).loc b) := fun c b => W4 m ρ c b

/-- and at the end. -/
abbrev W5 : Dev nD → Valuation τ sig (Elt F) := fun c => StableHlo.after hostOps2 (W4 m ρ c)

theorem W2_arr (c : Dev nD) (w : Fin cfg0.W) :
    W2 m ρ c (Proc.devRef .tc (Pipeline.arrRef spec0 w)) = (dat0 (V1 m ρ) c).arrAt w cfg0.N := by
  unfold W2; exact (dat0 (V1 m ρ) c).withArrays_arrAt launch₀0.sharedIn _ (A_eq0 (V1 m ρ) c) w

theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

/-- A buffer that's no output of the pipeline keeps its contents. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩

theorem args_in0 : ∀ a ∈ argRefs, ∀ w : Fin cfg0.W, Pipeline.arrRef spec0 w = a → (cfg0.win w).isOut = false :=
  ListAll.forall_mem_of_all_decide (by decide +kernel)

theorem leave_arrays0 (c : Dev nD) (w : Fin cfg0.W) :
    (dat0 (V1 m ρ) c).arrAt w cfg0.N = V2 m ρ c (Pipeline.arrRef spec0 w) := (W2_arr m ρ c w).symm

theorem leave_rest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

theorem W4_arr (c : Dev nD) (w : Fin cfg1.W) :
    W4 m ρ c (Proc.devRef .tc (Pipeline.arrRef spec1 w)) = (dat1 (V3 m ρ) c).arrAt w cfg1.N := by
  unfold W4; exact (dat1 (V3 m ρ) c).withArrays_arrAt launch₀1.sharedIn _ (A_eq1 (V3 m ρ) c) w

theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

/-- A buffer that's no output of the pipeline keeps its contents. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩

theorem args_in1 : ∀ a ∈ argRefs, ∀ w : Fin cfg1.W, Pipeline.arrRef spec1 w = a → (cfg1.win w).isOut = false :=
  ListAll.forall_mem_of_all_decide (by decide +kernel)

theorem leave_arrays1 (c : Dev nD) (w : Fin cfg1.W) :
    (dat1 (V3 m ρ) c).arrAt w cfg1.N = V4 m ρ c (Pipeline.arrRef spec1 w) := (W4_arr m ρ c w).symm

theorem leave_rest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem args_host : ∀ a ∈ argRefs, a ∉ host0_refs ∧ a ∉ host1_refs ∧ a ∉ host2_refs := by decide +kernel

/-- No line and no pipeline changes an argument. -/
theorem W5_args (c : Dev nD) (a : Ref sig .tc) (ha : a ∈ argRefs) :
    W5 m ρ c (Proc.devRef .tc a) = m ((c : Thread nD τ).loc a) :=
  (StableHlo.after_of_writes_sub hostOps2 _ host2_writes (args_host a ha).2.2).trans <|
  (W4_of m ρ c a (args_in1 a ha)).trans <|
  (StableHlo.after_of_writes_sub hostOps1 _ host1_writes (args_host a ha).2.1).trans <|
  (W2_of m ρ c a (args_in0 a ha)).trans <|
  StableHlo.after_of_writes_sub hostOps0 _ host0_writes (args_host a ha).1

/-! ## The segments -/

abbrev adm : (p : Fin 2) → (pcfgs (F := F) p).Adm := fun p => (cfgs p).toPCfg_adm

/-- The data of the two pipelines, each at the contents it's entered with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

abbrev 𝒱₀ : Variants := Variants.none
abbrev L : GSem nD τ sig → Finset Unit := fun _ => ∅
abbrev lv : GSem nD τ sig → Unit → ℕ := fun _ _ => 0

/-- What rides along with the buffers. -/
abbrev R (c : Dev nD) : sProp 𝕄 := iprop((∃ r, prngReg c r) ∗ ∃ W, owes (c : Thread nD τ) (0 : CellTallies nD τ sig Unit) W)

/-- Host lines as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The state at the end. -/
abbrev Tₙ (c : Dev nD) : sProp 𝕄 := iprop(StableHlo.held (c : Thread nD τ) (Pipeline.ucRefs τ sig) (W5 m ρ c) ∗ ∃ r, prngReg c r)

set_option backward.isDefEq.respectTransparency.types false in
/-- The forward pipeline as a segment: its arrays leave the buffers held and come back as the pipeline leaves them. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs_shared (p := 0) (pcfgs (F := F)) adm (pdats m ρ) launch₀0.win
      launch₀0.sharedIn launch₀0.arr_whole c (fun _ _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ)
      (U := UR sig nD τ) (Lvl := ℕ) launch₀0.win launch₀0.sharedIn launch₀0.arr_whole c (pdats m ρ) (fun _ _ => rfl)
      (V1 m ρ c) (V2 m ρ c) ((pdats m ρ 0 c).arrAt · cfg0.N) (leave_arrays0 m ρ c) (leave_rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The backward pipeline as a segment: its arrays leave the buffers held and come back as the pipeline leaves them. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs_shared (p := 1) (pcfgs (F := F)) adm (pdats m ρ) launch₀1.win
      launch₀1.sharedIn launch₀1.arr_whole c (fun _ _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BI.BIBase.Entails.trans ?_ (enter1 (V3 m ρ) c)
    unfold Pipeline.ΦA
    iintro ⟨Hp, -, Hr⟩
    isplitl [Hr]; · iexact Hr
    iexact Hp
  hout c := by
    rw [Pipeline.ownSems0_none]
    refine BI.BIBase.Entails.trans (leave1 (V3 m ρ) c) ?_
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ)
      (U := UR sig nD τ) (Lvl := ℕ) launch₀1.win launch₀1.sharedIn launch₀1.arr_whole c (pdats m ρ) (fun _ _ => rfl)
      (V3 m ρ c) (V4 m ρ c) ((pdats m ρ 1 c).arrAt · cfg1.N) (leave_arrays1 m ρ c) (leave_rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's segments in order. -/
abbrev segs : List (Pipeline.Seg (pcfgs (F := F)) adm (pdats m ρ) () defs₀ 𝒱₀ L lv) :=
  [ .host (hseg hostOps0 hostOps0_sub host0_fresh (W0 m ρ)),
    .region (reg0 m ρ),
    .host (hseg hostOps1 hostOps1_sub host1_fresh (W2 m ρ)),
    .region (reg1 m ρ),
    .host (hseg hostOps2 hostOps2_sub host2_fresh (W4 m ρ)) ]

theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every run ends with the buffers as the boundaries say and every semaphore at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      rw [show (Pipeline.Seg.host (hseg hostOps2 hostOps2_sub host2_fresh (W4 m ρ))).post c
        = iprop(StableHlo.held (c : Thread nD τ) (Pipeline.ucRefs τ sig) (W5 m ρ c) ∗ R c) from rfl]
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- The frame: the arguments end as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c _ (mem_uc main_arg0 (by decide))).trans (W5_args m ρ c main_arg0 (by decide)),
     (h.1 c _ (mem_uc main_arg1 (by decide))).trans (W5_args m ρ c main_arg1 (by decide)),
     (h.1 c _ (mem_uc main_arg2 (by decide))).trans (W5_args m ρ c main_arg2 (by decide))⟩, h.2⟩) (run_all m ρ)

end Cert.AttKernelIdeal.Hand
-- ==== Proof.AttRow.lean ====
module

public import proofs.«01_k».proof.Proof.AttFwdBody
public import Idealize.ShloMosaic.Lib.Pointwise

@[expose] public section

set_option maxRecDepth 16384

noncomputable section

namespace Cert.AttKernelIdeal.Hand

open Cert.AttKernelIdeal Cert.AttKernelIdeal.Gen
open Idealize.ShloMosaic Idealize.ShloMosaic.TcCoe
open Idealize.ShloMosaic.VecWindow (window put)

/-- Column `e` of head `h`. -/
abbrev col (h : Fin 8) (e : Fin 64) : Fin 512 := ⟨64 * h.val + e.val, by omega⟩

theorem cols_apply (x : Vec Ideal S256x512 .bf16) (h : Fin 8) (r : Fin 256) (e : Fin 64) :
    cols x h (ix2 r e) = x (ix2 r (col h e)) := by
  unfold cols
  pointwise
  unfold window
  congr 1
  funext a
  match a with
  | ⟨0, _⟩ => exact Fin.ext (by show 0 + 1 * r.val = r.val; omega)
  | ⟨1, _⟩ => exact Fin.ext (by show 64 * h.val + 1 * e.val = 64 * h.val + e.val; omega)

theorem slab_cast (w : S1x1x256x768.Idx → EReal) (r : Fin 256) (k : Fin 768) :
    shapeCast S256x768 w shapeCasts_S1x1x256x768_S256x768 (ix2 r k) = w (ix4 0 0 r k) := by
  pointwise

theorem biasOf_apply (x : Vec Ideal S1x8x256x768 .f32) (h : Fin 8) (r : Fin 256) (k : Fin 768) :
    biasOf x h (ix2 r k) = x (ix4 0 h r k) := by
  refine (slab_cast _ r k).trans (congrArg x (funext fun a => ?_))
  match a with
  | ⟨0, _⟩ => exact Fin.ext rfl
  | ⟨1, _⟩ => exact Fin.ext (by show h.val + 1 * 0 = h.val; omega)
  | ⟨2, _⟩ => exact Fin.ext (by show 0 + 1 * r.val = r.val; omega)
  | ⟨3, _⟩ => exact Fin.ext (by show 0 + 1 * k.val = k.val; omega)

variable (B : Blocks Ideal) (h : Fin 8)

/-! One grid point's functions read at an index. -/

theorem hq_apply (r : Fin 256) (e : Fin 64) : hq B h (ix2 r e) = B.q (ix2 r (col h e)) * Ideal.ofBits .bf16 0x3E00#16 := by
  unfold hq
  pointwise [cols_apply]

theorem hs_apply (r : Fin 256) (k : Fin 768) : hs B h (ix2 r k)
    = (∑ e : Fin 64, hq B h (ix2 r e) * hk B h (ix2 k e)) + B.b (ix4 0 h r k) := by
  unfold hs
  pointwise [biasOf_apply]

theorem he_apply (r : Fin 256) (k : Fin 768) : he B h (ix2 r k)
    = Ideal.exp (hs B h (ix2 r k) - Finset.univ.fold max (Ideal.ofBits .f32 0xFF800000#32) fun x => hs B h (ix2 r x)) := by
  unfold he
  pointwise

theorem hp_apply (r : Fin 256) (k : Fin 768) : hp B h (ix2 r k)
    = he B h (ix2 r k) * Ideal.div 1 (∑ x, he B h (ix2 r x)) := by
  unfold hp
  pointwise

theorem hdelta_apply (r : Fin 256) : hdelta B h (ix2 r 0) = ∑ e, B.d (ix2 r (col h e)) * B.y (ix2 r (col h e)) := by
  unfold hdelta
  pointwise [cols_apply]

theorem hds_apply (r : Fin 256) (k : Fin 768) : hds B h (ix2 r k)
    = hp B h (ix2 r k) * ((∑ e, B.d (ix2 r (col h e)) * hv B h (ix2 k e)) - ∑ e, B.d (ix2 r (col h e)) * B.y (ix2 r (col h e))) := by
  rw [← hdelta_apply]
  unfold hds
  pointwise [cols_apply]

theorem hdq_apply (r : Fin 256) (e : Fin 64) : hdq B h (ix2 r e)
    = (∑ x, hds B h (ix2 r x) * hk B h (ix2 x e)) * Ideal.ofBits .f32 0x3E000000#32 := by
  unfold hdq
  pointwise

theorem hdk_apply (k : Fin 768) (e : Fin 64) : hdk B h (ix2 k e) = ∑ x, hds B h (ix2 x k) * hq B h (ix2 x e) := by
  unfold hdk
  pointwise

theorem hdv_apply (k : Fin 768) (e : Fin 64) : hdv B h (ix2 k e) = ∑ x, hp B h (ix2 x k) * B.d (ix2 x (col h e)) := by
  unfold hdv
  pointwise [cols_apply]

theorem hy_apply (r : Fin 256) (e : Fin 64) : hy B h (ix2 r e)
    = (∑ x, he B h (ix2 r x) * hv B h (ix2 x e)) * Ideal.div 1 (∑ x, he B h (ix2 r x)) := by
  unfold hy hy.hov
  pointwise

theorem stack_apply (x y z : Vec Ideal S256x512 .bf16) (k : Fin 768) (e : Fin 64) :
    stack (cols x h) (cols y h) (cols z h) (ix2 k e)
      = if k.val < 256 then x (ix2 ⟨k.val % 256, by omega⟩ (col h e))
        else if k.val < 512 then y (ix2 ⟨k.val % 256, by omega⟩ (col h e)) else z (ix2 ⟨k.val % 256, by omega⟩ (col h e)) := by
  unfold stack
  pointwise [cols_apply]
  have := k.isLt
  by_cases h0 : k.val < 256
  · rw [dif_pos h0, if_pos h0]
    exact congrArg (fun a => x (ix2 a (col h e))) (Fin.ext (by show k.val = k.val % 256; omega))
  by_cases h1 : k.val < 512
  · rw [dif_neg h0, if_neg h0, dif_pos (by omega), if_pos h1]
    exact congrArg (fun a => y (ix2 a (col h e))) (Fin.ext (by show k.val - 256 = k.val % 256; omega))
  · rw [dif_neg h0, if_neg h0, dif_neg (by omega), if_neg h1]
    exact congrArg (fun a => z (ix2 a (col h e))) (Fin.ext (by show k.val - 256 - 256 = k.val % 256; omega))

/-! Eight heads side by side, read at a head's column. -/

theorem beside_eq (g : Fin 8 → Fin 64 → EReal) (h : Fin 8) (e : Fin 64) (n : ℕ) (h0 : n = 64 * h.val + e.val)
    (hn : n - 64 - 64 - 64 - 64 - 64 - 64 - 64 < 64) :
    (if h0 : n < 64 then g 0 ⟨n, h0⟩ else
      if h1 : n - 64 < 64 then g 1 ⟨n - 64, h1⟩ else
      if h2 : n - 64 - 64 < 64 then g 2 ⟨n - 64 - 64, h2⟩ else
      if h3 : n - 64 - 64 - 64 < 64 then g 3 ⟨n - 64 - 64 - 64, h3⟩ else
      if h4 : n - 64 - 64 - 64 - 64 < 64 then g 4 ⟨n - 64 - 64 - 64 - 64, h4⟩ else
      if h5 : n - 64 - 64 - 64 - 64 - 64 < 64 then g 5 ⟨n - 64 - 64 - 64 - 64 - 64, h5⟩ else
      if h6 : n - 64 - 64 - 64 - 64 - 64 - 64 < 64 then g 6 ⟨n - 64 - 64 - 64 - 64 - 64 - 64, h6⟩ else
      g 7 ⟨n - 64 - 64 - 64 - 64 - 64 - 64 - 64, hn⟩) = g h e := by
  have := e.isLt
  match h with
  | ⟨0, _⟩ => rw [dif_pos (by dsimp only at h0; omega)]; exact congrArg (g _) (Fin.ext (by dsimp only at h0 ⊢; omega))
  | ⟨1, _⟩ =>
    rw [dif_neg (by dsimp only at h0; omega), dif_pos (by dsimp only at h0; omega)]
    exact congrArg (g _) (Fin.ext (by dsimp only at h0 ⊢; omega))
  | ⟨2, _⟩ =>
    iterate 2 rw [dif_neg (by dsimp only at h0; omega)]
    rw [dif_pos (by dsimp only at h0; omega)]
    exact congrArg (g _) (Fin.ext (by dsimp only at h0 ⊢; omega))
  | ⟨3, _⟩ =>
    iterate 3 rw [dif_neg (by dsimp only at h0; omega)]
    rw [dif_pos (by dsimp only at h0; omega)]
    exact congrArg (g _) (Fin.ext (by dsimp only at h0 ⊢; omega))
  | ⟨4, _⟩ =>
    iterate 4 rw [dif_neg (by dsimp only at h0; omega)]
    rw [dif_pos (by dsimp only at h0; omega)]
    exact congrArg (g _) (Fin.ext (by dsimp only at h0 ⊢; omega))
  | ⟨5, _⟩ =>
    iterate 5 rw [dif_neg (by dsimp only at h0; omega)]
    rw [dif_pos (by dsimp only at h0; omega)]
    exact congrArg (g _) (Fin.ext (by dsimp only at h0 ⊢; omega))
  | ⟨6, _⟩ =>
    iterate 6 rw [dif_neg (by dsimp only at h0; omega)]
    rw [dif_pos (by dsimp only at h0; omega)]
    exact congrArg (g _) (Fin.ext (by dsimp only at h0 ⊢; omega))
  | ⟨7, _⟩ =>
    iterate 7 rw [dif_neg (by dsimp only at h0; omega)]
    exact congrArg (g _) (Fin.ext (by dsimp only at h0 ⊢; omega))

theorem yOf_apply (r : Fin 256) (h : Fin 8) (k : Fin 64) : yOf B (ix2 r (col h k)) = hy B h (ix2 r k) := by
  unfold yOf
  pointwise
  exact beside_eq (fun h e => hy B h (ix2 r e)) h k (64 * h.val + k.val) rfl (by omega)

theorem dqOf_apply (r : Fin 256) (h : Fin 8) (k : Fin 64) : dqOf B (ix2 r (col h k)) = hdq B h (ix2 r k) := by
  unfold dqOf
  pointwise
  exact beside_eq (fun h e => hdq B h (ix2 r e)) h k (64 * h.val + k.val) rfl (by omega)

theorem wide_apply (g : Fin 8 → FVec Ideal S768x64 .f32) (r : Fin 768) (h : Fin 8) (k : Fin 64) :
    wide g (ix2 r (col h k)) = g h (ix2 r k) := by
  unfold wide
  pointwise
  exact beside_eq (fun h e => g h (ix2 r e)) h k (64 * h.val + k.val) rfl (by omega)

end Cert.AttKernelIdeal.Hand
-- ==== Proof.AttPoint.lean ====
module

public import proofs.«01_k».proof.Proof.AttRow
public import proofs.«01_k».proof.Proof.AttMath

/-! A grid point's functions, when its blocks hold the four rows of queries that it stands for and their keys, in the terms
    of `Cert.AttMath`. -/

@[expose] public section

set_option maxRecDepth 16384

noncomputable section

namespace Cert.AttKernelIdeal.Hand

open Cert.AttKernelIdeal Cert.AttKernelIdeal.Gen
open Idealize.ShloMosaic Idealize.ShloMosaic.TcCoe
open Cert.AttMath

/-- The bias of a pair, and minus infinity where the column isn't seen. -/
def biasAt (A : Arr) (h : Fin 8) (r : Fin 128) (c : Fin 64) (κ : Fin 8) (x : Fin 64) : EReal :=
  if InCol c.val x.val then A.b h (dr r κ) (dc c x) else ⊥

/-- The blocks hold what the `i`-th four rows of queries need. -/
structure IsPoint (A : Arr) (i : Fin 32) (B : Blocks Ideal) : Prop where
  q : ∀ a j, B.q (ix2 a j) = A.q (tok (rowAt i a) (colAt a)) j
  k : ∀ h n e (T : Fin 8192), T.val + 256 = 256 * i.val + n.val → hk B h (ix2 n e) = A.k T (lane h e)
  v : ∀ h n e (T : Fin 8192), T.val + 256 = 256 * i.val + n.val → hv B h (ix2 n e) = A.v T (lane h e)
  b : ∀ h a n, B.b (ix4 0 h a n) = ext (lo i a) ⊥ (biasAt A h (rowAt i a) (colAt a)) n

theorem minus_inf : Ideal.ofBits .f32 0xFF800000#32 = ⊥ := by
  simp [Ideal.ofBits, Ideal.ieee]

variable {A : Arr} {i : Fin 32} {B : Blocks Ideal} (H : IsPoint A i B) (h : Fin 8) (a : Fin 256)
include H

theorem IsPoint.hq_eq (e : Fin 64) : hq B h (ix2 a e) = A.q (tok (rowAt i a) (colAt a)) (lane h e) * eighth := by
  rw [hq_apply, eighth_bf16]
  exact congrArg (· * eighth) (H.q a _)

theorem IsPoint.hk_key (κ : Fin 8) (x e : Fin 64) :
    hk B h (ix2 (key (lo i a) (lo_le i a) κ x) e) = A.k (tok (krow (rowAt i a) κ) x) (lane h e) := H.k _ _ _ _ (tok_key _ _ _ _)

theorem IsPoint.hv_key (κ : Fin 8) (x e : Fin 64) :
    hv B h (ix2 (key (lo i a) (lo_le i a) κ x) e) = A.v (tok (krow (rowAt i a) κ) x) (lane h e) := H.v _ _ _ _ (tok_key _ _ _ _)

theorem IsPoint.hs_eq (n : Fin 768) : hs B h (ix2 a n) = ext (lo i a) ⊥ (sc A h (rowAt i a) (colAt a)) n := by
  rw [hs_apply, H.b]
  rcases ext_cases (lo i a) (lo_le i a) n with hn | ⟨κ, x, rfl⟩
  · rw [ext_outside _ _ _ _ hn, ext_outside _ _ _ _ hn, EReal.add_bot]
  · rw [ext_inside, ext_inside]
    simp only [H.hq_eq, H.hk_key]
    unfold biasAt sc
    split_ifs
    · rfl
    · rw [EReal.add_bot]

theorem IsPoint.he_eq (n : Fin 768) : he B h (ix2 a n) = ext (lo i a) 0 (ex A h (rowAt i a) (colAt a)) n := by
  rw [he_apply, minus_inf]
  have hm : (Finset.univ.fold max ⊥ fun x => hs B h (ix2 a x)) = mx A h (rowAt i a) (colAt a) := by
    simp only [H.hs_eq]
    exact sup_ext _ (lo_le i a) _
  rw [hm, H.hs_eq, map_ext (fun y => Ideal.exp (y - mx A h (rowAt i a) (colAt a)))]
  rw [EReal.bot_sub]
  rfl

theorem IsPoint.sum_he : ∑ n, he B h (ix2 a n) = sm A h (rowAt i a) (colAt a) := by
  simp only [H.he_eq]
  exact sum_ext _ (lo_le i a) _

theorem IsPoint.hp_eq (n : Fin 768) : hp B h (ix2 a n) = ext (lo i a) 0 (pr A h (rowAt i a) (colAt a)) n := by
  rw [hp_apply, H.sum_he, H.he_eq, map_ext (fun y => y * _), zero_mul]
  rfl

theorem IsPoint.hy_eq (e : Fin 64) : hy B h (ix2 a e) = out A h (rowAt i a) (colAt a) e := by
  rw [hy_apply, H.sum_he]
  simp only [H.he_eq]
  simp only [fun n => ext_mul (lo i a) (lo_le i a) (ex A h (rowAt i a) (colAt a))
    (fun κ x => A.v (tok (krow (rowAt i a) κ) x) (lane h e)) (fun n => hv B h (ix2 n e)) (fun κ x => H.hv_key h a κ x e) n]
  rw [sum_ext _ (lo_le i a)]
  rfl

variable (hy : ∀ (a : Fin 256) (h : Fin 8) (e : Fin 64), B.y (ix2 a (lane h e)) = out A h (rowAt i a) (colAt a) e)
  (hd : ∀ a j, B.d (ix2 a j) = A.d (tok (rowAt i a) (colAt a)) j)
include hy hd

theorem IsPoint.hds_eq (n : Fin 768) : hds B h (ix2 a n) = ext (lo i a) 0 (ds A h (rowAt i a) (colAt a)) n := by
  rw [hds_apply, H.hp_eq]
  simp only [hd]
  have e1 : (∑ e, A.d (tok (rowAt i a) (colAt a)) (col h e) * B.y (ix2 a (col h e)))
      = ∑ e, A.d (tok (rowAt i a) (colAt a)) (lane h e) * out A h (rowAt i a) (colAt a) e :=
    Finset.sum_congr rfl fun e _ => congrArg (A.d (tok (rowAt i a) (colAt a)) (lane h e) * ·) (hy a h e)
  rw [e1]
  refine ext_mul (lo i a) (lo_le i a) _ (fun κ x => dp A h (rowAt i a) (colAt a) κ x
    - ∑ e, A.d (tok (rowAt i a) (colAt a)) (lane h e) * out A h (rowAt i a) (colAt a) e) (fun n =>
    (∑ e, A.d (tok (rowAt i a) (colAt a)) (col h e) * hv B h (ix2 n e)) - _) (fun κ x => ?_) n
  simp only [H.hv_key]
  rfl

theorem IsPoint.hdq_eq (e : Fin 64) : hdq B h (ix2 a e)
    = (∑ κ, ∑ x, ds A h (rowAt i a) (colAt a) κ x * A.k (tok (krow (rowAt i a) κ) x) (lane h e)) * eighth := by
  rw [hdq_apply]
  simp only [H.hds_eq h a hy hd]
  simp only [fun n => ext_mul (lo i a) (lo_le i a) (ds A h (rowAt i a) (colAt a))
    (fun κ x => A.k (tok (krow (rowAt i a) κ) x) (lane h e)) (fun n => hk B h (ix2 n e)) (fun κ x => H.hk_key h a κ x e) n]
  rw [sum_ext _ (lo_le i a)]
  rfl

/-- What the point adds to the key gradient at row `rk` and column `x` of the keys. -/
theorem IsPoint.hdk_eq (n : Fin 768) (rk : Fin 128) (x e : Fin 64) (hn : 256 * i.val + n.val = 256 + 64 * rk.val + x.val) :
    hdk B h (ix2 n e) = ∑ a, seen (rowAt i a) rk (ds A h (rowAt i a) (colAt a)) x
      * (A.q (tok (rowAt i a) (colAt a)) (lane h e) * eighth) := by
  rw [hdk_apply]
  refine Finset.sum_congr rfl fun a _ => ?_
  rw [H.hds_eq h a hy hd, H.hq_eq, ext_seen i a _ n rk x hn]

omit hy in
/-- What the point adds to the value gradient there. -/
theorem IsPoint.hdv_eq (n : Fin 768) (rk : Fin 128) (x e : Fin 64) (hn : 256 * i.val + n.val = 256 + 64 * rk.val + x.val) :
    hdv B h (ix2 n e) = ∑ a, seen (rowAt i a) rk (pr A h (rowAt i a) (colAt a)) x
      * A.d (tok (rowAt i a) (colAt a)) (lane h e) := by
  rw [hdv_apply]
  refine Finset.sum_congr rfl fun a _ => ?_
  rw [H.hp_eq, ext_seen i a _ n rk x hn]
  exact congrArg _ (hd a _)

end Cert.AttKernelIdeal.Hand
-- ==== Proof.AttTables.lean ====
module

public import proofs.«01_k».proof.Proof.AttMath
public import proofs.«01_k».proof.Proof.AttRun
public import proofs.«01_k».proof.Proof.AttPoint
public import Idealize.ShloMosaic.Lib.Pointwise
public import Idealize.ShloMosaic.Lib.StableHlo.RunRead

/-! What the attention's host lines prepare for its kernels: the tables that pick an entry of the bias table, the pairs of
    query and key that see each other, and the biases of three kinds of grid points. -/

@[expose] public section

set_option maxRecDepth 16384

noncomputable section

namespace Cert.AttKernelIdeal.Hand

open Cert.AttKernelIdeal Cert.AttKernelIdeal.Gen
open Idealize.ShloMosaic Idealize.ShloMosaic.TcCoe Idealize.ShloMosaic.Tactic
open Cert.AttMath

local notation "V8" => S8x4x12x15x31.Idx → EReal

/-! The integer tables. -/

/-- Whether row `a` of four and row `b` of twelve read row `i` of the bias table. -/
def rowPick : S4x12x15.Idx → BitVec 1 :=
  cmpi .eq (subi (addi (subi (subi (iotaInDim S4x12x15 32 1) (iotaInDim S4x12x15 32 0))
    (broadcastInDim S4x12x15 ![] bcast_S_S4x12x15 (constantI S_ 32 4#32)))
    (broadcastInDim S4x12x15 ![] bcast_S_S4x12x15 (constantI S_ 32 8#32)))
    (broadcastInDim S4x12x15 ![] bcast_S_S4x12x15 (constantI S_ 32 1#32))) (iotaInDim S4x12x15 32 2)

/-- Which column of the bias table columns `c` and `x` read. -/
def colOf : S64x64x31.Idx → BitVec 32 :=
  subi (addi (minsi (maxsi (subi (iotaInDim S64x64x31 32 1) (iotaInDim S64x64x31 32 0))
    (broadcastInDim S64x64x31 ![] bcast_S_S64x64x31 (constantI S_ 32 4294967281#32)))
    (broadcastInDim S64x64x31 ![] bcast_S_S64x64x31 (constantI S_ 32 15#32)))
    (broadcastInDim S64x64x31 ![] bcast_S_S64x64x31 (constantI S_ 32 16#32)))
    (broadcastInDim S64x64x31 ![] bcast_S_S64x64x31 (constantI S_ 32 1#32))

def colPick : S64x64x31.Idx → BitVec 1 := cmpi .eq colOf (iotaInDim S64x64x31 32 2)

/-- The first row of four, of the three kinds of grid points. -/
def firstRow : S3x4x12.Idx → BitVec 32 :=
  broadcastInDim S3x4x12 ![0, 1, 2] bcast_S3x1x1_S3x4x12_0_1_2
    (broadcastInDim S3x1x1 ![0] bcast_S3_S3x1x1_0 (fun i => lit0 (S3.rowMajor i)))
def keyRow : S3x4x12.Idx → BitVec 32 :=
  subi (addi firstRow (iotaInDim S3x4x12 32 2)) (broadcastInDim S3x4x12 ![] bcast_S_S3x4x12 (constantI S_ 32 4#32))
def startRow : S3x4x12.Idx → BitVec 32 :=
  minsi (maxsi (subi (addi firstRow (iotaInDim S3x4x12 32 1)) (broadcastInDim S3x4x12 ![] bcast_S_S3x4x12 (constantI S_ 32 4#32)))
    (broadcastInDim S3x4x12 ![] bcast_S_S3x4x12 (constantI S_ 32 0#32)))
    (broadcastInDim S3x4x12 ![] bcast_S_S3x4x12 (constantI S_ 32 120#32))

/-- Which rows of keys a row of queries sees, -/
def rowSees : S3x4x12.Idx → BitVec 1 :=
  andi (cmpi .sge keyRow startRow)
    (cmpi .slt keyRow (addi startRow (broadcastInDim S3x4x12 ![] bcast_S_S3x4x12 (constantI S_ 32 8#32))))

def startCol : S64x64.Idx → BitVec 32 :=
  minsi (maxsi (subi (iotaInDim S64x64 32 0) (broadcastInDim S64x64 ![] bcast_S_S64x64 (constantI S_ 32 8#32)))
    (broadcastInDim S64x64 ![] bcast_S_S64x64 (constantI S_ 32 0#32)))
    (broadcastInDim S64x64 ![] bcast_S_S64x64 (constantI S_ 32 48#32))

/-- and which columns a column sees. -/
def colSees : S64x64.Idx → BitVec 1 :=
  andi (cmpi .sge (iotaInDim S64x64 32 1) startCol)
    (cmpi .slt (iotaInDim S64x64 32 1) (addi startCol (broadcastInDim S64x64 ![] bcast_S_S64x64 (constantI S_ 32 16#32))))

/-- The kind of a grid point: the first, the last, or one between. -/
def kind (i : Fin 32) : Fin 3 := if i.val = 0 then 0 else if i.val = 31 then 2 else 1

set_option maxHeartbeats 4000000 in
theorem rowPick_eq : ∀ (a : Fin 4) (b : Fin 12) (i : Fin 15), rowPick (ix3 a b i) = if b.val + 3 = i.val + a.val then 1#1 else 0#1 := by
  decide +kernel

set_option maxHeartbeats 4000000 in
theorem colOf_eq : ∀ c x : Fin 64, colOf (ix3 c x 0) = BitVec.ofNat 32 (dc c x).val := by decide +kernel

theorem colPick_eq (c x : Fin 64) (j : Fin 31) : colPick (ix3 c x j) = if dc c x = j then 1#1 else 0#1 := by
  have e : colPick (ix3 c x j) = Scalar.cmpi .eq (colOf (ix3 c x 0)) (BitVec.ofNat 32 j.val) := rfl
  rw [e, colOf_eq]
  generalize dc c x = d
  clear e
  revert d j
  decide +kernel

set_option maxHeartbeats 4000000 in
theorem rowSees_eq : ∀ (i : Fin 32) (a : Fin 4) (b : Fin 12), rowSees (ix3 (kind i) a b)
    = if rowStart (4 * i.val + a.val) ≤ 4 * i.val + b.val - 4 ∧ 4 ≤ 4 * i.val + b.val ∧ 4 * i.val + b.val < rowStart (4 * i.val + a.val) + 12 then 1#1 else 0#1 := by
  unfold rowStart
  decide +kernel

set_option maxHeartbeats 4000000 in
theorem colSees_eq : ∀ c x : Fin 64, colSees (ix2 c x) = if InCol c.val x.val then 1#1 else 0#1 := by decide +kernel

/-! The table of biases. -/

variable (b : S8x15x31.Idx → EReal)

/-- The rows of the bias table that pairs of rows read. -/
def rowTable (p : S4x12x15.Idx → EReal) : S8x4x12x31.Idx → EReal :=
  Host.reduceAdd (F := Ideal) (mulf (F := Ideal) (φ := .f32)
    (broadcastInDim S8x4x12x15x31 ![0, 1, 2, 3, 4] bcast_S8x1x1x15x31_S8x4x12x15x31_0_1_2_3_4
      (broadcastInDim S8x1x1x15x31 ![0, 3, 4] bcast_S8x15x31_S8x1x1x15x31_0_3_4 b))
    (broadcastInDim S8x4x12x15x31 ![0, 1, 2, 3, 4] bcast_S1x4x12x15x1_S8x4x12x15x31_0_1_2_3_4
      (broadcastInDim S1x4x12x15x1 ![1, 2, 3] bcast_S4x12x15_S1x4x12x15x1_1_2_3 p)))
    (constant (F := Ideal) S_ .f32 0x00000000#32) reducesTo_S8x4x12x15x31_S8x4x12x31_d3 h_S_

/-- The entries that pairs of a row and a column read. -/
def pairTable (t : S8x4x12x31.Idx → EReal) (p : S64x64x31.Idx → EReal) : S8x4x64x12x64.Idx → EReal :=
  Host.reduceAdd (F := Ideal) (mulf (F := Ideal) (φ := .f32)
    (broadcastInDim S8x4x64x12x64x31 ![0, 1, 2, 3, 4, 5] bcast_S8x4x1x12x1x31_S8x4x64x12x64x31_0_1_2_3_4_5
      (broadcastInDim S8x4x1x12x1x31 ![0, 1, 3, 5] bcast_S8x4x12x31_S8x4x1x12x1x31_0_1_3_5 t))
    (broadcastInDim S8x4x64x12x64x31 ![0, 1, 2, 3, 4, 5] bcast_S1x1x64x1x64x31_S8x4x64x12x64x31_0_1_2_3_4_5
      (broadcastInDim S1x1x64x1x64x31 ![2, 4, 5] bcast_S64x64x31_S1x1x64x1x64x31_2_4_5 p)))
    (constant (F := Ideal) S_ .f32 0x00000000#32) reducesTo_S8x4x64x12x64x31_S8x4x64x12x64_d5 h_S_

/-- The pairs that see each other. -/
def pairSees (p : S3x4x12.Idx → BitVec 1) (q : S64x64.Idx → BitVec 1) : S3x4x64x12x64.Idx → BitVec 1 :=
  andi (broadcastInDim S3x4x64x12x64 ![0, 1, 2, 3, 4] bcast_S3x4x1x12x1_S3x4x64x12x64_0_1_2_3_4
      (broadcastInDim S3x4x1x12x1 ![0, 1, 3] bcast_S3x4x12_S3x4x1x12x1_0_1_3 p))
    (broadcastInDim S3x4x64x12x64 ![0, 1, 2, 3, 4] bcast_S1x1x64x1x64_S3x4x64x12x64_0_1_2_3_4
      (broadcastInDim S1x1x64x1x64 ![2, 3, 4] bcast_S64x1x64_S1x1x64x1x64_2_3_4
        (broadcastInDim S64x1x64 ![0, 2] bcast_S64x64_S64x1x64_0_2 q)))

/-- The biases, minus infinity where a pair doesn't see each other. -/
def maskedTable (t : S8x4x64x12x64.Idx → EReal) (p : S3x4x64x12x64.Idx → BitVec 1) : S3x8x256x768.Idx → EReal :=
  select (broadcastInDim S3x8x256x768 ![0, 1, 2, 3] bcast_S3x1x256x768_S3x8x256x768_0_1_2_3
      (shapeCast S3x1x256x768 p shapeCasts_S3x4x64x12x64_S3x1x256x768))
    (broadcastInDim S3x8x256x768 ![1, 2, 3] bcast_S8x256x768_S3x8x256x768_1_2_3
      (shapeCast S8x256x768 t shapeCasts_S8x4x64x12x64_S8x256x768))
    (broadcastInDim S3x8x256x768 ![] bcast_S_S3x8x256x768 (constant (F := Ideal) S_ .f32 0xFF800000#32))

def biasTable : S3x8x256x768.Idx → EReal :=
  maskedTable (pairTable (rowTable b (uitofp (F := Ideal) .f32 rowPick)) (uitofp (F := Ideal) .f32 colPick)) (pairSees rowSees colSees)

theorem pick_eq {S : Shape} (p : S.Idx → BitVec 1) (P : Prop) [Decidable P] (j : S.Idx) (h : p j = if P then 1#1 else 0#1) :
    uitofp (F := Ideal) .f32 p j = if P then 1 else 0 := by
  show (((p j).toNat : ℝ) : EReal) = _
  rw [h]
  split_ifs <;> simp

theorem rowTable_apply (p : S4x12x15.Idx → EReal) (h : Fin 8) (a : Fin 4) (r : Fin 12) (j : Fin 31) :
    rowTable b p (ix4 h a r j) = ∑ i : Fin 15, b (ix3 h i j) * p (ix3 a r i) := by
  pointwise [rowTable]

theorem last_image (h : Fin 8) (a : Fin 4) (c : Fin 64) (r : Fin 12) (x : Fin 64) (i : S8x4x64x12x64x31.Idx) :
    reducesTo_S8x4x64x12x64x31_S8x4x64x12x64_d5.drop i = ix5 h a c r x
      ↔ ∃ j : Fin 31, (ix6 h a c r x j : S8x4x64x12x64x31.Idx) = i := by
  constructor
  · intro hi
    refine ⟨i 5, funext fun k => ?_⟩
    match k with
    | ⟨0, _⟩ => exact Fin.ext (congrArg Fin.val (congrFun hi 0)).symm
    | ⟨1, _⟩ => exact Fin.ext (congrArg Fin.val (congrFun hi 1)).symm
    | ⟨2, _⟩ => exact Fin.ext (congrArg Fin.val (congrFun hi 2)).symm
    | ⟨3, _⟩ => exact Fin.ext (congrArg Fin.val (congrFun hi 3)).symm
    | ⟨4, _⟩ => exact Fin.ext (congrArg Fin.val (congrFun hi 4)).symm
    | ⟨5, _⟩ => rfl
  · rintro ⟨j, rfl⟩
    funext k
    match k with
    | ⟨0, _⟩ => rfl
    | ⟨1, _⟩ => rfl
    | ⟨2, _⟩ => rfl
    | ⟨3, _⟩ => rfl
    | ⟨4, _⟩ => rfl

theorem pairTable_apply (t : S8x4x12x31.Idx → EReal) (p : S64x64x31.Idx → EReal) (h : Fin 8) (a : Fin 4) (c : Fin 64)
    (r : Fin 12) (x : Fin 64) :
    pairTable t p (ix5 h a c r x) = ∑ j : Fin 31, t (ix4 h a r j) * p (ix3 c x j) := by
  unfold pairTable
  pointwise
  unfold Ideal.hostReduceAdd
  rw [zero_add, Finset.sum_filter_eq_sum_of_fiber _ (fun j : Fin 31 => (ix6 h a c r x j : S8x4x64x12x64x31.Idx))
    (fun _ _ e => congrFun e 5) (last_image h a c r x)]
  refine Finset.sum_congr rfl fun j _ => ?_
  pointwise

theorem pairSees_apply (p : S3x4x12.Idx → BitVec 1) (q : S64x64.Idx → BitVec 1) (s : Fin 3) (a : Fin 4) (c : Fin 64)
    (r : Fin 12) (x : Fin 64) : pairSees p q (ix5 s a c r x) = IntOp.andi (p (ix3 s a r)) (q (ix2 c x)) := by
  pointwise [pairSees]

theorem maskedTable_apply (t : S8x4x64x12x64.Idx → EReal) (p : S3x4x64x12x64.Idx → BitVec 1) (s : Fin 3) (h : Fin 8)
    (a : Fin 256) (n : Fin 768) :
    maskedTable t p (ix4 s h a n)
      = if p (ix5 s ⟨a.val / 64, by omega⟩ ⟨a.val % 64, by omega⟩ ⟨n.val / 64, by omega⟩ ⟨n.val % 64, by omega⟩) = 1#1
        then t (ix5 h ⟨a.val / 64, by omega⟩ ⟨a.val % 64, by omega⟩ ⟨n.val / 64, by omega⟩ ⟨n.val % 64, by omega⟩) else ⊥ := by
  pointwise [maskedTable, minus_inf]
  rfl

/-- The entry of the bias table that a pair reads. -/
theorem picked (h : Fin 8) (a : Fin 4) (c : Fin 64) (r : Fin 12) (x : Fin 64) :
    pairTable (rowTable b (uitofp (F := Ideal) .f32 rowPick)) (uitofp (F := Ideal) .f32 colPick) (ix5 h a c r x)
      = b (ix3 h ⟨r.val + 3 - a.val, by omega⟩ (dc c x)) := by
  rw [pairTable_apply]
  rw [Finset.sum_eq_single (dc c x)]
  · rw [pick_eq _ _ _ (colPick_eq c x _), if_pos rfl, mul_one, rowTable_apply]
    rw [Finset.sum_eq_single (⟨r.val + 3 - a.val, by omega⟩ : Fin 15)]
    · rw [pick_eq _ _ _ (rowPick_eq a r _), if_pos (by dsimp only; omega), mul_one]
    · intro i _ hi
      rw [pick_eq _ _ _ (rowPick_eq a r _), if_neg (fun e => hi (Fin.ext (by dsimp only; omega))), mul_zero]
    · exact fun hn => absurd (Finset.mem_univ _) hn
  · intro j _ hj
    rw [pick_eq _ _ _ (colPick_eq c x _), if_neg (fun e => hj e.symm), mul_zero]
  · exact fun hn => absurd (Finset.mem_univ _) hn

/-- The biases of a grid point, over the window of each of its queries. -/
theorem biasTable_apply (i : Fin 32) (h : Fin 8) (a : Fin 256) (n : Fin 768) :
    biasTable b (ix4 (kind i) h a n)
      = ext (lo i a) ⊥ (fun κ x => if InCol (colAt a).val x.val then b (ix3 h (dr (rowAt i a) κ) (dc (colAt a) x)) else ⊥) n := by
  unfold biasTable
  rw [maskedTable_apply, pairSees_apply, picked, rowSees_eq, colSees_eq]
  unfold ext lo rowAt colAt
  dsimp only
  have hs : rowStart (4 * i.val + a.val / 64) ≤ 120 := by unfold rowStart; omega
  have hs' : 4 * i.val ≤ rowStart (4 * i.val + a.val / 64) + 4 := by unfold rowStart; omega
  by_cases hr : rowStart (4 * i.val + a.val / 64) ≤ 4 * i.val + n.val / 64 - 4 ∧ 4 ≤ 4 * i.val + n.val / 64
      ∧ 4 * i.val + n.val / 64 < rowStart (4 * i.val + a.val / 64) + 12
  · rw [if_pos hr, dif_pos (by omega)]
    by_cases hc : InCol (a.val % 64) (n.val % 64)
    · rw [if_pos hc, if_pos (by decide), if_pos hc]
      congr 2
      refine Fin.ext ?_
      unfold dr
      dsimp only
      omega
    · rw [if_neg hc, if_neg (by decide), if_neg hc]
  · rw [if_neg hr, dif_neg (by omega), if_neg]
    split_ifs <;> decide

/-! What the lines leave in the buffers the kernels read. -/

variable (W : Valuation τ sig (Elt Ideal))

theorem host_rowPick : StableHlo.after hostOps0 W (Proc.devRef .tc main_v12) = uitofp (F := Ideal) .f32 rowPick := by
  after_reads_simp
  sl_kernel_rfl

theorem host_colPick : StableHlo.after hostOps0 W (Proc.devRef .tc main_v25) = uitofp (F := Ideal) .f32 colPick := by
  after_reads_simp
  sl_kernel_rfl

theorem host_bias : StableHlo.after hostOps0 W (Proc.devRef .tc main_v79)
    = biasTable (shapeCast S8x15x31 (W (Proc.devRef .tc main_arg2) : S1x8x15x31.Idx → EReal) shapeCasts_S1x8x15x31_S8x15x31) := by
  after_reads_simp
  sl_kernel_rfl

theorem host_z : StableHlo.after hostOps0 W (Proc.devRef .tc main_v81)
    = truncf (F := Ideal) .bf16 (shapeCast S8192x4096 (W (Proc.devRef .tc main_arg0) : S1x8192x4096.Idx → EReal)
      shapeCasts_S1x8192x4096_S8192x4096) bitsLt_bf16_f32 := by
  after_reads_simp
  sl_kernel_rfl

theorem host_d : StableHlo.after hostOps1 W (Proc.devRef .tc main_v84)
    = truncf (F := Ideal) .bf16 (shapeCast S8192x512 (W (Proc.devRef .tc main_arg1) : S1x8192x512.Idx → EReal)
      shapeCasts_S1x8192x512_S8192x512) bitsLt_bf16_f32 := by
  after_reads_simp
  sl_kernel_rfl

end Cert.AttKernelIdeal.Hand
-- ==== Proof.AttAcc.lean ====
module

public import proofs.«01_k».proof.Proof.AttBwdBody
public import proofs.«01_k».proof.Proof.AttRow

/-! What the accumulators of the attention's backward kernel hold, as sums of what the points added. -/

@[expose] public section

set_option maxRecDepth 16384

noncomputable section

namespace Cert.AttKernelIdeal.Hand

open Cert.AttKernelIdeal Cert.AttKernelIdeal.Gen
open Idealize.ShloMosaic Idealize.ShloMosaic.TcCoe
open Idealize.ShloMosaic.VecWindow (window put)

/-- The slot of block `n`. -/
abbrev sl (n : ℕ) : Fin 3 := ⟨n % 3, by omega⟩

/-- A slab put into a stack of slabs, read at an index. -/
theorem put_slab {N M K : ℕ} (x : (⟨3, ![N, M, K]⟩ : Shape).Idx → EReal) (n : ℕ) (w : (⟨3, ![1, M, K]⟩ : Shape).Idx → EReal)
    (i : Fin N) (a : Fin M) (e : Fin K) :
    put x ![n, 0, 0] ![1, M, K] w (ix3 i a e) = if i.val = n then w (ix3 0 a e) else x (ix3 i a e) := by
  unfold put
  by_cases h : i.val = n
  · rw [if_pos h, dif_pos]
    · refine congrArg w (funext fun b => ?_)
      match b with
      | ⟨0, _⟩ => exact Fin.ext (by show i.val - n = 0; omega)
      | ⟨1, _⟩ => exact Fin.ext (by show a.val - 0 = a.val; omega)
      | ⟨2, _⟩ => exact Fin.ext (by show e.val - 0 = e.val; omega)
    · intro b
      match b with
      | ⟨0, _⟩ => exact ⟨by show n ≤ i.val; omega, by show i.val < n + 1; omega⟩
      | ⟨1, _⟩ => exact ⟨Nat.zero_le _, by show a.val < 0 + M; omega⟩
      | ⟨2, _⟩ => exact ⟨Nat.zero_le _, by show e.val < 0 + K; omega⟩
  · rw [if_neg h, dif_neg]
    intro hall
    have : n ≤ i.val ∧ i.val < n + 1 := hall 0
    omega

theorem slot_cast (w : S1x256x512.Idx → EReal) (a : Fin 256) (e : Fin 512) :
    shapeCast S256x512 w shapeCasts_S1x256x512_S256x512 (ix2 a e) = w (ix3 0 a e) := by
  pointwise

theorem slot_apply (x : Vec Ideal S3x256x512 .f32) (n : ℕ) (a : Fin 256) (e : Fin 512) :
    slot x n (ix3 0 a e) = x (ix3 (sl n) a e) := by
  refine congrArg x (funext fun b => ?_)
  match b with
  | ⟨0, _⟩ => exact Fin.ext (by show n % 3 + 1 * 0 = n % 3; omega)
  | ⟨1, _⟩ => exact Fin.ext (by show 0 + 1 * a.val = a.val; omega)
  | ⟨2, _⟩ => exact Fin.ext (by show 0 + 1 * e.val = e.val; omega)

theorem accAdd_apply (x : Vec Ideal S3x256x512 .f32) (n : ℕ) (w : FVec Ideal S256x512 .f32) (s : Fin 3) (a : Fin 256) (e : Fin 512) :
    accAdd x n w (ix3 s a e) = if s.val = n % 3 then x (ix3 s a e) + w (ix2 a e) else x (ix3 s a e) := by
  refine (put_slab (N := 3) (M := 256) (K := 512) x (n % 3) _ s a e).trans ?_
  by_cases h : s.val = n % 3
  · rw [if_pos h, if_pos h]
    obtain rfl : s = sl n := Fin.ext h
    have e1 := (slot_cast (slot x n) a e).trans (slot_apply x n a e)
    pointwise [e1]
  · rw [if_neg h, if_neg h]

theorem accReset_apply (x : Vec Ideal S3x256x512 .f32) (n : ℕ) (s : Fin 3) (a : Fin 256) (e : Fin 512) :
    accReset x n (ix3 s a e) = if s.val = (n + 1) % 3 then 0 else x (ix3 s a e) := by
  refine (put_slab (N := 3) (M := 256) (K := 512) x ((n + 1) % 3) _ s a e).trans ?_
  by_cases h : s.val = (n + 1) % 3
  · rw [if_pos h, if_pos h]
    unfold k1_pay4
    pointwise
  · rw [if_neg h, if_neg h]

theorem third0_apply (w : FVec Ideal S768x512 .f32) (a : Fin 256) (e : Fin 512) :
    third0 w (ix2 a e) = w (ix2 ⟨256 * 0 + a.val, by omega⟩ e) := by
  unfold third0
  pointwise

theorem third1_apply (w : FVec Ideal S768x512 .f32) (a : Fin 256) (e : Fin 512) :
    third1 w (ix2 a e) = w (ix2 ⟨256 * 1 + a.val, by omega⟩ e) := by
  unfold third1
  pointwise

theorem third2_apply (w : FVec Ideal S768x512 .f32) (a : Fin 256) (e : Fin 512) :
    third2 w (ix2 a e) = w (ix2 ⟨256 * 2 + a.val, by omega⟩ e) := by
  unfold third2
  pointwise

theorem accAdd3_apply (x : Vec Ideal S3x256x512 .f32) (n : ℕ) (w : FVec Ideal S768x512 .f32) (b : Fin 3) (a : Fin 256) (e : Fin 512) :
    accAdd3 x n w (ix3 (sl (n + b.val + 2)) a e)
      = x (ix3 (sl (n + b.val + 2)) a e) + w (ix2 ⟨256 * b.val + a.val, by omega⟩ e) := by
  unfold accAdd3
  rw [accAdd_apply, accAdd_apply, accAdd_apply]
  match b with
  | ⟨0, _⟩ => rw [if_neg (by dsimp only; omega), if_neg (by dsimp only; omega), if_pos (by rfl), third0_apply]
  | ⟨1, _⟩ => rw [if_neg (by dsimp only; omega), if_pos (by rfl), if_neg (by dsimp only; omega), third1_apply]
  | ⟨2, _⟩ => rw [if_pos (by rfl), if_neg (by dsimp only; omega), if_neg (by dsimp only; omega), third2_apply]

theorem flushOf_apply (x : Vec Ideal S3x256x512 .f32) (n : ℕ) (a : Fin 256) (e : Fin 512) :
    flushOf x n (ix2 a e) = x (ix3 (sl (n + 2)) a e) :=
  (slot_cast (slot x (n + 2)) a e).trans (slot_apply x (n + 2) a e)

/-- What point `i` adds to block `j`, of the 768 rows that it computes. -/
def addTo (w : ℕ → FVec Ideal S768x512 .f32) (i j : ℕ) (a : Fin 256) (e : Fin 512) : EReal :=
  if h : i ≤ j + 1 ∧ j ≤ i + 1 then w i (ix2 ⟨256 * (j + 1 - i) + a.val, by omega⟩ e) else 0

/-- The slots of the blocks around point `n` hold what the points up to it added. -/
def Holds (w : ℕ → FVec Ideal S768x512 .f32) (n : ℕ) (x : Vec Ideal S3x256x512 .f32) : Prop :=
  ∀ j, n ≤ j + 1 → j ≤ n + 1 → ∀ a e, x (ix3 (sl j) a e) = ∑ i ∈ Finset.range (n + 1), addTo w i j a e

theorem holds_first (w : ℕ → FVec Ideal S768x512 .f32) : Holds w 0 (accAdd3 (k1_pay2 (F := Ideal)) 0 (w 0)) := by
  intro j h1 h2 a e
  have hs : sl j = sl (0 + (⟨j + 1, by omega⟩ : Fin 3).val + 2) := Fin.ext (by dsimp only; omega)
  have h0 : ∀ s, k1_pay2 (F := Ideal) (ix3 s a e) = 0 := fun s => by unfold k1_pay2; pointwise
  rw [hs, accAdd3_apply, h0, zero_add, Finset.sum_range_one]
  unfold addTo
  rw [dif_pos ⟨by omega, by omega⟩]
  rfl

theorem holds_next (w : ℕ → FVec Ideal S768x512 .f32) (n : ℕ) (x : Vec Ideal S3x256x512 .f32) (H : Holds w n x) :
    Holds w (n + 1) (accAdd3 (accReset x (n + 1)) (n + 1) (w (n + 1))) := by
  intro j h1 h2 a e
  have hs : sl j = sl (n + 1 + (⟨j - n, by omega⟩ : Fin 3).val + 2) := Fin.ext (by dsimp only; omega)
  have hw : w (n + 1) (ix2 ⟨256 * (⟨j - n, by omega⟩ : Fin 3).val + a.val, by dsimp only; omega⟩ e) = addTo w (n + 1) j a e := by
    unfold addTo
    rw [dif_pos ⟨by omega, by omega⟩]
    exact congrArg (fun a => w (n + 1) (ix2 a e)) (Fin.ext (by dsimp only; omega))
  rw [hs, accAdd3_apply, ← hs, hw, Finset.sum_range_succ _ (n + 1), accReset_apply]
  congr 1
  by_cases hj : j = n + 2
  · rw [if_pos (by dsimp only; omega), Finset.sum_eq_zero fun i hi => ?_]
    unfold addTo
    rw [dif_neg]
    have := Finset.mem_range.mp hi
    omega
  · rw [if_neg (by dsimp only; omega)]
    exact H j (by omega) (by omega) a e

/-! The bias gradient. -/

theorem slab3_cast (w : S1x256x768.Idx → EReal) (a : Fin 256) (n : Fin 768) :
    shapeCast S256x768 w shapeCasts_S1x256x768_S256x768 (ix2 a n) = w (ix3 0 a n) := by
  pointwise

theorem dbAdd_apply (B : Blocks Ideal) (x : Vec Ideal S8x256x768 .f32) (h : Fin 8) (a : Fin 256) (n : Fin 768) :
    dbAdd B x h (ix3 0 a n) = x (ix3 h a n) + hds B h (ix2 a n) := by
  have e1 : shapeCast S256x768 (window x ![h.val, 0, 0] S1x256x768.size (slab_inb h) : Vec Ideal S1x256x768 .f32)
      shapeCasts_S1x256x768_S256x768 (ix2 a n) = x (ix3 h a n) := by
    refine (slab3_cast _ a n).trans (congrArg x (funext fun b => ?_))
    match b with
    | ⟨0, _⟩ => exact Fin.ext (by show h.val + 1 * 0 = h.val; omega)
    | ⟨1, _⟩ => exact Fin.ext (by show 0 + 1 * a.val = a.val; omega)
    | ⟨2, _⟩ => exact Fin.ext (by show 0 + 1 * n.val = n.val; omega)
  unfold dbAdd
  pointwise [e1]

theorem put_head (x : Vec Ideal S8x256x768 .f32) (k : ℕ) (w : FVec Ideal S1x256x768 .f32) (h : Fin 8) (a : Fin 256) (n : Fin 768) :
    put x ![k, 0, 0] S1x256x768.size w (ix3 h a n) = if h.val = k then w (ix3 0 a n) else x (ix3 h a n) :=
  put_slab (N := 8) (M := 256) (K := 768) x k w h a n

theorem dbOf_apply (B : Blocks Ideal) (x : Vec Ideal S8x256x768 .f32) (h : Fin 8) (a : Fin 256) (n : Fin 768) :
    dbOf B x (ix3 h a n) = x (ix3 h a n) + hds B h (ix2 a n) := by
  rw [← dbAdd_apply]
  unfold dbOf
  rw [put_head, put_head, put_head, put_head, put_head, put_head, put_head, put_head]
  match h with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-! The points of the pipeline. -/

variable (V : (c : Dev nD) → (b : Ref sig .tc) → Buf (Elt Ideal) ((c : Thread nD τ).loc b)) (c : Dev nD)

/-- The blocks of the `n`-th point. -/
def blocksAt (n : ℕ) : Blocks Ideal := blocks1 V c ⟨n % 33, by show n % 33 < 33; omega⟩

theorem blocksAt_of (n : ℕ) (h : n < cfg1.N) : blocksAt V c n = blocks1 V c ⟨n, h⟩ := by
  have : n < 33 := h
  unfold blocksAt
  exact congrArg _ (Fin.ext (by dsimp only; omega))

theorem kept_holds (n : ℕ) (h : n < cfg1.N) (hn : n < 32) :
    Holds (fun i => wide (hdk (blocksAt V c i))) n (kept1 V c n h).ak
    ∧ Holds (fun i => wide (hdv (blocksAt V c i))) n (kept1 V c n h).av
    ∧ (∀ hd a k, (kept1 V c n h).db (ix3 hd a k) = ∑ i ∈ Finset.range (n + 1), hds (blocksAt V c i) hd (ix2 a k)) := by
  induction n with
  | zero =>
    rw [kept1, ← blocksAt_of]
    refine ⟨holds_first _, holds_first _, fun hd a k => ?_⟩
    show dbOf _ _ _ = _
    have h0 : k1_pay1 (F := Ideal) (ix3 hd a k) = 0 := by unfold k1_pay1; pointwise
    rw [dbOf_apply, Finset.sum_range_one, h0, zero_add]
  | succ n ih =>
    obtain ⟨i1, i2, i3⟩ := ih (Nat.lt_of_succ_lt h) (by omega)
    rw [kept1, if_pos hn, ← blocksAt_of]
    refine ⟨holds_next _ n _ i1, holds_next _ n _ i2, fun hd a k => ?_⟩
    show dbOf _ _ _ = _
    rw [dbOf_apply, Finset.sum_range_succ _ (n + 1), i3]

theorem kept_end (t : Fin cfg1.N) (ht : t.val = 32) :
    kept1 V c t.val t.isLt = kept1 V c 31 (by show 31 < 33; omega) := by
  have e : ∀ (n : ℕ) (h : n < cfg1.N), n = 31 → kept1 V c n h = kept1 V c 31 (by show 31 < 33; omega) := by
    rintro n h rfl; rfl
  rw [kept1_last V c t (by omega) (by omega)]
  exact e _ _ (by omega)

/-- A finished block holds what all points added to it. -/
theorem range_far (w : ℕ → FVec Ideal S768x512 .f32) (n j : ℕ) (hn : j + 2 ≤ n + 1 ∨ n = 31) (hl : n ≤ 31) (a : Fin 256) (e : Fin 512) :
    n = j + 1 ∨ n = 31 → ∑ i ∈ Finset.range (n + 1), addTo w i j a e = ∑ i : Fin 32, addTo w i.val j a e := by
  intro h
  rw [← Finset.sum_range (fun i => addTo w i j a e)]
  refine Finset.sum_subset (fun i hi => ?_) (fun i hi hn' => ?_)
  · have := Finset.mem_range.mp hi
    exact Finset.mem_range.mpr (by omega)
  · have h1 := Finset.mem_range.mp hi
    have h2 : ¬ i < n + 1 := fun h => hn' (Finset.mem_range.mpr h)
    unfold addTo
    rw [dif_neg (by omega)]

/-- What point `t` sends out of the two accumulators: all that was added to the block before. -/
theorem flush_eq (t : Fin cfg1.N) (j : ℕ) (hj : t.val = j + 1) (a : Fin 256) (e : Fin 512) :
    flushOf (kept1 V c t.val t.isLt).ak t.val (ix2 a e) = ∑ i : Fin 32, addTo (fun i => wide (hdk (blocksAt V c i))) i.val j a e
    ∧ flushOf (kept1 V c t.val t.isLt).av t.val (ix2 a e) = ∑ i : Fin 32, addTo (fun i => wide (hdv (blocksAt V c i))) i.val j a e := by
  have hs : sl (t.val + 2) = sl j := Fin.ext (by dsimp only; omega)
  have hN : t.val < 33 := t.isLt
  rw [flushOf_apply, flushOf_apply, hs]
  by_cases hl : t.val < 32
  · obtain ⟨h1, h2, -⟩ := kept_holds V c t.val t.isLt hl
    rw [h1 j (by omega) (by omega), h2 j (by omega) (by omega), range_far _ _ _ (by omega) (by omega) _ _ (.inl hj),
      range_far _ _ _ (by omega) (by omega) _ _ (.inl hj)]
    exact ⟨rfl, rfl⟩
  · obtain ⟨h1, h2, -⟩ := kept_holds V c 31 (by show 31 < 33; omega) (by omega)
    rw [kept_end V c t (by omega)]
    rw [h1 j (by omega) (by omega), h2 j (by omega) (by omega), range_far _ _ _ (by omega) (by omega) _ _ (.inr rfl),
      range_far _ _ _ (by omega) (by omega) _ _ (.inr rfl)]
    exact ⟨rfl, rfl⟩

theorem db_end (t : Fin cfg1.N) (ht : t.val = 32) (h : Fin 8) (a : Fin 256) (k : Fin 768) :
    (kept1 V c t.val t.isLt).db (ix3 h a k) = ∑ i : Fin 32, hds (blocksAt V c i.val) h (ix2 a k) := by
  rw [kept_end V c t ht, (kept_holds V c 31 (by show 31 < 33; omega) (by omega)).2.2,
    Finset.sum_range (fun i => hds (blocksAt V c i) h (ix2 a k))]

theorem dq_at (t : Fin cfg1.N) (ht : t.val < 32) : (kept1 V c t.val t.isLt).dq = dqOf (blocksAt V c t.val) := by
  rw [blocksAt_of V c t.val t.isLt]
  by_cases h0 : t.val = 0
  · rw [kept1_first V c t h0]; rfl
  · rw [kept1_next V c t h0 ht]; rfl

end Cert.AttKernelIdeal.Hand
-- ==== Proof.AttBlocks.lean ====
module

public import proofs.«01_k».proof.Proof.AttTables
public import proofs.«01_k».proof.Proof.AttAcc
public import Idealize.ShloMosaic.Lib.Pipeline.ValueKit

/-! The blocks that the attention's two pipelines bring to a grid point hold what `IsPoint` says. -/

@[expose] public section

set_option maxRecDepth 16384

noncomputable section

namespace Cert.AttKernelIdeal.Hand

open Cert.AttKernelIdeal Cert.AttKernelIdeal.Gen
open Idealize.ShloMosaic Idealize.ShloMosaic.TcCoe Idealize.ShloMosaic.Tactic
open Cert.AttMath

/-! Where the blocks of a point lie. -/

theorem index0 : ∀ t : Fin cfg0.N, win0_0.index t = ![t.val, 1]
    ∧ win0_1.index t = ![t.val - 1, 2] ∧ win0_2.index t = ![t.val, 2] ∧ win0_3.index t = ![min (t.val + 1) 31, 2]
    ∧ win0_4.index t = ![t.val - 1, 3] ∧ win0_5.index t = ![t.val, 3] ∧ win0_6.index t = ![min (t.val + 1) 31, 3]
    ∧ win0_7.index t = ![if t.val = 0 then 0 else if 31 ≤ t.val then 2 else 1, 0, 0, 0] ∧ win0_8.index t = ![t.val, 0] :=
  (by decide +kernel : ∀ t : Fin grid0.N, _)

theorem index1 : ∀ t : Fin cfg1.N, win1_0.index t = ![min t.val 31, 1] ∧ win1_1.index t = ![min t.val 31, 0]
    ∧ win1_2.index t = ![min t.val 31, 0]
    ∧ win1_3.index t = ![min t.val 31 - 1, 2] ∧ win1_4.index t = ![min t.val 31, 2] ∧ win1_5.index t = ![min (t.val + 1) 31, 2]
    ∧ win1_6.index t = ![min t.val 31 - 1, 3] ∧ win1_7.index t = ![min t.val 31, 3] ∧ win1_8.index t = ![min (t.val + 1) 31, 3]
    ∧ win1_9.index t = ![if t.val = 0 then 0 else if 31 ≤ t.val then 2 else 1, 0, 0, 0] ∧ win1_10.index t = ![min t.val 31, 0]
    ∧ win1_11.index t = ![t.val - 1, 0] ∧ win1_12.index t = ![t.val - 1, 0] ∧ win1_13.index t = ![0, 0, 0] :=
  (by decide +kernel : ∀ t : Fin grid1.N, _)

/-- Row `a` of the `n`-th block of 256. -/
def rowIn (n : Fin 32) (a : Fin 256) : Fin 8192 := ⟨n.val * 256 + a.val, by omega⟩

/-- Column `j` of the `n`-th block of 512. -/
def colIn (n : Fin 8) (j : Fin 512) : Fin 4096 := ⟨n.val * 512 + j.val, by omega⟩

variable (V : (c : Dev nD) → (b : Ref sig .tc) → Buf (Elt Ideal) ((c : Thread nD τ).loc b)) (c : Dev nD)

def tokens (T : Fin 8192) (j : Fin 4096) : EReal := V c main_v81 (ix2 T j)

theorem kind_val : ∀ i : Fin 32, (kind i).val = if i.val = 0 then 0 else if 31 ≤ i.val then 2 else 1 := by decide

/-- The block before, and the block after. -/
def before (i : Fin 32) : Fin 32 := ⟨i.val - 1, by omega⟩
def behind (i : Fin 32) : Fin 32 := ⟨min (i.val + 1) 31, by omega⟩

section Forward

variable (t : Fin cfg0.N) (i : Fin 32) (hi : i.val = t.val) (a : Fin 256) (j : Fin 512)
include hi

theorem read0_0 : iblk0 V c 0 t (ix2 a j) = tokens V c (rowIn i a) (colIn 1 j) := by
  unfold tokens rowIn colIn
  blk_ext! [iblk0, index0 t, hi]
theorem read0_1 : iblk0 V c 1 t (ix2 a j) = tokens V c (rowIn (before i) a) (colIn 2 j) := by
  unfold tokens rowIn colIn before
  blk_ext! [iblk0, index0 t, hi]
theorem read0_2 : iblk0 V c 2 t (ix2 a j) = tokens V c (rowIn i a) (colIn 2 j) := by
  unfold tokens rowIn colIn
  blk_ext! [iblk0, index0 t, hi]
theorem read0_3 : iblk0 V c 3 t (ix2 a j) = tokens V c (rowIn (behind i) a) (colIn 2 j) := by
  unfold tokens rowIn colIn behind
  blk_ext! [iblk0, index0 t, hi]
theorem read0_4 : iblk0 V c 4 t (ix2 a j) = tokens V c (rowIn (before i) a) (colIn 3 j) := by
  unfold tokens rowIn colIn before
  blk_ext! [iblk0, index0 t, hi]
theorem read0_5 : iblk0 V c 5 t (ix2 a j) = tokens V c (rowIn i a) (colIn 3 j) := by
  unfold tokens rowIn colIn
  blk_ext! [iblk0, index0 t, hi]
theorem read0_6 : iblk0 V c 6 t (ix2 a j) = tokens V c (rowIn (behind i) a) (colIn 3 j) := by
  unfold tokens rowIn colIn behind
  blk_ext! [iblk0, index0 t, hi]
theorem read0_7 (h : Fin 8) (n : Fin 768) :
    iblk0 V c 7 t (ix4 0 h a n) = (V c main_v79 : S3x8x256x768.Idx → EReal) (ix4 (kind i) h a n) := by
  blk_ext! [iblk0, index0 t, kind_val, hi]

end Forward

section Backward

variable (t : Fin cfg1.N) (i : Fin 32) (hi : i.val = t.val) (a : Fin 256) (j : Fin 512)
include hi

theorem read1_0 : iblk1 V c 0 t (ix2 a j) = tokens V c (rowIn i a) (colIn 1 j) := by
  have ht : min t.val 31 = i.val := by omega
  unfold tokens rowIn colIn
  blk_ext! [iblk1, index1 t, ht]
theorem read1_1 : iblk1 V c 1 t (ix2 a j) = (V c main_v82 : S8192x512.Idx → EReal) (ix2 (rowIn i a) j) := by
  have ht : min t.val 31 = i.val := by omega
  unfold rowIn
  blk_ext! [iblk1, index1 t, ht]
theorem read1_2 : iblk1 V c 2 t (ix2 a j) = (V c main_v84 : S8192x512.Idx → EReal) (ix2 (rowIn i a) j) := by
  have ht : min t.val 31 = i.val := by omega
  unfold rowIn
  blk_ext! [iblk1, index1 t, ht]
theorem read1_3 : iblk1 V c 3 t (ix2 a j) = tokens V c (rowIn (before i) a) (colIn 2 j) := by
  have ht : min t.val 31 = i.val := by omega
  unfold tokens rowIn colIn before
  blk_ext! [iblk1, index1 t, ht]
theorem read1_4 : iblk1 V c 4 t (ix2 a j) = tokens V c (rowIn i a) (colIn 2 j) := by
  have ht : min t.val 31 = i.val := by omega
  unfold tokens rowIn colIn
  blk_ext! [iblk1, index1 t, ht]
theorem read1_5 : iblk1 V c 5 t (ix2 a j) = tokens V c (rowIn (behind i) a) (colIn 2 j) := by
  unfold tokens rowIn colIn behind
  blk_ext! [iblk1, index1 t, hi]
theorem read1_6 : iblk1 V c 6 t (ix2 a j) = tokens V c (rowIn (before i) a) (colIn 3 j) := by
  have ht : min t.val 31 = i.val := by omega
  unfold tokens rowIn colIn before
  blk_ext! [iblk1, index1 t, ht]
theorem read1_7 : iblk1 V c 7 t (ix2 a j) = tokens V c (rowIn i a) (colIn 3 j) := by
  have ht : min t.val 31 = i.val := by omega
  unfold tokens rowIn colIn
  blk_ext! [iblk1, index1 t, ht]
theorem read1_8 : iblk1 V c 8 t (ix2 a j) = tokens V c (rowIn (behind i) a) (colIn 3 j) := by
  unfold tokens rowIn colIn behind
  blk_ext! [iblk1, index1 t, hi]
theorem read1_9 (h : Fin 8) (n : Fin 768) :
    iblk1 V c 9 t (ix4 0 h a n) = (V c main_v79 : S3x8x256x768.Idx → EReal) (ix4 (kind i) h a n) := by
  blk_ext! [iblk1, index1 t, kind_val, hi]

end Backward

/-! The attention's arguments. -/

/-- Queries, keys, values, output gradients and biases, of the arguments. -/
def arr (x0 : S1x8192x4096.Idx → EReal) (x1 : S1x8192x512.Idx → EReal) (x2 : S1x8x15x31.Idx → EReal) : Arr where
  q t j := x0 (ix3 0 t ⟨512 + j.val, by omega⟩)
  k t j := x0 (ix3 0 t ⟨1024 + j.val, by omega⟩)
  v t j := x0 (ix3 0 t ⟨1536 + j.val, by omega⟩)
  d t j := x1 (ix3 0 t j)
  b h i j := x2 (ix4 0 h i j)

variable (x0 : S1x8192x4096.Idx → EReal) (x1 : S1x8192x512.Idx → EReal) (x2 : S1x8x15x31.Idx → EReal)

/-- What the host lines have left for a pipeline. -/
structure Prepared : Prop where
  z : ∀ T j, tokens V c T j = x0 (ix3 0 T j)
  b : V c main_v79 = biasTable (shapeCast S8x15x31 x2 shapeCasts_S1x8x15x31_S8x15x31)

/-- The blocks of a grid point, given what each one reads. -/
theorem isPoint_of (P : Prepared V c x0 x2) (i : Fin 32) (B : Blocks Ideal)
    (q : ∀ a j, B.q (ix2 a j) = tokens V c (rowIn i a) (colIn 1 j))
    (k0 : ∀ a j, B.k0 (ix2 a j) = tokens V c (rowIn (before i) a) (colIn 2 j))
    (k1 : ∀ a j, B.k1 (ix2 a j) = tokens V c (rowIn i a) (colIn 2 j))
    (k2 : ∀ a j, B.k2 (ix2 a j) = tokens V c (rowIn (behind i) a) (colIn 2 j))
    (v0 : ∀ a j, B.v0 (ix2 a j) = tokens V c (rowIn (before i) a) (colIn 3 j))
    (v1 : ∀ a j, B.v1 (ix2 a j) = tokens V c (rowIn i a) (colIn 3 j))
    (v2 : ∀ a j, B.v2 (ix2 a j) = tokens V c (rowIn (behind i) a) (colIn 3 j))
    (b : ∀ h a n, B.b (ix4 0 h a n) = (V c main_v79 : S3x8x256x768.Idx → EReal) (ix4 (kind i) h a n)) :
    IsPoint (arr x0 x1 x2) i B where
  q a j := by
    rw [q, P.z]
    refine congrArg x0 (congrArg₂ (ix3 0) (Fin.ext ?_) (Fin.ext ?_))
    · unfold rowIn tok rowAt colAt; dsimp only; omega
    · unfold colIn; show 1 * 512 + j.val = 512 + j.val; omega
  k h n e T hT := by
    unfold hk
    rw [stack_apply, k0, k1, k2, P.z, P.z, P.z]
    have hc : colIn 2 (col h e) = ⟨1024 + (lane h e).val, by omega⟩ := Fin.ext rfl
    rw [hc]
    split_ifs
    all_goals
      refine congrArg x0 (congrArg₂ (ix3 0) (Fin.ext ?_) rfl)
      unfold rowIn
      dsimp only [before, behind]
      omega
  v h n e T hT := by
    unfold hv
    rw [stack_apply, v0, v1, v2, P.z, P.z, P.z]
    have hc : colIn 3 (col h e) = ⟨1536 + (lane h e).val, by omega⟩ := Fin.ext rfl
    rw [hc]
    split_ifs
    all_goals
      refine congrArg x0 (congrArg₂ (ix3 0) (Fin.ext ?_) rfl)
      unfold rowIn
      dsimp only [before, behind]
      omega
  b h a n := by
    rw [b, P.b, biasTable_apply]
    refine congrArg (fun f => ext (lo i a) ⊥ f n) (funext fun κ => funext fun x => ?_)
    unfold biasAt
    refine if_congr Iff.rfl ?_ rfl
    pointwise
    rfl

theorem isPoint0 (P : Prepared V c x0 x2) (t : Fin cfg0.N) (i : Fin 32) (hi : i.val = t.val) :
    IsPoint (arr x0 x1 x2) i (blocks0 V c t) :=
  isPoint_of V c x0 x1 x2 P i _ (read0_0 V c t i hi) (read0_1 V c t i hi) (read0_2 V c t i hi) (read0_3 V c t i hi)
    (read0_4 V c t i hi) (read0_5 V c t i hi) (read0_6 V c t i hi) (fun h a n => read0_7 V c t i hi a h n)

theorem isPoint1 (P : Prepared V c x0 x2) (t : Fin cfg1.N) (i : Fin 32) (hi : i.val = t.val) :
    IsPoint (arr x0 x1 x2) i (blocks1 V c t) :=
  isPoint_of V c x0 x1 x2 P i _ (read1_0 V c t i hi) (read1_3 V c t i hi) (read1_4 V c t i hi) (read1_5 V c t i hi)
    (read1_6 V c t i hi) (read1_7 V c t i hi) (read1_8 V c t i hi) (fun h a n => read1_9 V c t i hi a h n)

end Cert.AttKernelIdeal.Hand
-- ==== Proof.AttFinal.lean ====
module

public import proofs.«01_k».proof.Proof.AttBlocks

/-! The arrays that the attention's two pipelines leave. -/

@[expose] public section

set_option maxRecDepth 16384

noncomputable section

namespace Cert.AttKernelIdeal.Hand

open Cert.AttKernelIdeal Cert.AttKernelIdeal.Gen
open Idealize.ShloMosaic Idealize.ShloMosaic.TcCoe Idealize.ShloMosaic.Tactic
open Cert.AttMath

/-- An array of tokens and columns, of its values at head, row, column and place in the head. -/
def perHead (g : Fin 8 → Fin 128 → Fin 64 → Fin 64 → EReal) : S8192x512.Idx → EReal := fun j =>
  g ⟨(j 1).val / 64, by have h : (j 1).val < 512 := (j 1).isLt; omega⟩ ⟨(j 0).val / 64, by have h : (j 0).val < 8192 := (j 0).isLt; omega⟩
    ⟨(j 0).val % 64, by omega⟩ ⟨(j 1).val % 64, by omega⟩

theorem perHead_block (g : Fin 8 → Fin 128 → Fin 64 → Fin 64 → EReal) (i : Fin 32) (a : Fin 256) (h : Fin 8) (k : Fin 64) :
    perHead g (ix2 (rowIn i a) (col h k)) = g h (rowAt i a) (colAt a) k := by
  unfold perHead
  have e1 : (⟨(col h k).val / 64, by have := (col h k).isLt; omega⟩ : Fin 8) = h := Fin.ext (by unfold col; dsimp only; omega)
  have e2 : (⟨(rowIn i a).val / 64, by have := (rowIn i a).isLt; omega⟩ : Fin 128) = rowAt i a :=
    Fin.ext (by unfold rowIn rowAt; dsimp only; omega)
  have e3 : (⟨(rowIn i a).val % 64, by omega⟩ : Fin 64) = colAt a := Fin.ext (by unfold rowIn colAt; dsimp only; omega)
  have e4 : (⟨(col h k).val % 64, by omega⟩ : Fin 64) = k := Fin.ext (by unfold col; dsimp only; omega)
  refine Eq.trans ?_ (congr (congr (congr (congrArg g e1) e2) e3) e4)
  rfl

theorem perHead_tok (g : Fin 8 → Fin 128 → Fin 64 → Fin 64 → EReal) (h : Fin 8) (r : Fin 128) (c e : Fin 64) :
    perHead g (ix2 (tok r c) (lane h e)) = g h r c e := by
  unfold perHead
  have e1 : (⟨(lane h e).val / 64, by have := (lane h e).isLt; omega⟩ : Fin 8) = h := Fin.ext (by unfold lane; dsimp only; omega)
  have e2 : (⟨(tok r c).val / 64, by have := (tok r c).isLt; omega⟩ : Fin 128) = r := Fin.ext (by unfold tok; dsimp only; omega)
  have e3 : (⟨(tok r c).val % 64, by omega⟩ : Fin 64) = c := Fin.ext (by unfold tok; dsimp only; omega)
  have e4 : (⟨(lane h e).val % 64, by omega⟩ : Fin 64) = e := Fin.ext (by unfold lane; dsimp only; omega)
  refine Eq.trans ?_ (congr (congr (congr (congrArg g e1) e2) e3) e4)
  rfl

/-- Every column is one of a head. -/
theorem col_cases (b : Fin 512) : ∃ h k, b = col h k :=
  ⟨⟨b.val / 64, by omega⟩, ⟨b.val % 64, by omega⟩, Fin.ext (by unfold col; dsimp only; omega)⟩

/-- The sum over blocks and their queries is the one over rows and columns. -/
theorem sum_queries (f : Fin 128 → Fin 64 → EReal) : ∑ i : Fin 32, ∑ a : Fin 256, f (rowAt i a) (colAt a) = ∑ r, ∑ c, f r c := by
  rw [← Fintype.sum_prod_type (f := fun p : Fin 32 × Fin 256 => f (rowAt p.1 p.2) (colAt p.2)),
    ← Fintype.sum_prod_type (f := fun p : Fin 128 × Fin 64 => f p.1 p.2)]
  refine Finset.sum_nbij' (fun p => (rowAt p.1 p.2, colAt p.2))
    (fun p => (⟨p.1.val / 4, by omega⟩, ⟨64 * (p.1.val % 4) + p.2.val, by omega⟩)) (fun _ _ => Finset.mem_univ _)
    (fun _ _ => Finset.mem_univ _) (fun p _ => ?_) (fun p _ => ?_) (fun _ _ => rfl)
  all_goals
    refine Prod.ext (Fin.ext ?_) (Fin.ext ?_) <;> (unfold rowAt colAt; dsimp only; omega)

theorem flushes11 : ∀ t : Fin cfg1.N, (cfg1.win 11).flush t = true → t.val ≠ 0 :=
  (by decide +kernel : ∀ t : Fin grid1.N, _)
theorem flushes12 : ∀ t : Fin cfg1.N, (cfg1.win 12).flush t = true → t.val ≠ 0 :=
  (by decide +kernel : ∀ t : Fin grid1.N, _)

variable (V : (c : Dev nD) → (b : Ref sig .tc) → Buf (Elt Ideal) ((c : Thread nD τ).loc b)) (c : Dev nD)
variable (x0 : S1x8192x4096.Idx → EReal) (x1 : S1x8192x512.Idx → EReal) (x2 : S1x8x15x31.Idx → EReal)

/-- The outputs of the forward pipeline. -/
theorem y_final (P : Prepared V c x0 x2) : (dat0 V c).arrAt 8 cfg0.N = perHead (out (arr x0 x1 x2)) := by
  refine (dat0 V c).arrAt_eq_of_covers 8 _ (by decide +kernel) fun t hf y => ?_
  blk_simp
  rw [after0_8]
  obtain ⟨a, b, rfl⟩ : ∃ a b, y = ix2 a b := ⟨y 0, y 1, eq_ix2 y⟩
  obtain ⟨h, k, rfl⟩ := col_cases b
  have ht : t.val < 32 := t.isLt
  have e : (win0_8.blk t).view.emb (ix2 a (col h k)) = ix2 (rowIn ⟨t.val, ht⟩ a) (col h k) := by
    unfold rowIn
    blk_ext [index0 t]
  rw [e, perHead_block, yOf_apply]
  exact (isPoint0 V c x0 x1 x2 P t ⟨t.val, ht⟩ rfl).hy_eq h a k

/-- What the backward pipeline finds besides: outputs and output gradients. -/
structure Ready : Prop extends Prepared V c x0 x2 where
  y : V c main_v82 = perHead (out (arr x0 x1 x2))
  d : ∀ T j, (V c main_v84 : S8192x512.Idx → EReal) (ix2 T j) = x1 (ix3 0 T j)

variable (P : Ready V c x0 x1 x2)
include P

theorem point_y (t : Fin cfg1.N) (i : Fin 32) (hi : i.val = t.val) (a : Fin 256) (h : Fin 8) (e : Fin 64) :
    (blocks1 V c t).y (ix2 a (lane h e)) = out (arr x0 x1 x2) h (rowAt i a) (colAt a) e := by
  refine (read1_1 V c t i hi a (lane h e)).trans ?_
  rw [P.y]
  exact perHead_block _ i a h e

theorem point_d (t : Fin cfg1.N) (i : Fin 32) (hi : i.val = t.val) (a : Fin 256) (j : Fin 512) :
    (blocks1 V c t).d (ix2 a j) = (arr x0 x1 x2).d (tok (rowAt i a) (colAt a)) j := by
  refine (read1_2 V c t i hi a j).trans ?_
  rw [P.d]
  refine congrArg x1 (congrArg (fun T => ix3 0 T j) (Fin.ext ?_))
  unfold rowIn tok rowAt colAt; dsimp only; omega

/-- The `i`-th point, as the sums of the backward pipeline name it. -/
theorem at_point (i : Fin 32) : IsPoint (arr x0 x1 x2) i (blocksAt V c i.val)
    ∧ (∀ a h e, (blocksAt V c i.val).y (ix2 a (lane h e)) = out (arr x0 x1 x2) h (rowAt i a) (colAt a) e)
    ∧ (∀ a j, (blocksAt V c i.val).d (ix2 a j) = (arr x0 x1 x2).d (tok (rowAt i a) (colAt a)) j) := by
  have hN : i.val < cfg1.N := Nat.lt_of_lt_of_le i.isLt (by decide)
  rw [blocksAt_of V c i.val hN]
  exact ⟨isPoint1 V c x0 x1 x2 P.toPrepared _ i rfl, point_y V c x0 x1 x2 P _ i rfl, point_d V c x0 x1 x2 P _ i rfl⟩

/-- The query gradients. -/
theorem dq_final : (dat1 V c).arrAt 10 cfg1.N = perHead (gradQ (arr x0 x1 x2)) := by
  refine (dat1 V c).arrAt_eq_of_covers 10 _ (by decide +kernel) fun t hf y => ?_
  blk_simp
  rw [after1_10]
  obtain ⟨a, b, rfl⟩ : ∃ a b, y = ix2 a b := ⟨y 0, y 1, eq_ix2 y⟩
  obtain ⟨h, k, rfl⟩ := col_cases b
  have hN : t.val < 33 := t.isLt
  have e : (win1_10.blk t).view.emb (ix2 a (col h k)) = ix2 (rowIn ⟨min t.val 31, by omega⟩ a) (col h k) := by
    unfold rowIn
    blk_ext [index1 t]
  have hq : (kept1 V c t.val t.isLt).dq = dqOf (blocksAt V c (min t.val 31)) := by
    by_cases hl : t.val < 32
    · rw [dq_at V c t hl, Nat.min_eq_left (by omega)]
    · rw [kept_end V c t (by omega), Nat.min_eq_right (by omega)]
      exact dq_at V c ⟨31, by show 31 < 33; omega⟩ (by show 31 < 32; omega)
  rw [e, perHead_block, hq, dqOf_apply]
  obtain ⟨hp, hy, hd⟩ := at_point V c x0 x1 x2 P ⟨min t.val 31, by omega⟩
  exact hp.hdq_eq h a hy hd k

/-- What the points add to one row of the key gradients, -/
theorem added_k (j : Fin 32) (a : Fin 256) (h : Fin 8) (e : Fin 64) :
    ∑ i : Fin 32, addTo (fun i => wide (hdk (blocksAt V c i))) i.val j.val a (col h e)
      = gradK (arr x0 x1 x2) h (rowAt j a) (colAt a) e := by
  unfold gradK
  rw [← sum_queries]
  refine Finset.sum_congr rfl fun i _ => ?_
  obtain ⟨hp, hy, hd⟩ := at_point V c x0 x1 x2 P i
  unfold addTo
  split_ifs with hij
  · refine (wide_apply _ _ _ _).trans ?_
    exact hp.hdk_eq h hy hd _ _ _ _ (by unfold rowAt colAt; dsimp only; omega)
  · refine (Finset.sum_eq_zero fun a' _ => ?_).symm
    rw [seen_far i a' _ _ _ (by unfold rowAt; dsimp only; omega), zero_mul]

/-- and of the value gradients. -/
theorem added_v (j : Fin 32) (a : Fin 256) (h : Fin 8) (e : Fin 64) :
    ∑ i : Fin 32, addTo (fun i => wide (hdv (blocksAt V c i))) i.val j.val a (col h e)
      = gradV (arr x0 x1 x2) h (rowAt j a) (colAt a) e := by
  unfold gradV
  rw [← sum_queries]
  refine Finset.sum_congr rfl fun i _ => ?_
  obtain ⟨hp, -, hd⟩ := at_point V c x0 x1 x2 P i
  unfold addTo
  split_ifs with hij
  · refine (wide_apply _ _ _ _).trans ?_
    exact hp.hdv_eq h hd _ _ _ _ (by unfold rowAt colAt; dsimp only; omega)
  · refine (Finset.sum_eq_zero fun a' _ => ?_).symm
    rw [seen_far i a' _ _ _ (by unfold rowAt; dsimp only; omega), zero_mul]

/-- The key gradients. -/
theorem dk_final : (dat1 V c).arrAt 11 cfg1.N = perHead (gradK (arr x0 x1 x2)) := by
  refine (dat1 V c).arrAt_eq_of_covers 11 _ (by decide +kernel) fun t hf y => ?_
  have h0 := flushes11 t hf
  blk_simp
  rw [after1_11]
  obtain ⟨a, b, rfl⟩ : ∃ a b, y = ix2 a b := ⟨y 0, y 1, eq_ix2 y⟩
  obtain ⟨h, k, rfl⟩ := col_cases b
  have hN : t.val < 33 := t.isLt
  have e : (win1_11.blk t).view.emb (ix2 a (col h k)) = ix2 (rowIn ⟨t.val - 1, by omega⟩ a) (col h k) := by
    unfold rowIn
    blk_ext [index1 t]
  rw [e, perHead_block, (flush_eq V c t (t.val - 1) (by omega) a (col h k)).1]
  exact added_k V c x0 x1 x2 P ⟨t.val - 1, by omega⟩ a h k

/-- The value gradients. -/
theorem dv_final : (dat1 V c).arrAt 12 cfg1.N = perHead (gradV (arr x0 x1 x2)) := by
  refine (dat1 V c).arrAt_eq_of_covers 12 _ (by decide +kernel) fun t hf y => ?_
  have h0 := flushes12 t hf
  blk_simp
  rw [after1_12]
  obtain ⟨a, b, rfl⟩ : ∃ a b, y = ix2 a b := ⟨y 0, y 1, eq_ix2 y⟩
  obtain ⟨h, k, rfl⟩ := col_cases b
  have hN : t.val < 33 := t.isLt
  have e : (win1_12.blk t).view.emb (ix2 a (col h k)) = ix2 (rowIn ⟨t.val - 1, by omega⟩ a) (col h k) := by
    unfold rowIn
    blk_ext [index1 t]
  rw [e, perHead_block, (flush_eq V c t (t.val - 1) (by omega) a (col h k)).2]
  exact added_v V c x0 x1 x2 P ⟨t.val - 1, by omega⟩ a h k

/-- The sums of the score gradients. -/
theorem db_final (h : Fin 8) (a : Fin 256) (n : Fin 768) : (dat1 V c).arrAt 13 cfg1.N (ix3 h a n)
    = ∑ i : Fin 32, ext (lo i a) 0 (ds (arr x0 x1 x2) h (rowAt i a) (colAt a)) n := by
  have e : (dat1 V c).arrAt 13 cfg1.N = fun j : S8x256x768.Idx =>
      ∑ i : Fin 32, ext (lo i (j 1)) 0 (ds (arr x0 x1 x2) (j 0) (rowAt i (j 1)) (colAt (j 1))) (j 2) := by
    refine (dat1 V c).arrAt_eq_of_after_last 13 ⟨32, by decide⟩ (by decide +kernel) _ fun j => ?_
    blk_simp
    obtain ⟨h, a, n, rfl⟩ : ∃ h a n, j = ix3 h a n := ⟨j 0, j 1, j 2, eq_ix3 j⟩
    refine (congrFun (after1_13 V c ⟨32, by decide⟩) (ix3 h a n)).trans ?_
    refine (db_end V c ⟨32, by decide⟩ rfl h a n).trans ?_
    refine Finset.sum_congr (M := EReal) rfl fun i _ => ?_
    obtain ⟨hp, hy, hd⟩ := at_point V c x0 x1 x2 P i
    exact hp.hds_eq h a hy hd n
  rw [e]
  rfl

end Cert.AttKernelIdeal.Hand
-- ==== Proof.AttTable.lean ====
module

public import proofs.«01_k».proof.Proof.AttFinal

/-! The attention's last host lines: they bring the sums of the score gradients back to the entries of the bias table. -/

@[expose] public section

set_option maxRecDepth 16384

noncomputable section

namespace Cert.AttKernelIdeal.Hand

open Cert.AttKernelIdeal Cert.AttKernelIdeal.Gen
open Idealize.ShloMosaic Idealize.ShloMosaic.TcCoe Idealize.ShloMosaic.Tactic
open Cert.AttMath

/-- The sums over columns of the pairs' gradients at a column of the table. -/
def colSums (s : S8x256x768.Idx → EReal) (p : S64x64x31.Idx → EReal) : S8x4x12x31.Idx → EReal :=
  Host.reduceAdd (F := Ideal) (mulf (F := Ideal) (φ := .f32)
    (broadcastInDim S8x4x64x12x64x31 ![0, 1, 2, 3, 4, 5] bcast_S8x4x64x12x64x1_S8x4x64x12x64x31_0_1_2_3_4_5
      (broadcastInDim S8x4x64x12x64x1 ![0, 1, 2, 3, 4] bcast_S8x4x64x12x64_S8x4x64x12x64x1_0_1_2_3_4
        (shapeCast S8x4x64x12x64 s shapeCasts_S8x256x768_S8x4x64x12x64)))
    (broadcastInDim S8x4x64x12x64x31 ![0, 1, 2, 3, 4, 5] bcast_S1x1x64x1x64x31_S8x4x64x12x64x31_0_1_2_3_4_5
      (broadcastInDim S1x1x64x1x64x31 ![2, 4, 5] bcast_S64x64x31_S1x1x64x1x64x31_2_4_5 p)))
    (constant (F := Ideal) S_ .f32 0x00000000#32) reducesTo_S8x4x64x12x64x31_S8x4x12x31_d2_4 h_S_

/-- The sums over rows of those at an entry. -/
def rowSums (t : S8x4x12x31.Idx → EReal) (p : S4x12x15.Idx → EReal) : S8x15x31.Idx → EReal :=
  Host.reduceAdd (F := Ideal) (mulf (F := Ideal) (φ := .f32)
    (broadcastInDim S8x4x12x15x31 ![0, 1, 2, 3, 4] bcast_S8x4x12x1x31_S8x4x12x15x31_0_1_2_3_4
      (broadcastInDim S8x4x12x1x31 ![0, 1, 2, 4] bcast_S8x4x12x31_S8x4x12x1x31_0_1_2_4 t))
    (broadcastInDim S8x4x12x15x31 ![0, 1, 2, 3, 4] bcast_S1x4x12x15x1_S8x4x12x15x31_0_1_2_3_4
      (broadcastInDim S1x4x12x15x1 ![1, 2, 3] bcast_S4x12x15_S1x4x12x15x1_1_2_3 p)))
    (constant (F := Ideal) S_ .f32 0x00000000#32) reducesTo_S8x4x12x15x31_S8x15x31_d1_2 h_S_

theorem cols_image (h : Fin 8) (a : Fin 4) (r : Fin 12) (j : Fin 31) (i : S8x4x64x12x64x31.Idx) :
    reducesTo_S8x4x64x12x64x31_S8x4x12x31_d2_4.drop i = ix4 h a r j
      ↔ ∃ k : Fin 64 × Fin 64, (ix6 h a k.1 r k.2 j : S8x4x64x12x64x31.Idx) = i := by
  constructor
  · intro hi
    refine ⟨(i 2, i 4), funext fun k => ?_⟩
    match k with
    | ⟨0, _⟩ => exact Fin.ext (congrArg Fin.val (congrFun hi 0)).symm
    | ⟨1, _⟩ => exact Fin.ext (congrArg Fin.val (congrFun hi 1)).symm
    | ⟨2, _⟩ => rfl
    | ⟨3, _⟩ => exact Fin.ext (congrArg Fin.val (congrFun hi 2)).symm
    | ⟨4, _⟩ => rfl
    | ⟨5, _⟩ => exact Fin.ext (congrArg Fin.val (congrFun hi 3)).symm
  · rintro ⟨k, rfl⟩
    funext k
    match k with
    | ⟨0, _⟩ => rfl
    | ⟨1, _⟩ => rfl
    | ⟨2, _⟩ => rfl
    | ⟨3, _⟩ => rfl

theorem colSums_apply (s : S8x256x768.Idx → EReal) (p : S64x64x31.Idx → EReal) (h : Fin 8) (a : Fin 4) (r : Fin 12) (j : Fin 31) :
    colSums s p (ix4 h a r j) = ∑ c : Fin 64, ∑ x : Fin 64,
      s (ix3 h ⟨a.val * 64 + c.val, by omega⟩ ⟨r.val * 64 + x.val, by omega⟩) * p (ix3 c x j) := by
  unfold colSums
  pointwise
  unfold Ideal.hostReduceAdd
  rw [zero_add, Finset.sum_filter_eq_sum_of_fiber _ (fun k : Fin 64 × Fin 64 => (ix6 h a k.1 r k.2 j : S8x4x64x12x64x31.Idx))
    (fun _ _ e => Prod.ext (congrFun e 2) (congrFun e 4)) (cols_image h a r j), Fintype.sum_prod_type]
  refine Finset.sum_congr rfl fun c _ => Finset.sum_congr rfl fun x _ => ?_
  pointwise

theorem rows_image (h : Fin 8) (u : Fin 15) (j : Fin 31) (i : S8x4x12x15x31.Idx) :
    reducesTo_S8x4x12x15x31_S8x15x31_d1_2.drop i = ix3 h u j
      ↔ ∃ k : Fin 4 × Fin 12, (ix5 h k.1 k.2 u j : S8x4x12x15x31.Idx) = i := by
  constructor
  · intro hi
    refine ⟨(i 1, i 2), funext fun k => ?_⟩
    match k with
    | ⟨0, _⟩ => exact Fin.ext (congrArg Fin.val (congrFun hi 0)).symm
    | ⟨1, _⟩ => rfl
    | ⟨2, _⟩ => rfl
    | ⟨3, _⟩ => exact Fin.ext (congrArg Fin.val (congrFun hi 1)).symm
    | ⟨4, _⟩ => exact Fin.ext (congrArg Fin.val (congrFun hi 2)).symm
  · rintro ⟨k, rfl⟩
    funext k
    match k with
    | ⟨0, _⟩ => rfl
    | ⟨1, _⟩ => rfl
    | ⟨2, _⟩ => rfl

theorem rowSums_apply (t : S8x4x12x31.Idx → EReal) (p : S4x12x15.Idx → EReal) (h : Fin 8) (u : Fin 15) (j : Fin 31) :
    rowSums t p (ix3 h u j) = ∑ a : Fin 4, ∑ r : Fin 12, t (ix4 h a r j) * p (ix3 a r u) := by
  unfold rowSums
  pointwise
  try unfold Ideal.hostReduceAdd
  rw [zero_add, Finset.sum_filter_eq_sum_of_fiber _ (fun k : Fin 4 × Fin 12 => (ix5 h k.1 k.2 u j : S8x4x12x15x31.Idx))
    (fun _ _ e => Prod.ext (congrFun e 1) (congrFun e 2)) (rows_image h u j), Fintype.sum_prod_type]
  refine Finset.sum_congr rfl fun c _ => Finset.sum_congr rfl fun x _ => ?_
  pointwise

/-- All pairs of a query and a key of the window that read one entry. -/
theorem entry_sum (s : S8x256x768.Idx → EReal) (h : Fin 8) (u : Fin 15) (j : Fin 31) :
    rowSums (colSums s (uitofp (F := Ideal) .f32 colPick)) (uitofp (F := Ideal) .f32 rowPick) (ix3 h u j)
      = ∑ q : Fin 256, ∑ n : Fin 768, if n.val / 64 + 3 = u.val + q.val / 64 ∧ dc (colAt q) ⟨n.val % 64, by omega⟩ = j
          then s (ix3 h q n) else 0 := by
  rw [rowSums_apply, Fin.sum_univ_tiles 4 64 rfl]
  refine Finset.sum_congr rfl fun a _ => ?_
  simp only [fun c : Fin 64 => Fin.sum_univ_tiles 12 64 (N := 768) rfl (fun n => if n.val / 64 + 3 = u.val + (a.val * 64 + c.val) / 64
    ∧ dc (colAt ⟨a.val * 64 + c.val, by omega⟩) ⟨n.val % 64, by omega⟩ = j then s (ix3 h ⟨a.val * 64 + c.val, by omega⟩ n) else 0)]
  rw [Finset.sum_comm]
  refine Finset.sum_congr rfl fun r _ => ?_
  rw [colSums_apply, pick_eq _ _ _ (rowPick_eq a r u)]
  by_cases hr : r.val + 3 = u.val + a.val
  · rw [if_pos hr, mul_one]
    refine Finset.sum_congr rfl fun c _ => Finset.sum_congr rfl fun x _ => ?_
    have e1 : colAt ⟨a.val * 64 + c.val, by omega⟩ = c := Fin.ext (by unfold colAt; dsimp only; omega)
    have e2 : (⟨(r.val * 64 + x.val) % 64, by omega⟩ : Fin 64) = x := Fin.ext (by dsimp only; omega)
    rw [pick_eq _ _ _ (colPick_eq c x j), e1, e2]
    by_cases hj : dc c x = j
    · rw [if_pos hj, if_pos ⟨by omega, hj⟩, mul_one]
    · rw [if_neg hj, if_neg (fun e => hj e.2), mul_zero]
  · rw [if_neg hr, mul_zero]
    refine (Finset.sum_eq_zero fun c _ => Finset.sum_eq_zero fun x _ => ?_).symm
    exact if_neg fun e => hr (by have := e.1; omega)

/-- The entries of the bias table's gradient, of the sums that the backward pipeline leaves. -/
theorem entries (A : Arr) (s : S8x256x768.Idx → EReal)
    (hs : ∀ h a n, s (ix3 h a n) = ∑ i : Fin 32, ext (lo i a) 0 (ds A h (rowAt i a) (colAt a)) n) (h : Fin 8) (u : Fin 15) (j : Fin 31) :
    rowSums (colSums s (uitofp (F := Ideal) .f32 colPick)) (uitofp (F := Ideal) .f32 rowPick) (ix3 h u j) = gradB A h u j := by
  rw [entry_sum]
  unfold gradB
  rw [← sum_queries fun r c => ∑ κ, ∑ x, if dr r κ = u ∧ dc c x = j then ds A h r c κ x else 0]
  refine Eq.trans (Finset.sum_congr (M := EReal) rfl fun q _ => ?_) Finset.sum_comm
  have e (n : Fin 768) : (if n.val / 64 + 3 = u.val + q.val / 64 ∧ dc (colAt q) ⟨n.val % 64, by omega⟩ = j then s (ix3 h q n) else 0)
      = ∑ i : Fin 32, ext (lo i q) 0 (fun κ x => if dr (rowAt i q) κ = u ∧ dc (colAt q) x = j
          then ds A h (rowAt i q) (colAt q) κ x else 0) n := by
    have hx (i : Fin 32) (hn : lo i q ≤ n.val / 64 ∧ n.val / 64 < lo i q + 8) :
        dr (rowAt i q) ⟨n.val / 64 - lo i q, by omega⟩ = u ↔ n.val / 64 + 3 = u.val + q.val / 64 := by
      rw [Fin.ext_iff]
      have hv : (rowAt i q).val = 4 * i.val + q.val / 64 := rfl
      have hl : lo i q = rowStart (4 * i.val + q.val / 64) + 4 - 4 * i.val := rfl
      have hs' : 4 * i.val ≤ rowStart (4 * i.val + q.val / 64) + 4 := by unfold rowStart; omega
      show rowStart (rowAt i q).val + (n.val / 64 - lo i q) + 7 - (rowAt i q).val = u.val ↔ _
      rw [hv]
      omega
    by_cases hp : n.val / 64 + 3 = u.val + q.val / 64 ∧ dc (colAt q) ⟨n.val % 64, by omega⟩ = j
    · rw [if_pos hp, hs]
      refine Finset.sum_congr rfl fun i _ => ?_
      unfold ext
      split_ifs with hn
      · exact (if_pos (And.intro ((hx i hn).mpr hp.1) hp.2)).symm
      · rfl
    · rw [if_neg hp]
      refine (Finset.sum_eq_zero fun i _ => ?_).symm
      unfold ext
      split_ifs with hn
      · exact if_neg (c := _ ∧ _) fun e => hp ⟨(hx i hn).mp e.1, e.2⟩
      · rfl
  simp only [e]
  rw [Finset.sum_comm]
  refine Finset.sum_congr (M := EReal) rfl fun i _ => ?_
  exact sum_ext _ (lo_le i q) _

theorem host_entries (W : Valuation τ sig (Elt Ideal)) : StableHlo.after hostOps2 W (Proc.devRef .tc main_v98)
    = rowSums (colSums (W (Proc.devRef .tc main_v85_3)) (W (Proc.devRef .tc main_v25))) (W (Proc.devRef .tc main_v12)) := by
  after_reads_simp
  sl_kernel_rfl

end Cert.AttKernelIdeal.Hand
-- ==== Proof.AttValue.lean ====
module

public import proofs.«01_k».proof.Proof.AttTable
public import proofs.«01_k».proof.Proof.AttRun

/-! The attention's results at the end of the whole program, as functions of its arguments. -/

@[expose] public section

set_option maxRecDepth 16384

noncomputable section

namespace Cert.AttKernelIdeal.Hand

open Cert.AttKernelIdeal Cert.AttKernelIdeal.Gen
open Idealize.ShloMosaic Idealize.ShloMosaic.TcCoe Idealize.ShloMosaic.Tactic
open Cert.AttMath

variable (m : (ℓ : Loc nD τ sig) → Buf (Elt Ideal) ℓ) (ρ : Dev nD → PrngReg) (c : Dev nD)

abbrev arg0 : S1x8192x4096.Idx → EReal := m ((c : Thread nD τ).loc main_arg0)
abbrev arg1 : S1x8192x512.Idx → EReal := m ((c : Thread nD τ).loc main_arg1)
abbrev arg2 : S1x8x15x31.Idx → EReal := m ((c : Thread nD τ).loc main_arg2)

/-- The arrays that the arguments hold. -/
abbrev args : Arr := arr (arg0 m c) (arg1 m c) (arg2 m c)

theorem W1_z (T : Fin 8192) (j : Fin 4096) : (W1 m ρ c (Proc.devRef .tc main_v81) : S8192x4096.Idx → EReal) (ix2 T j) = arg0 m c (ix3 0 T j) := by
  refine (congrFun (host_z (W0 m ρ c)) (ix2 T j)).trans ?_
  pointwise

theorem prepared : Prepared (V1 m ρ) c (arg0 m c) (arg2 m c) where
  z T j := W1_z m ρ c T j
  b := host_bias (W0 m ρ c)

/-- A buffer that the second host lines leave and the first pipeline only reads. -/
theorem W3_of (r : Ref sig .tc) (h1 : r ∉ host1_refs) (h : ∀ w : Fin cfg0.W, Pipeline.arrRef spec0 w = r → (cfg0.win w).isOut = false) :
    W3 m ρ c (Proc.devRef .tc r) = W1 m ρ c (Proc.devRef .tc r) :=
  (StableHlo.after_of_writes_sub hostOps1 _ host1_writes h1).trans (W2_of m ρ c r h)

theorem W3_y : W3 m ρ c (Proc.devRef .tc main_v82) = perHead (out (args m c)) :=
  (StableHlo.after_of_writes_sub hostOps1 _ host1_writes (by decide)).trans <|
  (W2_arr m ρ c 8).trans (y_final (V1 m ρ) c (arg0 m c) (arg1 m c) (arg2 m c) (prepared m ρ c))

theorem W2_dy : W2 m ρ c (Proc.devRef .tc main_arg1) = arg1 m c :=
  (W2_of m ρ c main_arg1 (args_in0 main_arg1 (by decide))).trans
    (StableHlo.after_of_writes_sub hostOps0 _ host0_writes (args_host main_arg1 (by decide)).1)

theorem ready : Ready (V3 m ρ) c (arg0 m c) (arg1 m c) (arg2 m c) where
  z T j := (congrFun (W3_of m ρ c main_v81 (by decide) (by decide +kernel)) (ix2 T j)).trans (W1_z m ρ c T j)
  b := (W3_of m ρ c main_v79 (by decide) (by decide +kernel)).trans (host_bias (W0 m ρ c))
  y := W3_y m ρ c
  d T j := by
    refine (congrFun (host_d (W2 m ρ c)) (ix2 T j)).trans ?_
    rw [W2_dy]
    pointwise

theorem end_y : W5 m ρ c (Proc.devRef .tc main_v82) = perHead (out (args m c)) :=
  (StableHlo.after_of_writes_sub hostOps2 _ host2_writes (by decide)).trans <|
  (W4_of m ρ c main_v82 (by decide +kernel)).trans (W3_y m ρ c)

theorem end_dq : W5 m ρ c (Proc.devRef .tc main_v85_0) = perHead (gradQ (args m c)) :=
  (StableHlo.after_of_writes_sub hostOps2 _ host2_writes (by decide)).trans <|
  (W4_arr m ρ c 10).trans (dq_final (V3 m ρ) c _ _ _ (ready m ρ c))

theorem end_dk : W5 m ρ c (Proc.devRef .tc main_v85_1) = perHead (gradK (args m c)) :=
  (StableHlo.after_of_writes_sub hostOps2 _ host2_writes (by decide)).trans <|
  (W4_arr m ρ c 11).trans (dk_final (V3 m ρ) c _ _ _ (ready m ρ c))

theorem end_dv : W5 m ρ c (Proc.devRef .tc main_v85_2) = perHead (gradV (args m c)) :=
  (StableHlo.after_of_writes_sub hostOps2 _ host2_writes (by decide)).trans <|
  (W4_arr m ρ c 12).trans (dv_final (V3 m ρ) c _ _ _ (ready m ρ c))

/-- A table that the first host lines make, before the last ones. -/
theorem W4_table (r : Ref sig .tc) (h1 : r ∉ host1_refs) (h0 : ∀ w : Fin cfg0.W, Pipeline.arrRef spec0 w = r → (cfg0.win w).isOut = false)
    (h : ∀ w : Fin cfg1.W, Pipeline.arrRef spec1 w = r → (cfg1.win w).isOut = false) :
    W4 m ρ c (Proc.devRef .tc r) = W1 m ρ c (Proc.devRef .tc r) :=
  (W4_of m ρ c r h).trans (W3_of m ρ c r h1 h0)

theorem end_db (h : Fin 8) (i : Fin 15) (j : Fin 31) :
    (W5 m ρ c (Proc.devRef .tc main_v98) : S8x15x31.Idx → EReal) (ix3 h i j) = gradB (args m c) h i j := by
  refine (congrFun (host_entries (W4 m ρ c)) (ix3 h i j)).trans ?_
  have e1 : W4 m ρ c (Proc.devRef .tc main_v25) = uitofp (F := Ideal) .f32 colPick :=
    (W4_table m ρ c main_v25 (by decide) (by decide +kernel) (by decide +kernel)).trans (host_colPick (W0 m ρ c))
  have e2 : W4 m ρ c (Proc.devRef .tc main_v12) = uitofp (F := Ideal) .f32 rowPick :=
    (W4_table m ρ c main_v12 (by decide) (by decide +kernel) (by decide +kernel)).trans (host_rowPick (W0 m ρ c))
  rw [e1, e2, W4_arr m ρ c 13]
  exact entries (args m c) _ (db_final (V3 m ρ) c _ _ _ (ready m ρ c)) h i j

end Cert.AttKernelIdeal.Hand

end
end
-- ==== Proof.AttRefIndex.lean ====
module

public import proofs.«01_k».proof.Proof.Gen.AttReferenceIdeal.Read
public import proofs.«01_k».proof.Proof.AttMath

/-! The whole numbers that the attention's reference computes: the rows and columns that a query sees, and where in the
    table of biases a pair looks. -/

@[expose] public section

set_option maxRecDepth 16384

noncomputable section

namespace Cert.AttReferenceIdeal.Read

open Cert.AttReferenceIdeal Cert.AttReferenceIdeal.Gen
open Idealize.ShloMosaic Idealize.ShloMosaic.TcCoe
open Cert.AttMath

theorem rows_k : ∀ (r : Fin 128) (κ : Fin 8), val_main_v24 (F := Ideal) (ix3 r κ 0) = BitVec.ofNat 32 (rowStart r.val + κ.val) := by
  decide +kernel

theorem rows_v : ∀ (r : Fin 128) (κ : Fin 8), val_main_v31 (F := Ideal) (ix3 r κ 0) = BitVec.ofNat 32 (rowStart r.val + κ.val) := by
  decide +kernel

theorem sees : ∀ c x : Fin 64, val_main_v49 (F := Ideal) (ix2 c x) = if InCol c.val x.val then 1#1 else 0#1 := by
  decide +kernel

theorem bias_rows : ∀ (r : Fin 128) (κ : Fin 8), val_main_v70 (F := Ideal) (ix4 r 0 κ 0) = BitVec.ofNat 32 (dr r κ).val := by
  decide +kernel

theorem bias_cols : ∀ (c x : Fin 64), val_main_v75 (F := Ideal) (ix4 0 c 0 x) = BitVec.ofNat 32 (dc c x).val := by
  decide +kernel

end Cert.AttReferenceIdeal.Read
-- ==== Proof.AttRefRow.lean ====
module

public import proofs.«01_k».proof.Proof.AttRefIndex
public import Idealize.ShloMosaic.Lib.Pointwise

/-! The attention's reference read at an index, in the terms of `Cert.AttMath`. -/

@[expose] public section

set_option maxRecDepth 16384

noncomputable section

namespace Cert.AttReferenceIdeal.Read

open Cert.AttReferenceIdeal Cert.AttReferenceIdeal.Gen
open Idealize.ShloMosaic Idealize.ShloMosaic.TcCoe
open Cert.AttMath

variable (x0 : S1x8192x4096.Idx → EReal) (x1 : S1x8192x512.Idx → EReal) (x2 : S1x8x15x31.Idx → EReal)

/-- The attention's arrays among the arguments. -/
def arr : Arr where
  q t j := x0 (ix3 0 t ⟨512 + j.val, by omega⟩)
  k t j := x0 (ix3 0 t ⟨1024 + j.val, by omega⟩)
  v t j := x0 (ix3 0 t ⟨1536 + j.val, by omega⟩)
  d t j := x1 (ix3 0 t j)
  b h i j := x2 (ix4 0 h i j)

variable (r : Fin 128) (c : Fin 64) (h : Fin 8) (e : Fin 64) (κ : Fin 8) (x : Fin 64)

theorem tok_flat (hr : r.val * 64 + c.val < 8192) : (⟨r.val * 64 + c.val, hr⟩ : Fin 8192) = tok r c :=
  Fin.ext (by unfold tok; dsimp only; omega)

theorem lane_flat (hr : h.val * 64 + e.val < 512) : (⟨h.val * 64 + e.val, hr⟩ : Fin 512) = lane h e :=
  Fin.ext (by unfold lane; dsimp only; omega)

theorem lane_flat_add (n : ℕ) (hr : n + (h.val * 64 + e.val) < 4096) (hn : n + (lane h e).val < 4096) :
    (⟨n + (h.val * 64 + e.val), hr⟩ : Fin 4096) = ⟨n + (lane h e).val, hn⟩ :=
  Fin.ext (by unfold lane; dsimp only; omega)

theorem v6_apply : val_main_v6 (F := Ideal) x0 (ix5 0 r c h e) = (arr x0 x1 x2).q (tok r c) (lane h e) * eighth := by
  pointwise [val_main_v6, val_main_v5, val_main_v4, val_main_v0, val_main_cst]
  rw [tok_flat, lane_flat_add]
  rfl

theorem v7_apply : val_main_v7 (F := Ideal) x0 (ix5 0 r c h e) = (arr x0 x1 x2).k (tok r c) (lane h e) := by
  pointwise [val_main_v7, val_main_v1]
  rw [tok_flat, lane_flat_add]
  rfl

theorem v8_apply : val_main_v8 (F := Ideal) x0 (ix5 0 r c h e) = (arr x0 x1 x2).v (tok r c) (lane h e) := by
  pointwise [val_main_v8, val_main_v2]
  rw [tok_flat, lane_flat_add]
  rfl

theorem toInt_small (n : ℕ) (hn : n < 2 ^ 31) : (BitVec.ofNat 32 n).toInt = n := by
  rw [BitVec.toInt_ofNat', Int.bmod_def]
  omega

abbrev gdims := gather_S1x128x64x8x64_S128x8x1_S1x128x8x64x8x64_0345_1_n_n_1_2_1164864

/-- The rows that a query row sees, taken out of an array. -/
theorem gather_rows (w : S1x128x64x8x64.Idx → EReal) (idx : S128x8x1.Idx → BitVec 32)
    (hi : idx (ix3 r κ 0) = BitVec.ofNat 32 (rowStart r.val + κ.val)) :
    Host.gather gdims w idx (ix6 0 r κ x h e) = w (ix5 0 (krow r κ) x h e) := by
  have hr := rowStart_le r
  have hs : gdims.start (ix6 0 r κ x h e) idx 1 = rowStart r.val + κ.val := by
    show min (idx _).toInt.toNat (128 - 1) = _
    have e1 : gdims.siIdx (ix6 0 r κ x h e) ⟨0, by decide⟩ = ix3 r κ 0 := by
      funext a
      match a with
      | ⟨0, _⟩ => rfl
      | ⟨1, _⟩ => rfl
      | ⟨2, _⟩ => rfl
    refine (congrArg (fun i => min (idx i).toInt.toNat (128 - 1)) e1).trans ?_
    rw [hi, toInt_small _ (by omega), Int.toNat_natCast]
    omega
  refine congrArg w (funext fun a => ?_)
  match a with
  | ⟨0, _⟩ => exact Fin.ext rfl
  | ⟨1, _⟩ => exact Fin.ext (by
      show gdims.start (ix6 0 r κ x h e) idx 1 + 0 + 0 = _
      rw [hs]; rfl)
  | ⟨2, _⟩ => exact Fin.ext (by show 0 + 0 + x.val = x.val; omega)
  | ⟨3, _⟩ => exact Fin.ext (by show 0 + 0 + h.val = h.val; omega)
  | ⟨4, _⟩ => exact Fin.ext (by show 0 + 0 + e.val = e.val; omega)

theorem v25_apply : val_main_v25 (F := Ideal) x0 (ix6 0 r κ x h e) = (arr x0 x1 x2).k (tok (krow r κ) x) (lane h e) := by
  unfold val_main_v25
  rw [gather_rows r h e κ x _ _ (rows_k r κ), v7_apply x0 x1 x2]

theorem v32_apply : val_main_v32 (F := Ideal) x0 (ix6 0 r κ x h e) = (arr x0 x1 x2).v (tok (krow r κ) x) (lane h e) := by
  unfold val_main_v32
  rw [gather_rows r h e κ x _ _ (rows_v r κ), v8_apply x0 x1 x2]

theorem v50_apply : val_main_v50 (F := Ideal) x0 (ix6 0 h r c κ x)
    = ∑ e, (arr x0 x1 x2).q (tok r c) (lane h e) * eighth * (arr x0 x1 x2).k (tok (krow r κ) x) (lane h e) := by
  pointwise [val_main_v50, v6_apply x0 x1 x2, v25_apply x0 x1 x2]

theorem v80_apply (b : Fin 2) : val_main_v80 (F := Ideal) (ix5 r c κ x b)
    = if b = 0 then BitVec.ofNat 32 (dr r κ).val else BitVec.ofNat 32 (dc c x).val := by
  match b with
  | ⟨0, _⟩ => pointwise [val_main_v80, val_main_v78, val_main_v79, val_main_v76, val_main_v77, bias_rows, bias_cols]
  | ⟨1, _⟩ => pointwise [val_main_v80, val_main_v78, val_main_v79, val_main_v76, val_main_v77, bias_rows, bias_cols]

abbrev bdims := gather_S8x15x31_S128x64x8x64x2_S8x128x64x8x64_0_12_n_n_12_4_811

/-- The entry of a table that a pair's two numbers name. -/
theorem gather_pair (w : S8x15x31.Idx → EReal) (idx : S128x64x8x64x2.Idx → BitVec 32) (i : Fin 15) (j : Fin 31)
    (hi : idx (ix5 r c κ x 0) = BitVec.ofNat 32 i.val) (hj : idx (ix5 r c κ x 1) = BitVec.ofNat 32 j.val) :
    Host.gather bdims w idx (ix5 h r c κ x) = w (ix3 h i j) := by
  have h1 : bdims.start (ix5 h r c κ x) idx 1 = i.val := by
    show min (idx _).toInt.toNat (15 - 1) = _
    have e1 : bdims.siIdx (ix5 h r c κ x) ⟨0, by decide⟩ = ix5 r c κ x 0 := by
      funext a
      match a with
      | ⟨0, _⟩ => rfl
      | ⟨1, _⟩ => rfl
      | ⟨2, _⟩ => rfl
      | ⟨3, _⟩ => rfl
      | ⟨4, _⟩ => rfl
    refine (congrArg (fun i => min (idx i).toInt.toNat (15 - 1)) e1).trans ?_
    rw [hi, toInt_small _ (by omega), Int.toNat_natCast]
    omega
  have h2 : bdims.start (ix5 h r c κ x) idx 2 = j.val := by
    show min (idx _).toInt.toNat (31 - 1) = _
    have e1 : bdims.siIdx (ix5 h r c κ x) ⟨1, by decide⟩ = ix5 r c κ x 1 := by
      funext a
      match a with
      | ⟨0, _⟩ => rfl
      | ⟨1, _⟩ => rfl
      | ⟨2, _⟩ => rfl
      | ⟨3, _⟩ => rfl
      | ⟨4, _⟩ => rfl
    refine (congrArg (fun i => min (idx i).toInt.toNat (31 - 1)) e1).trans ?_
    rw [hj, toInt_small _ (by omega), Int.toNat_natCast]
    omega
  refine congrArg w (funext fun a => ?_)
  match a with
  | ⟨0, _⟩ => exact Fin.ext (by show 0 + 0 + h.val = h.val; omega)
  | ⟨1, _⟩ => exact Fin.ext (by
      show bdims.start (ix5 h r c κ x) idx 1 + 0 + 0 = _
      rw [h1]; rfl)
  | ⟨2, _⟩ => exact Fin.ext (by
      show bdims.start (ix5 h r c κ x) idx 2 + 0 + 0 = _
      rw [h2]; rfl)

theorem v81_apply : val_main_v81 (F := Ideal) x2 (ix5 h r c κ x) = (arr x0 x1 x2).b h (dr r κ) (dc c x) := by
  have e3 : ∀ i j, val_main_v3 (F := Ideal) x2 (ix3 h i j) = x2 (ix4 0 h i j) := fun i j => by pointwise [val_main_v3]
  unfold val_main_v81
  rw [gather_pair r c h κ x _ _ (dr r κ) (dc c x) (v80_apply r c κ x 0) (v80_apply r c κ x 1), e3]
  rfl

theorem minus_inf : Ideal.ofBits .f32 0xFF800000#32 = ⊥ := by
  simp [Ideal.ofBits, Ideal.ieee]

theorem v85_1_apply : val_main_v85_1 (F := Ideal) (ix6 0 h r c κ x) = if InCol c.val x.val then 1#1 else 0#1 := by
  pointwise [val_main_v85_1, val_main_v82, sees]

theorem select_seen (p : Prop) [Decidable p] (y z : EReal) :
    Scalar.select (if p then 1#1 else 0#1) y z = if p then y else z := by
  split_ifs <;> rfl

theorem v85_0_apply : val_main_v85_0 (F := Ideal) x0 x2 (ix6 0 h r c κ x) = sc (arr x0 x1 x2) h r c κ x := by
  have e : val_main_call3_v0 (F := Ideal) ix0 = ⊥ := minus_inf
  pointwise [val_main_v85_0, val_main_v84, v50_apply x0 x1 x2, val_main_v83, v81_apply x0 x1 x2, val_main_call3_v2, e, v85_1_apply]
  rw [select_seen]
  rfl

/-! The pairs of one query. -/

abbrev red := reducesTo_S1x8x128x64x8x64_S1x8x128x64_d4_5

theorem pairs_inj : Function.Injective fun k : Fin 8 × Fin 64 => (ix6 0 h r c k.1 k.2 : S1x8x128x64x8x64.Idx) :=
  fun _ _ e => Prod.ext (congrFun e 4) (congrFun e 5)

theorem pairs_image (i : S1x8x128x64x8x64.Idx) :
    red.drop i = ix4 0 h r c ↔ ∃ k : Fin 8 × Fin 64, (ix6 0 h r c k.1 k.2 : S1x8x128x64x8x64.Idx) = i := by
  constructor
  · intro hi
    refine ⟨(i 4, i 5), funext fun a => ?_⟩
    match a with
    | ⟨0, _⟩ => exact Subsingleton.elim (α := Fin 1) _ _
    | ⟨1, _⟩ => exact Fin.ext (congrArg Fin.val (congrFun hi 1)).symm
    | ⟨2, _⟩ => exact Fin.ext (congrArg Fin.val (congrFun hi 2)).symm
    | ⟨3, _⟩ => exact Fin.ext (congrArg Fin.val (congrFun hi 3)).symm
    | ⟨4, _⟩ => rfl
    | ⟨5, _⟩ => rfl
  · rintro ⟨k, rfl⟩
    funext a
    match a with
    | ⟨0, _⟩ => rfl
    | ⟨1, _⟩ => rfl
    | ⟨2, _⟩ => rfl
    | ⟨3, _⟩ => rfl

theorem sum_pairs (w : S1x8x128x64x8x64.Idx → EReal) :
    ∑ i ∈ Finset.univ.filter (fun i => red.drop i = ix4 0 h r c), w i = ∑ κ, ∑ x, w (ix6 0 h r c κ x) := by
  rw [Finset.sum_filter_eq_sum_of_fiber _ _ (pairs_inj r c h) (pairs_image r c h), Fintype.sum_prod_type]

theorem reduce_pairs (w : S1x8x128x64x8x64.Idx → EReal) :
    Ideal.hostReduceAdd red w 0 (ix4 0 h r c) = ∑ κ, ∑ x, w (ix6 0 h r c κ x) := by
  unfold Ideal.hostReduceAdd
  rw [zero_add, sum_pairs]

theorem sup_pairs (w : S1x8x128x64x8x64.Idx → EReal) :
    (Finset.univ.filter (fun i => red.drop i = ix4 0 h r c)).fold max ⊥ w
      = Finset.univ.sup fun κ => Finset.univ.sup fun x => w (ix6 0 h r c κ x) := by
  rw [Finset.fold_filter_eq_fold_of_fiber max _ _ (pairs_inj r c h) (pairs_image r c h)]
  show (Finset.univ.sup fun k : Fin 8 × Fin 64 => w (ix6 0 h r c k.1 k.2)) = _
  rw [← Finset.univ_product_univ, Finset.sup_product_left]

theorem v86_apply : val_main_v86 (F := Ideal) x0 x2 (ix4 0 h r c) = mx (arr x0 x1 x2) h r c := by
  pointwise [val_main_v86, val_main_cst_19, minus_inf]
  rw [sup_pairs]
  simp only [v85_0_apply x0 x1 x2]
  rfl

theorem v93_apply : val_main_v93 (F := Ideal) x0 x2 (ix4 0 h r c) = mx (arr x0 x1 x2) h r c := by
  have e : val_main_v92 (F := Ideal) (ix4 0 h r c) = ⊥ := by pointwise [val_main_v92, val_main_cst_21, minus_inf]
  rw [val_main_v93_apply, e, v86_apply x0 x1 x2]
  exact max_eq_right bot_le

theorem v104_apply : val_main_v104 (F := Ideal) x0 x2 (ix6 0 h r c κ x) = mx (arr x0 x1 x2) h r c := by
  rw [← v93_apply x0 x1 x2]
  unfold val_main_v104 val_main_v103
  generalize val_main_v93 (F := Ideal) x0 x2 = w
  pointwise

theorem v106_apply : val_main_v106 (F := Ideal) x0 x2 (ix6 0 h r c κ x) = ex (arr x0 x1 x2) h r c κ x := by
  rw [val_main_v106_apply, val_main_v105_apply, v104_apply x0 x1 x2, v85_0_apply x0 x1 x2]
  rfl

theorem v107_apply : val_main_v107 (F := Ideal) x0 x2 (ix4 0 h r c) = sm (arr x0 x1 x2) h r c := by
  pointwise [val_main_v107, val_main_cst_27]
  rw [reduce_pairs]
  simp only [v106_apply x0 x1 x2]
  rfl

theorem v110_apply : val_main_v110 (F := Ideal) x0 x2 (ix6 0 h r c κ x)
    = Ideal.div (ex (arr x0 x1 x2) h r c κ x) (sm (arr x0 x1 x2) h r c) := by
  pointwise [val_main_v110, v106_apply x0 x1 x2, val_main_v109, val_main_v108, v107_apply x0 x1 x2]

theorem v115_apply : val_main_v115 (F := Ideal) x0 x2 (ix5 0 r c h e)
    = ∑ κ, ∑ x, (arr x0 x1 x2).v (tok (krow r κ) x) (lane h e)
      * Ideal.div (ex (arr x0 x1 x2) h r c κ x) (sm (arr x0 x1 x2) h r c) := by
  pointwise [val_main_v115, val_main_v114, v110_apply x0 x1 x2, v32_apply x0 x1 x2]
  rw [Finset.sum_comm]

theorem v118_apply : val_main_v118 (F := Ideal) x1 (ix5 0 r h e c) = (arr x0 x1 x2).d (tok r c) (lane h e) := by
  pointwise [val_main_v118, val_main_v117]
  rw [tok_flat, lane_flat]
  rfl

theorem v120_apply : val_main_v120 (F := Ideal) x0 x1 (ix6 0 h r c κ x) = dp (arr x0 x1 x2) h r c κ x := by
  pointwise [val_main_v120, val_main_v119, v118_apply x0 x1 x2, v32_apply x0 x1 x2]
  rfl

theorem v122_apply : val_main_v122 (F := Ideal) x0 x1 x2 (ix6 0 r κ x h e)
    = ∑ c, (arr x0 x1 x2).d (tok r c) (lane h e) * Ideal.div (ex (arr x0 x1 x2) h r c κ x) (sm (arr x0 x1 x2) h r c) := by
  pointwise [val_main_v122, val_main_v121, v118_apply x0 x1 x2, v110_apply x0 x1 x2]

theorem v125_apply : val_main_v125 (F := Ideal) x0 x1 x2 (ix6 0 h r c κ x)
    = dp (arr x0 x1 x2) h r c κ x * Ideal.div 1 (sm (arr x0 x1 x2) h r c * sm (arr x0 x1 x2) h r c) * ex (arr x0 x1 x2) h r c κ x := by
  pointwise [val_main_v125, val_main_v124, v120_apply x0 x1 x2, val_main_v123, val_main_v113, val_main_v112, val_main_cst_28, val_main_v111,
    val_main_v108, v107_apply x0 x1 x2, v106_apply x0 x1 x2]

theorem v128_apply : val_main_v128 (F := Ideal) x0 x1 x2 (ix6 0 h r c 0 0)
    = -∑ κ, ∑ x, dp (arr x0 x1 x2) h r c κ x * Ideal.div 1 (sm (arr x0 x1 x2) h r c * sm (arr x0 x1 x2) h r c)
      * ex (arr x0 x1 x2) h r c κ x := by
  pointwise [val_main_v128, val_main_v127, val_main_v126, val_main_cst_29]
  rw [reduce_pairs]
  simp only [v125_apply x0 x1 x2]

theorem unit_image (i : S1x8x128x64x1x1.Idx) :
    reducesTo_S1x8x128x64x1x1_S8x128x64_d0_4_5.drop i = ix3 h r c ↔ ∃ _ : Unit, (ix6 0 h r c 0 0 : S1x8x128x64x1x1.Idx) = i := by
  constructor
  · intro hi
    refine ⟨(), funext fun a => ?_⟩
    match a with
    | ⟨0, _⟩ => exact Subsingleton.elim (α := Fin 1) _ _
    | ⟨1, _⟩ => exact Fin.ext (congrArg Fin.val (congrFun hi 0)).symm
    | ⟨2, _⟩ => exact Fin.ext (congrArg Fin.val (congrFun hi 1)).symm
    | ⟨3, _⟩ => exact Fin.ext (congrArg Fin.val (congrFun hi 2)).symm
    | ⟨4, _⟩ => exact Subsingleton.elim (α := Fin 1) _ _
    | ⟨5, _⟩ => exact Subsingleton.elim (α := Fin 1) _ _
  · rintro ⟨k, rfl⟩
    funext a
    match a with
    | ⟨0, _⟩ => rfl
    | ⟨1, _⟩ => rfl
    | ⟨2, _⟩ => rfl

/-- A sum over axes of length one. -/
theorem reduce_unit (w : S1x8x128x64x1x1.Idx → EReal) :
    Ideal.hostReduceAdd reducesTo_S1x8x128x64x1x1_S8x128x64_d0_4_5 w 0 (ix3 h r c) = w (ix6 0 h r c 0 0) := by
  unfold Ideal.hostReduceAdd
  rw [zero_add, Finset.sum_filter_eq_sum_of_fiber _ (fun _ : Unit => (ix6 0 h r c 0 0 : S1x8x128x64x1x1.Idx))
    (fun _ _ _ => rfl) (unit_image r c h)]
  exact Finset.sum_singleton _ _

theorem front_image (i : S1x8x128x64x8x64.Idx) :
    reducesTo_S1x8x128x64x8x64_S8x128x64x8x64_d0.drop i = ix5 h r c κ x ↔ ∃ _ : Unit, (ix6 0 h r c κ x : S1x8x128x64x8x64.Idx) = i := by
  constructor
  · intro hi
    refine ⟨(), funext fun a => ?_⟩
    match a with
    | ⟨0, _⟩ => exact Subsingleton.elim (α := Fin 1) _ _
    | ⟨1, _⟩ => exact Fin.ext (congrArg Fin.val (congrFun hi 0)).symm
    | ⟨2, _⟩ => exact Fin.ext (congrArg Fin.val (congrFun hi 1)).symm
    | ⟨3, _⟩ => exact Fin.ext (congrArg Fin.val (congrFun hi 2)).symm
    | ⟨4, _⟩ => exact Fin.ext (congrArg Fin.val (congrFun hi 3)).symm
    | ⟨5, _⟩ => exact Fin.ext (congrArg Fin.val (congrFun hi 4)).symm
  · rintro ⟨k, rfl⟩
    funext a
    match a with
    | ⟨0, _⟩ => rfl
    | ⟨1, _⟩ => rfl
    | ⟨2, _⟩ => rfl
    | ⟨3, _⟩ => rfl
    | ⟨4, _⟩ => rfl

theorem reduce_front (w : S1x8x128x64x8x64.Idx → EReal) :
    Ideal.hostReduceAdd reducesTo_S1x8x128x64x8x64_S8x128x64x8x64_d0 w 0 (ix5 h r c κ x) = w (ix6 0 h r c κ x) := by
  unfold Ideal.hostReduceAdd
  rw [zero_add, Finset.sum_filter_eq_sum_of_fiber _ (fun _ : Unit => (ix6 0 h r c κ x : S1x8x128x64x8x64.Idx))
    (fun _ _ _ => rfl) (front_image r c h κ x)]
  exact Finset.sum_singleton _ _

theorem v131_apply : val_main_v131 (F := Ideal) x0 x1 x2 (ix3 h r c) = val_main_v128 (F := Ideal) x0 x1 x2 (ix6 0 h r c 0 0) := by
  unfold val_main_v131
  generalize val_main_v128 (F := Ideal) x0 x1 x2 = w
  pointwise [val_main_cst_30]
  rw [reduce_unit]

theorem v130_apply : val_main_v130 (F := Ideal) x0 x1 x2 (ix6 0 h r c κ x)
    = Ideal.div (dp (arr x0 x1 x2) h r c κ x) (sm (arr x0 x1 x2) h r c) := by
  pointwise [val_main_v130, v120_apply x0 x1 x2, val_main_v129, val_main_v108, v107_apply x0 x1 x2]

theorem v133_apply : val_main_v133 (F := Ideal) x0 x1 x2 (ix6 0 h r c κ x)
    = -∑ κ, ∑ x, dp (arr x0 x1 x2) h r c κ x * Ideal.div 1 (sm (arr x0 x1 x2) h r c * sm (arr x0 x1 x2) h r c)
      * ex (arr x0 x1 x2) h r c κ x := by
  rw [← v128_apply, ← v131_apply]
  unfold val_main_v133 val_main_v132
  generalize val_main_v131 (F := Ideal) x0 x1 x2 = w
  pointwise

theorem v136_apply : val_main_v136 (F := Ideal) x0 x1 x2 (ix6 0 h r c κ x) = dsQuot (arr x0 x1 x2) h r c κ x := by
  have e : val_main_call4_v0 (F := Ideal) (ix6 0 h r c κ x) = 0 := by pointwise [val_main_call4_v0, val_main_call4_cst]
  rw [val_main_v136_apply, val_main_v135_apply, val_main_v134_apply, e, v85_1_apply, v106_apply x0 x1 x2, v130_apply, v133_apply, select_seen]
  rfl

theorem v137_apply : val_main_v137 (F := Ideal) x0 x1 x2 (ix5 h r c κ x) = dsQuot (arr x0 x1 x2) h r c κ x := by
  rw [← v136_apply]
  unfold val_main_v137
  generalize val_main_v136 (F := Ideal) x0 x1 x2 = w
  pointwise [val_main_cst_31]
  rw [reduce_front]

theorem v141_apply : val_main_v141 (F := Ideal) x0 x1 x2 (ix6 0 r κ x h e)
    = ∑ c, dsQuot (arr x0 x1 x2) h r c κ x * ((arr x0 x1 x2).q (tok r c) (lane h e) * eighth) := by
  pointwise [val_main_v141, val_main_v140, v136_apply, v6_apply x0 x1 x2]

theorem v151_apply : val_main_v151 (F := Ideal) x0 x1 x2 (ix5 0 r c h e)
    = (∑ κ, ∑ x, dsQuot (arr x0 x1 x2) h r c κ x * (arr x0 x1 x2).k (tok (krow r κ) x) (lane h e)) * eighth := by
  pointwise [val_main_v151, val_main_v150, val_main_cst_35, val_main_v143, val_main_v142, v136_apply, v25_apply x0 x1 x2]
  rfl

/-- Heads put back side by side, and rows and columns into tokens. -/
theorem join_apply (w : S1x128x64x8x64.Idx → EReal) :
    shapeCast S8192x512 (shapeCast S1x8192x512 w shapeCasts_S1x128x64x8x64_S1x8192x512) shapeCasts_S1x8192x512_S8192x512
      (ix2 (tok r c) (lane h e)) = w (ix5 0 r c h e) := by
  pointwise
  have e1 : ∀ h1, (⟨(tok r c).val / 64, h1⟩ : Fin 128) = r := fun _ => Fin.ext (by unfold tok; dsimp only; omega)
  have e2 : ∀ h1, (⟨(tok r c).val % 64, h1⟩ : Fin 64) = c := fun _ => Fin.ext (by unfold tok; dsimp only; omega)
  have e3 : ∀ h1, (⟨(lane h e).val / 64, h1⟩ : Fin 8) = h := fun _ => Fin.ext (by unfold lane; dsimp only; omega)
  have e4 : ∀ h1, (⟨(lane h e).val % 64, h1⟩ : Fin 64) = e := fun _ => Fin.ext (by unfold lane; dsimp only; omega)
  rw [e1, e2, e3, e4]

end Cert.AttReferenceIdeal.Read
-- ==== Proof.AttRefOut.lean ====
module

public import proofs.«01_k».proof.Proof.AttRefRow

/-! The five results of the attention's reference, when its arguments are finite, in the terms of `Cert.AttMath`. -/

@[expose] public section

set_option maxRecDepth 16384

noncomputable section

namespace Cert.AttReferenceIdeal.Read

open Cert.AttReferenceIdeal Cert.AttReferenceIdeal.Gen
open Idealize.ShloMosaic Idealize.ShloMosaic.TcCoe
open Cert.AttMath

variable (x0 : S1x8192x4096.Idx → EReal) (x1 : S1x8192x512.Idx → EReal) (x2 : S1x8x15x31.Idx → EReal)
variable (r : Fin 128) (c : Fin 64) (h : Fin 8) (e : Fin 64) (κ : Fin 8) (x : Fin 64)

/-! The sum of the rows that land on one. -/

abbrev sdims := scatter_S1x128x64x8x64_S128x8x1_S1x128x8x64x8x64_0345_1_1_2

theorem lands_rows (idx : S128x8x1.Idx → BitVec 32) (hi : ∀ r κ, idx (ix3 r κ 0) = BitVec.ofNat 32 (rowStart r.val + κ.val)) :
    sdims.resultIdx? (ix6 0 r κ x h e) idx = some (ix5 0 (krow r κ) x h e) := by
  have hr := rowStart_le r
  have hs : sdims.start (ix6 0 r κ x h e) idx 1 = ((krow r κ).val : ℤ) := by
    show (idx _).toInt = _
    have e1 : sdims.siIdx (ix6 0 r κ x h e) ⟨0, by decide⟩ = ix3 r κ 0 := by
      funext a
      match a with
      | ⟨0, _⟩ => rfl
      | ⟨1, _⟩ => rfl
      | ⟨2, _⟩ => rfl
    refine (congrArg (fun i => (idx i).toInt) e1).trans ?_
    rw [hi, toInt_small _ (by omega)]
    rfl
  have ha : ∀ a, sdims.start (ix6 0 r κ x h e) idx a + sdims.window (ix6 0 r κ x h e) a
      = ((ix5 0 (krow r κ) x h e : S1x128x64x8x64.Idx) a).val := by
    intro a
    match a with
    | ⟨0, _⟩ => rfl
    | ⟨1, _⟩ => show sdims.start (ix6 0 r κ x h e) idx 1 + 0 = _; rw [hs]; rfl
    | ⟨2, _⟩ => show (0 : ℤ) + (x.val : ℤ) = _; rw [zero_add]; rfl
    | ⟨3, _⟩ => show (0 : ℤ) + (h.val : ℤ) = _; rw [zero_add]; rfl
    | ⟨4, _⟩ => show (0 : ℤ) + (e.val : ℤ) = _; rw [zero_add]; rfl
  unfold ScatterDims.resultIdx?
  rw [dif_pos fun a => by rw [ha a]; exact ⟨by omega, by exact_mod_cast ((ix5 0 (krow r κ) x h e : S1x128x64x8x64.Idx) a).isLt⟩]
  exact congrArg some (funext fun a => Fin.ext (by
    show (sdims.start (ix6 0 r κ x h e) idx a + sdims.window (ix6 0 r κ x h e) a).toNat = _
    rw [ha a, Int.toNat_natCast]))

theorem scatter_rows (z : S1x128x64x8x64.Idx → EReal) (hz : ∀ i, z i = 0) (idx : S128x8x1.Idx → BitVec 32)
    (hi : ∀ r κ, idx (ix3 r κ 0) = BitVec.ofNat 32 (rowStart r.val + κ.val)) (w : S1x128x8x64x8x64.Idx → EReal) (rk : Fin 128) :
    Ideal.hostScatterAdd sdims z idx w (ix5 0 rk x h e)
      = ∑ r, seen r rk (fun κ x => w (ix6 0 r κ x h e)) x := by
  unfold Ideal.hostScatterAdd
  rw [hz, zero_add]
  rw [Finset.sum_filter_eq_sum_of_fiber (κ := {r : Fin 128 // rowStart r.val ≤ rk.val ∧ rk.val < rowStart r.val + 8}) _
    (fun r => (ix6 0 r.1 ⟨rk.val - rowStart r.1.val, by have := r.2; omega⟩ x h e : S1x128x8x64x8x64.Idx))]
  · rw [← Finset.sum_subset (Finset.subset_univ (Finset.univ.filter fun r : Fin 128 => rowStart r.val ≤ rk.val ∧ rk.val < rowStart r.val + 8)),
      Finset.sum_subtype (p := fun r : Fin 128 => rowStart r.val ≤ rk.val ∧ rk.val < rowStart r.val + 8) _ (fun r => by simp)]
    · refine Finset.sum_congr rfl fun r _ => ?_
      unfold seen
      rw [dif_pos r.2]
    · intro r _ hr
      unfold seen
      rw [dif_neg fun hk => hr (Finset.mem_filter.mpr ⟨Finset.mem_univ _, hk⟩)]
  · exact fun a b hab => Subtype.ext (congrFun hab 1)
  · intro i
    obtain ⟨a, r, κ, x', h', e', rfl⟩ : ∃ a r κ x' h' e', i = ix6 a r κ x' h' e' := ⟨i 0, i 1, i 2, i 3, i 4, i 5, eq_ix6 i⟩
    obtain rfl : a = 0 := Subsingleton.elim _ _
    rw [lands_rows r h' e' κ x' idx hi]
    constructor
    · intro hs
      have hs := Option.some.inj hs
      have h1 : (krow r κ).val = rk.val := congrArg Fin.val (congrFun hs 1)
      have h2 : x' = x := congrFun hs 2
      have h3 : h' = h := congrFun hs 3
      have h4 : e' = e := congrFun hs 4
      subst h2 h3 h4
      unfold krow at h1
      dsimp only at h1
      refine ⟨⟨r, by omega⟩, ?_⟩
      have hκ : (⟨rk.val - rowStart r.val, by omega⟩ : Fin 8) = κ := Fin.ext (by dsimp only; omega)
      dsimp only
      rw [hκ]
    · rintro ⟨⟨r', hr'⟩, hk⟩
      have h1 : r' = r := congrFun hk 1
      have h2 : (⟨rk.val - rowStart r'.val, by omega⟩ : Fin 8) = κ := congrFun hk 2
      have h3 : x = x' := congrFun hk 3
      have h4 : h = h' := congrFun hk 4
      have h5 : e = e' := congrFun hk 5
      subst h1 h2 h3 h4 h5
      have h6 : krow r' ⟨rk.val - rowStart r'.val, by omega⟩ = rk := Fin.ext (by unfold krow; dsimp only; omega)
      rw [h6]

/-! The sum of the pairs that look at one entry of the table. -/

abbrev tdims := scatter_S8x15x31_S128x64x8x64x2_S8x128x64x8x64_0_12_12_4

theorem lands_pair (idx : S128x64x8x64x2.Idx → BitVec 32) (i : Fin 15) (j : Fin 31)
    (hi : idx (ix5 r c κ x 0) = BitVec.ofNat 32 i.val) (hj : idx (ix5 r c κ x 1) = BitVec.ofNat 32 j.val) :
    tdims.resultIdx? (ix5 h r c κ x) idx = some (ix3 h i j) := by
  have h1 : tdims.start (ix5 h r c κ x) idx 1 = (i.val : ℤ) := by
    show (idx _).toInt = _
    have e1 : tdims.siIdx (ix5 h r c κ x) ⟨0, by decide⟩ = ix5 r c κ x 0 := by
      funext a
      match a with
      | ⟨0, _⟩ => rfl
      | ⟨1, _⟩ => rfl
      | ⟨2, _⟩ => rfl
      | ⟨3, _⟩ => rfl
      | ⟨4, _⟩ => rfl
    refine (congrArg (fun i => (idx i).toInt) e1).trans ?_
    rw [hi, toInt_small _ (by omega)]
  have h2 : tdims.start (ix5 h r c κ x) idx 2 = (j.val : ℤ) := by
    show (idx _).toInt = _
    have e1 : tdims.siIdx (ix5 h r c κ x) ⟨1, by decide⟩ = ix5 r c κ x 1 := by
      funext a
      match a with
      | ⟨0, _⟩ => rfl
      | ⟨1, _⟩ => rfl
      | ⟨2, _⟩ => rfl
      | ⟨3, _⟩ => rfl
      | ⟨4, _⟩ => rfl
    refine (congrArg (fun i => (idx i).toInt) e1).trans ?_
    rw [hj, toInt_small _ (by omega)]
  have ha : ∀ a, tdims.start (ix5 h r c κ x) idx a + tdims.window (ix5 h r c κ x) a = ((ix3 h i j : S8x15x31.Idx) a).val := by
    intro a
    match a with
    | ⟨0, _⟩ => show (0 : ℤ) + (h.val : ℤ) = _; rw [zero_add]; rfl
    | ⟨1, _⟩ => show tdims.start (ix5 h r c κ x) idx 1 + 0 = _; rw [h1]; rfl
    | ⟨2, _⟩ => show tdims.start (ix5 h r c κ x) idx 2 + 0 = _; rw [h2]; rfl
  unfold ScatterDims.resultIdx?
  rw [dif_pos fun a => by rw [ha a]; exact ⟨by omega, by exact_mod_cast ((ix3 h i j : S8x15x31.Idx) a).isLt⟩]
  exact congrArg some (funext fun a => Fin.ext (by
    show (tdims.start (ix5 h r c κ x) idx a + tdims.window (ix5 h r c κ x) a).toNat = _
    rw [ha a, Int.toNat_natCast]))

theorem scatter_pairs (z : S8x15x31.Idx → EReal) (hz : ∀ i, z i = 0) (idx : S128x64x8x64x2.Idx → BitVec 32)
    (hi : ∀ r c κ x, idx (ix5 r c κ x 0) = BitVec.ofNat 32 (dr r κ).val)
    (hj : ∀ r c κ x, idx (ix5 r c κ x 1) = BitVec.ofNat 32 (dc c x).val)
    (w : S8x128x64x8x64.Idx → EReal) (i : Fin 15) (j : Fin 31) :
    Ideal.hostScatterAdd tdims z idx w (ix3 h i j)
      = ∑ r, ∑ c, ∑ κ, ∑ x, if dr r κ = i ∧ dc c x = j then w (ix5 h r c κ x) else 0 := by
  unfold Ideal.hostScatterAdd
  rw [hz, zero_add]
  rw [Finset.sum_filter_eq_sum_of_fiber (κ := {p : Fin 128 × Fin 64 × Fin 8 × Fin 64 // dr p.1 p.2.2.1 = i ∧ dc p.2.1 p.2.2.2 = j}) _
    (fun p => (ix5 h p.1.1 p.1.2.1 p.1.2.2.1 p.1.2.2.2 : S8x128x64x8x64.Idx))]
  · refine Eq.trans (Finset.sum_subtype (p := fun p : Fin 128 × Fin 64 × Fin 8 × Fin 64 => dr p.1 p.2.2.1 = i ∧ dc p.2.1 p.2.2.2 = j)
      (Finset.univ.filter fun p => dr p.1 p.2.2.1 = i ∧ dc p.2.1 p.2.2.2 = j) (fun p => by simp)
      (fun p => w (ix5 h p.1 p.2.1 p.2.2.1 p.2.2.2))).symm ?_
    rw [Finset.sum_filter, Fintype.sum_prod_type]
    refine Finset.sum_congr rfl fun r _ => ?_
    rw [Fintype.sum_prod_type]
    refine Finset.sum_congr rfl fun c _ => ?_
    rw [Fintype.sum_prod_type]
  · exact fun a b hab => Subtype.ext (Prod.ext (congrFun hab 1) (Prod.ext (congrFun hab 2) (Prod.ext (congrFun hab 3) (congrFun hab 4))))
  · intro l
    obtain ⟨h', r, c, κ, x, rfl⟩ : ∃ h' r c κ x, l = ix5 h' r c κ x := ⟨l 0, l 1, l 2, l 3, l 4, eq_ix5 l⟩
    rw [lands_pair r c h' κ x idx _ _ (hi r c κ x) (hj r c κ x)]
    constructor
    · intro hs
      have hs := Option.some.inj hs
      have h1 : h' = h := congrFun hs 0
      subst h1
      exact ⟨⟨(r, c, κ, x), congrFun hs 1, congrFun hs 2⟩, rfl⟩
    · rintro ⟨⟨⟨r', c', κ', x'⟩, h1, h2⟩, hk⟩
      have h3 : h = h' := congrFun hk 0
      have h4 : r' = r := congrFun hk 1
      have h5 : c' = c := congrFun hk 2
      have h6 : κ' = κ := congrFun hk 3
      have h7 : x' = x := congrFun hk 4
      subst h1 h2 h3 h4 h5 h6 h7
      rfl

/-! The results. -/

variable (H : (arr x0 x1 x2).Finite)
include H

theorem y_result : val_main_v154 (F := Ideal) x0 x2 (ix2 (tok r c) (lane h e)) = out (arr x0 x1 x2) h r c e := by
  rw [← out_eq h r c H, ← v115_apply]
  exact join_apply r c h e (val_main_v115 (F := Ideal) x0 x2)

theorem dq_result : val_main_v156 (F := Ideal) x0 x1 x2 (ix2 (tok r c) (lane h e)) = gradQ (arr x0 x1 x2) h r c e := by
  refine (join_apply r c h e (val_main_v151 (F := Ideal) x0 x1 x2)).trans ?_
  rw [v151_apply]
  simp only [ds_eq h r c H]
  rfl

theorem dk_result : val_main_v158 (F := Ideal) x0 x1 x2 (ix2 (tok r c) (lane h e)) = gradK (arr x0 x1 x2) h r c e := by
  refine (join_apply r c h e (val_main_v147 (F := Ideal) x0 x1 x2)).trans ?_
  refine (scatter_rows h e c _ (fun i => ?_) _ rows_k _ r).trans ?_
  · pointwise [val_main_v146, val_main_cst_34]
  · simp only [v141_apply, ds_eq h _ _ H, seen_sum]
    rfl

theorem dv_result : val_main_v160 (F := Ideal) x0 x1 x2 (ix2 (tok r c) (lane h e)) = gradV (arr x0 x1 x2) h r c e := by
  refine (join_apply r c h e (val_main_v145 (F := Ideal) x0 x1 x2)).trans ?_
  refine (scatter_rows h e c _ (fun i => ?_) _ rows_v _ r).trans ?_
  · pointwise [val_main_v144, val_main_cst_33]
  · simp only [v122_apply, pr_eq h _ _ H, mul_comm ((arr x0 x1 x2).d _ _), seen_sum]
    rfl

theorem db_result (i : Fin 15) (j : Fin 31) : val_main_v139 (F := Ideal) x0 x1 x2 (ix3 h i j) = gradB (arr x0 x1 x2) h i j := by
  refine (scatter_pairs h _ (fun i => ?_) _ (fun r c κ x => v80_apply r c κ x 0) (fun r c κ x => v80_apply r c κ x 1) _ i j).trans ?_
  · pointwise [val_main_v138, val_main_cst_32]
  · simp only [v137_apply, ds_eq h _ _ H]
    rfl

end Cert.AttReferenceIdeal.Read
-- ==== Proof.AttPair.lean ====
module

public import proofs.«01_k».proof.Defs
public import proofs.«01_k».proof.Proof.Gen.AttKernel
public import proofs.«01_k».proof.Proof.AttValue
public import proofs.«01_k».proof.Proof.AttRefOut
public import proofs.«01_k».proof.Proof.Gen.AttReferenceIdeal.Run

/-! The claims about the attention, forward and backward. The kernel is one text read at two number formats: one run gives
    both frames. Where the arguments are finite its five results are the reference's. -/

@[expose] public section

set_option maxRecDepth 16384

noncomputable section

namespace Cert.AttPair

open Idealize.ShloMosaic Idealize.SL.Sem Idealize.ShloMosaic.Tactic
open Cert.AttMath

theorem frame_kernel : Cert.quiescent_AttKernel := fun m ρ _ =>
  Eq.mp (by sl_kernel_rfl) (Cert.AttKernelIdeal.Hand.frame (F := Bits) m ρ)

theorem frame_kernelIdeal : Cert.quiescent_AttKernelIdeal := fun m ρ _ => Cert.AttKernelIdeal.Hand.frame m ρ

theorem frame_reference : Cert.quiescent_AttReferenceIdeal := by
  intro m g _
  exact (θ_run Cert.AttReferenceIdeal.defs _ _).mono
    (fun r h => ⟨fun c => (h c).2.2.2.2.2, Idealize.ShloMosaic.sem_eq_zero_of_no_sems (by decide) r.2⟩)
    (Cert.AttReferenceIdeal.Value.run (F := Ideal) m g)

theorem preserves : Cert.preserves_AttKernel_AttKernelIdeal := trivial

/-! ## The precondition -/

instance facts_pre : Cert.Pre_att_finite.Facts where
  slices_S1x8192x4096_S1x8192x1536_0_0_512 := by decide
  bcast_S_S1x8192x1536 := by decide
  bcast_S_S1x8192x512 := by decide
  bcast_S_S1x8x15x31 := by decide

theorem frame_kernelIdeal_finite : Cert.quiescent_AttKernelIdeal_pre_att_finite := fun m ρ _ =>
  Cert.AttKernelIdeal.Hand.frame m ρ

theorem frame_reference_finite : Cert.quiescent_AttReferenceIdeal_pre_att_finite := fun m g _ => frame_reference m g trivial

/-- Below the word of infinity in absolute value: a real. -/
theorem real_of_lt {x : EReal} (h : Ideal.cmp .olt (max x (-x)) (Ideal.ofBits .f32 0x7F800000#32) = 1#1) : ∃ r : ℝ, x = r := by
  have ht : Ideal.ofBits .f32 0x7F800000#32 = (⊤ : EReal) := by
    simp [Ideal.ofBits, Ideal.ieee]
  rw [ht] at h
  have hl : max x (-x) < ⊤ := by
    by_contra hn
    have e : Ideal.cmp .olt (max x (-x)) (⊤ : EReal) = 0#1 := by
      unfold Ideal.cmp
      simp only [decide_eq_false hn]
      rfl
    rw [e] at h
    exact absurd h (by decide)
  refine ⟨x.toReal, (EReal.coe_toReal (fun e => ?_) (fun e => ?_)).symm⟩
  · rw [e] at hl; simp at hl
  · rw [e] at hl; simp at hl

theorem finite_of_pre {x0 : Cert.AttKernelIdeal.S1x8192x4096.Idx → EReal} {x1 : Cert.AttKernelIdeal.S1x8192x512.Idx → EReal}
    {x2 : Cert.AttKernelIdeal.S1x8x15x31.Idx → EReal} (h : (Cert.Pre_att_finite.fn (F := Ideal) x0 x1 x2).1 = (fun _ => 1#1)
      ∧ (Cert.Pre_att_finite.fn (F := Ideal) x0 x1 x2).2.1 = (fun _ => 1#1)
      ∧ (Cert.Pre_att_finite.fn (F := Ideal) x0 x1 x2).2.2 = (fun _ => 1#1)) :
    (Cert.AttKernelIdeal.Hand.arr x0 x1 x2).Finite := by
  have hz (t : Fin 8192) (j : Fin 1536) : ∃ r : ℝ, x0 (ix3 0 t ⟨512 + j.val, by omega⟩) = r := by
    refine real_of_lt (Eq.trans ?_ (congrFun h.1 (ix3 0 t j)))
    symm
    pointwise [Cert.Pre_att_finite.fn]
    rfl
  refine ⟨fun t j => hz t ⟨j.val, by omega⟩, fun t j => ?_, fun t j => ?_, fun t j => ?_, fun i j l => ?_⟩
  · obtain ⟨r, hr⟩ := hz t ⟨512 + j.val, by omega⟩
    exact ⟨r, Eq.trans (congrArg (fun k => x0 (ix3 0 t k)) (Fin.ext (by dsimp only; omega))) hr⟩
  · obtain ⟨r, hr⟩ := hz t ⟨1024 + j.val, by omega⟩
    exact ⟨r, Eq.trans (congrArg (fun k => x0 (ix3 0 t k)) (Fin.ext (by dsimp only; omega))) hr⟩
  · exact real_of_lt (congrFun h.2.1 (ix3 0 t j))
  · exact real_of_lt (congrFun h.2.2 (ix4 0 i j l))

/-! ## The results -/

/-- Two arrays of tokens and columns that agree at each head, row, column and place in the head. -/
theorem ext_perHead {f : Cert.AttKernelIdeal.S8192x512.Idx → EReal} {g : Fin 8 → Fin 128 → Fin 64 → Fin 64 → EReal}
    (h : ∀ h r c e, f (ix2 (tok r c) (lane h e)) = g h r c e) : f = Cert.AttKernelIdeal.Hand.perHead g := by
  funext j
  obtain ⟨T, J, rfl⟩ : ∃ (T : Fin 8192) (J : Fin 512), j = ix2 T J := ⟨j 0, j 1, eq_ix2 j⟩
  have hT : T = tok ⟨T.val / 64, by omega⟩ ⟨T.val % 64, by omega⟩ := Fin.ext (by unfold tok; dsimp only; omega)
  have hJ : J = lane ⟨J.val / 64, by omega⟩ ⟨J.val % 64, by omega⟩ := Fin.ext (by unfold lane; dsimp only; omega)
  rw [hT, hJ, h, Cert.AttKernelIdeal.Hand.perHead_tok]

open Cert.AttKernelIdeal.Hand in
theorem run_kernel (m : (ℓ : Loc Cert.AttKernelIdeal.nD Cert.AttKernelIdeal.τ Cert.AttKernelIdeal.sig) → Buf (Elt Ideal) ℓ)
    (ρ : Dev Cert.AttKernelIdeal.nD → PrngReg) :
    θ_run (Cert.AttKernelIdeal.defs (F := Ideal)) (onTc (τ := Cert.AttKernelIdeal.τ) (Cert.AttKernelIdeal.main (F := Ideal)))
      ⟨m, fun _ => 0, ρ⟩ (fun r => ∀ c : Dev Cert.AttKernelIdeal.nD,
        r.2.mem ((c.tc : Thread Cert.AttKernelIdeal.nD Cert.AttKernelIdeal.τ).loc Cert.AttKernelIdeal.main_v82) = perHead (out (args m c))
        ∧ r.2.mem ((c.tc : Thread Cert.AttKernelIdeal.nD Cert.AttKernelIdeal.τ).loc Cert.AttKernelIdeal.main_v85_0) = perHead (gradQ (args m c))
        ∧ r.2.mem ((c.tc : Thread Cert.AttKernelIdeal.nD Cert.AttKernelIdeal.τ).loc Cert.AttKernelIdeal.main_v85_1) = perHead (gradK (args m c))
        ∧ r.2.mem ((c.tc : Thread Cert.AttKernelIdeal.nD Cert.AttKernelIdeal.τ).loc Cert.AttKernelIdeal.main_v85_2) = perHead (gradV (args m c))
        ∧ r.2.mem ((c.tc : Thread Cert.AttKernelIdeal.nD Cert.AttKernelIdeal.τ).loc Cert.AttKernelIdeal.main_v98)
          = (fun j : Cert.AttKernelIdeal.S8x15x31.Idx => gradB (args m c) (j 0) (j 1) (j 2))
        ∧ r.2.mem ((c.tc : Thread Cert.AttKernelIdeal.nD Cert.AttKernelIdeal.τ).loc Cert.AttKernelIdeal.main_arg0)
          = m ((c.tc : Thread Cert.AttKernelIdeal.nD Cert.AttKernelIdeal.τ).loc Cert.AttKernelIdeal.main_arg0)
        ∧ r.2.mem ((c.tc : Thread Cert.AttKernelIdeal.nD Cert.AttKernelIdeal.τ).loc Cert.AttKernelIdeal.main_arg1)
          = m ((c.tc : Thread Cert.AttKernelIdeal.nD Cert.AttKernelIdeal.τ).loc Cert.AttKernelIdeal.main_arg1)
        ∧ r.2.mem ((c.tc : Thread Cert.AttKernelIdeal.nD Cert.AttKernelIdeal.τ).loc Cert.AttKernelIdeal.main_arg2)
          = m ((c.tc : Thread Cert.AttKernelIdeal.nD Cert.AttKernelIdeal.τ).loc Cert.AttKernelIdeal.main_arg2)) :=
  (θ_run Cert.AttKernelIdeal.defs _ _).mono (fun _ h c =>
    ⟨(h.1 c _ (mem_uc Cert.AttKernelIdeal.main_v82 (by decide))).trans (end_y m ρ c),
     (h.1 c _ (mem_uc Cert.AttKernelIdeal.main_v85_0 (by decide))).trans (end_dq m ρ c),
     (h.1 c _ (mem_uc Cert.AttKernelIdeal.main_v85_1 (by decide))).trans (end_dk m ρ c),
     (h.1 c _ (mem_uc Cert.AttKernelIdeal.main_v85_2 (by decide))).trans (end_dv m ρ c),
     (h.1 c _ (mem_uc Cert.AttKernelIdeal.main_v98 (by decide))).trans (funext fun j => by
       rw [eq_ix3 j]; exact end_db m ρ c (j 0) (j 1) (j 2)),
     (h.1 c _ (mem_uc Cert.AttKernelIdeal.main_arg0 (by decide))).trans (W5_args m ρ c _ (by decide)),
     (h.1 c _ (mem_uc Cert.AttKernelIdeal.main_arg1 (by decide))).trans (W5_args m ρ c _ (by decide)),
     (h.1 c _ (mem_uc Cert.AttKernelIdeal.main_arg2 (by decide))).trans (W5_args m ρ c _ (by decide))⟩)
    (run_all m ρ)

open Cert.AttReferenceIdeal.Read in
theorem algebraic : Cert.algebraic_AttKernelIdeal_AttReferenceIdeal_pre_att_finite := by
  intro m g m' g' hpre hagree
  have H (c : Dev Cert.AttKernelIdeal.nD) := finite_of_pre (hpre c)
  refine ⟨_, _, _, _, _, run_kernel m g, ?_⟩
  refine (θ_run Cert.AttReferenceIdeal.defs _ _).mono (fun r h c => ?_) (Cert.AttReferenceIdeal.Value.run (F := Ideal) m' g')
  obtain ⟨h0, h1, h2, h3, h4, ha⟩ := h c
  have e0 : StableHlo.launchContents m' c (Proc.devRef .tc Cert.AttReferenceIdeal.main_arg0)
    = m ((c.tc : Thread Cert.AttKernelIdeal.nD Cert.AttKernelIdeal.τ).loc Cert.AttKernelIdeal.main_arg0) := (hagree c).1
  have e1 : StableHlo.launchContents m' c (Proc.devRef .tc Cert.AttReferenceIdeal.main_arg1)
    = m ((c.tc : Thread Cert.AttKernelIdeal.nD Cert.AttKernelIdeal.τ).loc Cert.AttKernelIdeal.main_arg1) := (hagree c).2.1
  have e2 : StableHlo.launchContents m' c (Proc.devRef .tc Cert.AttReferenceIdeal.main_arg2)
    = m ((c.tc : Thread Cert.AttKernelIdeal.nD Cert.AttKernelIdeal.τ).loc Cert.AttKernelIdeal.main_arg2) := (hagree c).2.2
  refine ⟨h0.trans ?_, h1.trans ?_, h2.trans ?_, h3.trans ?_, h4.trans ?_, ha⟩
  · rw [val_main_v154_eq, e0, e2]
    exact ext_perHead fun h r k e => y_result _ _ _ r k h e (H c)
  · rw [val_main_v156_eq, e0, e1, e2]
    exact ext_perHead fun h r k e => dq_result _ _ _ r k h e (H c)
  · rw [val_main_v158_eq, e0, e1, e2]
    exact ext_perHead fun h r k e => dk_result _ _ _ r k h e (H c)
  · rw [val_main_v160_eq, e0, e1, e2]
    exact ext_perHead fun h r k e => dv_result _ _ _ r k h e (H c)
  · rw [val_main_v139_eq, e0, e1, e2]
    funext j
    rw [eq_ix3 j]
    exact db_result _ _ _ (j 0) (H c) (j 1) (j 2)

end Cert.AttPair

end
end
-- ==== Proof.NormRow.lean ====
module

public import proofs.«01_k».proof.Proof.LossRow

/-!
One row of a root-mean-square norm and its gradient, on all extended reals: `h` the row, `v` the gradient of the normalised
row times the gain.  `back` is the kernels' gradient in the row; differentiating the norm line by line gives the same.
-/

@[expose] public section

noncomputable section

namespace Cert.NormRow

open Idealize.ShloMosaic Cert.Extended Cert.LossRow

variable (h v : Fin 1024 → EReal)

def back (b : Fin 1024) : EReal :=
  inv h * v b - h b * (inv h * inv h * inv h) * Ideal.div (∑ x, h x * v x) width

def slopeOf : EReal := Ideal.div ((∑ x, h x * v x) * (negHalf * Ideal.div (inv h) (shifted h))) width

theorem vjp_eq (s : EReal) (b : Fin 1024) : s + v b * inv h + h b * slopeOf h v + slopeOf h v * h b = s + back h v b := by
  obtain ⟨ρ, h0, h1, h2⟩ := inv_real h
  rw [h1] at h2
  unfold back slopeOf
  simp only [h1, h2]
  rw [negHalf_eq, width_eq, div_coe _ (by norm_num), div_coe _ (by norm_num)]
  generalize (∑ x, h x * v x) = S
  rw [add_assoc, add_assoc, mul_comm _ (h b), two_mul', sub_eq_add_neg, mul_comm (v b)]
  congr 2
  have e : ((2 : ℝ) : EReal) * (((-(1/2) : ℝ)) : EReal) = ((-1 : ℝ) : EReal) := by rw [← EReal.coe_mul]; norm_num
  rw [EReal.coe_mul, EReal.coe_mul]
  calc _ = (((2 : ℝ) : EReal) * (((-(1/2) : ℝ)) : EReal)) * (h b * (ρ * ρ * ρ) * (S * ((1024⁻¹ : ℝ) : EReal))) := by ac_rfl
    _ = _ := by rw [e]; simp

end Cert.NormRow

end
end
-- ==== Proof.MixValue.lean ====
module

public import proofs.«01_k».proof.Proof.Gen.MixKernelIdeal.Value
public import proofs.«01_k».proof.Proof.NormRow
public import Idealize.ShloMosaic.Lib.Pipeline.ValueKit
public import Idealize.ShloMosaic.Lib.Pointwise
public import Idealize.ShloMosaic.Lib.StableHlo.RunRead

/-! What the gradient of the input norm leaves in its two results, in the terms of `Cert.NormRow`. -/

@[expose] public section

set_option maxRecDepth 16384

noncomputable section

namespace Cert.MixKernelIdeal.Value

open Cert.MixKernelIdeal Cert.MixKernelIdeal.Gen Idealize.ShloMosaic Idealize.ShloMosaic.TcCoe Idealize.SL.Sem
open Idealize.ShloMosaic.Pipeline (Dat)
open Cert.LossRow Cert.NormRow

variable (m : (ℓ : Loc nD τ sig) → Buf (Elt Ideal) ℓ) (c : Dev nD)

/-- Row `a` of the gradient of the projection and of the residual gradient, row `a` of the hidden array, the gain, the weight. -/
abbrev rowZ (a : Fin 8192) : Fin 4096 → EReal := fun j => (m ((c.tc : Thread nD τ).loc main_arg0) : S1x8192x4096.Idx → EReal) (ix3 0 a j)
abbrev rowR (a : Fin 8192) : Fin 1024 → EReal := fun b => (m ((c.tc : Thread nD τ).loc main_arg1) : S1x8192x1024.Idx → EReal) (ix3 0 a b)
abbrev rowH (a : Fin 8192) : Fin 1024 → EReal := fun b => (m ((c.tc : Thread nD τ).loc main_arg2) : S1x8192x1024.Idx → EReal) (ix3 0 a b)
abbrev vecG : Fin 1024 → EReal := fun b => (m ((c.tc : Thread nD τ).loc main_arg3) : S1x1024.Idx → EReal) (ix2 0 b)
abbrev matW : Fin 1024 → Fin 4096 → EReal := fun b j => (m ((c.tc : Thread nD τ).loc main_arg4) : S1x1024x4096.Idx → EReal) (ix3 0 b j)

/-- The gradient of the normalised row. -/
def du (a : Fin 8192) (b : Fin 1024) : EReal := ∑ j, rowZ m c a j * matW m c b j

theorem idx : ∀ t : Fin cfg0.N, win0_0.index t = ![t.val, 0] ∧ win0_1.index t = ![t.val, 0] ∧ win0_2.index t = ![t.val, 0]
    ∧ win0_3.index t = ![0, 0] ∧ win0_4.index t = ![0, 0, 0] ∧ win0_5.index t = ![t.val, 0] ∧ win0_6.index t = ![0, 0] :=
  (by decide +kernel : ∀ t : Fin grid0.N, _)

/-- The array row that row `a` of point `t`'s block is. -/
def rowOf (t : Fin cfg0.N) (a : Fin 512) : Fin 8192 := ⟨t.val * 512 + a.val, by
  have := t.isLt; have : cfg0.N = 16 := rfl; have := a.isLt; omega⟩

/-- The column that column `j` of device `s`'s part is. -/
def colOf (s : Fin 8) (j : Fin 512) : Fin 4096 := ⟨s.val * 512 + j.val, by omega⟩

theorem read_z (t : Fin cfg0.N) (a : Fin 512) (j : Fin 4096) : iblk m c 0 t (ix2 a j) = rowZ m c (rowOf t a) j := by
  unfold rowOf
  blk_ext! [iblk, V, idx t]

theorem read_r (t : Fin cfg0.N) (a : Fin 512) (b : Fin 1024) : iblk m c 1 t (ix2 a b) = rowR m c (rowOf t a) b := by
  unfold rowOf
  blk_ext! [iblk, V, idx t]

theorem read_h (t : Fin cfg0.N) (a : Fin 512) (b : Fin 1024) : iblk m c 2 t (ix2 a b) = rowH m c (rowOf t a) b := by
  unfold rowOf
  blk_ext! [iblk, V, idx t]

theorem read_g (t : Fin cfg0.N) (b : Fin 1024) : iblk m c 3 t (ix2 0 b) = vecG m c b := by
  blk_ext! [iblk, V, idx t]

theorem read_w (t : Fin cfg0.N) (s : Fin 8) (b : Fin 1024) (j : Fin 512) : iblk m c 4 t (ix3 s b j) = matW m c b (colOf s j) := by
  unfold colOf
  blk_ext! [iblk, V, idx t]

/-- The products over the eight devices' columns add up to the product over all. -/
theorem du_eq (a : Fin 8192) (b : Fin 1024) :
    ∑ x : Fin 512, rowZ m c a ⟨x.val, by omega⟩ * matW m c b (colOf 0 x) + ∑ x : Fin 512, rowZ m c a ⟨512 + x.val, by omega⟩ * matW m c b (colOf 1 x)
      + ∑ x : Fin 512, rowZ m c a ⟨1024 + x.val, by omega⟩ * matW m c b (colOf 2 x)
      + ∑ x : Fin 512, rowZ m c a ⟨1536 + x.val, by omega⟩ * matW m c b (colOf 3 x)
      + ∑ x : Fin 512, rowZ m c a ⟨2048 + x.val, by omega⟩ * matW m c b (colOf 4 x)
      + ∑ x : Fin 512, rowZ m c a ⟨2560 + x.val, by omega⟩ * matW m c b (colOf 5 x)
      + ∑ x : Fin 512, rowZ m c a ⟨3072 + x.val, by omega⟩ * matW m c b (colOf 6 x)
      + ∑ x : Fin 512, rowZ m c a ⟨3584 + x.val, by omega⟩ * matW m c b (colOf 7 x) = du m c a b := by
  have e : ∑ s : Fin 8, ∑ x : Fin 512, rowZ m c a (colOf s x) * matW m c b (colOf s x) = du m c a b :=
    Fin.sum_mul_add_congr (L := 4096) (S := 8) (n := 512) (fun t k hl => rfl)
  rw [← e, Fin.sum_univ_eight]
  have l (x : Fin 512) : (⟨x.val, by omega⟩ : Fin 4096) = colOf 0 x := Fin.ext (by simp [colOf])
  simp only [l]
  rfl

/-- The gradient block that a point leaves. -/
theorem dh_block (t : Fin cfg0.N) (a : Fin 512) (b : Fin 1024) :
    (outsAt0 m c t.val t.isLt).1 (ix2 a b) = rowR m c (rowOf t a) b + back (rowH m c (rowOf t a)) (fun x => du m c (rowOf t a) x * vecG m c x) b := by
  by_cases h : t.val % 16 = 0
  · rw [outsAt0_A m c t h]
    frame_out
    unfold_payloads
    pointwise [read_z, read_r, read_h, read_g, read_w]
    simp only [du_eq]
    rfl
  · rw [outsAt0_B m c t h]
    frame_out
    unfold_payloads
    pointwise [read_z, read_r, read_h, read_g, read_w]
    simp only [du_eq]
    rfl

/-- The sum of the gain gradient's terms over the rows of point `t`'s block. -/
def gainPart (t : Fin cfg0.N) (b : Fin 1024) : EReal :=
  ∑ a : Fin 512, du m c (rowOf t a) b * rowH m c (rowOf t a) b * inv (rowH m c (rowOf t a))

theorem dgain_last (b : Fin 1024) :
    (outsAt0 m c t0_15.val t0_15.isLt).2 (ix2 0 b) = 0 + ∑ p : Fin cfg0.N, gainPart m c p b := by
  refine Pipeline.eq_sum_fin_of_reset_step_apply_last (fun n h => (outsAt0 m c n h).2) 16 (fun _ => 0)
    (fun p j => gainPart m c p (j 1)) ?_ ?_ (by decide) t0_15 rfl (ix2 0 b)
  all_goals
    intro t h i
    idx_vars i
    rw [Subsingleton.elim i0 0]
  · simp only [outsAt0_A m c t h]
    frame_out
    unfold_payloads
    pointwise [read_z, read_r, read_h, read_g, read_w]
    simp only [du_eq]
    rfl
  · simp only [outsAt0_B m c t h]
    frame_out
    unfold_payloads
    pointwise [read_z, read_r, read_h, read_g, read_w]
    simp only [du_eq]
    rfl

theorem dh_final : (dats m 0 c).arrAt 5 cfg0.N
    = fun j : S8192x1024.Idx => rowR m c (j 0) (j 1) + back (rowH m c (j 0)) (fun x => du m c (j 0) x * vecG m c x) (j 1) := by
  refine (dats m 0 c).arrAt_eq_of_covers 5 _ (by decide +kernel) fun t hf y => ?_
  blk_simp
  rw [after0_5]
  obtain ⟨a, b, rfl⟩ : ∃ a b, y = ix2 a b := ⟨y 0, y 1, eq_ix2 y⟩
  have e : (win0_5.blk t).view.emb (ix2 a b) = ix2 (rowOf t a) b := by
    unfold rowOf
    blk_ext [idx t]
  rw [e]
  exact dh_block m c t a b

theorem dgain_final (b : Fin 1024) : (dats m 0 c).arrAt 6 cfg0.N (ix2 0 b)
    = ∑ a : Fin 8192, du m c a b * rowH m c a b * inv (rowH m c a) := by
  have e : (dats m 0 c).arrAt 6 cfg0.N = fun j : S1x1024.Idx => ∑ p : Fin cfg0.N, gainPart m c p (j 1) := by
    refine (dats m 0 c).arrAt_eq_of_after_last 6 t0_15 (by decide +kernel) _ fun j => ?_
    blk_simp
    idx_vars j
    rw [Subsingleton.elim j0 0, after0_6, dgain_last, zero_add]
  rw [e]
  unfold gainPart
  refine Fin.sum_mul_add_congr (L := 8192) (S := 16) (n := 512) (fun t k hl => ?_)
  rfl

end Cert.MixKernelIdeal.Value
end
end
-- ==== Proof.MixRefValue.lean ====
module

public import proofs.«01_k».proof.Proof.Gen.MixReferenceIdeal.Read
public import proofs.«01_k».proof.Proof.NormRow
public import proofs.«01_k».proof.Proof.LossRefValue

/-! What the reference of the input norm's gradient computes, at an index, in the terms of `Cert.NormRow`. -/

@[expose] public section

set_option maxRecDepth 16384

noncomputable section

namespace Cert.MixReferenceIdeal.Read

open Cert.MixReferenceIdeal Cert.MixReferenceIdeal.Gen Idealize.ShloMosaic Idealize.ShloMosaic.TcCoe Idealize.SL.Sem
open Cert.LossRow Cert.NormRow
open Cert.LossReferenceIdeal.Read (reduceAdd_unit)

variable (x0 : FVec Ideal S1x8192x4096 .f32) (x1 x2 : FVec Ideal S1x8192x1024 .f32) (x3 : FVec Ideal S1x1024 .f32)
  (x4 : FVec Ideal S1x1024x4096 .f32)

abbrev rowR (a : Fin 8192) : Fin 1024 → EReal := fun b => x1 (ix3 0 a b)
abbrev rowH (a : Fin 8192) : Fin 1024 → EReal := fun b => x2 (ix3 0 a b)
abbrev vecG : Fin 1024 → EReal := fun b => x3 (ix2 0 b)

/-- The gradient of the normalised row. -/
def du (a : Fin 8192) (b : Fin 1024) : EReal := ∑ j : Fin 4096, (x0 (ix3 0 a j) : EReal) * (x4 (ix3 0 b j) : EReal)

theorem v19_apply (a : Fin 8192) (b : Fin 1024) : val_main_v19 (F := Ideal) x0 x4 (ix3 0 a b) = du x0 x4 a b := by
  pointwise [val_main_v19, val_main_v18, val_main_v17, val_main_v16, val_main_v15, val_main_v14]
  rfl

theorem v24_apply (a : Fin 8192) (b : Fin 1024) : val_main_v24 (F := Ideal) x0 x3 x4 (ix3 0 a b) = du x0 x4 a b * vecG x3 b := by
  pointwise [val_main_v24, val_main_v23, v19_apply, val_main_v14, val_main_v0]

theorem v8_apply (a : Fin 8192) : val_main_v8 (F := Ideal) x2 (ix3 0 a 0) = inv (rowH x2 a) := by
  pointwise [val_main_v8, val_main_v7, val_main_v6, val_main_v5, val_main_v4, val_main_v3, val_main_v2, val_main_v1,
    val_main_cst, val_main_cst_0, val_main_cst_1]
  rfl

theorem v35_apply (a : Fin 8192) :
    val_main_v35 (F := Ideal) x0 x2 x3 x4 (ix1 a) = slopeOf (rowH x2 a) (fun x => du x0 x4 a x * vecG x3 x) := by
  have e : val_main_v35 (F := Ideal) x0 x2 x3 x4 (ix1 a) = val_main_v34 (F := Ideal) x0 x2 x3 x4 (ix3 0 a 0) := by
    unfold val_main_v35
    generalize val_main_v34 (F := Ideal) x0 x2 x3 x4 = y
    refine (reduceAdd_unit _ y _ (ix3 0 a 0) (by idx_ext) ?_).trans ?_
    · intro i' hi'
      idx_vars i'
      have hq : i'1 = a := Fin.ext (congrArg Fin.val (congrFun hi' 0))
      rw [Subsingleton.elim i'0 0, Subsingleton.elim i'2 0, hq]
    · pointwise [val_main_cst_7]
  rw [e]
  pointwise [val_main_v34, val_main_v33, val_main_v32, val_main_v28, val_main_v27, val_main_v26, v24_apply,
    val_main_v11, val_main_v10, val_main_v9, v8_apply, val_main_v7, val_main_v6, val_main_v5, val_main_v4, val_main_v3,
    val_main_v2, val_main_v1, val_main_cst, val_main_cst_0, val_main_cst_1, val_main_cst_2, val_main_cst_3, val_main_cst_4, val_main_cst_5, val_main_cst_6]
  rfl

/-- The gradient in the hidden array. -/
theorem dh_apply (a : Fin 8192) (b : Fin 1024) :
    val_main_v43 (F := Ideal) x0 x1 x2 x3 x4 (ix2 a b)
      = rowR x1 a b + back (rowH x2 a) (fun x => du x0 x4 a x * vecG x3 x) b := by
  rw [← vjp_eq]
  pointwise [val_main_v43, val_main_v41, val_main_v40, val_main_v39, val_main_v38, val_main_v37, val_main_v36, v35_apply, val_main_v31,
    val_main_v30, val_main_v29, val_main_v12, v24_apply, v8_apply]

/-- The gradient in the gain. -/
theorem dgain_apply (b : Fin 1024) :
    val_main_v42 (F := Ideal) x0 x2 x4 (ix2 0 b) = ∑ a : Fin 8192, du x0 x4 a b * rowH x2 a b * inv (rowH x2 a) := by
  have e : val_main_v25 (F := Ideal) x0 x2 x4 (ix1 b) = val_main_v22 (F := Ideal) x0 x2 x4 (ix3 0 0 b) := by
    unfold val_main_v25
    generalize val_main_v22 (F := Ideal) x0 x2 x4 = y
    refine (reduceAdd_unit _ y _ (ix3 0 0 b) (by idx_ext) ?_).trans ?_
    · intro i' hi'
      idx_vars i'
      have hq : i'2 = b := Fin.ext (congrArg Fin.val (congrFun hi' 0))
      rw [Subsingleton.elim i'0 0, Subsingleton.elim i'1 0, hq]
    · pointwise [val_main_cst_4]
  pointwise [val_main_v42, e, val_main_v22, val_main_v21, val_main_v20, v19_apply, val_main_v13, val_main_v12, v8_apply, val_main_cst_3, val_main_cst_4]
  refine Finset.sum_congr rfl fun a _ => ?_
  rw [mul_comm, ← mul_assoc]

end Cert.MixReferenceIdeal.Read
end
end
-- ==== Proof.MixPair.lean ====
module

public import proofs.«01_k».proof.Defs
public import proofs.«01_k».proof.Proof.MixValue
public import proofs.«01_k».proof.Proof.MixRefValue
public import proofs.«01_k».proof.Proof.Gen.MixKernel.Frame
public import proofs.«01_k».proof.Proof.Gen.MixKernelIdeal.Frame
public import proofs.«01_k».proof.Proof.Gen.MixReferenceIdeal.Run

/-! The claims about the gradient of the input norm: its frames, and that its two results are the reference's. -/

@[expose] public section

set_option maxRecDepth 16384

noncomputable section

namespace Cert.MixPair

open Idealize.ShloMosaic Idealize.SL.Sem

theorem frame_kernel : Cert.quiescent_MixKernel := fun m ρ _ => Cert.MixKernel.Gen.frame m ρ

theorem frame_kernelIdeal : Cert.quiescent_MixKernelIdeal := fun m ρ _ => Cert.MixKernelIdeal.Gen.frame m ρ

theorem frame_reference : Cert.quiescent_MixReferenceIdeal := by
  intro m g _
  exact (θ_run Cert.MixReferenceIdeal.defs _ _).mono
    (fun r h => ⟨fun c => (h c).2.2, Idealize.ShloMosaic.sem_eq_zero_of_no_sems (by decide) r.2⟩)
    (Cert.MixReferenceIdeal.Value.run (F := Ideal) m g)

theorem preserves : Cert.preserves_MixKernel_MixKernelIdeal := trivial

theorem algebraic : Cert.algebraic_MixKernelIdeal_MixReferenceIdeal := by
  pair_intro
  · run_from Cert.MixKernelIdeal.Value.run_blocks m g
  · run_from Cert.MixReferenceIdeal.Value.run m' g'
    · rw [Cert.MixReferenceIdeal.Read.val_main_v43_eq, (hagree c).1, (hagree c).2.1, (hagree c).2.2.1, (hagree c).2.2.2.1,
        (hagree c).2.2.2.2, Cert.MixKernelIdeal.Value.dh_final]
      funext j
      rw [eq_ix2 j]
      exact Cert.MixReferenceIdeal.Read.dh_apply _ _ _ _ _ (j 0) (j 1)
    · rw [Cert.MixReferenceIdeal.Read.val_main_v42_eq]
      funext j
      idx_vars j
      rw [Subsingleton.elim j0 0]
      exact (Cert.MixReferenceIdeal.Read.dgain_apply _ _ _ j1).trans (Cert.MixKernelIdeal.Value.dgain_final m c j1).symm

end Cert.MixPair

end
end
-- ==== Proof.DiscValue.lean ====
module

public import proofs.«01_k».proof.Proof.Gen.DiscKernelIdeal.Frame
public import proofs.«01_k».proof.Proof.Gen.DiscReferenceIdeal.Read
public import Idealize.ShloMosaic.Lib.Pipeline.ValueKit
public import Idealize.ShloMosaic.Lib.Pointwise
public import Idealize.ShloMosaic.Lib.StableHlo.RunRead

/-! What the gradient of the discretisation leaves in its results. -/

@[expose] public section

set_option maxRecDepth 16384

noncomputable section

namespace Cert.DiscKernelIdeal.Value

open Cert.DiscKernelIdeal Cert.DiscKernelIdeal.Gen Idealize.ShloMosaic Idealize.ShloMosaic.TcCoe Idealize.SL.Sem
open Idealize.ShloMosaic.Pipeline (Dat)

variable (x0 x1 : Vec Ideal S32x64 .f32) (x2 : Vec Ideal S32x1 .f32) (x3 x4 : Vec Ideal S32x16x64 .f32)
  (x5 x6 : Vec Ideal S32x64 .f32) (x7 x8 : Vec Ideal S32x16x64 .f32)

section Payload

open Cert.DiscReferenceIdeal.Read

/-! The body's five outputs are the reference's values, at the blocks that hold the reference's arguments. -/

variable (y0 y1 : FVec Ideal Cert.DiscReferenceIdeal.S1x32x64 .f32) (y2 : FVec Ideal Cert.DiscReferenceIdeal.S1x32 .f32) (y3 y4 : FVec Ideal Cert.DiscReferenceIdeal.S1x32x64x16 .f32)
  (y5 y6 : FVec Ideal Cert.DiscReferenceIdeal.S32x64 .f32) (y7 y8 : FVec Ideal Cert.DiscReferenceIdeal.S32x64x16 .f32)
variable (h0 : ∀ g p, x0 (ix2 g p) = y0 (ix3 0 g p)) (h1 : ∀ g p, x1 (ix2 g p) = y1 (ix3 0 g p)) (h2 : ∀ g, x2 (ix2 g 0) = y2 (ix2 0 g))
  (h3 : ∀ g k p, x3 (ix3 g k p) = y3 (ix4 0 g p k)) (h4 : ∀ g k p, x4 (ix3 g k p) = y4 (ix4 0 g p k)) (h5 : ∀ g p, x5 (ix2 g p) = y5 (ix2 g p)) (h6 : ∀ g p, x6 (ix2 g p) = y6 (ix2 g p))
  (h7 : ∀ g k p, x7 (ix3 g k p) = y7 (ix3 g p k)) (h8 : ∀ g k p, x8 (ix3 g k p) = y8 (ix3 g p k))
include h0 h1 h2 h3 h4 h5 h6 h7 h8

theorem out_13 (g : Fin 32) (k : Fin 16) (p : Fin 64) : out0_13 x0 x1 x2 x3 x4 x5 x6 x7 x8 (ix3 g k p) = val_main_v69 (F := Ideal) y0 y1 y2 y7 y8 (ix3 g p k) := by
  unfold_out out0_13
  frame_out
  unfold_payloads
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  simp only [h0, h1, h2, h3, h4, h5, h6, h7, h8, Fin.sum_univ_one, zero_sub]
theorem out_12 (g : Fin 32) (k : Fin 16) (p : Fin 64) : out0_12 x0 x1 x2 x3 x4 x5 x6 x7 x8 (ix3 g k p) = val_main_v77 (F := Ideal) y0 y1 y2 y7 y8 (ix3 g p k) := by
  unfold_out out0_12
  frame_out
  unfold_payloads
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  simp only [h0, h1, h2, h3, h4, h5, h6, h7, h8, Fin.sum_univ_one, zero_sub]
theorem out_11 (g : Fin 32) (k : Fin 16) (p : Fin 64) : out0_11 x0 x1 x2 x3 x4 x5 x6 x7 x8 (ix2 g 0) = val_main_v139 (F := Ideal) y0 y1 y2 y3 y4 y5 y6 y7 y8 (ix1 g) := by
  unfold_out out0_11
  frame_out
  unfold_payloads
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  simp only [h0, h1, h2, h3, h4, h5, h6, h7, h8, Fin.sum_univ_one, zero_sub]
theorem out_10 (g : Fin 32) (k : Fin 16) (p : Fin 64) : out0_10 x0 x1 x2 x3 x4 x5 x6 x7 x8 (ix2 g p) = val_main_v130 (F := Ideal) y0 y1 y2 y3 y4 y5 y6 y7 y8 (ix2 g p) := by
  unfold_out out0_10
  frame_out
  unfold_payloads
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  simp only [h0, h1, h2, h3, h4, h5, h6, h7, h8, Fin.sum_univ_one, zero_sub]
theorem out_9 (g : Fin 32) (k : Fin 16) (p : Fin 64) : out0_9 x0 x1 x2 x3 x4 x5 x6 x7 x8 (ix2 g p) = val_main_v137 (F := Ideal) y0 y1 y2 y3 y4 y5 y6 y7 y8 (ix2 g p) := by
  unfold_out out0_9
  frame_out
  unfold_payloads
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_cst, val_main_cst_0, val_main_cst_1, val_main_cst_2, val_main_cst_3, val_main_cst_4, val_main_cst_5, val_main_cst_6, val_main_cst_7, val_main_cst_8, val_main_cst_9, val_main_cst_10, val_main_cst_11, val_main_cst_12]
  simp only [h0, h1, h2, h3, h4, h5, h6, h7, h8, Fin.sum_univ_one, zero_sub]

end Payload

variable (m : (ℓ : Loc nD τ sig) → Buf (Elt Ideal) ℓ) (c : Dev nD)

abbrev arg0 : S1x32x64.Idx → EReal := m ((c.tc : Thread nD τ).loc main_arg0)
abbrev arg1 : S1x32x64.Idx → EReal := m ((c.tc : Thread nD τ).loc main_arg1)
abbrev arg2 : S1x32.Idx → EReal := m ((c.tc : Thread nD τ).loc main_arg2)
abbrev arg3 : S1x32x64x16.Idx → EReal := m ((c.tc : Thread nD τ).loc main_arg3)
abbrev arg4 : S1x32x64x16.Idx → EReal := m ((c.tc : Thread nD τ).loc main_arg4)
abbrev arg5 : S32x64.Idx → EReal := m ((c.tc : Thread nD τ).loc main_arg5)
abbrev arg6 : S32x64.Idx → EReal := m ((c.tc : Thread nD τ).loc main_arg6)
abbrev arg7 : S32x64x16.Idx → EReal := m ((c.tc : Thread nD τ).loc main_arg7)
abbrev arg8 : S32x64x16.Idx → EReal := m ((c.tc : Thread nD τ).loc main_arg8)

theorem idx : ∀ t : Fin cfg0.N, win0_0.index t = ![0, 0] ∧ win0_1.index t = ![0, 0] ∧ win0_2.index t = ![0, 0]
    ∧ win0_3.index t = ![0, 0, 0] ∧ win0_4.index t = ![0, 0, 0] ∧ win0_5.index t = ![0, 0] ∧ win0_6.index t = ![0, 0]
    ∧ win0_7.index t = ![0, 0, 0] ∧ win0_8.index t = ![0, 0, 0] ∧ win0_9.index t = ![0, 0] ∧ win0_10.index t = ![0, 0]
    ∧ win0_11.index t = ![0, 0] ∧ win0_12.index t = ![0, 0, 0] ∧ win0_13.index t = ![0, 0, 0] :=
  (by decide +kernel : ∀ t : Fin grid0.N, _)

theorem entry : V0 m c = StableHlo.after hostOps0 (fun b => m (c, b)) := by
  unfold V0
  rw [List.flatten_cons, List.flatten_nil, List.append_nil]

theorem host0 : V m c main_v4 = shapeCast S32x64 (arg0 m c) shapeCasts_S1x32x64_S32x64 := by
  rw [V, entry]
  after_reads_simp
  sl_kernel_rfl

theorem host1 : V m c main_v5 = shapeCast S32x64 (arg1 m c) shapeCasts_S1x32x64_S32x64 := by
  rw [V, entry]
  after_reads_simp
  sl_kernel_rfl

theorem host2 : V m c main_v7 = broadcastInDim S32x1 ![0] bcast_S32_S32x1_0 (shapeCast S32 (arg2 m c) shapeCasts_S1x32_S32) := by
  rw [V, entry]
  after_reads_simp
  sl_kernel_rfl

theorem host3 : V m c main_v1 = transpose S32x16x64 [0, 2, 1] (shapeCast S32x64x16 (arg3 m c) shapeCasts_S1x32x64x16_S32x64x16) transposes_S32x64x16_S32x16x64_0_2_1 := by
  rw [V, entry]
  after_reads_simp
  sl_kernel_rfl

theorem host4 : V m c main_v3 = transpose S32x16x64 [0, 2, 1] (shapeCast S32x64x16 (arg4 m c) shapeCasts_S1x32x64x16_S32x64x16) transposes_S32x64x16_S32x16x64_0_2_1 := by
  rw [V, entry]
  after_reads_simp
  sl_kernel_rfl

theorem host7 : V m c main_v8 = transpose S32x16x64 [0, 2, 1] (arg7 m c) transposes_S32x64x16_S32x16x64_0_2_1 := by
  rw [V, entry]
  after_reads_simp

theorem host8 : V m c main_v9 = transpose S32x16x64 [0, 2, 1] (arg8 m c) transposes_S32x64x16_S32x16x64_0_2_1 := by
  rw [V, entry]
  after_reads_simp

theorem read0 (t : Fin cfg0.N) (g : Fin 32) (p : Fin 64) : iblk m c 0 t (ix2 g p) = arg0 m c (ix3 0 g p) := by
  have e : (win0_0.blk t).view.emb (ix2 g p) = ix2 g p := by
    blk_ext [idx t]
  refine (congrArg (V m c main_v4) e).trans ?_
  rw [host0]
  pointwise

theorem read1 (t : Fin cfg0.N) (g : Fin 32) (p : Fin 64) : iblk m c 1 t (ix2 g p) = arg1 m c (ix3 0 g p) := by
  have e : (win0_1.blk t).view.emb (ix2 g p) = ix2 g p := by
    blk_ext [idx t]
  refine (congrArg (V m c main_v5) e).trans ?_
  rw [host1]
  pointwise

theorem read2 (t : Fin cfg0.N) (g : Fin 32) : iblk m c 2 t (ix2 g 0) = arg2 m c (ix2 0 g) := by
  have e : (win0_2.blk t).view.emb (ix2 g 0) = ix2 g 0 := by
    blk_ext [idx t]
  refine (congrArg (V m c main_v7) e).trans ?_
  rw [host2]
  pointwise

theorem read3 (t : Fin cfg0.N) (g : Fin 32) (k : Fin 16) (p : Fin 64) : iblk m c 3 t (ix3 g k p) = arg3 m c (ix4 0 g p k) := by
  have e : (win0_3.blk t).view.emb (ix3 g k p) = ix3 g k p := by
    blk_ext [idx t]
  refine (congrArg (V m c main_v1) e).trans ?_
  rw [host3]
  pointwise

theorem read4 (t : Fin cfg0.N) (g : Fin 32) (k : Fin 16) (p : Fin 64) : iblk m c 4 t (ix3 g k p) = arg4 m c (ix4 0 g p k) := by
  have e : (win0_4.blk t).view.emb (ix3 g k p) = ix3 g k p := by
    blk_ext [idx t]
  refine (congrArg (V m c main_v3) e).trans ?_
  rw [host4]
  pointwise

theorem read5 (t : Fin cfg0.N) (g : Fin 32) (p : Fin 64) : iblk m c 5 t (ix2 g p) = arg5 m c (ix2 g p) := by
  have e : (win0_5.blk t).view.emb (ix2 g p) = ix2 g p := by
    blk_ext [idx t]
  exact (congrArg (V m c main_arg5) e).trans (congrFun (V_main_arg5 m c) _)

theorem read6 (t : Fin cfg0.N) (g : Fin 32) (p : Fin 64) : iblk m c 6 t (ix2 g p) = arg6 m c (ix2 g p) := by
  have e : (win0_6.blk t).view.emb (ix2 g p) = ix2 g p := by
    blk_ext [idx t]
  exact (congrArg (V m c main_arg6) e).trans (congrFun (V_main_arg6 m c) _)

theorem read7 (t : Fin cfg0.N) (g : Fin 32) (k : Fin 16) (p : Fin 64) : iblk m c 7 t (ix3 g k p) = arg7 m c (ix3 g p k) := by
  have e : (win0_7.blk t).view.emb (ix3 g k p) = ix3 g k p := by
    blk_ext [idx t]
  refine (congrArg (V m c main_v8) e).trans ?_
  rw [host7]
  pointwise

theorem read8 (t : Fin cfg0.N) (g : Fin 32) (k : Fin 16) (p : Fin 64) : iblk m c 8 t (ix3 g k p) = arg8 m c (ix3 g p k) := by
  have e : (win0_8.blk t).view.emb (ix3 g k p) = ix3 g k p := by
    blk_ext [idx t]
  refine (congrArg (V m c main_v9) e).trans ?_
  rw [host8]
  pointwise

open Cert.DiscReferenceIdeal.Read

/-- The reference's values at this memory's arguments. -/
@[irreducible] def ref9 := val_main_v137 (F := Ideal) (arg0 m c) (arg1 m c) (arg2 m c) (arg3 m c) (arg4 m c) (arg5 m c) (arg6 m c) (arg7 m c) (arg8 m c)
@[irreducible] def ref10 := val_main_v130 (F := Ideal) (arg0 m c) (arg1 m c) (arg2 m c) (arg3 m c) (arg4 m c) (arg5 m c) (arg6 m c) (arg7 m c) (arg8 m c)
@[irreducible] def ref11 := val_main_v139 (F := Ideal) (arg0 m c) (arg1 m c) (arg2 m c) (arg3 m c) (arg4 m c) (arg5 m c) (arg6 m c) (arg7 m c) (arg8 m c)
@[irreducible] def ref12 := val_main_v77 (F := Ideal) (arg0 m c) (arg1 m c) (arg2 m c) (arg7 m c) (arg8 m c)
@[irreducible] def ref13 := val_main_v69 (F := Ideal) (arg0 m c) (arg1 m c) (arg2 m c) (arg7 m c) (arg8 m c)

theorem final9 : (dats m 0 c).arrAt 9 cfg0.N = ref9 m c := by
  unfold ref9
  refine (dats m 0 c).arrAt_eq_of_covers 9 _ (by decide +kernel) fun t hf y => ?_
  blk_simp
  rw [after0_9]
  obtain ⟨g, p, rfl⟩ : ∃ g p, y = ix2 g p := ⟨y 0, y 1, eq_ix2 y⟩
  have e : (win0_9.blk t).view.emb (ix2 g p) = ix2 g p := by
    blk_ext [idx t]
  rw [e]
  exact out_9 _ _ _ _ _ _ _ _ _ _ _ _ _ _ _ _ _ _ (read0 m c t) (read1 m c t) (read2 m c t) (read3 m c t) (read4 m c t) (read5 m c t) (read6 m c t) (read7 m c t) (read8 m c t) g 0 p

theorem final10 : (dats m 0 c).arrAt 10 cfg0.N = ref10 m c := by
  unfold ref10
  refine (dats m 0 c).arrAt_eq_of_covers 10 _ (by decide +kernel) fun t hf y => ?_
  blk_simp
  rw [after0_10]
  obtain ⟨g, p, rfl⟩ : ∃ g p, y = ix2 g p := ⟨y 0, y 1, eq_ix2 y⟩
  have e : (win0_10.blk t).view.emb (ix2 g p) = ix2 g p := by
    blk_ext [idx t]
  rw [e]
  exact out_10 _ _ _ _ _ _ _ _ _ _ _ _ _ _ _ _ _ _ (read0 m c t) (read1 m c t) (read2 m c t) (read3 m c t) (read4 m c t) (read5 m c t) (read6 m c t) (read7 m c t) (read8 m c t) g 0 p

theorem final11 : (dats m 0 c).arrAt 11 cfg0.N = fun i : S32x1.Idx => ref11 m c (ix1 (i 0)) := by
  unfold ref11
  refine (dats m 0 c).arrAt_eq_of_covers 11 _ (by decide +kernel) fun t hf y => ?_
  blk_simp
  rw [after0_11]
  obtain ⟨g, q, rfl⟩ : ∃ (g : Fin 32) (q : Fin 1), y = ix2 g q := ⟨y 0, y 1, eq_ix2 y⟩
  obtain rfl := Subsingleton.elim q 0
  have e : (win0_11.blk t).view.emb (ix2 g 0) = ix2 g 0 := by
    blk_ext [idx t]
  rw [e]
  exact out_11 _ _ _ _ _ _ _ _ _ _ _ _ _ _ _ _ _ _ (read0 m c t) (read1 m c t) (read2 m c t) (read3 m c t) (read4 m c t) (read5 m c t) (read6 m c t) (read7 m c t) (read8 m c t) g 0 0

theorem final12 : (dats m 0 c).arrAt 12 cfg0.N = fun i : S32x16x64.Idx => ref12 m c (ix3 (i 0) (i 2) (i 1)) := by
  unfold ref12
  refine (dats m 0 c).arrAt_eq_of_covers 12 _ (by decide +kernel) fun t hf y => ?_
  blk_simp
  rw [after0_12]
  obtain ⟨g, k, p, rfl⟩ : ∃ g k p, y = ix3 g k p := ⟨y 0, y 1, y 2, eq_ix3 y⟩
  have e : (win0_12.blk t).view.emb (ix3 g k p) = ix3 g k p := by
    blk_ext [idx t]
  rw [e]
  exact out_12 _ _ _ _ _ _ _ _ _ _ _ _ _ _ _ _ _ _ (read0 m c t) (read1 m c t) (read2 m c t) (read3 m c t) (read4 m c t) (read5 m c t) (read6 m c t) (read7 m c t) (read8 m c t) g k p

theorem final13 : (dats m 0 c).arrAt 13 cfg0.N = fun i : S32x16x64.Idx => ref13 m c (ix3 (i 0) (i 2) (i 1)) := by
  unfold ref13
  refine (dats m 0 c).arrAt_eq_of_covers 13 _ (by decide +kernel) fun t hf y => ?_
  blk_simp
  rw [after0_13]
  obtain ⟨g, k, p, rfl⟩ : ∃ g k p, y = ix3 g k p := ⟨y 0, y 1, y 2, eq_ix3 y⟩
  have e : (win0_13.blk t).view.emb (ix3 g k p) = ix3 g k p := by
    blk_ext [idx t]
  rw [e]
  exact out_13 _ _ _ _ _ _ _ _ _ _ _ _ _ _ _ _ _ _ (read0 m c t) (read1 m c t) (read2 m c t) (read3 m c t) (read4 m c t) (read5 m c t) (read6 m c t) (read7 m c t) (read8 m c t) g k p

/-- What the lines after the kernel leave, from what it leaves. -/
theorem last11 : Pipeline.afterTail₀ cfgs (dats m) 0 (V0 m) [hostOps1] c main_v11 = ref11 m c := by
  have e : Pipeline.afterTail₀ cfgs (dats m) 0 (V0 m) [hostOps1] c main_v11 = shapeCast S32 ((dats m 0 c).arrAt 11 cfg0.N) shapeCasts_S32x1_S32 := by
    unfold Pipeline.afterTail₀
    rw [List.flatten_cons, List.flatten_nil, List.append_nil]
    rw [← Pipeline.withArrays_arr cfg0.spec launch0.win.arr_inj c (V0 m c) (fun w => (dats m 0 c).arrAt w cfg0.N) 11]
    after_reads_simp
    sl_kernel_rfl
  rw [e, final11]
  funext i
  idx_vars i
  pointwise

theorem last12 : Pipeline.afterTail₀ cfgs (dats m) 0 (V0 m) [hostOps1] c main_v12 = ref12 m c := by
  have e : Pipeline.afterTail₀ cfgs (dats m) 0 (V0 m) [hostOps1] c main_v12
      = transpose S32x64x16 [0, 2, 1] ((dats m 0 c).arrAt 12 cfg0.N) transposes_S32x16x64_S32x64x16_0_2_1 := by
    unfold Pipeline.afterTail₀
    rw [List.flatten_cons, List.flatten_nil, List.append_nil]
    rw [← Pipeline.withArrays_arr cfg0.spec launch0.win.arr_inj c (V0 m c) (fun w => (dats m 0 c).arrAt w cfg0.N) 12]
    after_reads_simp
  rw [e, final12]
  funext i
  idx_vars i
  pointwise

theorem last13 : Pipeline.afterTail₀ cfgs (dats m) 0 (V0 m) [hostOps1] c main_v13 = ref13 m c := by
  have e : Pipeline.afterTail₀ cfgs (dats m) 0 (V0 m) [hostOps1] c main_v13
      = transpose S32x64x16 [0, 2, 1] ((dats m 0 c).arrAt 13 cfg0.N) transposes_S32x16x64_S32x64x16_0_2_1 := by
    unfold Pipeline.afterTail₀
    rw [List.flatten_cons, List.flatten_nil, List.append_nil]
    rw [← Pipeline.withArrays_arr cfg0.spec launch0.win.arr_inj c (V0 m c) (fun w => (dats m 0 c).arrAt w cfg0.N) 13]
    after_reads_simp
  rw [e, final13]
  funext i
  idx_vars i
  pointwise

variable (ρ : Dev nD → PrngReg)

/-- The run: every result at the reference's value, every argument as it was. -/
theorem run_all : θ_run defs (onTc (τ := τ) (main (F := Ideal))) ⟨m, fun _ => 0, ρ⟩ fun r => ∀ c : Dev nD,
      r.2.mem ((c.tc : Thread nD τ).loc main_v10_0) = ref9 m c
      ∧ r.2.mem ((c.tc : Thread nD τ).loc main_v10_1) = ref10 m c
      ∧ r.2.mem ((c.tc : Thread nD τ).loc main_v11) = ref11 m c
      ∧ r.2.mem ((c.tc : Thread nD τ).loc main_v12) = ref12 m c
      ∧ r.2.mem ((c.tc : Thread nD τ).loc main_v13) = ref13 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h.1 c).1 9).trans (final9 m c), ((h.1 c).1 10).trans (final10 m c),
      ((h.1 c).2 main_v11 (Pipeline.mem_restRefs_of main_v11 (by decide) (by decide))).trans (last11 m c),
      ((h.1 c).2 main_v12 (Pipeline.mem_restRefs_of main_v12 (by decide) (by decide))).trans (last12 m c),
      ((h.1 c).2 main_v13 (Pipeline.mem_restRefs_of main_v13 (by decide) (by decide))).trans (last13 m c),
      h.2 c⟩)
    (θ_run_and (run_main m ρ) (unchanged m ρ))

end Cert.DiscKernelIdeal.Value
end
end
-- ==== Proof.DiscPair.lean ====
module

public import proofs.«01_k».proof.Defs
public import proofs.«01_k».proof.Proof.DiscValue
public import proofs.«01_k».proof.Proof.Gen.DiscKernel.Frame
public import proofs.«01_k».proof.Proof.Gen.DiscReferenceIdeal.Run

/-! The claims about the gradient of the discretisation: its frames, and that its five results are the reference's. -/

@[expose] public section

set_option maxRecDepth 16384

noncomputable section

namespace Cert.DiscPair

open Idealize.ShloMosaic Idealize.SL.Sem

theorem frame_kernel : Cert.quiescent_DiscKernel := fun m ρ _ => Cert.DiscKernel.Gen.frame m ρ

theorem frame_kernelIdeal : Cert.quiescent_DiscKernelIdeal := fun m ρ _ => Cert.DiscKernelIdeal.Gen.frame m ρ

theorem frame_reference : Cert.quiescent_DiscReferenceIdeal := by
  intro m g _
  exact (θ_run Cert.DiscReferenceIdeal.defs _ _).mono
    (fun r h => ⟨fun c => (h c).2.2.2.2.2, Idealize.ShloMosaic.sem_eq_zero_of_no_sems (by decide) r.2⟩)
    (Cert.DiscReferenceIdeal.Value.run (F := Ideal) m g)

theorem preserves : Cert.preserves_DiscKernel_DiscKernelIdeal := trivial

theorem algebraic : Cert.algebraic_DiscKernelIdeal_DiscReferenceIdeal := by
  pair_intro
  · run_from Cert.DiscKernelIdeal.Value.run_all m g
  · run_from Cert.DiscReferenceIdeal.Value.run m' g'
    all_goals obtain ⟨e0, e1, e2, e3, e4, e5, e6, e7, e8⟩ := hagree c
    · unfold Cert.DiscKernelIdeal.Value.ref9
      rw [Cert.DiscReferenceIdeal.Read.val_main_v137_eq, e0, e1, e2, e3, e4, e5, e6, e7, e8]
    · unfold Cert.DiscKernelIdeal.Value.ref10
      rw [Cert.DiscReferenceIdeal.Read.val_main_v130_eq, e0, e1, e2, e3, e4, e5, e6, e7, e8]
    · unfold Cert.DiscKernelIdeal.Value.ref11
      rw [Cert.DiscReferenceIdeal.Read.val_main_v139_eq, e0, e1, e2, e3, e4, e5, e6, e7, e8]
    · unfold Cert.DiscKernelIdeal.Value.ref12
      rw [Cert.DiscReferenceIdeal.Read.val_main_v77_eq, e0, e1, e2, e7, e8]
    · unfold Cert.DiscKernelIdeal.Value.ref13
      rw [Cert.DiscReferenceIdeal.Read.val_main_v69_eq, e0, e1, e2, e7, e8]

end Cert.DiscPair

end
end
-- ==== Proof.FfnRow.lean ====
module

public import proofs.«01_k».proof.Proof.NormRow

/-!
A gated feed-forward block and its gradient on the extended reals: the block is `h + (act (gate) · wd) / 2` for the normed
row `xn`.  The only line that two ways of differentiating could tell apart is the gate's slope: `slope_eq`.
-/

@[expose] public section

noncomputable section

namespace Cert.FfnRow

open Idealize.ShloMosaic Cert.Extended Cert.LossRow Cert.NormRow

/-- The arguments: the gradient of the result, the hidden rows, the gain, the three weights. -/
structure Args where
  d : Fin 8192 → Fin 1024 → EReal
  h : Fin 8192 → Fin 1024 → EReal
  gain : Fin 1024 → EReal
  wg : Fin 1024 → Fin 2816 → EReal
  wu : Fin 1024 → Fin 2816 → EReal
  wd : Fin 2816 → Fin 1024 → EReal

/-- The arguments that the gradient's lines multiply with are reals. -/
structure Args.Finite (A : Args) : Prop where
  d : ∀ a b, ∃ r : ℝ, A.d a b = r
  gain : ∀ b, ∃ r : ℝ, A.gain b = r
  wu : ∀ b j, ∃ r : ℝ, A.wu b j = r
  wd : ∀ j b, ∃ r : ℝ, A.wd j b = r

variable (A : Args)

def xn (a : Fin 8192) (b : Fin 1024) : EReal := A.h a b * inv (A.h a) * A.gain b
def gate (a : Fin 8192) (j : Fin 2816) : EReal := ∑ b, xn A a b * A.wg b j
def up (a : Fin 8192) (j : Fin 2816) : EReal := ∑ b, xn A a b * A.wu b j
def sig (a : Fin 8192) (j : Fin 2816) : EReal := Ideal.logistic (gate A a j)
def act (a : Fin 8192) (j : Fin 2816) : EReal := gate A a j * sig A a j * up A a j
def out (a : Fin 8192) (b : Fin 1024) : EReal := A.h a b + half * ∑ j, act A a j * A.wd j b
def ct (a : Fin 8192) (b : Fin 1024) : EReal := half * A.d a b
def dact (a : Fin 8192) (j : Fin 2816) : EReal := ∑ b, ct A a b * A.wd j b
def dgate (a : Fin 8192) (j : Fin 2816) : EReal :=
  dact A a j * up A a j * (sig A a j * (1 + gate A a j * (1 - sig A a j)))
def dup (a : Fin 8192) (j : Fin 2816) : EReal := dact A a j * (gate A a j * sig A a j)
def dxn (a : Fin 8192) (b : Fin 1024) : EReal := ∑ j, dgate A a j * A.wg b j + ∑ j, dup A a j * A.wu b j
def dh (a : Fin 8192) (b : Fin 1024) : EReal := A.d a b + back (A.h a) (fun x => dxn A a x * A.gain x) b
def dgain (b : Fin 1024) : EReal := ∑ a, dxn A a b * A.h a b * inv (A.h a)

/-! ## The reals among them -/

theorem real_mul {x y : EReal} (hx : ∃ r : ℝ, x = r) (hy : ∃ r : ℝ, y = r) : ∃ r : ℝ, x * y = r := by
  obtain ⟨r, rfl⟩ := hx
  obtain ⟨s, rfl⟩ := hy
  exact ⟨r * s, by rw [EReal.coe_mul]⟩

theorem real_sum {ι : Type*} (s : Finset ι) (f : ι → EReal) (hf : ∀ i, ∃ r : ℝ, f i = r) : ∃ r : ℝ, ∑ i ∈ s, f i = r := by
  classical
  induction s using Finset.induction_on with
  | empty => exact ⟨0, by simp⟩
  | insert a s ha ih =>
    obtain ⟨r, hr⟩ := hf a
    obtain ⟨t, ht⟩ := ih
    exact ⟨r + t, by rw [Finset.sum_insert ha, hr, ht, EReal.coe_add]⟩

/-- A row over its root mean square is real, even where an entry is infinite: the reciprocal root is zero there. -/
theorem normed_real (h : Fin 1024 → EReal) (b : Fin 1024) : ∃ r : ℝ, h b * inv h = r := by
  obtain ⟨ρ, -, h1, -⟩ := inv_real h
  by_cases hb : ∃ r : ℝ, h b = r
  · exact real_mul hb ⟨ρ, h1⟩
  · have ht : h b * h b = ⊤ := by
      induction hx : h b using EReal.rec with
      | bot => rfl
      | coe x => exact absurd ⟨x, hx⟩ hb
      | top => rfl
    have hs : ∑ x, h x * h x = ⊤ := by
      refine top_le_iff.mp (ht ▸ ?_)
      exact Finset.single_le_sum (f := fun x => h x * h x) (fun x _ => mul_self_nonneg _) (Finset.mem_univ b)
    have hi : inv h = 0 := by
      unfold inv shifted
      rw [hs, width_eq, eps_eq, div_coe _ (by norm_num), EReal.top_mul_coe_of_pos (by norm_num), EReal.top_add_coe]
      rfl
    exact ⟨0, by rw [hi]; simp⟩

variable {A}

theorem xn_real (H : A.Finite) (a : Fin 8192) (b : Fin 1024) : ∃ r : ℝ, xn A a b = r :=
  real_mul (normed_real _ b) (H.gain b)

theorem up_real (H : A.Finite) (a : Fin 8192) (j : Fin 2816) : ∃ r : ℝ, up A a j = r :=
  real_sum _ _ fun b => real_mul (xn_real H a b) (H.wu b j)

theorem dact_real (H : A.Finite) (a : Fin 8192) (j : Fin 2816) : ∃ r : ℝ, dact A a j = r :=
  real_sum _ _ fun b => real_mul (real_mul ⟨_, half_eq⟩ (H.d a b)) (H.wd j b)

theorem logistic_bot : Ideal.logistic ⊥ = 0 := by
  have e : Ideal.exp (-(⊥ : EReal)) = ⊤ := by rw [EReal.neg_bot]; rfl
  have e1 : (1 : EReal) + ⊤ = ⊤ := rfl
  unfold Ideal.logistic
  rw [e, e1]
  simp [Ideal.div]

theorem logistic_top : Ideal.logistic ⊤ = 1 := by
  have e : Ideal.exp (-(⊤ : EReal)) = 0 := by rw [EReal.neg_top]; rfl
  unfold Ideal.logistic
  rw [e, add_zero]
  simp [Ideal.div]

theorem one_sub_one : (1 : EReal) - 1 = 0 := by rw [← EReal.coe_one, ← EReal.coe_sub, sub_self, EReal.coe_zero]

/-- The gate's slope: the product rule's sum is the factored form, at a real gradient `c` and any gate `g`. -/
theorem slope_eq (c : ℝ) (g : EReal) :
    (c : EReal) * Ideal.logistic g + g * c * (Ideal.logistic g * (1 - Ideal.logistic g))
      = c * (Ideal.logistic g * (1 + g * (1 - Ideal.logistic g))) := by
  induction g using EReal.rec with
  | bot => rw [logistic_bot]; simp
  | top => rw [logistic_top, one_sub_one]; simp
  | coe x =>
    obtain ⟨s, hs⟩ : ∃ s : ℝ, Ideal.logistic (x : EReal) = s := by
      refine ⟨(1 + Real.exp (-x))⁻¹, ?_⟩
      have hp : (1 : ℝ) + Real.exp (-x) ≠ 0 := by positivity
      have e : Ideal.exp (-(x : EReal)) = ((Real.exp (-x) : ℝ) : EReal) := rfl
      unfold Ideal.logistic
      rw [e, ← EReal.coe_one, ← EReal.coe_add, div_coe _ hp, ← EReal.coe_mul, one_mul]
    rw [hs, ← EReal.coe_one]
    simp only [← EReal.coe_mul, ← EReal.coe_add, ← EReal.coe_sub]
    congr 1
    ring

theorem dgate_eq (H : A.Finite) (a : Fin 8192) (j : Fin 2816) :
    dact A a j * up A a j * sig A a j + gate A a j * (dact A a j * up A a j) * (sig A a j * (1 - sig A a j)) = dgate A a j := by
  obtain ⟨c, hc⟩ := real_mul (dact_real H a j) (up_real H a j)
  unfold dgate sig
  rw [hc]
  exact slope_eq c _

/-- A sum over the columns is one over each half of them. -/
theorem sum_halves (f : Fin 2816 → EReal) :
    ∑ x : Fin 1408, f ⟨x.val, by omega⟩ + ∑ x : Fin 1408, f ⟨1408 + x.val, by omega⟩ = ∑ j, f j :=
  (Fin.sum_univ_add (a := 1408) (b := 1408) f).symm

/-- The gradient of the normed row, added half by half. -/
theorem dxn_halves (A : Args) (a : Fin 8192) (b : Fin 1024) :
    ∑ x : Fin 1408, dgate A a ⟨x.val, by omega⟩ * A.wg b ⟨x.val, by omega⟩ + ∑ x : Fin 1408, dup A a ⟨x.val, by omega⟩ * A.wu b ⟨x.val, by omega⟩
      + (∑ x : Fin 1408, dgate A a ⟨1408 + x.val, by omega⟩ * A.wg b ⟨1408 + x.val, by omega⟩
        + ∑ x : Fin 1408, dup A a ⟨1408 + x.val, by omega⟩ * A.wu b ⟨1408 + x.val, by omega⟩) = dxn A a b := by
  rw [add_add_add_comm, sum_halves fun j => dgate A a j * A.wg b j, sum_halves fun j => dup A a j * A.wu b j]
  rfl

end Cert.FfnRow

end
end
-- ==== Proof.FfnForward.lean ====
module

public import proofs.«01_k».proof.Proof.Gen.FfnKernelIdeal.Frame
public import proofs.«01_k».proof.Proof.FfnRow
public import Idealize.ShloMosaic.Lib.Pipeline.ValueKit
public import Idealize.ShloMosaic.Lib.Pointwise

/-! What the forward feed-forward pipeline leaves in its four results. -/

@[expose] public section

set_option maxRecDepth 16384

noncomputable section

namespace Cert.FfnKernelIdeal.Value

open Cert.FfnKernelIdeal Cert.FfnKernelIdeal.Gen Idealize.ShloMosaic Idealize.ShloMosaic.TcCoe Idealize.SL.Sem
open Idealize.ShloMosaic.Pipeline (Dat)
open Cert.LossRow Cert.NormRow Cert.FfnRow

variable (V : (c : Dev nD) → (b : Ref sig .tc) → Buf (Elt Ideal) ((c : Thread nD τ).loc b)) (c : Dev nD) (A : Args)

/-- The buffers that the forward pipeline reads hold the arguments. -/
structure Entered : Prop where
  h : ∀ a b, (V c main_v8 : S8192x1024.Idx → EReal) (ix2 a b) = A.h a b
  gain : ∀ b, (V c main_arg2 : S1x1024.Idx → EReal) (ix2 0 b) = A.gain b
  wg : ∀ j b, (V c main_v2 : S2816x1024.Idx → EReal) (ix2 j b) = A.wg b j
  wu : ∀ j b, (V c main_v5 : S2816x1024.Idx → EReal) (ix2 j b) = A.wu b j
  wd : ∀ j b, (V c main_v7 : S2816x1024.Idx → EReal) (ix2 j b) = A.wd j b

theorem index0 : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The array row that row `a` of point `t`'s block is. -/
def rowOf (t : Fin 32) (a : Fin 256) : Fin 8192 := ⟨t.val * 256 + a.val, by omega⟩

variable (t : Fin cfg0.N) (a : Fin 256) (b : Fin 1024) (j : Fin 2816)

section Reads

variable {V c A} (E : Entered V c A)
include E

theorem read0_0 : iblk0 V c 0 t (ix2 a b) = A.h (rowOf t a) b := by
  rw [← E.h]
  unfold rowOf
  blk_ext! [iblk0, index0 t]
theorem read0_1 : iblk0 V c 1 t (ix2 0 b) = A.gain b := by
  rw [← E.gain]
  blk_ext! [iblk0, index0 t]
theorem read0_2 : iblk0 V c 2 t (ix2 j b) = A.wg b j := by
  rw [← E.wg]
  blk_ext! [iblk0, index0 t]
theorem read0_3 : iblk0 V c 3 t (ix2 j b) = A.wu b j := by
  rw [← E.wu]
  blk_ext! [iblk0, index0 t]
theorem read0_4 : iblk0 V c 4 t (ix2 j b) = A.wd j b := by
  rw [← E.wd]
  blk_ext! [iblk0, index0 t]

end Reads

variable {V c A} (E : Entered V c A)
include E

theorem block_out : out0_5 (iblk0 V c 0 t) (iblk0 V c 1 t) (iblk0 V c 2 t) (iblk0 V c 3 t) (iblk0 V c 4 t) (ix2 a b) = out A (rowOf t a) b := by
  unfold out0_5
  frame_out
  unfold_payloads
  pointwise [read0_0 t _ _ E, read0_1 t _ E, read0_2 t _ _ E, read0_3 t _ _ E, read0_4 t _ _ E]
  rfl
theorem block_xn : out0_6 (iblk0 V c 0 t) (iblk0 V c 1 t) (iblk0 V c 2 t) (iblk0 V c 3 t) (iblk0 V c 4 t) (ix2 a b) = xn A (rowOf t a) b := by
  unfold out0_6
  frame_out
  unfold_payloads
  pointwise [read0_0 t _ _ E, read0_1 t _ E]
  rfl
theorem block_gate : out0_7 (iblk0 V c 0 t) (iblk0 V c 1 t) (iblk0 V c 2 t) (iblk0 V c 3 t) (iblk0 V c 4 t) (ix2 a j) = gate A (rowOf t a) j := by
  unfold out0_7
  frame_out
  unfold_payloads
  pointwise [read0_0 t _ _ E, read0_1 t _ E, read0_2 t _ _ E]
  rfl
theorem block_up : out0_8 (iblk0 V c 0 t) (iblk0 V c 1 t) (iblk0 V c 2 t) (iblk0 V c 3 t) (iblk0 V c 4 t) (ix2 a j) = up A (rowOf t a) j := by
  unfold out0_8
  frame_out
  unfold_payloads
  pointwise [read0_0 t _ _ E, read0_1 t _ E, read0_3 t _ _ E]
  rfl

theorem final_out : (dat0 V c).arrAt 5 cfg0.N = fun i : S8192x1024.Idx => out A (i 0) (i 1) := by
  refine (dat0 V c).arrAt_eq_of_covers 5 _ (by decide +kernel) fun t hf y => ?_
  blk_simp
  rw [after0_5]
  obtain ⟨a, b, rfl⟩ : ∃ a b, y = ix2 a b := ⟨y 0, y 1, eq_ix2 y⟩
  have e : (win0_5.blk t).view.emb (ix2 a b) = ix2 (rowOf t a) b := by
    unfold rowOf
    blk_ext [index0 t]
  rw [e]
  exact block_out t a b E

theorem final_xn : (dat0 V c).arrAt 6 cfg0.N = fun i : S8192x1024.Idx => xn A (i 0) (i 1) := by
  refine (dat0 V c).arrAt_eq_of_covers 6 _ (by decide +kernel) fun t hf y => ?_
  blk_simp
  rw [after0_6]
  obtain ⟨a, b, rfl⟩ : ∃ a b, y = ix2 a b := ⟨y 0, y 1, eq_ix2 y⟩
  have e : (win0_6.blk t).view.emb (ix2 a b) = ix2 (rowOf t a) b := by
    unfold rowOf
    blk_ext [index0 t]
  rw [e]
  exact block_xn t a b E

theorem final_gate : (dat0 V c).arrAt 7 cfg0.N = fun i : S8192x2816.Idx => gate A (i 0) (i 1) := by
  refine (dat0 V c).arrAt_eq_of_covers 7 _ (by decide +kernel) fun t hf y => ?_
  blk_simp
  rw [after0_7]
  obtain ⟨a, b, rfl⟩ : ∃ a b, y = ix2 a b := ⟨y 0, y 1, eq_ix2 y⟩
  have e : (win0_7.blk t).view.emb (ix2 a b) = ix2 (rowOf t a) b := by
    unfold rowOf
    blk_ext [index0 t]
  rw [e]
  exact block_gate t a b E

theorem final_up : (dat0 V c).arrAt 8 cfg0.N = fun i : S8192x2816.Idx => up A (i 0) (i 1) := by
  refine (dat0 V c).arrAt_eq_of_covers 8 _ (by decide +kernel) fun t hf y => ?_
  blk_simp
  rw [after0_8]
  obtain ⟨a, b, rfl⟩ : ∃ a b, y = ix2 a b := ⟨y 0, y 1, eq_ix2 y⟩
  have e : (win0_8.blk t).view.emb (ix2 a b) = ix2 (rowOf t a) b := by
    unfold rowOf
    blk_ext [index0 t]
  rw [e]
  exact block_up t a b E

end Cert.FfnKernelIdeal.Value

end
end
-- ==== Proof.FfnBackward.lean ====
module

public import proofs.«01_k».proof.Proof.FfnForward
public import Idealize.ShloMosaic.Lib.Pipeline.ValueKit
public import Idealize.ShloMosaic.Lib.Pointwise

/-! What the backward feed-forward pipeline leaves in its six results. -/

@[expose] public section

set_option maxRecDepth 16384

noncomputable section

namespace Cert.FfnKernelIdeal.Value

open Cert.FfnKernelIdeal Cert.FfnKernelIdeal.Gen Idealize.ShloMosaic Idealize.ShloMosaic.TcCoe Idealize.SL.Sem
open Idealize.ShloMosaic.Pipeline (Dat)
open Cert.LossRow Cert.NormRow Cert.FfnRow

variable (V : (c : Dev nD) → (b : Ref sig .tc) → Buf (Elt Ideal) ((c : Thread nD τ).loc b)) (c : Dev nD) (A : Args)

/-- The buffers that the backward pipeline reads hold the arguments and what the forward pipeline left. -/
structure Ready : Prop where
  d : ∀ a b, (V c main_v10 : S8192x1024.Idx → EReal) (ix2 a b) = A.d a b
  h : ∀ a b, (V c main_v11 : S8192x1024.Idx → EReal) (ix2 a b) = A.h a b
  gain : ∀ b, (V c main_arg2 : S1x1024.Idx → EReal) (ix2 0 b) = A.gain b
  gate : ∀ a j, (V c main_v9_2 : S8192x2816.Idx → EReal) (ix2 a j) = gate A a j
  up : ∀ a j, (V c main_v9_3 : S8192x2816.Idx → EReal) (ix2 a j) = up A a j
  wg : ∀ j b, (V c main_v2 : S2816x1024.Idx → EReal) (ix2 j b) = A.wg b j
  wu : ∀ j b, (V c main_v5 : S2816x1024.Idx → EReal) (ix2 j b) = A.wu b j
  wd : ∀ j b, (V c main_v7 : S2816x1024.Idx → EReal) (ix2 j b) = A.wd j b

theorem index1 : ∀ t : Fin cfg1.N, win1_0.index t = ![t.val, 0] ∧ win1_1.index t = ![t.val, 0] ∧ win1_2.index t = ![0, 0]
    ∧ win1_3.index t = ![t.val, 0] ∧ win1_4.index t = ![t.val, 0] ∧ win1_5.index t = ![0, 0] ∧ win1_6.index t = ![0, 0]
    ∧ win1_7.index t = ![0, 0] ∧ win1_8.index t = ![t.val, 0] ∧ win1_9.index t = ![0, 0] ∧ win1_10.index t = ![t.val, 0]
    ∧ win1_11.index t = ![t.val, 0] ∧ win1_12.index t = ![t.val, 0] ∧ win1_13.index t = ![t.val, 0] :=
  (by decide +kernel : ∀ t : Fin grid1.N, _)

/-- A block stored by halves of its columns is a function when each half is that function's. -/
theorem canon_halves (p q : S256x1408.Idx → Elt Ideal .bf16) (G : S256x2816.Idx → Elt Ideal .bf16)
    (hq : ∀ (a : Fin 256) (x : Fin 1408), q (ix2 a x) = G (ix2 a ⟨1408 + x.val, by omega⟩))
    (hp : ∀ (a : Fin 256) (x : Fin 1408), p (ix2 a x) = G (ix2 a ⟨x.val, by omega⟩)) (y : S256x2816.Idx) :
    View.canon (Val := Elt Ideal) (s := S256x2816) (e := .bf16)
      [⟨Rect.unit ![0, 1408] ![256, 1408] inb_S256x2816_S256x1408_0_1408, q⟩,
        ⟨Rect.unit ![0, 0] ![256, 1408] inb_S256x2816_S256x1408_0_0, p⟩] y = G y := by
  refine View.canon_apply_of_pieces G _ (fun r hr => ?_) y (View.cover_of_tiledL (s := S256x2816) _ S256x1408.size (by sl_kernel_rfl) y)
  simp only [List.mem_cons, List.not_mem_nil, or_false] at hr
  rcases hr with rfl | rfl
  · intro x
    obtain ⟨a, k, rfl⟩ : ∃ (a : Fin 256) (k : Fin 1408), x = ix2 a k := ⟨x 0, x 1, eq_ix2 x⟩
    refine (hq a k).trans (congrArg G ?_)
    idx_ext
  · intro x
    obtain ⟨a, k, rfl⟩ : ∃ (a : Fin 256) (k : Fin 1408), x = ix2 a k := ⟨x 0, x 1, eq_ix2 x⟩
    refine (hp a k).trans (congrArg G ?_)
    idx_ext

variable (t : Fin cfg1.N) (a : Fin 256) (b : Fin 1024) (j : Fin 2816)

variable {V c A} (E : Ready V c A)
include E

theorem read1_0 : iblk1 V c 0 t (ix2 a b) = A.d (rowOf t a) b := by
  rw [← E.d]
  unfold rowOf
  blk_ext! [iblk1, index1 t]
theorem read1_1 : iblk1 V c 1 t (ix2 a b) = A.h (rowOf t a) b := by
  rw [← E.h]
  unfold rowOf
  blk_ext! [iblk1, index1 t]
theorem read1_2 : iblk1 V c 2 t (ix2 0 b) = A.gain b := by
  rw [← E.gain]
  blk_ext! [iblk1, index1 t]
theorem read1_3 : iblk1 V c 3 t (ix2 a j) = gate A (rowOf t a) j := by
  rw [← E.gate]
  unfold rowOf
  blk_ext! [iblk1, index1 t]
theorem read1_4 : iblk1 V c 4 t (ix2 a j) = up A (rowOf t a) j := by
  rw [← E.up]
  unfold rowOf
  blk_ext! [iblk1, index1 t]
theorem read1_5 : iblk1 V c 5 t (ix2 j b) = A.wg b j := by
  rw [← E.wg]
  blk_ext! [iblk1, index1 t]
theorem read1_6 : iblk1 V c 6 t (ix2 j b) = A.wu b j := by
  rw [← E.wu]
  blk_ext! [iblk1, index1 t]
theorem read1_7 : iblk1 V c 7 t (ix2 j b) = A.wd j b := by
  rw [← E.wd]
  blk_ext! [iblk1, index1 t]

theorem block_ct : (outsAt1 V c t.val t.isLt).2.2.1 (ix2 a b) = ct A (rowOf t a) b := by
  by_cases h : t.val % 32 = 0
  · rw [outsAt1_A V c t h]
    frame_out
    unfold_payloads
    pointwise [read1_0 t _ _ E]
    rfl
  · rw [outsAt1_B V c t h]
    frame_out
    unfold_payloads
    pointwise [read1_0 t _ _ E]
    rfl

theorem block_dh : (outsAt1 V c t.val t.isLt).1 (ix2 a b) = dh A (rowOf t a) b := by
  by_cases h : t.val % 32 = 0
  · rw [outsAt1_A V c t h]
    frame_out
    unfold_payloads
    pointwise [read1_0 t _ _ E, read1_1 t _ _ E, read1_2 t _ E, read1_3 t _ _ E, read1_4 t _ _ E, read1_5 t _ _ E, read1_6 t _ _ E, read1_7 t _ _ E]
    unfold dh
    simp only [← dxn_halves]
    rfl
  · rw [outsAt1_B V c t h]
    frame_out
    unfold_payloads
    pointwise [read1_0 t _ _ E, read1_1 t _ _ E, read1_2 t _ E, read1_3 t _ _ E, read1_4 t _ _ E, read1_5 t _ _ E, read1_6 t _ _ E, read1_7 t _ _ E]
    unfold dh
    simp only [← dxn_halves]
    rfl

theorem block_act : (outsAt1 V c t.val t.isLt).2.2.2.1 (ix2 a j) = act A (rowOf t a) j := by
  by_cases h : t.val % 32 = 0
  · rw [outsAt1_A V c t h]
    frame_out
    refine canon_halves _ _ (fun i => act A (rowOf t (i 0)) (i 1)) (fun a x => ?_) (fun a x => ?_) (ix2 a j)
    all_goals
      unfold_payloads
      pointwise [read1_3 t _ _ E, read1_4 t _ _ E]
      rfl
  · rw [outsAt1_B V c t h]
    frame_out
    refine canon_halves _ _ (fun i => act A (rowOf t (i 0)) (i 1)) (fun a x => ?_) (fun a x => ?_) (ix2 a j)
    all_goals
      unfold_payloads
      pointwise [read1_3 t _ _ E, read1_4 t _ _ E]
      rfl

theorem block_dgate : (outsAt1 V c t.val t.isLt).2.2.2.2.1 (ix2 a j) = dgate A (rowOf t a) j := by
  by_cases h : t.val % 32 = 0
  · rw [outsAt1_A V c t h]
    frame_out
    refine canon_halves _ _ (fun i => dgate A (rowOf t (i 0)) (i 1)) (fun a x => ?_) (fun a x => ?_) (ix2 a j)
    all_goals
      unfold_payloads
      pointwise [read1_0 t _ _ E, read1_3 t _ _ E, read1_4 t _ _ E, read1_7 t _ _ E]
      rfl
  · rw [outsAt1_B V c t h]
    frame_out
    refine canon_halves _ _ (fun i => dgate A (rowOf t (i 0)) (i 1)) (fun a x => ?_) (fun a x => ?_) (ix2 a j)
    all_goals
      unfold_payloads
      pointwise [read1_0 t _ _ E, read1_3 t _ _ E, read1_4 t _ _ E, read1_7 t _ _ E]
      rfl

theorem block_dup : (outsAt1 V c t.val t.isLt).2.2.2.2.2 (ix2 a j) = dup A (rowOf t a) j := by
  by_cases h : t.val % 32 = 0
  · rw [outsAt1_A V c t h]
    frame_out
    refine canon_halves _ _ (fun i => dup A (rowOf t (i 0)) (i 1)) (fun a x => ?_) (fun a x => ?_) (ix2 a j)
    all_goals
      unfold_payloads
      pointwise [read1_0 t _ _ E, read1_3 t _ _ E, read1_7 t _ _ E]
      rfl
  · rw [outsAt1_B V c t h]
    frame_out
    refine canon_halves _ _ (fun i => dup A (rowOf t (i 0)) (i 1)) (fun a x => ?_) (fun a x => ?_) (ix2 a j)
    all_goals
      unfold_payloads
      pointwise [read1_0 t _ _ E, read1_3 t _ _ E, read1_7 t _ _ E]
      rfl

/-- The last grid point. -/
def last : Fin cfg1.N := ⟨31, by decide⟩

theorem dgain_last : (outsAt1 V c last.val last.isLt).2.1 (ix2 0 b)
    = 0 + ∑ p : Fin cfg1.N, ∑ k : Fin 256, dxn A (rowOf p k) b * A.h (rowOf p k) b * inv (A.h (rowOf p k)) := by
  refine Pipeline.eq_sum_fin_of_reset_step_apply_last (fun n h => (outsAt1 V c n h).2.1) 32 (fun _ => 0)
    (fun p j => ∑ k : Fin 256, dxn A (rowOf p k) (j 1) * A.h (rowOf p k) (j 1) * inv (A.h (rowOf p k))) ?_ ?_ (by decide) last rfl (ix2 0 b)
  all_goals
    intro t h i
    idx_vars i
    rw [Subsingleton.elim i0 0]
  · beta_reduce
    rw [outsAt1_A V c t h]
    frame_out
    unfold_payloads
    pointwise [read1_0 t _ _ E, read1_1 t _ _ E, read1_2 t _ E, read1_3 t _ _ E, read1_4 t _ _ E, read1_5 t _ _ E, read1_6 t _ _ E, read1_7 t _ _ E]
    simp only [← dxn_halves]
    rfl
  · beta_reduce
    rw [outsAt1_B V c t h]
    frame_out
    unfold_payloads
    pointwise [read1_0 t _ _ E, read1_1 t _ _ E, read1_2 t _ E, read1_3 t _ _ E, read1_4 t _ _ E, read1_5 t _ _ E, read1_6 t _ _ E, read1_7 t _ _ E]
    simp only [← dxn_halves]
    rfl

theorem final_dh : (dat1 V c).arrAt 8 cfg1.N = fun i : S8192x1024.Idx => dh A (i 0) (i 1) := by
  refine (dat1 V c).arrAt_eq_of_covers 8 _ (by decide +kernel) fun t hf y => ?_
  blk_simp
  rw [after1_8]
  obtain ⟨a, b, rfl⟩ : ∃ a b, y = ix2 a b := ⟨y 0, y 1, eq_ix2 y⟩
  have e : (win1_8.blk t).view.emb (ix2 a b) = ix2 (rowOf t a) b := by
    unfold rowOf
    blk_ext [index1 t]
  rw [e]
  exact block_dh t a b E

theorem final_ct : (dat1 V c).arrAt 10 cfg1.N = fun i : S8192x1024.Idx => ct A (i 0) (i 1) := by
  refine (dat1 V c).arrAt_eq_of_covers 10 _ (by decide +kernel) fun t hf y => ?_
  blk_simp
  rw [after1_10]
  obtain ⟨a, b, rfl⟩ : ∃ a b, y = ix2 a b := ⟨y 0, y 1, eq_ix2 y⟩
  have e : (win1_10.blk t).view.emb (ix2 a b) = ix2 (rowOf t a) b := by
    unfold rowOf
    blk_ext [index1 t]
  rw [e]
  exact block_ct t a b E

theorem final_act : (dat1 V c).arrAt 11 cfg1.N = fun i : S8192x2816.Idx => act A (i 0) (i 1) := by
  refine (dat1 V c).arrAt_eq_of_covers 11 _ (by decide +kernel) fun t hf y => ?_
  blk_simp
  rw [after1_11]
  obtain ⟨a, j, rfl⟩ : ∃ a j, y = ix2 a j := ⟨y 0, y 1, eq_ix2 y⟩
  have e : (win1_11.blk t).view.emb (ix2 a j) = ix2 (rowOf t a) j := by
    unfold rowOf
    blk_ext [index1 t]
  rw [e]
  exact block_act t a j E

theorem final_dgate : (dat1 V c).arrAt 12 cfg1.N = fun i : S8192x2816.Idx => dgate A (i 0) (i 1) := by
  refine (dat1 V c).arrAt_eq_of_covers 12 _ (by decide +kernel) fun t hf y => ?_
  blk_simp
  rw [after1_12]
  obtain ⟨a, j, rfl⟩ : ∃ a j, y = ix2 a j := ⟨y 0, y 1, eq_ix2 y⟩
  have e : (win1_12.blk t).view.emb (ix2 a j) = ix2 (rowOf t a) j := by
    unfold rowOf
    blk_ext [index1 t]
  rw [e]
  exact block_dgate t a j E

theorem final_dup : (dat1 V c).arrAt 13 cfg1.N = fun i : S8192x2816.Idx => dup A (i 0) (i 1) := by
  refine (dat1 V c).arrAt_eq_of_covers 13 _ (by decide +kernel) fun t hf y => ?_
  blk_simp
  rw [after1_13]
  obtain ⟨a, j, rfl⟩ : ∃ a j, y = ix2 a j := ⟨y 0, y 1, eq_ix2 y⟩
  have e : (win1_13.blk t).view.emb (ix2 a j) = ix2 (rowOf t a) j := by
    unfold rowOf
    blk_ext [index1 t]
  rw [e]
  exact block_dup t a j E

theorem final_dgain : (dat1 V c).arrAt 9 cfg1.N = fun i : S1x1024.Idx => dgain A (i 1) := by
  refine (dat1 V c).arrAt_eq_of_after_last 9 last (by decide +kernel) _ fun i => ?_
  blk_simp
  idx_vars i
  rw [Subsingleton.elim i0 0, after1_9]
  refine (dgain_last i1 E).trans ?_
  rw [zero_add]
  unfold dgain
  refine Fin.sum_mul_add_congr (L := 8192) (S := 32) (n := 256) (fun t k hl => ?_)
  rfl

end Cert.FfnKernelIdeal.Value

end
end
-- ==== Proof.FfnValue.lean ====
module

public import proofs.«01_k».proof.Proof.FfnBackward
public import Idealize.ShloMosaic.Lib.Pipeline.ValueKit
public import Idealize.ShloMosaic.Lib.Pointwise
public import Idealize.ShloMosaic.Lib.StableHlo.RunRead

/-! The feed-forward block's eight results at the end of the whole program, as functions of its arguments. -/

@[expose] public section

set_option maxRecDepth 16384

noncomputable section

namespace Cert.FfnKernelIdeal.Value

open Cert.FfnKernelIdeal Cert.FfnKernelIdeal.Gen Idealize.ShloMosaic Idealize.ShloMosaic.TcCoe Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat)
open Cert.FfnRow

local notation "𝕄" => MT nD τ sig Unit (Elt Ideal) ℕ (UR sig nD τ) ℕ

variable (m : (ℓ : Loc nD τ sig) → Buf (Elt Ideal) ℓ) (ρ : Dev nD → PrngReg) (c : Dev nD)

set_option backward.isDefEq.respectTransparency.types false in
/-- Every run ends with each buffer at the last boundary's contents. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

/-- The arrays that the arguments hold. -/
abbrev argsOf (x0 x1 : S1x8192x1024.Idx → EReal) (x2 : S1x1024.Idx → EReal) (x3 x4 : S1x1024x2816.Idx → EReal) (x5 : S1x2816x1024.Idx → EReal) : Args where
  d a b := x0 (ix3 0 a b)
  h a b := x1 (ix3 0 a b)
  gain b := x2 (ix2 0 b)
  wg b j := x3 (ix3 0 b j)
  wu b j := x4 (ix3 0 b j)
  wd j b := x5 (ix3 0 j b)

abbrev args : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

section Host

variable (W : Valuation τ sig (Elt Ideal))

theorem host_h : StableHlo.after hostOps0 W (Proc.devRef .tc main_v8)
    = shapeCast S8192x1024 (W (Proc.devRef .tc main_arg1)) shapeCasts_S1x8192x1024_S8192x1024 := by
  after_reads_simp
  sl_kernel_rfl
theorem host_wg : StableHlo.after hostOps0 W (Proc.devRef .tc main_v2)
    = truncf (F := Ideal) .bf16 (transpose S2816x1024 [1, 0] (shapeCast S1024x2816 (W (Proc.devRef .tc main_arg3)) shapeCasts_S1x1024x2816_S1024x2816)
        transposes_S1024x2816_S2816x1024_1_0) bitsLt_bf16_f32 := by
  after_reads_simp
  sl_kernel_rfl
theorem host_wu : StableHlo.after hostOps0 W (Proc.devRef .tc main_v5)
    = truncf (F := Ideal) .bf16 (transpose S2816x1024 [1, 0] (shapeCast S1024x2816 (W (Proc.devRef .tc main_arg4)) shapeCasts_S1x1024x2816_S1024x2816)
        transposes_S1024x2816_S2816x1024_1_0) bitsLt_bf16_f32 := by
  after_reads_simp
  sl_kernel_rfl
theorem host_wd : StableHlo.after hostOps0 W (Proc.devRef .tc main_v7)
    = truncf (F := Ideal) .bf16 (shapeCast S2816x1024 (W (Proc.devRef .tc main_arg5)) shapeCasts_S1x2816x1024_S2816x1024) bitsLt_bf16_f32 := by
  after_reads_simp
  sl_kernel_rfl
theorem host_d : StableHlo.after hostOps1 W (Proc.devRef .tc main_v10)
    = shapeCast S8192x1024 (W (Proc.devRef .tc main_arg0)) shapeCasts_S1x8192x1024_S8192x1024 := by
  after_reads_simp
  sl_kernel_rfl
theorem host_h' : StableHlo.after hostOps1 W (Proc.devRef .tc main_v11)
    = shapeCast S8192x1024 (W (Proc.devRef .tc main_arg1)) shapeCasts_S1x8192x1024_S8192x1024 := by
  after_reads_simp
  sl_kernel_rfl

end Host

theorem entered : Entered (V1 m ρ) c (args m c) where
  h a b := by
    refine (congrFun (host_h (W0 m ρ c)) (ix2 a b)).trans ?_
    pointwise
  gain b := congrFun (W1_args m ρ c main_arg2 (by decide)) (ix2 0 b)
  wg j b := by
    refine (congrFun (host_wg (W0 m ρ c)) (ix2 j b)).trans ?_
    pointwise
  wu j b := by
    refine (congrFun (host_wu (W0 m ρ c)) (ix2 j b)).trans ?_
    pointwise
  wd j b := by
    refine (congrFun (host_wd (W0 m ρ c)) (ix2 j b)).trans ?_
    pointwise

/-- A buffer that the second host lines leave and the first pipeline only reads. -/
theorem W3_kept (r : Ref sig .tc) (h1 : r ∉ hostOps1_W) (h : ∀ w : Fin cfg0.W, Pipeline.arrRef spec0 w = r → (cfg0.win w).isOut = false) :
    W3 m ρ c (Proc.devRef .tc r) = W1 m ρ c (Proc.devRef .tc r) := (W3_of m ρ c r h1).trans (W2_of m ρ c r h)

/-- What the forward pipeline leaves isn't changed after it. -/
theorem W3_left (w : Fin cfg0.W) (h1 : Pipeline.arrRef spec0 w ∉ hostOps1_W) :
    W3 m ρ c (Proc.devRef .tc (Pipeline.arrRef spec0 w)) = (dat0 (V1 m ρ) c).arrAt w cfg0.N :=
  (W3_of m ρ c _ h1).trans (W2_arr m ρ c w)

theorem ready : Ready (V3 m ρ) c (args m c) where
  d a b := by
    refine (congrFun (host_d (W2 m ρ c)) (ix2 a b)).trans ?_
    rw [W2_args m ρ c main_arg0 (by decide)]
    pointwise
  h a b := by
    refine (congrFun (host_h' (W2 m ρ c)) (ix2 a b)).trans ?_
    rw [W2_args m ρ c main_arg1 (by decide)]
    pointwise
  gain b := congrFun (W3_args m ρ c main_arg2 (by decide)) (ix2 0 b)
  gate a j := congrFun ((W3_left m ρ c 7 (by decide)).trans (final_gate (entered m ρ c))) (ix2 a j)
  up a j := congrFun ((W3_left m ρ c 8 (by decide)).trans (final_up (entered m ρ c))) (ix2 a j)
  wg j b := (congrFun (W3_kept m ρ c main_v2 (by decide) (by decide +kernel)) (ix2 j b)).trans ((entered m ρ c).wg j b)
  wu j b := (congrFun (W3_kept m ρ c main_v5 (by decide) (by decide +kernel)) (ix2 j b)).trans ((entered m ρ c).wu j b)
  wd j b := (congrFun (W3_kept m ρ c main_v7 (by decide) (by decide +kernel)) (ix2 j b)).trans ((entered m ρ c).wd j b)

theorem end_out : W4 m ρ c (Proc.devRef .tc main_v9_0) = fun i : S8192x1024.Idx => out (args m c) (i 0) (i 1) :=
  (W4_of m ρ c main_v9_0 (by decide +kernel)).trans ((W3_left m ρ c 5 (by decide)).trans (final_out (entered m ρ c)))
theorem end_xn : W4 m ρ c (Proc.devRef .tc main_v9_1) = fun i : S8192x1024.Idx => xn (args m c) (i 0) (i 1) :=
  (W4_of m ρ c main_v9_1 (by decide +kernel)).trans ((W3_left m ρ c 6 (by decide)).trans (final_xn (entered m ρ c)))
theorem end_dh : W4 m ρ c (Proc.devRef .tc main_v12_0) = fun i : S8192x1024.Idx => dh (args m c) (i 0) (i 1) :=
  (W4_arr m ρ c 8).trans (final_dh (ready m ρ c))
theorem end_dgain : W4 m ρ c (Proc.devRef .tc main_v12_1) = fun i : S1x1024.Idx => dgain (args m c) (i 1) :=
  (W4_arr m ρ c 9).trans (final_dgain (ready m ρ c))
theorem end_ct : W4 m ρ c (Proc.devRef .tc main_v12_2) = fun i : S8192x1024.Idx => ct (args m c) (i 0) (i 1) :=
  (W4_arr m ρ c 10).trans (final_ct (ready m ρ c))
theorem end_act : W4 m ρ c (Proc.devRef .tc main_v12_3) = fun i : S8192x2816.Idx => act (args m c) (i 0) (i 1) :=
  (W4_arr m ρ c 11).trans (final_act (ready m ρ c))
theorem end_dgate : W4 m ρ c (Proc.devRef .tc main_v12_4) = fun i : S8192x2816.Idx => dgate (args m c) (i 0) (i 1) :=
  (W4_arr m ρ c 12).trans (final_dgate (ready m ρ c))
theorem end_dup : W4 m ρ c (Proc.devRef .tc main_v12_5) = fun i : S8192x2816.Idx => dup (args m c) (i 0) (i 1) :=
  (W4_arr m ρ c 13).trans (final_dup (ready m ρ c))

end Cert.FfnKernelIdeal.Value

end
end
-- ==== Proof.FfnRefValue.lean ====
module

public import proofs.«01_k».proof.Proof.Gen.FfnReferenceIdeal.Read
public import proofs.«01_k».proof.Proof.FfnRow
public import proofs.«01_k».proof.Proof.LossRefValue

/-! What the reference of the feed-forward block computes, at an index, in the terms of `Cert.FfnRow`. -/

@[expose] public section

set_option maxRecDepth 16384

noncomputable section

namespace Cert.FfnReferenceIdeal.Read

open Cert.FfnReferenceIdeal Cert.FfnReferenceIdeal.Gen Idealize.ShloMosaic Idealize.ShloMosaic.TcCoe Idealize.SL.Sem
open Cert.LossRow Cert.NormRow Cert.FfnRow
open Cert.LossReferenceIdeal.Read (reduceAdd_unit)

variable (x0 x1 : FVec Ideal S1x8192x1024 .f32) (x2 : FVec Ideal S1x1024 .f32) (x3 x4 : FVec Ideal S1x1024x2816 .f32)
  (x5 : FVec Ideal S1x2816x1024 .f32)

/-- The arrays that the arguments hold. -/
abbrev arrays : Args where
  d a b := x0 (ix3 0 a b)
  h a b := x1 (ix3 0 a b)
  gain b := x2 (ix2 0 b)
  wg b j := x3 (ix3 0 b j)
  wu b j := x4 (ix3 0 b j)
  wd j b := x5 (ix3 0 j b)

local notation "𝒜" => arrays x0 x1 x2 x3 x4 x5

variable (a : Fin 8192) (b : Fin 1024) (j : Fin 2816)

theorem v8_apply : val_main_v8 (F := Ideal) x1 (ix3 0 a 0) = inv (Args.h 𝒜 a) := by
  pointwise [val_main_v8, val_main_v7, val_main_v6, val_main_v5, val_main_v4, val_main_v3, val_main_v2, val_main_v1,
    val_main_cst, val_main_cst_0, val_main_cst_1]
  rfl

theorem v16_apply : val_main_v16 (F := Ideal) x1 x2 (ix3 0 a b) = xn 𝒜 a b := by
  pointwise [val_main_v16, val_main_v15, val_main_v14, val_main_v13, val_main_v12, val_main_v0, v8_apply x0 x1 x2 x3 x4 x5]
  rfl

theorem v18_apply : val_main_v18 (F := Ideal) x1 x2 x3 (ix3 0 a j) = gate 𝒜 a j := by
  pointwise [val_main_v18, val_main_v17, v16_apply x0 x1 x2 x3 x4 x5]
  rfl

theorem v20_apply : val_main_v20 (F := Ideal) x1 x2 x4 (ix3 0 a j) = up 𝒜 a j := by
  pointwise [val_main_v20, val_main_v19, v16_apply x0 x1 x2 x3 x4 x5]
  rfl

theorem v21_2_apply : val_main_v21_2 (F := Ideal) x1 x2 x3 (ix3 0 a j) = FfnRow.sig 𝒜 a j := by
  pointwise [val_main_v21_2, val_main_call0_v4, val_main_call0_v3, val_main_call0_v2, val_main_call0_v1, val_main_call0_v0,
    val_main_call0_cst, val_main_call0_cst_0, v18_apply x0 x1 x2 x3 x4 x5]
  rfl

theorem v21_0_apply : val_main_v21_0 (F := Ideal) x1 x2 x3 (ix3 0 a j) = gate 𝒜 a j * FfnRow.sig 𝒜 a j := by
  pointwise [val_main_v21_0, v18_apply x0 x1 x2 x3 x4 x5, v21_2_apply x0 x1 x2 x3 x4 x5]

theorem v22_apply : val_main_v22 (F := Ideal) x1 x2 x3 x4 (ix3 0 a j) = act 𝒜 a j := by
  pointwise [val_main_v22, v21_0_apply x0 x1 x2 x3 x4 x5, v20_apply x0 x1 x2 x3 x4 x5]
  rfl

theorem v31_apply : val_main_v31 (F := Ideal) x0 x5 (ix3 0 a j) = dact 𝒜 a j := by
  pointwise [val_main_v31, val_main_v30, val_main_v29, val_main_v28, val_main_v23, val_main_cst_4]
  rfl

theorem v32_apply : val_main_v32 (F := Ideal) x0 x1 x2 x3 x5 (ix3 0 a j) = dup 𝒜 a j := by
  pointwise [val_main_v32, v21_0_apply x0 x1 x2 x3 x4 x5, v31_apply x0 x1 x2 x3 x4 x5]
  exact mul_comm (_ : EReal) _

variable {x0 x1 x2 x3 x4 x5} in
theorem v34_apply (H : Args.Finite 𝒜) : val_main_v34 (F := Ideal) x0 x1 x2 x3 x4 x5 (ix3 0 a j) = dgate 𝒜 a j := by
  rw [← dgate_eq H]
  pointwise [val_main_v34, val_main_call1_v2, val_main_call1_v1, val_main_call1_v0, val_main_v33, v31_apply x0 x1 x2 x3 x4 x5,
    v20_apply x0 x1 x2 x3 x4 x5, v18_apply x0 x1 x2 x3 x4 x5, v21_2_apply x0 x1 x2 x3 x4 x5, val_main_v21_1, val_main_call0_v7,
    val_main_call0_v6, val_main_call0_cst_1]

variable {x0 x1 x2 x3 x4 x5}
variable (H : (arrays x0 x1 x2 x3 x4 x5).Finite)
include H

theorem v39_apply : val_main_v39 (F := Ideal) x0 x1 x2 x3 x4 x5 (ix3 0 a b) = dxn 𝒜 a b := by
  pointwise [val_main_v39, val_main_v38, val_main_v37, val_main_v36, val_main_v35, val_main_v19, val_main_v17, val_main_cst_5,
    v32_apply x0 x1 x2 x3 x4 x5, v34_apply _ _ H]
  exact add_comm (_ : EReal) _

theorem v44_apply : val_main_v44 (F := Ideal) x0 x1 x2 x3 x4 x5 (ix3 0 a b) = dxn 𝒜 a b * Args.gain 𝒜 b := by
  pointwise [val_main_v44, val_main_v43, val_main_v14, val_main_v0, v39_apply _ _ H]

theorem v54_apply : val_main_v54 (F := Ideal) x0 x1 x2 x3 x4 x5 (ix1 a) = slopeOf (Args.h 𝒜 a) (fun x => dxn 𝒜 a x * Args.gain 𝒜 x) := by
  have e : val_main_v54 (F := Ideal) x0 x1 x2 x3 x4 x5 (ix1 a) = val_main_v53 (F := Ideal) x0 x1 x2 x3 x4 x5 (ix3 0 a 0) := by
    unfold val_main_v54
    generalize val_main_v53 (F := Ideal) x0 x1 x2 x3 x4 x5 = y
    refine (reduceAdd_unit _ y _ (ix3 0 a 0) (by idx_ext) ?_).trans ?_
    · intro i' hi'
      idx_vars i'
      have hq : i'1 = a := Fin.ext (congrArg Fin.val (congrFun hi' 0))
      rw [Subsingleton.elim i'0 0, Subsingleton.elim i'2 0, hq]
    · pointwise [val_main_cst_10]
  rw [e]
  pointwise [val_main_v53, val_main_v52, val_main_v51, val_main_v48, val_main_v47, val_main_v46, v44_apply _ _ H,
    val_main_v11, val_main_v10, val_main_v9, v8_apply x0 x1 x2 x3 x4 x5, val_main_v7, val_main_v6, val_main_v5, val_main_v4,
    val_main_v3, val_main_v2, val_main_v1, val_main_cst, val_main_cst_0, val_main_cst_1, val_main_cst_2, val_main_cst_8, val_main_cst_9]
  rfl

theorem dh_apply : val_main_v69 (F := Ideal) x0 x1 x2 x3 x4 x5 (ix2 a b) = dh 𝒜 a b := by
  unfold dh
  rw [← vjp_eq]
  pointwise [val_main_v69, val_main_v68, val_main_v67, val_main_v60, val_main_v59, val_main_v58, val_main_v57, val_main_v56, val_main_v55,
    v54_apply _ H, val_main_v50, val_main_v49, v44_apply _ _ H, v8_apply x0 x1 x2 x3 x4 x5]
  simp only [add_assoc]

theorem dgain_apply : val_main_v61 (F := Ideal) x0 x1 x2 x3 x4 x5 (ix2 0 b) = dgain 𝒜 b := by
  have e : val_main_v45 (F := Ideal) x0 x1 x2 x3 x4 x5 (ix1 b) = val_main_v42 (F := Ideal) x0 x1 x2 x3 x4 x5 (ix3 0 0 b) := by
    unfold val_main_v45
    generalize val_main_v42 (F := Ideal) x0 x1 x2 x3 x4 x5 = y
    refine (reduceAdd_unit _ y _ (ix3 0 0 b) (by idx_ext) ?_).trans ?_
    · intro i' hi'
      idx_vars i'
      have hq : i'2 = b := Fin.ext (congrArg Fin.val (congrFun hi' 0))
      rw [Subsingleton.elim i'0 0, Subsingleton.elim i'1 0, hq]
    · pointwise [val_main_cst_7]
  pointwise [val_main_v61, e, val_main_v42, val_main_v41, val_main_v40, v39_apply _ _ H, val_main_v13, val_main_v12,
    v8_apply x0 x1 x2 x3 x4 x5, val_main_cst_6, val_main_cst_7]
  refine Finset.sum_congr rfl fun a _ => ?_
  rw [mul_comm, ← mul_assoc]

theorem dgate_apply : val_main_v75 (F := Ideal) x0 x1 x2 x3 x4 x5 (ix2 a j) = dgate 𝒜 a j := by
  pointwise [val_main_v75, val_main_v74, v34_apply _ _ H]

omit H

theorem out_apply : val_main_v64 (F := Ideal) x1 x2 x3 x4 x5 (ix2 a b) = out 𝒜 a b := by
  pointwise [val_main_v64, val_main_v27, val_main_v26, val_main_v25, val_main_v24, val_main_v23, val_main_cst_3, v22_apply x0 x1 x2 x3 x4 x5]
  rfl

theorem xn_apply : val_main_v66 (F := Ideal) x1 x2 (ix2 a b) = xn 𝒜 a b := by
  pointwise [val_main_v66, val_main_v65, v16_apply x0 x1 x2 x3 x4 x5]

theorem ct_apply : val_main_v71 (F := Ideal) x0 (ix2 a b) = ct 𝒜 a b := by
  pointwise [val_main_v71, val_main_v70, val_main_v63, val_main_v62, val_main_cst_11]
  rfl

theorem act_apply : val_main_v73 (F := Ideal) x1 x2 x3 x4 (ix2 a j) = act 𝒜 a j := by
  pointwise [val_main_v73, val_main_v72, v22_apply x0 x1 x2 x3 x4 x5]

theorem dup_apply : val_main_v77 (F := Ideal) x0 x1 x2 x3 x5 (ix2 a j) = dup 𝒜 a j := by
  pointwise [val_main_v77, val_main_v76, v32_apply x0 x1 x2 x3 x4 x5]

end Cert.FfnReferenceIdeal.Read
end
end
-- ==== Proof.FfnPair.lean ====
module

public import proofs.«01_k».proof.Defs
public import proofs.«01_k».proof.Proof.AttPair
public import proofs.«01_k».proof.Proof.FfnValue
public import proofs.«01_k».proof.Proof.FfnRefValue
public import proofs.«01_k».proof.Proof.Gen.FfnKernel.Frame
public import proofs.«01_k».proof.Proof.Gen.FfnKernelIdeal.Frame
public import proofs.«01_k».proof.Proof.Gen.FfnReferenceIdeal.Run

/-! The claims about the feed-forward block, forward and backward: its frames, and that its eight results are the
    reference's where the arguments that the precondition names are finite. -/

@[expose] public section

set_option maxRecDepth 16384

noncomputable section

namespace Cert.FfnPair

open Idealize.ShloMosaic Idealize.SL.Sem Idealize.ShloMosaic.Tactic
open Cert.FfnRow

theorem frame_kernel : Cert.quiescent_FfnKernel := fun m ρ _ => Cert.FfnKernel.Gen.frame m ρ

theorem frame_kernelIdeal : Cert.quiescent_FfnKernelIdeal := fun m ρ _ => Cert.FfnKernelIdeal.Gen.frame m ρ

theorem frame_reference : Cert.quiescent_FfnReferenceIdeal := by
  intro m g _
  exact (θ_run Cert.FfnReferenceIdeal.defs _ _).mono
    (fun r h => ⟨fun c => (h c).2.2.2.2.2.2.2.2, Idealize.ShloMosaic.sem_eq_zero_of_no_sems (by decide) r.2⟩)
    (Cert.FfnReferenceIdeal.Value.run (F := Ideal) m g)

theorem preserves : Cert.preserves_FfnKernel_FfnKernelIdeal := trivial

instance facts_pre : Cert.Pre_ffn_finite.Facts where
  bcast_S_S1x8192x1024 := by decide
  bcast_S_S1x1024 := by decide
  bcast_S_S1x1024x2816 := by decide
  bcast_S_S1x2816x1024 := by decide

theorem frame_kernelIdeal_finite : Cert.quiescent_FfnKernelIdeal_pre_ffn_finite := fun m ρ _ => Cert.FfnKernelIdeal.Gen.frame m ρ

theorem frame_reference_finite : Cert.quiescent_FfnReferenceIdeal_pre_ffn_finite := fun m g _ => frame_reference m g trivial

open Cert.FfnKernelIdeal Cert.FfnKernelIdeal.Gen Cert.FfnKernelIdeal.Value

theorem finite_of_pre {x0 x1 : S1x8192x1024.Idx → EReal} {x2 : S1x1024.Idx → EReal} {x3 x4 : S1x1024x2816.Idx → EReal}
    {x5 : S1x2816x1024.Idx → EReal} (h : (Cert.Pre_ffn_finite.fn (F := Ideal) x0 x1 x2 x3 x4 x5).1 = (fun _ => 1#1)
      ∧ (Cert.Pre_ffn_finite.fn (F := Ideal) x0 x1 x2 x3 x4 x5).2.1 = (fun _ => 1#1)
      ∧ (Cert.Pre_ffn_finite.fn (F := Ideal) x0 x1 x2 x3 x4 x5).2.2.1 = (fun _ => 1#1)
      ∧ (Cert.Pre_ffn_finite.fn (F := Ideal) x0 x1 x2 x3 x4 x5).2.2.2 = (fun _ => 1#1)) :
    (argsOf x0 x1 x2 x3 x4 x5).Finite where
  d a b := Cert.AttPair.real_of_lt (congrFun h.1 (ix3 0 a b))
  gain b := Cert.AttPair.real_of_lt (congrFun h.2.1 (ix2 0 b))
  wu b j := Cert.AttPair.real_of_lt (congrFun h.2.2.1 (ix3 0 b j))
  wd j b := Cert.AttPair.real_of_lt (congrFun h.2.2.2 (ix3 0 j b))

theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
        r.2.mem ((c.tc : Thread nD τ).loc main_v9_0) = (fun i : S8192x1024.Idx => out (args m c) (i 0) (i 1))
        ∧ r.2.mem ((c.tc : Thread nD τ).loc main_v9_1) = (fun i : S8192x1024.Idx => xn (args m c) (i 0) (i 1))
        ∧ r.2.mem ((c.tc : Thread nD τ).loc main_v12_0) = (fun i : S8192x1024.Idx => dh (args m c) (i 0) (i 1))
        ∧ r.2.mem ((c.tc : Thread nD τ).loc main_v12_1) = (fun i : S1x1024.Idx => dgain (args m c) (i 1))
        ∧ r.2.mem ((c.tc : Thread nD τ).loc main_v12_2) = (fun i : S8192x1024.Idx => ct (args m c) (i 0) (i 1))
        ∧ r.2.mem ((c.tc : Thread nD τ).loc main_v12_3) = (fun i : S8192x2816.Idx => act (args m c) (i 0) (i 1))
        ∧ r.2.mem ((c.tc : Thread nD τ).loc main_v12_4) = (fun i : S8192x2816.Idx => dgate (args m c) (i 0) (i 1))
        ∧ r.2.mem ((c.tc : Thread nD τ).loc main_v12_5) = (fun i : S8192x2816.Idx => dup (args m c) (i 0) (i 1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  (θ_run defs _ _).mono (fun _ h c =>
    ⟨(h c _ (mem_uc main_v9_0 (by decide))).trans (end_out m ρ c),
     (h c _ (mem_uc main_v9_1 (by decide))).trans (end_xn m ρ c),
     (h c _ (mem_uc main_v12_0 (by decide))).trans (end_dh m ρ c),
     (h c _ (mem_uc main_v12_1 (by decide))).trans (end_dgain m ρ c),
     (h c _ (mem_uc main_v12_2 (by decide))).trans (end_ct m ρ c),
     (h c _ (mem_uc main_v12_3 (by decide))).trans (end_act m ρ c),
     (h c _ (mem_uc main_v12_4 (by decide))).trans (end_dgate m ρ c),
     (h c _ (mem_uc main_v12_5 (by decide))).trans (end_dup m ρ c),
     (h c _ (mem_uc main_arg0 (by decide))).trans (W4_args m ρ c _ (by decide)),
     (h c _ (mem_uc main_arg1 (by decide))).trans (W4_args m ρ c _ (by decide)),
     (h c _ (mem_uc main_arg2 (by decide))).trans (W4_args m ρ c _ (by decide)),
     (h c _ (mem_uc main_arg3 (by decide))).trans (W4_args m ρ c _ (by decide)),
     (h c _ (mem_uc main_arg4 (by decide))).trans (W4_args m ρ c _ (by decide)),
     (h c _ (mem_uc main_arg5 (by decide))).trans (W4_args m ρ c _ (by decide))⟩)
    (run_all m ρ)

open Cert.FfnReferenceIdeal.Read in
theorem algebraic : Cert.algebraic_FfnKernelIdeal_FfnReferenceIdeal_pre_ffn_finite := by
  intro m g m' g' hpre hagree
  have H (c : Dev nD) := finite_of_pre (hpre c)
  refine ⟨_, _, _, _, _, _, _, _, run_kernel m g, ?_⟩
  refine (θ_run Cert.FfnReferenceIdeal.defs _ _).mono (fun r h c => ?_) (Cert.FfnReferenceIdeal.Value.run (F := Ideal) m' g')
  obtain ⟨h0, h1, h2, h3, h4, h5, h6, h7, ha⟩ := h c
  obtain ⟨e0, e1, e2, e3, e4, e5⟩ := hagree c
  refine ⟨h0.trans ?_, h1.trans ?_, h2.trans ?_, h3.trans ?_, h4.trans ?_, h5.trans ?_, h6.trans ?_, h7.trans ?_, ha⟩
  · rw [val_main_v64_eq, e1, e2, e3, e4, e5]
    exact funext fun i => (congrArg _ (eq_ix2 i)).trans (out_apply (x0 := m ((c.tc : Thread nD τ).loc main_arg0)) (i 0) (i 1))
  · rw [val_main_v66_eq, e1, e2]
    exact funext fun i => (congrArg _ (eq_ix2 i)).trans (xn_apply (x0 := m ((c.tc : Thread nD τ).loc main_arg0)) (x3 := m ((c.tc : Thread nD τ).loc main_arg3)) (x4 := m ((c.tc : Thread nD τ).loc main_arg4)) (x5 := m ((c.tc : Thread nD τ).loc main_arg5)) (i 0) (i 1))
  · rw [val_main_v69_eq, e0, e1, e2, e3, e4, e5]
    exact funext fun i => (congrArg _ (eq_ix2 i)).trans (dh_apply (i 0) (i 1) (H c))
  · rw [val_main_v61_eq, e0, e1, e2, e3, e4, e5]
    refine funext fun i => ?_
    idx_vars i
    rw [Subsingleton.elim i0 0]
    exact dgain_apply i1 (H c)
  · rw [val_main_v71_eq, e0]
    exact funext fun i => (congrArg _ (eq_ix2 i)).trans (ct_apply (x1 := m ((c.tc : Thread nD τ).loc main_arg1)) (x2 := m ((c.tc : Thread nD τ).loc main_arg2)) (x3 := m ((c.tc : Thread nD τ).loc main_arg3)) (x4 := m ((c.tc : Thread nD τ).loc main_arg4)) (x5 := m ((c.tc : Thread nD τ).loc main_arg5)) (i 0) (i 1))
  · rw [val_main_v73_eq, e1, e2, e3, e4]
    exact funext fun i => (congrArg _ (eq_ix2 i)).trans (act_apply (x0 := m ((c.tc : Thread nD τ).loc main_arg0)) (x5 := m ((c.tc : Thread nD τ).loc main_arg5)) (i 0) (i 1))
  · rw [val_main_v75_eq, e0, e1, e2, e3, e4, e5]
    exact funext fun i => (congrArg _ (eq_ix2 i)).trans (dgate_apply (i 0) (i 1) (H c))
  · rw [val_main_v77_eq, e0, e1, e2, e3, e5]
    exact funext fun i => (congrArg _ (eq_ix2 i)).trans (dup_apply (x4 := m ((c.tc : Thread nD τ).loc main_arg4)) (i 0) (i 1))

end Cert.FfnPair

end
end
-- ==== Proof.MergeRow.lean ====
module

public import proofs.«01_k».proof.Proof.FfnRow

/-!
The end of the mixer and its gradient on the extended reals: the state-space branch through a gaussian error linear unit (its
`tanh` form) and a gated linear unit, the two branches' projections, their gated sum.  The one line that two ways of
differentiating could tell apart is the unit’s slope: `bend_eq`.
-/

@[expose] public section

noncomputable section

namespace Cert.MergeRow

open Idealize.ShloMosaic Cert.Extended Cert.LossRow Cert.FfnRow

/-- The arguments: the gradient of the result, the two branches, the two gates and the branch's input, the weights. -/
structure Args where
  d : Fin 8192 → Fin 1024 → EReal
  yp : Fin 8192 → Fin 512 → EReal
  zs : Fin 8192 → Fin 512 → EReal
  gs : Fin 8192 → Fin 1024 → EReal
  ga : Fin 8192 → Fin 1024 → EReal
  ya : Fin 8192 → Fin 512 → EReal
  skip : Fin 512 → EReal
  wg : Fin 512 → Fin 512 → EReal
  bg : Fin 512 → EReal
  ws : Fin 512 → Fin 1024 → EReal
  wa : Fin 512 → Fin 1024 → EReal
  wo : Fin 1024 → Fin 1024 → EReal

/-- The arguments that the bend is multiplied with are reals. -/
structure Args.Finite (A : Args) : Prop where
  d : ∀ a b, ∃ r : ℝ, A.d a b = r
  yp : ∀ a j, ∃ r : ℝ, A.yp a j = r
  zs : ∀ a j, ∃ r : ℝ, A.zs a j = r
  skip : ∀ j, ∃ r : ℝ, A.skip j = r
  wg : ∀ j k, ∃ r : ℝ, A.wg j k = r
  ws : ∀ j b, ∃ r : ℝ, A.ws j b = r
  wo : ∀ b k, ∃ r : ℝ, A.wo b k = r

/-- The factor inside the `tanh`, and the cubic term's coefficient. -/
def scale : EReal := Ideal.ofBits .f32 0x3F4C422A#32
def cube : EReal := ((8943 / 200000 : ℝ) : EReal)
def cube3 : EReal := ((26829 / 200000 : ℝ) : EReal)

def th (x : EReal) : EReal := Ideal.tanh (scale * (x + cube * x * x * x))
/-- The bend of the unit. -/
def bend (x : EReal) : EReal := half * (1 + th x) + half * x * (1 - th x * th x) * scale * (1 + cube3 * x * x)

variable (A : Args)

def ys (a : Fin 8192) (j : Fin 512) : EReal := A.yp a j + A.skip j * A.zs a j
def yg (a : Fin 8192) (j : Fin 512) : EReal := half * ys A a j * (1 + th (ys A a j))
def sg (a : Fin 8192) (j : Fin 512) : EReal := Ideal.logistic (∑ k, yg A a k * A.wg k j + A.bg j)
def y2 (a : Fin 8192) (j : Fin 512) : EReal := yg A a j * sg A a j
def bs (a : Fin 8192) (b : Fin 1024) : EReal := ∑ j, y2 A a j * A.ws j b
def ba (a : Fin 8192) (b : Fin 1024) : EReal := ∑ j, A.ya a j * A.wa j b
def s1 (a : Fin 8192) (b : Fin 1024) : EReal := Ideal.logistic (A.gs a b)
def s2 (a : Fin 8192) (b : Fin 1024) : EReal := Ideal.logistic (A.ga a b)
def merged (a : Fin 8192) (b : Fin 1024) : EReal := s1 A a b * bs A a b + s2 A a b * ba A a b
def dm (a : Fin 8192) (b : Fin 1024) : EReal := ∑ k, A.d a k * A.wo b k
def dbs (a : Fin 8192) (b : Fin 1024) : EReal := dm A a b * s1 A a b
def dba (a : Fin 8192) (b : Fin 1024) : EReal := dm A a b * s2 A a b
def dgs (a : Fin 8192) (b : Fin 1024) : EReal := dm A a b * bs A a b * s1 A a b * (1 - s1 A a b)
def dga (a : Fin 8192) (b : Fin 1024) : EReal := dm A a b * ba A a b * s2 A a b * (1 - s2 A a b)
def dya (a : Fin 8192) (j : Fin 512) : EReal := ∑ b, dba A a b * A.wa j b
def dy2 (a : Fin 8192) (j : Fin 512) : EReal := ∑ b, dbs A a b * A.ws j b
def dv (a : Fin 8192) (j : Fin 512) : EReal := dy2 A a j * yg A a j * sg A a j * (1 - sg A a j)
def dyg (a : Fin 8192) (j : Fin 512) : EReal := dy2 A a j * sg A a j + ∑ k, dv A a k * A.wg j k
def dys (a : Fin 8192) (j : Fin 512) : EReal := dyg A a j * bend (ys A a j)
def dzs (a : Fin 8192) (j : Fin 512) : EReal := dys A a j * A.skip j
def dskip (j : Fin 512) : EReal := ∑ a, dys A a j * A.zs a j
def dwg (j k : Fin 512) : EReal := ∑ a, yg A a j * dv A a k
def dbg (j : Fin 512) : EReal := ∑ a, dv A a j
def dws (j : Fin 512) (b : Fin 1024) : EReal := ∑ a, y2 A a j * dbs A a b
def dwa (j : Fin 512) (b : Fin 1024) : EReal := ∑ a, A.ya a j * dba A a b
def dwo (b k : Fin 1024) : EReal := ∑ a, merged A a b * A.d a k

/-! ## The reals among them -/

theorem real_add {x y : EReal} (hx : ∃ r : ℝ, x = r) (hy : ∃ r : ℝ, y = r) : ∃ r : ℝ, x + y = r := by
  obtain ⟨r, rfl⟩ := hx
  obtain ⟨s, rfl⟩ := hy
  exact ⟨r + s, by rw [EReal.coe_add]⟩

theorem scale_eq : scale = ((13386282 / 16777216 : ℝ) : EReal) := by simp [scale, Ideal.ofBits, Ideal.ieee, -EReal.coe_mul]; norm_num

theorem scale_real : ∃ r : ℝ, scale = r := ⟨_, scale_eq⟩

theorem three_eq : Ideal.ofBits .f32 0x40400000#32 = ((3 : ℝ) : EReal) := by simp [Ideal.ofBits, Ideal.ieee, -EReal.coe_mul]; norm_num

/-- The quotient of two integers that the format holds is the cubic term's coefficient. -/
theorem cube_eq : Ideal.div (Ideal.ofBits .f32 0x472EAB00#32) (Ideal.ofBits .f32 0x49742400#32) = cube := by
  have e1 : Ideal.ofBits .f32 0x472EAB00#32 = ((44715 : ℝ) : EReal) := by simp [Ideal.ofBits, Ideal.ieee, -EReal.coe_mul]; norm_num
  have e2 : Ideal.ofBits .f32 0x49742400#32 = ((1000000 : ℝ) : EReal) := by simp [Ideal.ofBits, Ideal.ieee, -EReal.coe_mul]; norm_num
  rw [e1, e2, div_coe _ (by norm_num), ← EReal.coe_mul]
  unfold cube
  congr 1
  norm_num

theorem logistic_real (x : EReal) : ∃ s : ℝ, Ideal.logistic x = s := by
  induction x using EReal.rec with
  | bot => exact ⟨0, by rw [logistic_bot, EReal.coe_zero]⟩
  | top => exact ⟨1, by rw [logistic_top, EReal.coe_one]⟩
  | coe x =>
    refine ⟨(1 + Real.exp (-x))⁻¹, ?_⟩
    have hp : (1 : ℝ) + Real.exp (-x) ≠ 0 := by positivity
    have e : Ideal.exp (-(x : EReal)) = ((Real.exp (-x) : ℝ) : EReal) := rfl
    unfold Ideal.logistic
    rw [e, ← EReal.coe_one, ← EReal.coe_add, div_coe _ hp, ← EReal.coe_mul, one_mul]

theorem one_sub_real {x : EReal} (hx : ∃ r : ℝ, x = r) : ∃ r : ℝ, 1 - x = r := by
  obtain ⟨r, rfl⟩ := hx
  exact ⟨1 - r, by rw [EReal.coe_sub, EReal.coe_one]⟩

theorem th_real {x : EReal} (hx : ∃ r : ℝ, x = r) : ∃ r : ℝ, th x = r := by
  obtain ⟨y, hy⟩ : ∃ r : ℝ, scale * (x + cube * x * x * x) = r :=
    real_mul scale_real (real_add hx (real_mul (real_mul (real_mul ⟨_, rfl⟩ hx) hx) hx))
  exact ⟨Real.tanh y, by unfold th; rw [hy]; rfl⟩

variable {A}
variable (H : A.Finite) (a : Fin 8192) (j : Fin 512)
include H

theorem ys_real : ∃ r : ℝ, ys A a j = r := real_add (H.yp a j) (real_mul (H.skip j) (H.zs a j))

theorem yg_real : ∃ r : ℝ, yg A a j = r :=
  real_mul (real_mul ⟨_, half_eq⟩ (ys_real H a j)) (real_add ⟨1, EReal.coe_one.symm⟩ (th_real (ys_real H a j)))

theorem dm_real (b : Fin 1024) : ∃ r : ℝ, dm A a b = r := real_sum _ _ fun k => real_mul (H.d a k) (H.wo b k)

theorem dy2_real : ∃ r : ℝ, dy2 A a j = r :=
  real_sum _ _ fun b => real_mul (real_mul (dm_real H a b) (logistic_real _)) (H.ws j b)

theorem dv_real : ∃ r : ℝ, dv A a j = r :=
  real_mul (real_mul (real_mul (dy2_real H a j) (yg_real H a j)) (logistic_real _)) (one_sub_real (logistic_real _))

theorem dyg_real : ∃ r : ℝ, dyg A a j = r :=
  real_add (real_mul (dy2_real H a j) (logistic_real _)) (real_sum _ _ fun k => real_mul (dv_real H a k) (H.wg j k))

omit H

/-- The chain rule's sum through the unit is the gradient times its bend, at reals. -/
theorem bend_eq {g x : EReal} (hg : ∃ r : ℝ, g = r) (hx : ∃ r : ℝ, x = r) :
    g * (half * (1 + th x)) + scale * (half * (x * g) * ((1 + th x) * (1 - th x)))
      + cube * (scale * (half * (x * g) * ((1 + th x) * (1 - th x)))) * (((3 : ℝ) : EReal) * (x * x)) = g * bend x := by
  obtain ⟨t, ht⟩ := th_real hx
  obtain ⟨k, hk⟩ := scale_real
  obtain ⟨g, rfl⟩ := hg
  obtain ⟨x, rfl⟩ := hx
  unfold bend cube cube3
  rw [ht, hk, half_eq, ← EReal.coe_one]
  simp only [← EReal.coe_mul, ← EReal.coe_add, ← EReal.coe_sub]
  congr 1
  ring

theorem dys_eq (H : A.Finite) :
    dyg A a j * (half * (1 + th (ys A a j))) + scale * (half * (ys A a j * dyg A a j) * ((1 + th (ys A a j)) * (1 - th (ys A a j))))
      + cube * (scale * (half * (ys A a j * dyg A a j) * ((1 + th (ys A a j)) * (1 - th (ys A a j)))))
        * (((3 : ℝ) : EReal) * (ys A a j * ys A a j)) = dys A a j :=
  bend_eq (dyg_real H a j) (ys_real H a j)

end Cert.MergeRow

end
end
-- ==== Proof.MergeBlock.lean ====
module

public import proofs.«01_k».proof.Proof.Gen.MergeKernelIdeal.Skeleton
public import proofs.«01_k».proof.Proof.MergeRow
public import Idealize.ShloMosaic.Lib.Pipeline.ValueKit
public import Idealize.ShloMosaic.Lib.Pointwise

/-!
What the gradient of the mixer's end computes from one block of rows, value by value: `r` maps a row of the block to its row
in the arrays, and each theorem reads one value of the body at an index from the values before it.
-/

@[expose] public section

set_option maxRecDepth 16384

noncomputable section

namespace Cert.MergeKernelIdeal.Block

open Cert.MergeKernelIdeal Cert.MergeKernelIdeal.Gen Idealize.ShloMosaic Idealize.ShloMosaic.TcCoe Idealize.SL.Sem
open Cert.LossRow Cert.MergeRow

/-- A block's entries are the function's, at the rows that `r` names. -/
abbrev Narrow (r : Fin 256 → Fin 8192) (v : S256x512.Idx → EReal) (f : Fin 8192 → Fin 512 → EReal) : Prop :=
  ∀ a j, v (ix2 a j) = f (r a) j
abbrev Wide (r : Fin 256 → Fin 8192) (v : S256x1024.Idx → EReal) (f : Fin 8192 → Fin 1024 → EReal) : Prop :=
  ∀ a b, v (ix2 a b) = f (r a) b

theorem named_cube : Named.named (F := Ideal) κ "gelu_c" (φ := .f32) 0x3D372713#32 = cube :=
  IdealRules.named_const.ideal_named_scalar _ _ _ _ rfl

theorem named_cube3 : Named.named (F := Ideal) κ "gelu_3c" (φ := .f32) 0x3E095D4F#32 = cube3 :=
  IdealRules.named_const.ideal_named_scalar _ _ _ _ rfl

variable {A : Args} {r : Fin 256 → Fin 8192}
variable {v3 v6 v8 v26 v28 v33 v39 v44 v45 v102 v107 v113 v137 v145 : S256x512.Idx → EReal}
variable {v10 v12 v22 v23 v48 v50 v54 v59 v67 v69 : S256x1024.Idx → EReal}
variable {v14 v17 : S1x512.Idx → EReal} {v16 : S512x512.Idx → EReal} {v19 v21 : S512x1024.Idx → EReal} {v57 : S1024x1024.Idx → EReal}

theorem is_ys (h3 : Narrow r v3 A.zs) (h8 : Narrow r v8 A.yp) (h14 : ∀ j, v14 (ix2 0 j) = A.skip j) :
    Narrow r (k0_pay18 (F := Ideal) v3 v8 v14) (ys A) := by
  intro a j
  unfold k0_pay18 k0_pay11
  pointwise [h3, h8, h14]
  rfl

theorem is_half (h3 : Narrow r v3 A.zs) (h8 : Narrow r v8 A.yp) (h14 : ∀ j, v14 (ix2 0 j) = A.skip j) :
    Narrow r (k0_pay19 (F := Ideal) v3 v8 v14) (fun a j => half * ys A a j) := by
  intro a j
  unfold k0_pay19
  pointwise [is_ys h3 h8 h14]

theorem is_inner (h3 : Narrow r v3 A.zs) (h8 : Narrow r v8 A.yp) (h14 : ∀ j, v14 (ix2 0 j) = A.skip j) :
    Narrow r (k0_pay20 (F := Ideal) v3 v8 v14) (fun a j => ys A a j + cube * ys A a j * ys A a j * ys A a j) := by
  intro a j
  unfold k0_pay20
  pointwise [is_ys h3 h8 h14, named_cube]

theorem is_yg (h28 : Narrow r v28 fun a j => half * ys A a j) (h33 : Narrow r v33 fun a j => ys A a j + cube * ys A a j * ys A a j * ys A a j) :
    Narrow r (k0_pay21 (F := Ideal) v28 v33) (yg A) := by
  intro a j
  unfold k0_pay21
  pointwise [h28, h33]
  rfl

theorem is_sg (h16 : ∀ k j, v16 (ix2 k j) = A.wg k j) (h17 : ∀ j, v17 (ix2 0 j) = A.bg j)
    (h28 : Narrow r v28 fun a j => half * ys A a j) (h33 : Narrow r v33 fun a j => ys A a j + cube * ys A a j * ys A a j * ys A a j) :
    Narrow r (k0_pay22 (F := Ideal) v16 v17 v28 v33) (sg A) := by
  intro a j
  unfold k0_pay22
  pointwise [is_yg h28 h33, h16, h17]
  rfl

theorem is_y2 (h16 : ∀ k j, v16 (ix2 k j) = A.wg k j) (h17 : ∀ j, v17 (ix2 0 j) = A.bg j)
    (h28 : Narrow r v28 fun a j => half * ys A a j) (h33 : Narrow r v33 fun a j => ys A a j + cube * ys A a j * ys A a j * ys A a j) :
    Narrow r (k0_pay23 (F := Ideal) v16 v17 v28 v33) (y2 A) := by
  intro a j
  unfold k0_pay23
  pointwise [is_yg h28 h33, is_sg h16 h17 h28 h33]
  rfl

theorem is_bs (h16 : ∀ k j, v16 (ix2 k j) = A.wg k j) (h17 : ∀ j, v17 (ix2 0 j) = A.bg j) (h19 : ∀ j b, v19 (ix2 j b) = A.ws j b)
    (h28 : Narrow r v28 fun a j => half * ys A a j) (h33 : Narrow r v33 fun a j => ys A a j + cube * ys A a j * ys A a j * ys A a j) :
    Wide r (k0_pay24 (F := Ideal) v16 v17 v19 v28 v33) (bs A) := by
  intro a b
  unfold k0_pay24
  pointwise [is_y2 h16 h17 h28 h33, h19]
  rfl

theorem is_ba (h7 : Narrow r v6 A.ya) (h21 : ∀ j b, v21 (ix2 j b) = A.wa j b) : Wide r (k0_pay25 (F := Ideal) v6 v21) (ba A) := by
  intro a b
  unfold k0_pay25
  pointwise [h7, h21]
  rfl

theorem is_s1 (h22 : Wide r v22 A.gs) : Wide r (k0_pay26 (F := Ideal) v22) (s1 A) := by
  intro a b
  unfold k0_pay26
  pointwise [h22]
  rfl

theorem is_s2 (h23 : Wide r v23 A.ga) : Wide r (k0_pay27 (F := Ideal) v23) (s2 A) := by
  intro a b
  unfold k0_pay27
  pointwise [h23]
  rfl

theorem is_dm (h54 : Wide r v54 A.d) (h57 : ∀ b k, v57 (ix2 b k) = A.wo b k) : Wide r (k0_pay29 (F := Ideal) v54 v57) (dm A) := by
  intro a b
  unfold k0_pay29 k0_pay28
  pointwise [h54, h57]
  rfl

theorem is_dbs (h22 : Wide r v22 A.gs) (h54 : Wide r v54 A.d) (h57 : ∀ b k, v57 (ix2 b k) = A.wo b k) :
    Wide r (k0_pay31 (F := Ideal) v22 v54 v57) (dbs A) := by
  intro a b
  unfold k0_pay31
  pointwise [is_dm h54 h57, is_s1 h22]
  rfl

theorem is_dba (h23 : Wide r v23 A.ga) (h54 : Wide r v54 A.d) (h57 : ∀ b k, v57 (ix2 b k) = A.wo b k) :
    Wide r (k0_pay32 (F := Ideal) v23 v54 v57) (dba A) := by
  intro a b
  unfold k0_pay32
  pointwise [is_dm h54 h57, is_s2 h23]
  rfl

theorem is_dgs (h16 : ∀ k j, v16 (ix2 k j) = A.wg k j) (h17 : ∀ j, v17 (ix2 0 j) = A.bg j) (h19 : ∀ j b, v19 (ix2 j b) = A.ws j b)
    (h22 : Wide r v22 A.gs)
    (h28 : Narrow r v28 fun a j => half * ys A a j) (h33 : Narrow r v33 fun a j => ys A a j + cube * ys A a j * ys A a j * ys A a j)
    (h54 : Wide r v54 A.d) (h57 : ∀ b k, v57 (ix2 b k) = A.wo b k) :
    Wide r (k0_pay33 (F := Ideal) v16 v17 v19 v22 v28 v33 v54 v57) (dgs A) := by
  intro a b
  unfold k0_pay33
  pointwise [is_dm h54 h57, is_bs h16 h17 h19 h28 h33, is_s1 h22]
  rfl

theorem is_dga (h48 : Wide r v48 (ba A)) (h50 : Wide r v50 (s2 A)) (h59 : Wide r v59 (dm A)) :
    Wide r (k0_pay34 (F := Ideal) v48 v50 v59) (dga A) := by
  intro a b
  unfold k0_pay34
  pointwise [h48, h50, h59]
  rfl

theorem is_dya (h69 : Wide r v69 (dba A)) (h95 : ∀ j b, v21 (ix2 j b) = A.wa j b) : Narrow r (k0_pay37 (F := Ideal) v69 v21) (dya A) := by
  intro a j
  unfold k0_pay37
  pointwise [h69, h95]
  rfl

theorem is_dy2 (h67 : Wide r v67 (dbs A)) (h19 : ∀ j b, v19 (ix2 j b) = A.ws j b) : Narrow r (k0_pay38 (F := Ideal) v67 v19) (dy2 A) := by
  intro a j
  unfold k0_pay38
  pointwise [h67, h19]
  rfl

theorem is_dv (h39 : Narrow r v39 (yg A)) (h44 : Narrow r v44 (sg A)) (h67 : Wide r v67 (dbs A)) (h19 : ∀ j b, v19 (ix2 j b) = A.ws j b) :
    Narrow r (k0_pay39 (F := Ideal) v39 v44 v67 v19) (dv A) := by
  intro a j
  unfold k0_pay39
  pointwise [is_dy2 h67 h19, h39, h44]
  rfl

theorem is_dyg (h44 : Narrow r v44 (sg A)) (h102 : Narrow r v102 (dy2 A)) (h107 : Narrow r v107 (dv A)) (h16 : ∀ k j, v16 (ix2 k j) = A.wg k j) :
    Narrow r (k0_pay41 (F := Ideal) v44 v102 v107 v16) (dyg A) := by
  intro a j
  unfold k0_pay41 k0_pay40
  pointwise [h44, h102, h107, h16]
  rfl

theorem is_th (h26 : Narrow r v26 (ys A)) : Narrow r (k0_pay44 (F := Ideal) v26) (fun a j => th (ys A a j)) := by
  intro a j
  unfold k0_pay44
  pointwise [h26, named_cube]
  rfl

theorem is_left (h26 : Narrow r v26 (ys A)) : Narrow r (k0_pay45 (F := Ideal) v26) (fun a j => half * (1 + th (ys A a j))) := by
  intro a j
  unfold k0_pay45
  pointwise [is_th h26]

theorem is_right (h26 : Narrow r v26 (ys A)) :
    Narrow r (k0_pay46 (F := Ideal) v26) (fun a j => half * ys A a j * (1 - th (ys A a j) * th (ys A a j)) * scale) := by
  intro a j
  unfold k0_pay46
  pointwise [is_th h26, h26]
  rfl

theorem is_dys (h26 : Narrow r v26 (ys A)) (h113 : Narrow r v113 (dyg A)) (h137 : Narrow r v137 fun a j => half * (1 + th (ys A a j)))
    (h145 : Narrow r v145 fun a j => half * ys A a j * (1 - th (ys A a j) * th (ys A a j)) * scale) :
    Narrow r (k0_pay1 (F := Ideal) v26 v113 v137 v145) (dys A) := by
  intro a j
  unfold k0_pay1
  pointwise [h26, h113, h137, h145, named_cube3]
  rfl

theorem is_dzs (h26 : Narrow r v26 (ys A)) (h113 : Narrow r v113 (dyg A)) (h137 : Narrow r v137 fun a j => half * (1 + th (ys A a j)))
    (h145 : Narrow r v145 fun a j => half * ys A a j * (1 - th (ys A a j) * th (ys A a j)) * scale) (h14 : ∀ j, v14 (ix2 0 j) = A.skip j) :
    Narrow r (k0_pay3 (F := Ideal) v26 v113 v137 v145 v14) (dzs A) := by
  intro a j
  unfold k0_pay3
  pointwise [is_dys h26 h113 h137 h145, h14]
  rfl

theorem is_dypre (h26 : Narrow r v26 (ys A)) (h113 : Narrow r v113 (dyg A)) (h137 : Narrow r v137 fun a j => half * (1 + th (ys A a j)))
    (h145 : Narrow r v145 fun a j => half * ys A a j * (1 - th (ys A a j) * th (ys A a j)) * scale) :
    Narrow r (k0_pay4 (F := Ideal) v26 v113 v137 v145) (dys A) := by
  intro a j
  unfold k0_pay4
  pointwise [is_dys h26 h113 h137 h145]

/-! ## The six sums over the block's rows -/

theorem add_dskip {acc : S1x512.Idx → EReal} (h5 : Narrow r v3 A.zs) (h26 : Narrow r v26 (ys A)) (h113 : Narrow r v113 (dyg A))
    (h137 : Narrow r v137 fun a j => half * (1 + th (ys A a j)))
    (h145 : Narrow r v145 fun a j => half * ys A a j * (1 - th (ys A a j) * th (ys A a j)) * scale) (j : Fin 512) :
    k0_pay2 (F := Ideal) v3 v26 v113 v137 v145 acc (ix2 0 j) = acc (ix2 0 j) + ∑ a, dys A (r a) j * A.zs (r a) j := by
  unfold k0_pay2
  pointwise [is_dys h26 h113 h137 h145, h5]

theorem add_dwg {acc : S512x512.Idx → EReal} (h39 : Narrow r v39 (yg A)) (h107 : Narrow r v107 (dv A)) (j k : Fin 512) :
    k0_pay42 (F := Ideal) v39 v107 acc (ix2 j k) = acc (ix2 j k) + ∑ a, yg A (r a) j * dv A (r a) k := by
  unfold k0_pay42 k0_pay40
  pointwise [h39, h107]

theorem add_dbg {acc : S1x512.Idx → EReal} (h107 : Narrow r v107 (dv A)) (j : Fin 512) :
    k0_pay43 (F := Ideal) v107 acc (ix2 0 j) = acc (ix2 0 j) + ∑ a, dv A (r a) j := by
  unfold k0_pay43
  pointwise [h107]

theorem add_dws {acc : S512x1024.Idx → EReal} (h45 : Narrow r v45 (y2 A)) (h67 : Wide r v67 (dbs A)) (j : Fin 512) (b : Fin 1024) :
    k0_pay35 (F := Ideal) v45 v67 acc (ix2 j b) = acc (ix2 j b) + ∑ a, y2 A (r a) j * dbs A (r a) b := by
  unfold k0_pay35
  pointwise [h45, h67]

theorem add_dwa {acc : S512x1024.Idx → EReal} (h7 : Narrow r v6 A.ya) (h69 : Wide r v69 (dba A)) (j : Fin 512) (b : Fin 1024) :
    k0_pay36 (F := Ideal) v6 v69 acc (ix2 j b) = acc (ix2 j b) + ∑ a, A.ya (r a) j * dba A (r a) b := by
  unfold k0_pay36
  pointwise [h7, h69]

theorem add_dwo {acc : S1024x1024.Idx → EReal} (h7 : Narrow r v6 A.ya) (h16 : ∀ k j, v16 (ix2 k j) = A.wg k j) (h17 : ∀ j, v17 (ix2 0 j) = A.bg j)
    (h19 : ∀ j b, v19 (ix2 j b) = A.ws j b) (h21 : ∀ j b, v21 (ix2 j b) = A.wa j b) (h22 : Wide r v22 A.gs) (h23 : Wide r v23 A.ga)
    (h28 : Narrow r v28 fun a j => half * ys A a j) (h33 : Narrow r v33 fun a j => ys A a j + cube * ys A a j * ys A a j * ys A a j)
    (h54 : Wide r v54 A.d) (b k : Fin 1024) :
    k0_pay30 (F := Ideal) v6 v16 v17 v19 v21 v22 v23 v28 v33 v54 acc (ix2 b k) = acc (ix2 b k) + ∑ a, merged A (r a) b * A.d (r a) k := by
  unfold k0_pay30 k0_pay28
  pointwise [is_s1 h22, is_bs h16 h17 h19 h28 h33, is_s2 h23, is_ba h7 h21, h54]
  rfl

end Cert.MergeKernelIdeal.Block

end
end
-- ==== Proof.MergePoint.lean ====
module

public import proofs.«01_k».proof.Proof.MergeBlock

/-! What a grid point of the mixer's end stores, from the blocks it loads. -/

@[expose] public section

set_option maxRecDepth 16384

noncomputable section

namespace Cert.MergeKernelIdeal.Block

open Cert.MergeKernelIdeal Cert.MergeKernelIdeal.Gen Idealize.ShloMosaic Idealize.ShloMosaic.TcCoe Idealize.SL.Sem
open Cert.LossRow Cert.MergeRow

/-- The twelve blocks that a point loads hold rows `r` of the arguments and the whole weights. -/
structure Loads (A : Args) (r : Fin 256 → Fin 8192) (v54 : S256x1024.Idx → EReal) (v8 v3 : S256x512.Idx → EReal) (v10 v12 : S256x1024.Idx → EReal)
    (v6 : S256x512.Idx → EReal) (v14 : S1x512.Idx → EReal) (v15 : S512x512.Idx → EReal) (v17 : S1x512.Idx → EReal) (v18 v20 : S512x1024.Idx → EReal)
    (v57 : S1024x1024.Idx → EReal) : Prop where
  d : Wide r v54 A.d
  yp : Narrow r v8 A.yp
  zs : Narrow r v3 A.zs
  gs : Wide r v10 A.gs
  ga : Wide r v12 A.ga
  ya : Narrow r v6 A.ya
  skip : ∀ j, v14 (ix2 0 j) = A.skip j
  wg : ∀ k j, v15 (ix2 k j) = A.wg k j
  bg : ∀ j, v17 (ix2 0 j) = A.bg j
  ws : ∀ j b, v18 (ix2 j b) = A.ws j b
  wa : ∀ j b, v20 (ix2 j b) = A.wa j b
  wo : ∀ b k, v57 (ix2 b k) = A.wo b k

variable {A : Args} {r : Fin 256 → Fin 8192} {v3 v6 v8 : S256x512.Idx → EReal} {v10 v12 v54 : S256x1024.Idx → EReal} {v14 v17 : S1x512.Idx → EReal}
  {v15 : S512x512.Idx → EReal} {v18 v20 : S512x1024.Idx → EReal} {v57 : S1024x1024.Idx → EReal}
variable (L : Loads A r v54 v8 v3 v10 v12 v6 v14 v15 v17 v18 v20 v57)
include L

/-! ## The casts -/

theorem c_zs : Narrow r (k0_pay11 (F := Ideal) v3) A.zs := by
  intro a j
  unfold k0_pay11
  pointwise [L.zs]

theorem c_ya : Narrow r (k0_pay12 (F := Ideal) v6) A.ya := by
  intro a j
  unfold k0_pay12
  pointwise [L.ya]

theorem c_wg (k j : Fin 512) : k0_pay13 (F := Ideal) v15 (ix2 k j) = A.wg k j := by
  unfold k0_pay13
  pointwise [L.wg]

theorem c_ws (j : Fin 512) (b : Fin 1024) : k0_pay14 (F := Ideal) v18 (ix2 j b) = A.ws j b := by
  unfold k0_pay14
  pointwise [L.ws]

theorem c_wa (j : Fin 512) (b : Fin 1024) : k0_pay15 (F := Ideal) v20 (ix2 j b) = A.wa j b := by
  unfold k0_pay15
  pointwise [L.wa]

theorem c_gs : Wide r (k0_pay16 (F := Ideal) v10) A.gs := by
  intro a b
  unfold k0_pay16
  pointwise [L.gs]

theorem c_ga : Wide r (k0_pay17 (F := Ideal) v12) A.ga := by
  intro a b
  unfold k0_pay17
  pointwise [L.ga]

/-! ## The values between -/

theorem c_half : Narrow r (k0_pay19 (F := Ideal) v3 v8 v14) (fun a j => half * ys A a j) := is_half L.zs L.yp L.skip

theorem c_inner : Narrow r (k0_pay20 (F := Ideal) v3 v8 v14) (fun a j => ys A a j + cube * ys A a j * ys A a j * ys A a j) :=
  is_inner L.zs L.yp L.skip

theorem c_ys : Narrow r (k0_pay18 (F := Ideal) v3 v8 v14) (ys A) := is_ys L.zs L.yp L.skip

theorem c_yg : Narrow r (k0_pay21 (F := Ideal) (k0_pay19 (F := Ideal) v3 v8 v14) (k0_pay20 (F := Ideal) v3 v8 v14)) (yg A) :=
  is_yg (c_half L) (c_inner L)

theorem c_sg : Narrow r (k0_pay22 (F := Ideal) (k0_pay13 (F := Ideal) v15) v17 (k0_pay19 (F := Ideal) v3 v8 v14) (k0_pay20 (F := Ideal) v3 v8 v14)) (sg A) :=
  is_sg (c_wg L) L.bg (c_half L) (c_inner L)

theorem c_y2 : Narrow r (k0_pay23 (F := Ideal) (k0_pay13 (F := Ideal) v15) v17 (k0_pay19 (F := Ideal) v3 v8 v14) (k0_pay20 (F := Ideal) v3 v8 v14)) (y2 A) :=
  is_y2 (c_wg L) L.bg (c_half L) (c_inner L)

theorem c_dbs : Wide r (k0_pay31 (F := Ideal) (k0_pay16 (F := Ideal) v10) v54 v57) (dbs A) := is_dbs (c_gs L) L.d L.wo

theorem c_dba : Wide r (k0_pay32 (F := Ideal) (k0_pay17 (F := Ideal) v12) v54 v57) (dba A) := is_dba (c_ga L) L.d L.wo

theorem c_dv : Narrow r (k0_pay39 (F := Ideal) (k0_pay21 (F := Ideal) (k0_pay19 (F := Ideal) v3 v8 v14) (k0_pay20 (F := Ideal) v3 v8 v14))
    (k0_pay22 (F := Ideal) (k0_pay13 (F := Ideal) v15) v17 (k0_pay19 (F := Ideal) v3 v8 v14) (k0_pay20 (F := Ideal) v3 v8 v14))
    (k0_pay31 (F := Ideal) (k0_pay16 (F := Ideal) v10) v54 v57) v18) (dv A) :=
  is_dv (c_yg L) (c_sg L) (c_dbs L) L.ws

theorem c_dyg : Narrow r (k0_pay41 (F := Ideal)
    (k0_pay22 (F := Ideal) (k0_pay13 (F := Ideal) v15) v17 (k0_pay19 (F := Ideal) v3 v8 v14) (k0_pay20 (F := Ideal) v3 v8 v14))
    (k0_pay38 (F := Ideal) (k0_pay31 (F := Ideal) (k0_pay16 (F := Ideal) v10) v54 v57) v18)
    (k0_pay39 (F := Ideal) (k0_pay21 (F := Ideal) (k0_pay19 (F := Ideal) v3 v8 v14) (k0_pay20 (F := Ideal) v3 v8 v14))
      (k0_pay22 (F := Ideal) (k0_pay13 (F := Ideal) v15) v17 (k0_pay19 (F := Ideal) v3 v8 v14) (k0_pay20 (F := Ideal) v3 v8 v14))
      (k0_pay31 (F := Ideal) (k0_pay16 (F := Ideal) v10) v54 v57) v18) v15) (dyg A) :=
  is_dyg (c_sg L) (is_dy2 (c_dbs L) L.ws) (c_dv L) L.wg

end Cert.MergeKernelIdeal.Block
end
end
-- ==== Proof.MergeValue.lean ====
module

public import proofs.«01_k».proof.Proof.Gen.MergeKernelIdeal.Value
public import proofs.«01_k».proof.Proof.MergePoint
public import Idealize.ShloMosaic.Lib.Pipeline.ValueKit
public import Idealize.ShloMosaic.Lib.Pointwise
public import Idealize.ShloMosaic.Lib.StableHlo.RunRead

/-! What the mixer's end's backward kernel leaves in its eleven results, in the terms of `Cert.MergeRow`. -/

@[expose] public section

set_option maxRecDepth 16384

noncomputable section

namespace Cert.MergeKernelIdeal.Value

open Cert.MergeKernelIdeal Cert.MergeKernelIdeal.Gen Cert.MergeKernelIdeal.Block Idealize.ShloMosaic Idealize.ShloMosaic.TcCoe Idealize.SL.Sem
open Idealize.ShloMosaic.Pipeline (Dat)
open Cert.LossRow Cert.MergeRow

variable (m : (ℓ : Loc nD τ sig) → Buf (Elt Ideal) ℓ) (c : Dev nD)

/-- The arrays that the arguments hold. -/
def args : Args where
  d a b := (m ((c.tc : Thread nD τ).loc main_arg0) : S1x8192x1024.Idx → EReal) (ix3 0 a b)
  yp a j := (m ((c.tc : Thread nD τ).loc main_arg1) : S1x8192x512.Idx → EReal) (ix3 0 a j)
  zs a j := (m ((c.tc : Thread nD τ).loc main_arg2) : S1x8192x4096.Idx → EReal) (ix3 0 a ⟨j.val, by omega⟩)
  gs a b := (m ((c.tc : Thread nD τ).loc main_arg2) : S1x8192x4096.Idx → EReal) (ix3 0 a ⟨2048 + b.val, by omega⟩)
  ga a b := (m ((c.tc : Thread nD τ).loc main_arg2) : S1x8192x4096.Idx → EReal) (ix3 0 a ⟨3072 + b.val, by omega⟩)
  ya a j := (m ((c.tc : Thread nD τ).loc main_arg3) : S1x8192x512.Idx → EReal) (ix3 0 a j)
  skip j := (m ((c.tc : Thread nD τ).loc main_arg4) : S1x512.Idx → EReal) (ix2 0 j)
  wg j k := (m ((c.tc : Thread nD τ).loc main_arg5) : S1x512x512.Idx → EReal) (ix3 0 j k)
  bg j := (m ((c.tc : Thread nD τ).loc main_arg6) : S1x512.Idx → EReal) (ix2 0 j)
  ws j b := (m ((c.tc : Thread nD τ).loc main_arg7) : S1x512x1024.Idx → EReal) (ix3 0 j b)
  wa j b := (m ((c.tc : Thread nD τ).loc main_arg8) : S1x512x1024.Idx → EReal) (ix3 0 j b)
  wo b k := (m ((c.tc : Thread nD τ).loc main_arg9) : S1x1024x1024.Idx → EReal) (ix3 0 b k)

theorem idx : ∀ t : Fin cfg0.N, win0_0.index t = ![t.val, 0] ∧ win0_1.index t = ![t.val, 0] ∧ win0_2.index t = ![t.val, 0]
    ∧ win0_3.index t = ![t.val, 2] ∧ win0_4.index t = ![t.val, 3] ∧ win0_5.index t = ![t.val, 0] ∧ win0_6.index t = ![0, 0]
    ∧ win0_7.index t = ![0, 0] ∧ win0_8.index t = ![0, 0] ∧ win0_9.index t = ![0, 0] ∧ win0_10.index t = ![0, 0] ∧ win0_11.index t = ![0, 0]
    ∧ win0_12.index t = ![t.val, 0] ∧ win0_13.index t = ![t.val, 0] ∧ win0_14.index t = ![t.val, 0] ∧ win0_15.index t = ![t.val, 0]
    ∧ win0_16.index t = ![t.val, 0] :=
  (by decide +kernel : ∀ t : Fin grid0.N, _)

/-- The array row that row `a` of point `t`'s block is. -/
def rowOf (t : Fin cfg0.N) (a : Fin 256) : Fin 8192 := ⟨t.val * 256 + a.val, by
  have := t.isLt; have : cfg0.N = 32 := rfl; have := a.isLt; omega⟩

/-- The last point. -/
def last : Fin cfg0.N := ⟨31, by decide⟩

variable (t : Fin cfg0.N)

theorem read_0 : Wide (rowOf t) (iblk m c 0 t) (args m c).d := by
  intro a b
  unfold rowOf args
  blk_ext! [iblk, V, idx t]

theorem read_1 : Narrow (rowOf t) (iblk m c 1 t) (args m c).yp := by
  intro a j
  unfold rowOf args
  blk_ext! [iblk, V, idx t]

theorem read_2 : Narrow (rowOf t) (iblk m c 2 t) (args m c).zs := by
  intro a j
  unfold rowOf args
  blk_ext! [iblk, V, idx t]

theorem read_3 : Wide (rowOf t) (iblk m c 3 t) (args m c).gs := by
  intro a b
  unfold rowOf args
  blk_ext! [iblk, V, idx t]

theorem read_4 : Wide (rowOf t) (iblk m c 4 t) (args m c).ga := by
  intro a b
  unfold rowOf args
  blk_ext! [iblk, V, idx t]

theorem read_5 : Narrow (rowOf t) (iblk m c 5 t) (args m c).ya := by
  intro a j
  unfold rowOf args
  blk_ext! [iblk, V, idx t]

theorem read_6 (j : Fin 512) : iblk m c 6 t (ix2 0 j) = (args m c).skip j := by
  unfold args
  blk_ext! [iblk, V, idx t]

theorem read_7 (k j : Fin 512) : iblk m c 7 t (ix2 k j) = (args m c).wg k j := by
  unfold args
  blk_ext! [iblk, V, idx t]

theorem read_8 (j : Fin 512) : iblk m c 8 t (ix2 0 j) = (args m c).bg j := by
  unfold args
  blk_ext! [iblk, V, idx t]

theorem read_9 (j : Fin 512) (b : Fin 1024) : iblk m c 9 t (ix2 j b) = (args m c).ws j b := by
  unfold args
  blk_ext! [iblk, V, idx t]

theorem read_10 (j : Fin 512) (b : Fin 1024) : iblk m c 10 t (ix2 j b) = (args m c).wa j b := by
  unfold args
  blk_ext! [iblk, V, idx t]

theorem read_11 (b k : Fin 1024) : iblk m c 11 t (ix2 b k) = (args m c).wo b k := by
  unfold args
  blk_ext! [iblk, V, idx t]

theorem loads : Loads (args m c) (rowOf t) (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) :=
  ⟨read_0 m c t, read_1 m c t, read_2 m c t, read_3 m c t, read_4 m c t, read_5 m c t, read_6 m c t, read_7 m c t, read_8 m c t, read_9 m c t,
    read_10 m c t, read_11 m c t⟩

/-! ## What a point leaves in the five blocked results -/

variable (a : Fin 256) (b : Fin 1024) (j : Fin 512)

theorem block_dypre : (outsAt0 m c t.val t.isLt).1 (ix2 a j) = dys (args m c) (rowOf t a) j := by
  have L := loads m c t
  by_cases h : t.val % 32 = 0
  · rw [outsAt0_A m c t h]
    frame_out
    exact is_dypre (c_ys L) (c_dyg L) (is_left (c_ys L)) (is_right (c_ys L)) a j
  · rw [outsAt0_B m c t h]
    frame_out
    exact is_dypre (c_ys L) (c_dyg L) (is_left (c_ys L)) (is_right (c_ys L)) a j

theorem block_dzs : (outsAt0 m c t.val t.isLt).2.1 (ix2 a j) = dzs (args m c) (rowOf t a) j := by
  have L := loads m c t
  by_cases h : t.val % 32 = 0
  · rw [outsAt0_A m c t h]
    frame_out
    exact is_dzs (c_ys L) (c_dyg L) (is_left (c_ys L)) (is_right (c_ys L)) L.skip a j
  · rw [outsAt0_B m c t h]
    frame_out
    exact is_dzs (c_ys L) (c_dyg L) (is_left (c_ys L)) (is_right (c_ys L)) L.skip a j

theorem block_dgs : (outsAt0 m c t.val t.isLt).2.2.1 (ix2 a b) = dgs (args m c) (rowOf t a) b := by
  have L := loads m c t
  by_cases h : t.val % 32 = 0
  · rw [outsAt0_A m c t h]
    frame_out
    exact is_dgs (c_wg L) L.bg (c_ws L) (c_gs L) (c_half L) (c_inner L) L.d L.wo a b
  · rw [outsAt0_B m c t h]
    frame_out
    exact is_dgs (c_wg L) L.bg (c_ws L) (c_gs L) (c_half L) (c_inner L) L.d L.wo a b

theorem block_dga : (outsAt0 m c t.val t.isLt).2.2.2.1 (ix2 a b) = dga (args m c) (rowOf t a) b := by
  have L := loads m c t
  by_cases h : t.val % 32 = 0
  · rw [outsAt0_A m c t h]
    frame_out
    exact is_dga (is_ba (c_ya L) (c_wa L)) (is_s2 (c_ga L)) (is_dm L.d L.wo) a b
  · rw [outsAt0_B m c t h]
    frame_out
    exact is_dga (is_ba (c_ya L) (c_wa L)) (is_s2 (c_ga L)) (is_dm L.d L.wo) a b

theorem block_dya : (outsAt0 m c t.val t.isLt).2.2.2.2.1 (ix2 a j) = dya (args m c) (rowOf t a) j := by
  have L := loads m c t
  by_cases h : t.val % 32 = 0
  · rw [outsAt0_A m c t h]
    frame_out
    exact is_dya (c_dba L) L.wa a j
  · rw [outsAt0_B m c t h]
    frame_out
    exact is_dya (c_dba L) L.wa a j

/-! ## The six sums over the points -/

theorem zero_dskip (i : S1x512.Idx) : k0_pay5 (F := Ideal) i = 0 := by
  unfold k0_pay5
  pointwise []

theorem dskip_last (i : S1x512.Idx) : (outsAt0 m c last.val last.isLt).2.2.2.2.2.1 i
    = 0 + ∑ p : Fin cfg0.N, ∑ k : Fin 256, dys (args m c) (rowOf p k) (i 1) * (args m c).zs (rowOf p k) (i 1) := by
  refine Pipeline.eq_sum_fin_of_reset_step_apply_last (fun n h => (outsAt0 m c n h).2.2.2.2.2.1) 32 (fun _ => 0)
    (fun p i => ∑ k : Fin 256, dys (args m c) (rowOf p k) (i 1) * (args m c).zs (rowOf p k) (i 1)) ?_ ?_ (by decide) last rfl i
  all_goals
    intro t h i
    have L := loads m c t
    idx_vars i
    rw [Subsingleton.elim i0 0]
    beta_reduce
  · rw [outsAt0_A m c t h]
    frame_out
    exact (add_dskip (c_zs L) (c_ys L) (c_dyg L) (is_left (c_ys L)) (is_right (c_ys L)) i1).trans (congrArg (· + _) (zero_dskip _))
  · rw [outsAt0_B m c t h]
    frame_out
    exact add_dskip (c_zs L) (c_ys L) (c_dyg L) (is_left (c_ys L)) (is_right (c_ys L)) i1

theorem zero_dwg (i : S512x512.Idx) : k0_pay6 (F := Ideal) i = 0 := by
  unfold k0_pay6
  pointwise []

theorem dwg_last (i : S512x512.Idx) : (outsAt0 m c last.val last.isLt).2.2.2.2.2.2.1 i
    = 0 + ∑ p : Fin cfg0.N, ∑ k : Fin 256, yg (args m c) (rowOf p k) (i 0) * dv (args m c) (rowOf p k) (i 1) := by
  refine Pipeline.eq_sum_fin_of_reset_step_apply_last (fun n h => (outsAt0 m c n h).2.2.2.2.2.2.1) 32 (fun _ => 0)
    (fun p i => ∑ k : Fin 256, yg (args m c) (rowOf p k) (i 0) * dv (args m c) (rowOf p k) (i 1)) ?_ ?_ (by decide) last rfl i
  all_goals
    intro t h i
    have L := loads m c t
    idx_vars i
    beta_reduce
  · rw [outsAt0_A m c t h]
    frame_out
    exact (add_dwg (c_yg L) (c_dv L) i0 i1).trans (congrArg (· + _) (zero_dwg _))
  · rw [outsAt0_B m c t h]
    frame_out
    exact add_dwg (c_yg L) (c_dv L) i0 i1

theorem zero_dbg (i : S1x512.Idx) : k0_pay7 (F := Ideal) i = 0 := by
  unfold k0_pay7
  pointwise []

theorem dbg_last (i : S1x512.Idx) : (outsAt0 m c last.val last.isLt).2.2.2.2.2.2.2.1 i
    = 0 + ∑ p : Fin cfg0.N, ∑ k : Fin 256, dv (args m c) (rowOf p k) (i 1) := by
  refine Pipeline.eq_sum_fin_of_reset_step_apply_last (fun n h => (outsAt0 m c n h).2.2.2.2.2.2.2.1) 32 (fun _ => 0)
    (fun p i => ∑ k : Fin 256, dv (args m c) (rowOf p k) (i 1)) ?_ ?_ (by decide) last rfl i
  all_goals
    intro t h i
    have L := loads m c t
    idx_vars i
    rw [Subsingleton.elim i0 0]
    beta_reduce
  · rw [outsAt0_A m c t h]
    frame_out
    exact (add_dbg (c_dv L) i1).trans (congrArg (· + _) (zero_dbg _))
  · rw [outsAt0_B m c t h]
    frame_out
    exact add_dbg (c_dv L) i1

theorem zero_dws (i : S512x1024.Idx) : k0_pay8 (F := Ideal) i = 0 := by
  unfold k0_pay8
  pointwise []

theorem dws_last (i : S512x1024.Idx) : (outsAt0 m c last.val last.isLt).2.2.2.2.2.2.2.2.1 i
    = 0 + ∑ p : Fin cfg0.N, ∑ k : Fin 256, y2 (args m c) (rowOf p k) (i 0) * dbs (args m c) (rowOf p k) (i 1) := by
  refine Pipeline.eq_sum_fin_of_reset_step_apply_last (fun n h => (outsAt0 m c n h).2.2.2.2.2.2.2.2.1) 32 (fun _ => 0)
    (fun p i => ∑ k : Fin 256, y2 (args m c) (rowOf p k) (i 0) * dbs (args m c) (rowOf p k) (i 1)) ?_ ?_ (by decide) last rfl i
  all_goals
    intro t h i
    have L := loads m c t
    idx_vars i
    beta_reduce
  · rw [outsAt0_A m c t h]
    frame_out
    exact (add_dws (c_y2 L) (c_dbs L) i0 i1).trans (congrArg (· + _) (zero_dws _))
  · rw [outsAt0_B m c t h]
    frame_out
    exact add_dws (c_y2 L) (c_dbs L) i0 i1

theorem zero_dwa (i : S512x1024.Idx) : k0_pay9 (F := Ideal) i = 0 := by
  unfold k0_pay9
  pointwise []

theorem dwa_last (i : S512x1024.Idx) : (outsAt0 m c last.val last.isLt).2.2.2.2.2.2.2.2.2.1 i
    = 0 + ∑ p : Fin cfg0.N, ∑ k : Fin 256, (args m c).ya (rowOf p k) (i 0) * dba (args m c) (rowOf p k) (i 1) := by
  refine Pipeline.eq_sum_fin_of_reset_step_apply_last (fun n h => (outsAt0 m c n h).2.2.2.2.2.2.2.2.2.1) 32 (fun _ => 0)
    (fun p i => ∑ k : Fin 256, (args m c).ya (rowOf p k) (i 0) * dba (args m c) (rowOf p k) (i 1)) ?_ ?_ (by decide) last rfl i
  all_goals
    intro t h i
    have L := loads m c t
    idx_vars i
    beta_reduce
  · rw [outsAt0_A m c t h]
    frame_out
    exact (add_dwa (c_ya L) (c_dba L) i0 i1).trans (congrArg (· + _) (zero_dwa _))
  · rw [outsAt0_B m c t h]
    frame_out
    exact add_dwa (c_ya L) (c_dba L) i0 i1

theorem zero_dwo (i : S1024x1024.Idx) : k0_pay10 (F := Ideal) i = 0 := by
  unfold k0_pay10
  pointwise []

theorem dwo_last (i : S1024x1024.Idx) : (outsAt0 m c last.val last.isLt).2.2.2.2.2.2.2.2.2.2 i
    = 0 + ∑ p : Fin cfg0.N, ∑ k : Fin 256, merged (args m c) (rowOf p k) (i 0) * (args m c).d (rowOf p k) (i 1) := by
  refine Pipeline.eq_sum_fin_of_reset_step_apply_last (fun n h => (outsAt0 m c n h).2.2.2.2.2.2.2.2.2.2) 32 (fun _ => 0)
    (fun p i => ∑ k : Fin 256, merged (args m c) (rowOf p k) (i 0) * (args m c).d (rowOf p k) (i 1)) ?_ ?_ (by decide) last rfl i
  all_goals
    intro t h i
    have L := loads m c t
    idx_vars i
    beta_reduce
  · rw [outsAt0_A m c t h]
    frame_out
    exact (add_dwo (c_ya L) (c_wg L) L.bg (c_ws L) (c_wa L) (c_gs L) (c_ga L) (c_half L) (c_inner L) L.d i0 i1).trans (congrArg (· + _) (zero_dwo _))
  · rw [outsAt0_B m c t h]
    frame_out
    exact add_dwo (c_ya L) (c_wg L) L.bg (c_ws L) (c_wa L) (c_gs L) (c_ga L) (c_half L) (c_inner L) L.d i0 i1

/-! ## The eleven results -/

theorem final_dypre : (dats m 0 c).arrAt 12 cfg0.N = fun i : S8192x512.Idx => dys (args m c) (i 0) (i 1) := by
  refine (dats m 0 c).arrAt_eq_of_covers 12 _ (by decide +kernel) fun t hf y => ?_
  blk_simp
  rw [after0_12]
  obtain ⟨a, j, rfl⟩ : ∃ a j, y = ix2 a j := ⟨y 0, y 1, eq_ix2 y⟩
  have e : (win0_12.blk t).view.emb (ix2 a j) = ix2 (rowOf t a) j := by
    unfold rowOf
    blk_ext [idx t]
  rw [e]
  exact block_dypre m c t a j

theorem final_dzs : (dats m 0 c).arrAt 13 cfg0.N = fun i : S8192x512.Idx => dzs (args m c) (i 0) (i 1) := by
  refine (dats m 0 c).arrAt_eq_of_covers 13 _ (by decide +kernel) fun t hf y => ?_
  blk_simp
  rw [after0_13]
  obtain ⟨a, j, rfl⟩ : ∃ a j, y = ix2 a j := ⟨y 0, y 1, eq_ix2 y⟩
  have e : (win0_13.blk t).view.emb (ix2 a j) = ix2 (rowOf t a) j := by
    unfold rowOf
    blk_ext [idx t]
  rw [e]
  exact block_dzs m c t a j

theorem final_dgs : (dats m 0 c).arrAt 14 cfg0.N = fun i : S8192x1024.Idx => dgs (args m c) (i 0) (i 1) := by
  refine (dats m 0 c).arrAt_eq_of_covers 14 _ (by decide +kernel) fun t hf y => ?_
  blk_simp
  rw [after0_14]
  obtain ⟨a, b, rfl⟩ : ∃ a b, y = ix2 a b := ⟨y 0, y 1, eq_ix2 y⟩
  have e : (win0_14.blk t).view.emb (ix2 a b) = ix2 (rowOf t a) b := by
    unfold rowOf
    blk_ext [idx t]
  rw [e]
  exact block_dgs m c t a b

theorem final_dga : (dats m 0 c).arrAt 15 cfg0.N = fun i : S8192x1024.Idx => dga (args m c) (i 0) (i 1) := by
  refine (dats m 0 c).arrAt_eq_of_covers 15 _ (by decide +kernel) fun t hf y => ?_
  blk_simp
  rw [after0_15]
  obtain ⟨a, b, rfl⟩ : ∃ a b, y = ix2 a b := ⟨y 0, y 1, eq_ix2 y⟩
  have e : (win0_15.blk t).view.emb (ix2 a b) = ix2 (rowOf t a) b := by
    unfold rowOf
    blk_ext [idx t]
  rw [e]
  exact block_dga m c t a b

theorem final_dya : (dats m 0 c).arrAt 16 cfg0.N = fun i : S8192x512.Idx => dya (args m c) (i 0) (i 1) := by
  refine (dats m 0 c).arrAt_eq_of_covers 16 _ (by decide +kernel) fun t hf y => ?_
  blk_simp
  rw [after0_16]
  obtain ⟨a, j, rfl⟩ : ∃ a j, y = ix2 a j := ⟨y 0, y 1, eq_ix2 y⟩
  have e : (win0_16.blk t).view.emb (ix2 a j) = ix2 (rowOf t a) j := by
    unfold rowOf
    blk_ext [idx t]
  rw [e]
  exact block_dya m c t a j

theorem final_dskip : (dats m 0 c).arrAt 17 cfg0.N = fun i : S1x512.Idx => dskip (args m c) (i 1) := by
  refine (dats m 0 c).arrAt_eq_of_after_last 17 last (by decide +kernel) _ fun i => ?_
  blk_simp
  rw [after0_17]
  refine (dskip_last m c i).trans ?_
  rw [zero_add]
  unfold dskip
  refine Fin.sum_mul_add_congr (L := 8192) (S := 32) (n := 256) (fun t k hl => ?_)
  rfl

theorem final_dwg : (dats m 0 c).arrAt 18 cfg0.N = fun i : S512x512.Idx => dwg (args m c) (i 0) (i 1) := by
  refine (dats m 0 c).arrAt_eq_of_after_last 18 last (by decide +kernel) _ fun i => ?_
  blk_simp
  rw [after0_18]
  refine (dwg_last m c i).trans ?_
  rw [zero_add]
  unfold dwg
  refine Fin.sum_mul_add_congr (L := 8192) (S := 32) (n := 256) (fun t k hl => ?_)
  rfl

theorem final_dbg : (dats m 0 c).arrAt 19 cfg0.N = fun i : S1x512.Idx => dbg (args m c) (i 1) := by
  refine (dats m 0 c).arrAt_eq_of_after_last 19 last (by decide +kernel) _ fun i => ?_
  blk_simp
  rw [after0_19]
  refine (dbg_last m c i).trans ?_
  rw [zero_add]
  unfold dbg
  refine Fin.sum_mul_add_congr (L := 8192) (S := 32) (n := 256) (fun t k hl => ?_)
  rfl

theorem final_dws : (dats m 0 c).arrAt 20 cfg0.N = fun i : S512x1024.Idx => dws (args m c) (i 0) (i 1) := by
  refine (dats m 0 c).arrAt_eq_of_after_last 20 last (by decide +kernel) _ fun i => ?_
  blk_simp
  rw [after0_20]
  refine (dws_last m c i).trans ?_
  rw [zero_add]
  unfold dws
  refine Fin.sum_mul_add_congr (L := 8192) (S := 32) (n := 256) (fun t k hl => ?_)
  rfl

theorem final_dwa : (dats m 0 c).arrAt 21 cfg0.N = fun i : S512x1024.Idx => dwa (args m c) (i 0) (i 1) := by
  refine (dats m 0 c).arrAt_eq_of_after_last 21 last (by decide +kernel) _ fun i => ?_
  blk_simp
  rw [after0_21]
  refine (dwa_last m c i).trans ?_
  rw [zero_add]
  unfold dwa
  refine Fin.sum_mul_add_congr (L := 8192) (S := 32) (n := 256) (fun t k hl => ?_)
  rfl

theorem final_dwo : (dats m 0 c).arrAt 22 cfg0.N = fun i : S1024x1024.Idx => dwo (args m c) (i 0) (i 1) := by
  refine (dats m 0 c).arrAt_eq_of_after_last 22 last (by decide +kernel) _ fun i => ?_
  blk_simp
  rw [after0_22]
  refine (dwo_last m c i).trans ?_
  rw [zero_add]
  unfold dwo
  refine Fin.sum_mul_add_congr (L := 8192) (S := 32) (n := 256) (fun t k hl => ?_)
  rfl

end Cert.MergeKernelIdeal.Value
end
end
-- ==== Proof.MergeRefValue.lean ====
module

public import proofs.«01_k».proof.Proof.Gen.MergeReferenceIdeal.Read
public import proofs.«01_k».proof.Proof.MergeRow
public import proofs.«01_k».proof.Proof.LossRefValue

/-! What the reference of the mixer's end computes, at an index, in the terms of `Cert.MergeRow`. -/

@[expose] public section

set_option maxRecDepth 16384

noncomputable section

namespace Cert.MergeReferenceIdeal.Read

open Cert.MergeReferenceIdeal Cert.MergeReferenceIdeal.Gen Idealize.ShloMosaic Idealize.ShloMosaic.TcCoe Idealize.SL.Sem
open Cert.LossRow Cert.MergeRow
open Cert.LossReferenceIdeal.Read (reduceAdd_unit)

/-- The arrays that the arguments hold. -/
abbrev arrays (x0 : FVec Ideal S1x8192x1024 .f32) (x1 : FVec Ideal S1x8192x512 .f32) (x2 : FVec Ideal S1x8192x4096 .f32) (x3 : FVec Ideal S1x8192x512 .f32)
    (x4 : FVec Ideal S1x512 .f32) (x5 : FVec Ideal S1x512x512 .f32) (x6 : FVec Ideal S1x512 .f32) (x7 x8 : FVec Ideal S1x512x1024 .f32)
    (x9 : FVec Ideal S1x1024x1024 .f32) : Args where
  d a b := x0 (ix3 0 a b)
  yp a j := x1 (ix3 0 a j)
  zs a j := x2 (ix3 0 a ⟨j.val, by omega⟩)
  gs a b := x2 (ix3 0 a ⟨2048 + b.val, by omega⟩)
  ga a b := x2 (ix3 0 a ⟨3072 + b.val, by omega⟩)
  ya a j := x3 (ix3 0 a j)
  skip j := x4 (ix2 0 j)
  wg j k := x5 (ix3 0 j k)
  bg j := x6 (ix2 0 j)
  ws j b := x7 (ix3 0 j b)
  wa j b := x8 (ix3 0 j b)
  wo b k := x9 (ix3 0 b k)

variable {x0 : FVec Ideal S1x8192x1024 .f32} {x1 : FVec Ideal S1x8192x512 .f32} {x2 : FVec Ideal S1x8192x4096 .f32} {x3 : FVec Ideal S1x8192x512 .f32}
  {x4 : FVec Ideal S1x512 .f32} {x5 : FVec Ideal S1x512x512 .f32} {x6 : FVec Ideal S1x512 .f32} {x7 x8 : FVec Ideal S1x512x1024 .f32}
  {x9 : FVec Ideal S1x1024x1024 .f32} {A : Args}
variable (h : A = arrays x0 x1 x2 x3 x4 x5 x6 x7 x8 x9) (a : Fin 8192) (b k : Fin 1024) (j i : Fin 512)
include h

theorem v7_apply : val_main_v7 (F := Ideal) x1 x2 x4 (ix3 0 a j) = ys A a j := by
  pointwise [val_main_v7, val_main_v6, val_main_v5, val_main_v4, val_main_v3, val_main_v0]
  subst h
  rfl

omit h in
theorem v8_apply (i : S_.Idx) : val_main_v8 (F := Ideal) i = cube := cube_eq

theorem v19_apply : val_main_v19 (F := Ideal) x1 x2 x4 (ix3 0 a j) = th (ys A a j) := by
  pointwise [val_main_v19, val_main_v18, val_main_v17, val_main_v16, val_main_v15, val_main_v14, val_main_v10, val_main_v9, v7_apply h, v8_apply,
    val_main_cst_2]
  unfold th
  rw [mul_assoc (cube * _ : EReal), mul_assoc cube, ← mul_assoc (ys A a j)]
  rfl

theorem v28_apply : val_main_v28 (F := Ideal) x1 x2 x4 (ix3 0 a j) = half * (1 + th (ys A a j)) := by
  pointwise [val_main_v28, val_main_v27, val_main_v26, val_main_v25, val_main_cst_5, val_main_cst_6, v19_apply h]

theorem v29_apply : val_main_v29 (F := Ideal) x1 x2 x4 (ix3 0 a j) = yg A a j := by
  pointwise [val_main_v29, v28_apply h, v7_apply h]
  unfold yg
  rw [mul_assoc]
  exact mul_left_comm (_ : EReal) _ _

theorem v41_apply : val_main_v41 (F := Ideal) x1 x2 x4 x5 x6 (ix3 0 a j) = sg A a j := by
  pointwise [val_main_v41, val_main_v40, val_main_v39, val_main_v38, val_main_v37, val_main_v36, val_main_v35, val_main_v34, val_main_v33, val_main_v32,
    val_main_v31, val_main_v30, val_main_cst_7, val_main_cst_8, v29_apply h]
  unfold sg
  subst h
  rfl

theorem v45_apply : val_main_v45 (F := Ideal) x1 x2 x4 x5 x6 (ix3 0 a j) = y2 A a j := by
  pointwise [val_main_v45, v29_apply h, v41_apply h]
  rfl

theorem v47_apply : val_main_v47 (F := Ideal) x1 x2 x4 x5 x6 x7 (ix3 0 a b) = bs A a b := by
  pointwise [val_main_v47, val_main_v46, v45_apply h]
  unfold bs
  subst h
  rfl

theorem v49_apply : val_main_v49 (F := Ideal) x3 x8 (ix3 0 a b) = ba A a b := by
  pointwise [val_main_v49, val_main_v48]
  subst h
  rfl

theorem v55_apply : val_main_v55 (F := Ideal) x2 (ix3 0 a b) = s1 A a b := by
  pointwise [val_main_v55, val_main_v54, val_main_v53, val_main_v52, val_main_v51, val_main_v50, val_main_v1, val_main_cst_10, val_main_cst_11]
  subst h
  rfl

theorem v65_apply : val_main_v65 (F := Ideal) x2 (ix3 0 a b) = s2 A a b := by
  pointwise [val_main_v65, val_main_v64, val_main_v63, val_main_v62, val_main_v61, val_main_v60, val_main_v2, val_main_cst_13, val_main_cst_14]
  subst h
  rfl

theorem v70_apply : val_main_v70 (F := Ideal) x1 x2 x3 x4 x5 x6 x7 x8 (ix3 0 a b) = merged A a b := by
  pointwise [val_main_v70, val_main_v69, val_main_v59, v55_apply h, v65_apply h, v47_apply h, v49_apply h]
  rfl

theorem v75_apply : val_main_v75 (F := Ideal) x0 x9 (ix3 0 a b) = dm A a b := by
  pointwise [val_main_v75, val_main_v71]
  subst h
  rfl

theorem v77_apply : val_main_v77 (F := Ideal) x0 x2 x9 (ix3 0 a b) = dba A a b := by
  pointwise [val_main_v77, v65_apply h, v75_apply h]
  exact mul_comm (_ : EReal) _

theorem v80_apply : val_main_v80 (F := Ideal) x0 x2 x9 (ix3 0 a b) = dbs A a b := by
  pointwise [val_main_v80, v55_apply h, v75_apply h]
  exact mul_comm (_ : EReal) _

theorem v89_apply : val_main_v89 (F := Ideal) x0 x2 x7 x9 (ix3 0 a j) = dy2 A a j := by
  pointwise [val_main_v89, val_main_v46, v80_apply h]
  unfold dy2
  subst h
  rfl

theorem v93_apply : val_main_v93 (F := Ideal) x0 x1 x2 x4 x5 x6 x7 x9 (ix3 0 a j) = dv A a j := by
  pointwise [val_main_v93, val_main_v91, val_main_v44, val_main_v43, val_main_v42, val_main_cst_9, v29_apply h, v41_apply h, v89_apply h]
  unfold dv
  rw [mul_comm (yg A a j), ← mul_assoc]

theorem v101_apply : val_main_v101 (F := Ideal) x0 x1 x2 x4 x5 x6 x7 x9 (ix3 0 a j) = dyg A a j := by
  pointwise [val_main_v101, val_main_v100, val_main_v92, val_main_v30, v41_apply h, v89_apply h, v93_apply h]
  unfold dyg
  subst h
  rfl

theorem v114_apply (H : A.Finite) : val_main_v114 (F := Ideal) x0 x1 x2 x4 x5 x6 x7 x9 (ix3 0 a j) = dys A a j := by
  rw [← dys_eq a j H]
  pointwise [val_main_v114, val_main_v113, val_main_v112, val_main_v111, val_main_v110, val_main_v109, val_main_v108, val_main_v107, val_main_v106,
    val_main_v105, val_main_v104, val_main_v103, val_main_v24, val_main_v23, val_main_v22, val_main_v21, val_main_v20, val_main_v13, val_main_v12,
    val_main_v11, v7_apply h, v8_apply, v19_apply h, v28_apply h, v101_apply h, val_main_cst_1, val_main_cst_3, val_main_cst_4, val_main_cst_18,
    val_main_cst_19, three_eq]
  rfl

/-! ## The eleven results -/

theorem dypre_apply (H : A.Finite) : val_main_v123 (F := Ideal) x0 x1 x2 x4 x5 x6 x7 x9 (ix2 a j) = dys A a j := by
  pointwise [val_main_v123, val_main_v122, v114_apply h _ _ H]

theorem dzs_apply (H : A.Finite) : val_main_v124 (F := Ideal) x0 x1 x2 x4 x5 x6 x7 x9 (ix2 a j) = dzs A a j := by
  pointwise [val_main_v124, val_main_v116, val_main_v115, val_main_v4, val_main_v3, v114_apply h _ _ H]
  unfold dzs
  subst h
  exact mul_comm (_ : EReal) _

theorem dgs_apply : val_main_v126 (F := Ideal) x0 x1 x2 x4 x5 x6 x7 x9 (ix2 a b) = dgs A a b := by
  pointwise [val_main_v126, val_main_v125, val_main_v82, val_main_v81, val_main_v58, val_main_v57, val_main_v56, val_main_cst_12, v75_apply h, v47_apply h,
    v55_apply h]
  exact (mul_assoc (_ : EReal) _ _).symm

theorem dga_apply : val_main_v128 (F := Ideal) x0 x2 x3 x8 x9 (ix2 a b) = dga A a b := by
  pointwise [val_main_v128, val_main_v127, val_main_v79, val_main_v78, val_main_v68, val_main_v67, val_main_v66, val_main_cst_15, v75_apply h, v49_apply h,
    v65_apply h]
  exact (mul_assoc (_ : EReal) _ _).symm

theorem dya_apply : val_main_v130 (F := Ideal) x0 x2 x8 x9 (ix2 a j) = dya A a j := by
  pointwise [val_main_v130, val_main_v129, val_main_v85, val_main_v48, v77_apply h]
  unfold dya
  subst h
  rfl

theorem dskip_apply (H : A.Finite) : val_main_v121 (F := Ideal) x0 x1 x2 x4 x5 x6 x7 x9 (ix2 0 j) = dskip A j := by
  have e : val_main_v120 (F := Ideal) x0 x1 x2 x4 x5 x6 x7 x9 (ix1 j) = val_main_v119 (F := Ideal) x0 x1 x2 x4 x5 x6 x7 x9 (ix3 0 0 j) := by
    unfold val_main_v120
    generalize val_main_v119 (F := Ideal) x0 x1 x2 x4 x5 x6 x7 x9 = y
    refine (reduceAdd_unit _ y _ (ix3 0 0 j) (by idx_ext) ?_).trans ?_
    · intro i' hi'
      idx_vars i'
      have hq : i'2 = j := Fin.ext (congrArg Fin.val (congrFun hi' 0))
      rw [Subsingleton.elim i'0 0, Subsingleton.elim i'1 0, hq]
    · pointwise [val_main_cst_21]
  pointwise [val_main_v121, e, val_main_v119, val_main_v118, val_main_v117, val_main_v0, v114_apply h _ _ H, val_main_cst_20]
  unfold dskip
  subst h
  rfl

theorem dwg_apply : val_main_v131 (F := Ideal) x0 x1 x2 x4 x5 x6 x7 x9 (ix2 j i) = dwg A j i := by
  pointwise [val_main_v131, val_main_v102, val_main_v99, val_main_v98, v93_apply h, v29_apply h]
  rw [Fin.sum_univ_one]
  refine Finset.sum_congr (M := EReal) rfl fun a _ => ?_
  rw [v93_apply h, v29_apply h]
  exact mul_comm (_ : EReal) _

theorem dbg_apply : val_main_v97 (F := Ideal) x0 x1 x2 x4 x5 x6 x7 x9 (ix2 0 j) = dbg A j := by
  have e : val_main_v96 (F := Ideal) x0 x1 x2 x4 x5 x6 x7 x9 (ix1 j) = val_main_v95 (F := Ideal) x0 x1 x2 x4 x5 x6 x7 x9 (ix3 0 0 j) := by
    unfold val_main_v96
    generalize val_main_v95 (F := Ideal) x0 x1 x2 x4 x5 x6 x7 x9 = y
    refine (reduceAdd_unit _ y _ (ix3 0 0 j) (by idx_ext) ?_).trans ?_
    · intro i' hi'
      idx_vars i'
      have hq : i'2 = j := Fin.ext (congrArg Fin.val (congrFun hi' 0))
      rw [Subsingleton.elim i'0 0, Subsingleton.elim i'1 0, hq]
    · pointwise [val_main_cst_17]
  pointwise [val_main_v97, e, val_main_v95, val_main_v94, v93_apply h, val_main_cst_16]
  rfl

theorem dws_apply : val_main_v132 (F := Ideal) x0 x1 x2 x4 x5 x6 x9 (ix2 j b) = dws A j b := by
  pointwise [val_main_v132, val_main_v90, val_main_v88, val_main_v87, v80_apply h, v45_apply h]
  rw [Fin.sum_univ_one]
  refine Finset.sum_congr (M := EReal) rfl fun a _ => ?_
  rw [v80_apply h, v45_apply h]
  exact mul_comm (_ : EReal) _

theorem dwa_apply : val_main_v133 (F := Ideal) x0 x2 x3 x9 (ix2 j b) = dwa A j b := by
  pointwise [val_main_v133, val_main_v86, val_main_v84, val_main_v83, v77_apply h]
  rw [Fin.sum_univ_one]
  refine Finset.sum_congr (M := EReal) rfl fun a _ => ?_
  rw [v77_apply h]
  subst h
  exact mul_comm (_ : EReal) _

theorem dwo_apply : val_main_v134 (F := Ideal) x0 x1 x2 x3 x4 x5 x6 x7 x8 (ix2 b k) = dwo A b k := by
  pointwise [val_main_v134, val_main_v76, val_main_v74, val_main_v73, v70_apply h]
  rw [Fin.sum_univ_one]
  refine Finset.sum_congr (M := EReal) rfl fun a _ => ?_
  rw [v70_apply h]
  subst h
  exact mul_comm (_ : EReal) _

end Cert.MergeReferenceIdeal.Read
end
end
-- ==== Proof.MergePair.lean ====
module

public import proofs.«01_k».proof.Defs
public import proofs.«01_k».proof.Proof.AttPair
public import proofs.«01_k».proof.Proof.MergeValue
public import proofs.«01_k».proof.Proof.MergeRefValue
public import proofs.«01_k».proof.Proof.Gen.MergeKernel.Frame
public import proofs.«01_k».proof.Proof.Gen.MergeKernelIdeal.Frame
public import proofs.«01_k».proof.Proof.Gen.MergeReferenceIdeal.Run

/-! The claims about the backward of the mixer's end: its frames, and that its eleven results are the reference's where the
    arguments that the precondition names are finite. -/

@[expose] public section

set_option maxRecDepth 16384

noncomputable section

namespace Cert.MergePair

open Idealize.ShloMosaic Idealize.SL.Sem Idealize.ShloMosaic.Tactic
open Cert.MergeRow

theorem frame_kernel : Cert.quiescent_MergeKernel := fun m ρ _ => Cert.MergeKernel.Gen.frame m ρ

theorem frame_kernelIdeal : Cert.quiescent_MergeKernelIdeal := fun m ρ _ => Cert.MergeKernelIdeal.Gen.frame m ρ

theorem frame_reference : Cert.quiescent_MergeReferenceIdeal := by
  intro m g _
  exact (θ_run Cert.MergeReferenceIdeal.defs _ _).mono
    (fun r h => ⟨fun c => (h c).2.2.2.2.2.2.2.2.2.2.2, Idealize.ShloMosaic.sem_eq_zero_of_no_sems (by decide) r.2⟩)
    (Cert.MergeReferenceIdeal.Value.run (F := Ideal) m g)

theorem preserves : Cert.preserves_MergeKernel_MergeKernelIdeal :=
  ⟨IdealRules.named_const.statement Cert.MergeKernelIdeal.κ "gelu_c" .f32 0x3D372713#32 ((8943 / 200000 : ℝ) : EReal) rfl,
    IdealRules.named_const.statement Cert.MergeKernelIdeal.κ "gelu_3c" .f32 0x3E095D4F#32 ((26829 / 200000 : ℝ) : EReal) rfl⟩

instance facts_pre : Cert.Pre_merge_finite.Facts where
  bcast_S_S1x8192x1024 := by decide
  bcast_S_S1x8192x512 := by decide
  slices_S1x8192x4096_S1x8192x512_0_0_0 := by decide
  bcast_S_S1x512 := by decide
  bcast_S_S1x512x512 := by decide
  bcast_S_S1x512x1024 := by decide
  bcast_S_S1x1024x1024 := by decide

theorem frame_kernelIdeal_finite : Cert.quiescent_MergeKernelIdeal_pre_merge_finite := fun m ρ _ => Cert.MergeKernelIdeal.Gen.frame m ρ

theorem frame_reference_finite : Cert.quiescent_MergeReferenceIdeal_pre_merge_finite := fun m g _ => frame_reference m g trivial

open Cert.MergeKernelIdeal Cert.MergeKernelIdeal.Gen Cert.MergeKernelIdeal.Value
open Cert.MergeReferenceIdeal.Read (arrays)

theorem finite_of_pre {x0 : S1x8192x1024.Idx → EReal} {x1 : S1x8192x512.Idx → EReal} {x2 : S1x8192x4096.Idx → EReal} {x3 : S1x8192x512.Idx → EReal}
    {x4 : S1x512.Idx → EReal} {x5 : S1x512x512.Idx → EReal} {x6 : S1x512.Idx → EReal} {x7 x8 : S1x512x1024.Idx → EReal} {x9 : S1x1024x1024.Idx → EReal}
    (h : (Cert.Pre_merge_finite.fn (F := Ideal) x0 x1 x2 x3 x4 x5 x6 x7 x8 x9).1 = (fun _ => 1#1)
      ∧ (Cert.Pre_merge_finite.fn (F := Ideal) x0 x1 x2 x3 x4 x5 x6 x7 x8 x9).2.1 = (fun _ => 1#1)
      ∧ (Cert.Pre_merge_finite.fn (F := Ideal) x0 x1 x2 x3 x4 x5 x6 x7 x8 x9).2.2.1 = (fun _ => 1#1)
      ∧ (Cert.Pre_merge_finite.fn (F := Ideal) x0 x1 x2 x3 x4 x5 x6 x7 x8 x9).2.2.2.1 = (fun _ => 1#1)
      ∧ (Cert.Pre_merge_finite.fn (F := Ideal) x0 x1 x2 x3 x4 x5 x6 x7 x8 x9).2.2.2.2.1 = (fun _ => 1#1)
      ∧ (Cert.Pre_merge_finite.fn (F := Ideal) x0 x1 x2 x3 x4 x5 x6 x7 x8 x9).2.2.2.2.2.1 = (fun _ => 1#1)
      ∧ (Cert.Pre_merge_finite.fn (F := Ideal) x0 x1 x2 x3 x4 x5 x6 x7 x8 x9).2.2.2.2.2.2 = (fun _ => 1#1)) :
    (arrays x0 x1 x2 x3 x4 x5 x6 x7 x8 x9).Finite where
  d a b := Cert.AttPair.real_of_lt (congrFun h.1 (ix3 0 a b))
  yp a j := Cert.AttPair.real_of_lt (congrFun h.2.1 (ix3 0 a j))
  zs a j := by
    have e := Cert.AttPair.real_of_lt (congrFun h.2.2.1 (ix3 0 a j))
    pointwise [] at e
    exact e
  skip j := Cert.AttPair.real_of_lt (congrFun h.2.2.2.1 (ix2 0 j))
  wg j k := Cert.AttPair.real_of_lt (congrFun h.2.2.2.2.1 (ix3 0 j k))
  ws j b := Cert.AttPair.real_of_lt (congrFun h.2.2.2.2.2.1 (ix3 0 j b))
  wo b k := Cert.AttPair.real_of_lt (congrFun h.2.2.2.2.2.2 (ix3 0 b k))

theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
        r.2.mem ((c.tc : Thread nD τ).loc main_v14_0) = (fun i : S8192x512.Idx => dys (args m c) (i 0) (i 1))
        ∧ r.2.mem ((c.tc : Thread nD τ).loc main_v14_1) = (fun i : S8192x512.Idx => dzs (args m c) (i 0) (i 1))
        ∧ r.2.mem ((c.tc : Thread nD τ).loc main_v14_2) = (fun i : S8192x1024.Idx => dgs (args m c) (i 0) (i 1))
        ∧ r.2.mem ((c.tc : Thread nD τ).loc main_v14_3) = (fun i : S8192x1024.Idx => dga (args m c) (i 0) (i 1))
        ∧ r.2.mem ((c.tc : Thread nD τ).loc main_v14_4) = (fun i : S8192x512.Idx => dya (args m c) (i 0) (i 1))
        ∧ r.2.mem ((c.tc : Thread nD τ).loc main_v14_5) = (fun i : S1x512.Idx => dskip (args m c) (i 1))
        ∧ r.2.mem ((c.tc : Thread nD τ).loc main_v14_6) = (fun i : S512x512.Idx => dwg (args m c) (i 0) (i 1))
        ∧ r.2.mem ((c.tc : Thread nD τ).loc main_v14_7) = (fun i : S1x512.Idx => dbg (args m c) (i 1))
        ∧ r.2.mem ((c.tc : Thread nD τ).loc main_v14_8) = (fun i : S512x1024.Idx => dws (args m c) (i 0) (i 1))
        ∧ r.2.mem ((c.tc : Thread nD τ).loc main_v14_9) = (fun i : S512x1024.Idx => dwa (args m c) (i 0) (i 1))
        ∧ r.2.mem ((c.tc : Thread nD τ).loc main_v14_10) = (fun i : S1024x1024.Idx => dwo (args m c) (i 0) (i 1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)) :=
  (θ_run defs _ _).mono (fun r h c => by
    obtain ⟨h0, h1, h2, h3, h4, h5, h6, h7, h8, h9, h10, ha⟩ := h c
    exact ⟨h0.trans (final_dypre m c), h1.trans (final_dzs m c), h2.trans (final_dgs m c), h3.trans (final_dga m c), h4.trans (final_dya m c), h5.trans (final_dskip m c), h6.trans (final_dwg m c), h7.trans (final_dbg m c), h8.trans (final_dws m c), h9.trans (final_dwa m c), h10.trans (final_dwo m c), ha⟩)
    (Cert.MergeKernelIdeal.Value.run_blocks m ρ)

open Cert.MergeReferenceIdeal.Read in
theorem algebraic : Cert.algebraic_MergeKernelIdeal_MergeReferenceIdeal_pre_merge_finite := by
  intro m g m' g' hpre hagree
  have H (c : Dev nD) := finite_of_pre (hpre c)
  refine ⟨_, _, _, _, _, _, _, _, _, _, _, run_kernel m g, ?_⟩
  refine (θ_run Cert.MergeReferenceIdeal.defs _ _).mono (fun r h c => ?_) (Cert.MergeReferenceIdeal.Value.run (F := Ideal) m' g')
  obtain ⟨h0, h1, h2, h3, h4, h5, h6, h7, h8, h9, h10, ha⟩ := h c
  obtain ⟨e0, e1, e2, e3, e4, e5, e6, e7, e8, e9⟩ := hagree c
  have E : args m c = arrays (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) := rfl
  refine ⟨h0.trans ?_, h1.trans ?_, h2.trans ?_, h3.trans ?_, h4.trans ?_, h5.trans ?_, h6.trans ?_, h7.trans ?_, h8.trans ?_, h9.trans ?_, h10.trans ?_, ha⟩
  · rw [val_main_v123_eq, e0, e1, e2, e4, e5, e6, e7, e9]
    exact funext fun i => (congrArg _ (eq_ix2 i)).trans (dypre_apply E (i 0) (i 1) (H c))
  · rw [val_main_v124_eq, e0, e1, e2, e4, e5, e6, e7, e9]
    exact funext fun i => (congrArg _ (eq_ix2 i)).trans (dzs_apply E (i 0) (i 1) (H c))
  · rw [val_main_v126_eq, e0, e1, e2, e4, e5, e6, e7, e9]
    exact funext fun i => (congrArg _ (eq_ix2 i)).trans (dgs_apply E (i 0) (i 1))
  · rw [val_main_v128_eq, e0, e2, e3, e8, e9]
    exact funext fun i => (congrArg _ (eq_ix2 i)).trans (dga_apply E (i 0) (i 1))
  · rw [val_main_v130_eq, e0, e2, e8, e9]
    exact funext fun i => (congrArg _ (eq_ix2 i)).trans (dya_apply E (i 0) (i 1))
  · rw [val_main_v121_eq, e0, e1, e2, e4, e5, e6, e7, e9]
    refine funext fun i => ?_
    idx_vars i
    rw [Subsingleton.elim i0 0]
    exact dskip_apply E i1 (H c)
  · rw [val_main_v131_eq, e0, e1, e2, e4, e5, e6, e7, e9]
    exact funext fun i => (congrArg _ (eq_ix2 i)).trans (dwg_apply E (i 0) (i 1))
  · rw [val_main_v97_eq, e0, e1, e2, e4, e5, e6, e7, e9]
    refine funext fun i => ?_
    idx_vars i
    rw [Subsingleton.elim i0 0]
    exact dbg_apply E i1
  · rw [val_main_v132_eq, e0, e1, e2, e4, e5, e6, e9]
    exact funext fun i => (congrArg _ (eq_ix2 i)).trans (dws_apply E (i 1) (i 0))
  · rw [val_main_v133_eq, e0, e2, e3, e9]
    exact funext fun i => (congrArg _ (eq_ix2 i)).trans (dwa_apply E (i 1) (i 0))
  · rw [val_main_v134_eq, e0, e1, e2, e3, e4, e5, e6, e7, e8]
    exact funext fun i => (congrArg _ (eq_ix2 i)).trans (dwo_apply E (i 0) (i 1))

end Cert.MergePair

end
end
-- ==== Proof.lean ====
module

public import proofs.«01_k».proof.Defs
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossReferenceIdeal
public import proofs.«01_k».proof.Proof.Gen.LossKernelIdeal.Value
public import proofs.«01_k».proof.Proof.Gen.LossReferenceIdeal.Run
public import proofs.«01_k».proof.Proof.Gen.LossReferenceIdeal.Read
public import proofs.«01_k».proof.Proof.Gen.AttKernel
public import proofs.«01_k».proof.Proof.Gen.AttKernel.Skeleton
public import proofs.«01_k».proof.Proof.Gen.AttKernel.Launch
public import proofs.«01_k».proof.Proof.Gen.AttKernel.Points
public import proofs.«01_k».proof.Proof.Gen.AttKernelIdeal
public import proofs.«01_k».proof.Proof.Gen.AttKernelIdeal.Skeleton
public import proofs.«01_k».proof.Proof.Gen.AttKernelIdeal.Launch
public import proofs.«01_k».proof.Proof.Gen.AttKernelIdeal.Points
public import proofs.«01_k».proof.Proof.Gen.AttReferenceIdeal
public import proofs.«01_k».proof.Proof.Gen.AttReferenceIdeal.Run
public import proofs.«01_k».proof.Proof.Gen.AttReferenceIdeal.Read
public import proofs.«01_k».proof.Proof.Gen.MixKernel
public import proofs.«01_k».proof.Proof.Gen.MixKernel.Skeleton
public import proofs.«01_k».proof.Proof.Gen.MixKernel.Launch
public import proofs.«01_k».proof.Proof.Gen.MixKernel.Points
public import proofs.«01_k».proof.Proof.Gen.MixKernel.Frame
public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Gen.MixKernelIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.DiscKernel
public import proofs.«01_k».proof.Proof.Gen.DiscKernel.Skeleton
public import proofs.«01_k».proof.Proof.Gen.DiscKernel.Launch
public import proofs.«01_k».proof.Proof.Gen.DiscKernel.Points
public import proofs.«01_k».proof.Proof.Gen.DiscKernel.Frame
public import proofs.«01_k».proof.Proof.Gen.DiscKernelIdeal
public import proofs.«01_k».proof.Proof.Gen.DiscKernelIdeal.Skeleton
public import proofs.«01_k».proof.Proof.Gen.DiscKernelIdeal.Launch
public import proofs.«01_k».proof.Proof.Gen.DiscKernelIdeal.Points
public import proofs.«01_k».proof.Proof.Gen.DiscKernelIdeal.Frame
public import proofs.«01_k».proof.Proof.Gen.DiscReferenceIdeal
public import proofs.«01_k».proof.Proof.Gen.DiscReferenceIdeal.Run
public import proofs.«01_k».proof.Proof.Gen.DiscReferenceIdeal.Read
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeKernelIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.LossPair
public import proofs.«01_k».proof.Proof.AttPair
public import proofs.«01_k».proof.Proof.MixPair
public import proofs.«01_k».proof.Proof.DiscPair
public import proofs.«01_k».proof.Proof.FfnPair
public import proofs.«01_k».proof.Proof.MergePair
public import Idealize.ShloMosaic.Adequacy
public import Idealize.ShloMosaic.Init

@[expose] public section

noncomputable section

namespace Cert.Proof

open Idealize.ShloMosaic Idealize.SL.Sem Cert.LossKernel

theorem claim : Cert.Claim := ⟨Cert.LossKernel.Gen.facts, Cert.LossKernelIdeal.Gen.facts, Cert.LossReferenceIdeal.Gen.facts,
  Cert.AttKernel.Gen.facts, Cert.AttKernelIdeal.Gen.facts, Cert.AttReferenceIdeal.Gen.facts,
  Cert.MixKernel.Gen.facts, Cert.MixKernelIdeal.Gen.facts, Cert.MixReferenceIdeal.Gen.facts,
  Cert.DiscKernel.Gen.facts, Cert.DiscKernelIdeal.Gen.facts, Cert.DiscReferenceIdeal.Gen.facts,
  Cert.FfnKernel.Gen.facts, Cert.FfnKernelIdeal.Gen.facts, Cert.FfnReferenceIdeal.Gen.facts,
  Cert.MergeKernel.Gen.facts, Cert.MergeKernelIdeal.Gen.facts, Cert.MergeReferenceIdeal.Gen.facts,
  Cert.AttPair.facts_pre, Cert.FfnPair.facts_pre, Cert.MergePair.facts_pre,
  Cert.LossPair.frame_kernel, Cert.LossPair.frame_kernelIdeal, Cert.LossPair.frame_reference,
  Cert.AttPair.frame_kernel, Cert.AttPair.frame_kernelIdeal, Cert.AttPair.frame_kernelIdeal_finite,
  Cert.AttPair.frame_reference, Cert.AttPair.frame_reference_finite,
  Cert.MixPair.frame_kernel, Cert.MixPair.frame_kernelIdeal, Cert.MixPair.frame_reference,
  Cert.DiscPair.frame_kernel, Cert.DiscPair.frame_kernelIdeal, Cert.DiscPair.frame_reference,
  Cert.FfnPair.frame_kernel, Cert.FfnPair.frame_kernelIdeal, Cert.FfnPair.frame_kernelIdeal_finite,
  Cert.FfnPair.frame_reference, Cert.FfnPair.frame_reference_finite,
  Cert.MergePair.frame_kernel, Cert.MergePair.frame_kernelIdeal, Cert.MergePair.frame_kernelIdeal_finite,
  Cert.MergePair.frame_reference, Cert.MergePair.frame_reference_finite,
  Cert.LossPair.preserves, Cert.LossPair.algebraic, Cert.AttPair.preserves, Cert.AttPair.algebraic,
  Cert.MixPair.preserves, Cert.MixPair.algebraic,
  Cert.DiscPair.preserves, Cert.DiscPair.algebraic,
  Cert.FfnPair.preserves, Cert.FfnPair.algebraic,
  Cert.MergePair.preserves, Cert.MergePair.algebraic⟩

end Cert.Proof

end
